-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_in_bwd_finite [hPre_ffn_in_bwd_finite : Cert.Pre_ffn_in_bwd_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_in_bwd_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_in_bwd_finite [hPre_ffn_in_bwd_finite : Cert.Pre_ffn_in_bwd_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_in_bwd_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_norm2_bwd_finite [hPre_norm2_bwd_finite : Cert.Pre_norm2_bwd_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_norm2_bwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_norm2_bwd_finite [hPre_norm2_bwd_finite : Cert.Pre_norm2_bwd_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_norm2_bwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_norm1_bwd_finite [hPre_norm1_bwd_finite : Cert.Pre_norm1_bwd_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_norm1_bwd_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_norm1_bwd_finite [hPre_norm1_bwd_finite : Cert.Pre_norm1_bwd_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_norm1_bwd_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_loss_finite [hPre_loss_finite : Cert.Pre_loss_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_loss_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_loss_finite [hPre_loss_finite : Cert.Pre_loss_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_loss_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_post_finite [hPre_post_finite : Cert.Pre_post_finite.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_post_finite.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (m ((c.tc : Thread Cert.Kernel1Ideal.nD Cert.Kernel1Ideal.τ).loc Cert.Kernel1Ideal.main_arg10)) (m ((c.tc : Thread Cert.Kernel1Ideal.nD Cert.Kernel1Ideal.τ).loc Cert.Kernel1Ideal.main_arg11)) (m ((c.tc : Thread Cert.Kernel1Ideal.nD Cert.Kernel1Ideal.τ).loc Cert.Kernel1Ideal.main_arg12))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_post_finite [hPre_post_finite : Cert.Pre_post_finite.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_post_finite.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8)) (m ((c.tc : Thread Cert.Reference1Ideal.nD Cert.Reference1Ideal.τ).loc Cert.Reference1Ideal.main_arg9)) (m ((c.tc : Thread Cert.Reference1Ideal.nD Cert.Reference1Ideal.τ).loc Cert.Reference1Ideal.main_arg10)) (m ((c.tc : Thread Cert.Reference1Ideal.nD Cert.Reference1Ideal.τ).loc Cert.Reference1Ideal.main_arg11)) (m ((c.tc : Thread Cert.Reference1Ideal.nD Cert.Reference1Ideal.τ).loc Cert.Reference1Ideal.main_arg12))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_ffn_in_bwd_finite [hKernel2Ideal : Cert.Kernel2Ideal.Facts] [hPre_ffn_in_bwd_finite : Cert.Pre_ffn_in_bwd_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_in_bwd_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_ffn_in_bwd_finite [hReference2Ideal : Cert.Reference2Ideal.Facts] [hPre_ffn_in_bwd_finite : Cert.Pre_ffn_in_bwd_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_in_bwd_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_norm2_bwd_finite [hKernel3Ideal : Cert.Kernel3Ideal.Facts] [hPre_norm2_bwd_finite : Cert.Pre_norm2_bwd_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_norm2_bwd_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_norm2_bwd_finite [hReference3Ideal : Cert.Reference3Ideal.Facts] [hPre_norm2_bwd_finite : Cert.Pre_norm2_bwd_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_norm2_bwd_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_norm1_bwd_finite [hKernel4Ideal : Cert.Kernel4Ideal.Facts] [hPre_norm1_bwd_finite : Cert.Pre_norm1_bwd_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_norm1_bwd_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_norm1_bwd_finite [hReference4Ideal : Cert.Reference4Ideal.Facts] [hPre_norm1_bwd_finite : Cert.Pre_norm1_bwd_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_norm1_bwd_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_loss_finite [hKernel11Ideal : Cert.Kernel11Ideal.Facts] [hPre_loss_finite : Cert.Pre_loss_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_loss_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_loss_finite [hReference11Ideal : Cert.Reference11Ideal.Facts] [hPre_loss_finite : Cert.Pre_loss_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_loss_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9)
      ∧ r.2.mem ((c.tc : Thread Cert.Kernel1.nD Cert.Kernel1.τ).loc Cert.Kernel1.main_arg10) = m ((c.tc : Thread Cert.Kernel1.nD Cert.Kernel1.τ).loc Cert.Kernel1.main_arg10)
      ∧ r.2.mem ((c.tc : Thread Cert.Kernel1.nD Cert.Kernel1.τ).loc Cert.Kernel1.main_arg11) = m ((c.tc : Thread Cert.Kernel1.nD Cert.Kernel1.τ).loc Cert.Kernel1.main_arg11)
      ∧ r.2.mem ((c.tc : Thread Cert.Kernel1.nD Cert.Kernel1.τ).loc Cert.Kernel1.main_arg12) = m ((c.tc : Thread Cert.Kernel1.nD Cert.Kernel1.τ).loc Cert.Kernel1.main_arg12))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
      ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10)
      ∧ r.2.mem ((c.tc : Thread Cert.Kernel1Ideal.nD Cert.Kernel1Ideal.τ).loc Cert.Kernel1Ideal.main_arg11) = m ((c.tc : Thread Cert.Kernel1Ideal.nD Cert.Kernel1Ideal.τ).loc Cert.Kernel1Ideal.main_arg11)
      ∧ r.2.mem ((c.tc : Thread Cert.Kernel1Ideal.nD Cert.Kernel1Ideal.τ).loc Cert.Kernel1Ideal.main_arg12) = m ((c.tc : Thread Cert.Kernel1Ideal.nD Cert.Kernel1Ideal.τ).loc Cert.Kernel1Ideal.main_arg12))
      ∧ r.2.sem = fun _ => 0)

def quiescent_Kernel1Ideal_pre_post_finite [hKernel1Ideal : Cert.Kernel1Ideal.Facts] [hPre_post_finite : Cert.Pre_post_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_post_finite m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
      ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10)
      ∧ r.2.mem ((c.tc : Thread Cert.Kernel1Ideal.nD Cert.Kernel1Ideal.τ).loc Cert.Kernel1Ideal.main_arg11) = m ((c.tc : Thread Cert.Kernel1Ideal.nD Cert.Kernel1Ideal.τ).loc Cert.Kernel1Ideal.main_arg11)
      ∧ r.2.mem ((c.tc : Thread Cert.Kernel1Ideal.nD Cert.Kernel1Ideal.τ).loc Cert.Kernel1Ideal.main_arg12) = m ((c.tc : Thread Cert.Kernel1Ideal.nD Cert.Kernel1Ideal.τ).loc Cert.Kernel1Ideal.main_arg12))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9)
      ∧ r.2.mem ((c.tc : Thread Cert.Reference1Ideal.nD Cert.Reference1Ideal.τ).loc Cert.Reference1Ideal.main_arg10) = m ((c.tc : Thread Cert.Reference1Ideal.nD Cert.Reference1Ideal.τ).loc Cert.Reference1Ideal.main_arg10)
      ∧ r.2.mem ((c.tc : Thread Cert.Reference1Ideal.nD Cert.Reference1Ideal.τ).loc Cert.Reference1Ideal.main_arg11) = m ((c.tc : Thread Cert.Reference1Ideal.nD Cert.Reference1Ideal.τ).loc Cert.Reference1Ideal.main_arg11)
      ∧ r.2.mem ((c.tc : Thread Cert.Reference1Ideal.nD Cert.Reference1Ideal.τ).loc Cert.Reference1Ideal.main_arg12) = m ((c.tc : Thread Cert.Reference1Ideal.nD Cert.Reference1Ideal.τ).loc Cert.Reference1Ideal.main_arg12))
      ∧ r.2.sem = fun _ => 0)

def quiescent_Reference1Ideal_pre_post_finite [hReference1Ideal : Cert.Reference1Ideal.Facts] [hPre_post_finite : Cert.Pre_post_finite.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_post_finite m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9)
      ∧ r.2.mem ((c.tc : Thread Cert.Reference1Ideal.nD Cert.Reference1Ideal.τ).loc Cert.Reference1Ideal.main_arg10) = m ((c.tc : Thread Cert.Reference1Ideal.nD Cert.Reference1Ideal.τ).loc Cert.Reference1Ideal.main_arg10)
      ∧ r.2.mem ((c.tc : Thread Cert.Reference1Ideal.nD Cert.Reference1Ideal.τ).loc Cert.Reference1Ideal.main_arg11) = m ((c.tc : Thread Cert.Reference1Ideal.nD Cert.Reference1Ideal.τ).loc Cert.Reference1Ideal.main_arg11)
      ∧ r.2.mem ((c.tc : Thread Cert.Reference1Ideal.nD Cert.Reference1Ideal.τ).loc Cert.Reference1Ideal.main_arg12) = m ((c.tc : Thread Cert.Reference1Ideal.nD Cert.Reference1Ideal.τ).loc Cert.Reference1Ideal.main_arg12))
      ∧ r.2.sem = fun _ => 0)

def preserves_Kernel2_Kernel2Ideal : Prop :=
  True

def algebraic_Kernel2Ideal_Reference2Ideal_pre_ffn_in_bwd_finite [hKernel2Ideal : Cert.Kernel2Ideal.Facts] [hReference2Ideal : Cert.Reference2Ideal.Facts] [hPre_ffn_in_bwd_finite : Cert.Pre_ffn_in_bwd_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_in_bwd_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_norm2_bwd_finite [hKernel3Ideal : Cert.Kernel3Ideal.Facts] [hReference3Ideal : Cert.Reference3Ideal.Facts] [hPre_norm2_bwd_finite : Cert.Pre_norm2_bwd_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_norm2_bwd_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_norm1_bwd_finite [hKernel4Ideal : Cert.Kernel4Ideal.Facts] [hReference4Ideal : Cert.Reference4Ideal.Facts] [hPre_norm1_bwd_finite : Cert.Pre_norm1_bwd_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_norm1_bwd_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v38) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v8) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v17) = v1 c
          ∧ r.2.mem ((c.tc : Thread Cert.Reference13Ideal.nD Cert.Reference13Ideal.τ).loc Cert.Reference13Ideal.main_v18) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel11_Kernel11Ideal : Prop :=
  True

def algebraic_Kernel11Ideal_Reference11Ideal_pre_loss_finite [hKernel11Ideal : Cert.Kernel11Ideal.Facts] [hReference11Ideal : Cert.Reference11Ideal.Facts] [hPre_loss_finite : Cert.Pre_loss_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_loss_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_v53) = v1 c
          ∧ r.2.mem ((c.tc : Thread Cert.Reference11Ideal.nD Cert.Reference11Ideal.τ).loc Cert.Reference11Ideal.main_v54) = v2 c
          ∧ r.2.mem ((c.tc : Thread Cert.Reference11Ideal.nD Cert.Reference11Ideal.τ).loc Cert.Reference11Ideal.main_v55) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)) (v6 : (c : Dev Cert.Kernel19Ideal.nD) → Buf (Elt Ideal) ((c.tc : Thread Cert.Kernel19Ideal.nD Cert.Kernel19Ideal.τ).loc Cert.Kernel19Ideal.main_v0_6)) (v7 : (c : Dev Cert.Kernel19Ideal.nD) → Buf (Elt Ideal) ((c.tc : Thread Cert.Kernel19Ideal.nD Cert.Kernel19Ideal.τ).loc Cert.Kernel19Ideal.main_v0_7)) (v8 : (c : Dev Cert.Kernel19Ideal.nD) → Buf (Elt Ideal) ((c.tc : Thread Cert.Kernel19Ideal.nD Cert.Kernel19Ideal.τ).loc Cert.Kernel19Ideal.main_v0_8)) (v9 : (c : Dev Cert.Kernel19Ideal.nD) → Buf (Elt Ideal) ((c.tc : Thread Cert.Kernel19Ideal.nD Cert.Kernel19Ideal.τ).loc Cert.Kernel19Ideal.main_v0_9)) (v10 : (c : Dev Cert.Kernel19Ideal.nD) → Buf (Elt Ideal) ((c.tc : Thread Cert.Kernel19Ideal.nD Cert.Kernel19Ideal.τ).loc Cert.Kernel19Ideal.main_v0_10)) (v11 : (c : Dev Cert.Kernel19Ideal.nD) → Buf (Elt Ideal) ((c.tc : Thread Cert.Kernel19Ideal.nD Cert.Kernel19Ideal.τ).loc Cert.Kernel19Ideal.main_v0_11)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_v0_6) = v6 c
          ∧ r.2.mem ((c.tc : Thread Cert.Kernel19Ideal.nD Cert.Kernel19Ideal.τ).loc Cert.Kernel19Ideal.main_v0_7) = v7 c
          ∧ r.2.mem ((c.tc : Thread Cert.Kernel19Ideal.nD Cert.Kernel19Ideal.τ).loc Cert.Kernel19Ideal.main_v0_8) = v8 c
          ∧ r.2.mem ((c.tc : Thread Cert.Kernel19Ideal.nD Cert.Kernel19Ideal.τ).loc Cert.Kernel19Ideal.main_v0_9) = v9 c
          ∧ r.2.mem ((c.tc : Thread Cert.Kernel19Ideal.nD Cert.Kernel19Ideal.τ).loc Cert.Kernel19Ideal.main_v0_10) = v10 c
          ∧ r.2.mem ((c.tc : Thread Cert.Kernel19Ideal.nD Cert.Kernel19Ideal.τ).loc Cert.Kernel19Ideal.main_v0_11) = v11 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_v47) = v3 c
          ∧ r.2.mem ((c.tc : Thread Cert.Reference19Ideal.nD Cert.Reference19Ideal.τ).loc Cert.Reference19Ideal.main_v28) = v4 c
          ∧ r.2.mem ((c.tc : Thread Cert.Reference19Ideal.nD Cert.Reference19Ideal.τ).loc Cert.Reference19Ideal.main_v34) = v5 c
          ∧ r.2.mem ((c.tc : Thread Cert.Reference19Ideal.nD Cert.Reference19Ideal.τ).loc Cert.Reference19Ideal.main_v71) = v6 c
          ∧ r.2.mem ((c.tc : Thread Cert.Reference19Ideal.nD Cert.Reference19Ideal.τ).loc Cert.Reference19Ideal.main_v52) = v7 c
          ∧ r.2.mem ((c.tc : Thread Cert.Reference19Ideal.nD Cert.Reference19Ideal.τ).loc Cert.Reference19Ideal.main_v58) = v8 c
          ∧ r.2.mem ((c.tc : Thread Cert.Reference19Ideal.nD Cert.Reference19Ideal.τ).loc Cert.Reference19Ideal.main_v95) = v9 c
          ∧ r.2.mem ((c.tc : Thread Cert.Reference19Ideal.nD Cert.Reference19Ideal.τ).loc Cert.Reference19Ideal.main_v76) = v10 c
          ∧ r.2.mem ((c.tc : Thread Cert.Reference19Ideal.nD Cert.Reference19Ideal.τ).loc Cert.Reference19Ideal.main_v82) = v11 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)) (v8 : (c : Dev Cert.Kernel21Ideal.nD) → Buf (Elt Ideal) ((c.tc : Thread Cert.Kernel21Ideal.nD Cert.Kernel21Ideal.τ).loc Cert.Kernel21Ideal.main_v0_8)) (v9 : (c : Dev Cert.Kernel21Ideal.nD) → Buf (Elt Ideal) ((c.tc : Thread Cert.Kernel21Ideal.nD Cert.Kernel21Ideal.τ).loc Cert.Kernel21Ideal.main_v0_9)) (v10 : (c : Dev Cert.Kernel21Ideal.nD) → Buf (Elt Ideal) ((c.tc : Thread Cert.Kernel21Ideal.nD Cert.Kernel21Ideal.τ).loc Cert.Kernel21Ideal.main_v0_10)) (v11 : (c : Dev Cert.Kernel21Ideal.nD) → Buf (Elt Ideal) ((c.tc : Thread Cert.Kernel21Ideal.nD Cert.Kernel21Ideal.τ).loc Cert.Kernel21Ideal.main_v0_11)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_v0_8) = v8 c
          ∧ r.2.mem ((c.tc : Thread Cert.Kernel21Ideal.nD Cert.Kernel21Ideal.τ).loc Cert.Kernel21Ideal.main_v0_9) = v9 c
          ∧ r.2.mem ((c.tc : Thread Cert.Kernel21Ideal.nD Cert.Kernel21Ideal.τ).loc Cert.Kernel21Ideal.main_v0_10) = v10 c
          ∧ r.2.mem ((c.tc : Thread Cert.Kernel21Ideal.nD Cert.Kernel21Ideal.τ).loc Cert.Kernel21Ideal.main_v0_11) = v11 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_v47) = v3 c
          ∧ r.2.mem ((c.tc : Thread Cert.Reference21Ideal.nD Cert.Reference21Ideal.τ).loc Cert.Reference21Ideal.main_v28) = v4 c
          ∧ r.2.mem ((c.tc : Thread Cert.Reference21Ideal.nD Cert.Reference21Ideal.τ).loc Cert.Reference21Ideal.main_v34) = v5 c
          ∧ r.2.mem ((c.tc : Thread Cert.Reference21Ideal.nD Cert.Reference21Ideal.τ).loc Cert.Reference21Ideal.main_v71) = v6 c
          ∧ r.2.mem ((c.tc : Thread Cert.Reference21Ideal.nD Cert.Reference21Ideal.τ).loc Cert.Reference21Ideal.main_v52) = v7 c
          ∧ r.2.mem ((c.tc : Thread Cert.Reference21Ideal.nD Cert.Reference21Ideal.τ).loc Cert.Reference21Ideal.main_v58) = v8 c
          ∧ r.2.mem ((c.tc : Thread Cert.Reference21Ideal.nD Cert.Reference21Ideal.τ).loc Cert.Reference21Ideal.main_v95) = v9 c
          ∧ r.2.mem ((c.tc : Thread Cert.Reference21Ideal.nD Cert.Reference21Ideal.τ).loc Cert.Reference21Ideal.main_v76) = v10 c
          ∧ r.2.mem ((c.tc : Thread Cert.Reference21Ideal.nD Cert.Reference21Ideal.τ).loc Cert.Reference21Ideal.main_v82) = v11 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)) (v5 : (c : Dev Cert.Kernel22Ideal.nD) → Buf (Elt Ideal) ((c.tc : Thread Cert.Kernel22Ideal.nD Cert.Kernel22Ideal.τ).loc Cert.Kernel22Ideal.main_v0_5)) (v6 : (c : Dev Cert.Kernel22Ideal.nD) → Buf (Elt Ideal) ((c.tc : Thread Cert.Kernel22Ideal.nD Cert.Kernel22Ideal.τ).loc Cert.Kernel22Ideal.main_v0_6)) (v7 : (c : Dev Cert.Kernel22Ideal.nD) → Buf (Elt Ideal) ((c.tc : Thread Cert.Kernel22Ideal.nD Cert.Kernel22Ideal.τ).loc Cert.Kernel22Ideal.main_v0_7)) (v8 : (c : Dev Cert.Kernel22Ideal.nD) → Buf (Elt Ideal) ((c.tc : Thread Cert.Kernel22Ideal.nD Cert.Kernel22Ideal.τ).loc Cert.Kernel22Ideal.main_v0_8)) (v9 : (c : Dev Cert.Kernel22Ideal.nD) → Buf (Elt Ideal) ((c.tc : Thread Cert.Kernel22Ideal.nD Cert.Kernel22Ideal.τ).loc Cert.Kernel22Ideal.main_v0_9)) (v10 : (c : Dev Cert.Kernel22Ideal.nD) → Buf (Elt Ideal) ((c.tc : Thread Cert.Kernel22Ideal.nD Cert.Kernel22Ideal.τ).loc Cert.Kernel22Ideal.main_v0_10)) (v11 : (c : Dev Cert.Kernel22Ideal.nD) → Buf (Elt Ideal) ((c.tc : Thread Cert.Kernel22Ideal.nD Cert.Kernel22Ideal.τ).loc Cert.Kernel22Ideal.main_v0_11)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_v0_5) = v5 c
          ∧ r.2.mem ((c.tc : Thread Cert.Kernel22Ideal.nD Cert.Kernel22Ideal.τ).loc Cert.Kernel22Ideal.main_v0_6) = v6 c
          ∧ r.2.mem ((c.tc : Thread Cert.Kernel22Ideal.nD Cert.Kernel22Ideal.τ).loc Cert.Kernel22Ideal.main_v0_7) = v7 c
          ∧ r.2.mem ((c.tc : Thread Cert.Kernel22Ideal.nD Cert.Kernel22Ideal.τ).loc Cert.Kernel22Ideal.main_v0_8) = v8 c
          ∧ r.2.mem ((c.tc : Thread Cert.Kernel22Ideal.nD Cert.Kernel22Ideal.τ).loc Cert.Kernel22Ideal.main_v0_9) = v9 c
          ∧ r.2.mem ((c.tc : Thread Cert.Kernel22Ideal.nD Cert.Kernel22Ideal.τ).loc Cert.Kernel22Ideal.main_v0_10) = v10 c
          ∧ r.2.mem ((c.tc : Thread Cert.Kernel22Ideal.nD Cert.Kernel22Ideal.τ).loc Cert.Kernel22Ideal.main_v0_11) = v11 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_v47) = v3 c
          ∧ r.2.mem ((c.tc : Thread Cert.Reference22Ideal.nD Cert.Reference22Ideal.τ).loc Cert.Reference22Ideal.main_v28) = v4 c
          ∧ r.2.mem ((c.tc : Thread Cert.Reference22Ideal.nD Cert.Reference22Ideal.τ).loc Cert.Reference22Ideal.main_v34) = v5 c
          ∧ r.2.mem ((c.tc : Thread Cert.Reference22Ideal.nD Cert.Reference22Ideal.τ).loc Cert.Reference22Ideal.main_v71) = v6 c
          ∧ r.2.mem ((c.tc : Thread Cert.Reference22Ideal.nD Cert.Reference22Ideal.τ).loc Cert.Reference22Ideal.main_v52) = v7 c
          ∧ r.2.mem ((c.tc : Thread Cert.Reference22Ideal.nD Cert.Reference22Ideal.τ).loc Cert.Reference22Ideal.main_v58) = v8 c
          ∧ r.2.mem ((c.tc : Thread Cert.Reference22Ideal.nD Cert.Reference22Ideal.τ).loc Cert.Reference22Ideal.main_v95) = v9 c
          ∧ r.2.mem ((c.tc : Thread Cert.Reference22Ideal.nD Cert.Reference22Ideal.τ).loc Cert.Reference22Ideal.main_v76) = v10 c
          ∧ r.2.mem ((c.tc : Thread Cert.Reference22Ideal.nD Cert.Reference22Ideal.τ).loc Cert.Reference22Ideal.main_v82) = v11 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)) (v5 : (c : Dev Cert.Kernel23Ideal.nD) → Buf (Elt Ideal) ((c.tc : Thread Cert.Kernel23Ideal.nD Cert.Kernel23Ideal.τ).loc Cert.Kernel23Ideal.main_v0_5)) (v6 : (c : Dev Cert.Kernel23Ideal.nD) → Buf (Elt Ideal) ((c.tc : Thread Cert.Kernel23Ideal.nD Cert.Kernel23Ideal.τ).loc Cert.Kernel23Ideal.main_v0_6)) (v7 : (c : Dev Cert.Kernel23Ideal.nD) → Buf (Elt Ideal) ((c.tc : Thread Cert.Kernel23Ideal.nD Cert.Kernel23Ideal.τ).loc Cert.Kernel23Ideal.main_v0_7)) (v8 : (c : Dev Cert.Kernel23Ideal.nD) → Buf (Elt Ideal) ((c.tc : Thread Cert.Kernel23Ideal.nD Cert.Kernel23Ideal.τ).loc Cert.Kernel23Ideal.main_v0_8)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_v0_5) = v5 c
          ∧ r.2.mem ((c.tc : Thread Cert.Kernel23Ideal.nD Cert.Kernel23Ideal.τ).loc Cert.Kernel23Ideal.main_v0_6) = v6 c
          ∧ r.2.mem ((c.tc : Thread Cert.Kernel23Ideal.nD Cert.Kernel23Ideal.τ).loc Cert.Kernel23Ideal.main_v0_7) = v7 c
          ∧ r.2.mem ((c.tc : Thread Cert.Kernel23Ideal.nD Cert.Kernel23Ideal.τ).loc Cert.Kernel23Ideal.main_v0_8) = v8 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_v47) = v3 c
          ∧ r.2.mem ((c.tc : Thread Cert.Reference23Ideal.nD Cert.Reference23Ideal.τ).loc Cert.Reference23Ideal.main_v28) = v4 c
          ∧ r.2.mem ((c.tc : Thread Cert.Reference23Ideal.nD Cert.Reference23Ideal.τ).loc Cert.Reference23Ideal.main_v34) = v5 c
          ∧ r.2.mem ((c.tc : Thread Cert.Reference23Ideal.nD Cert.Reference23Ideal.τ).loc Cert.Reference23Ideal.main_v71) = v6 c
          ∧ r.2.mem ((c.tc : Thread Cert.Reference23Ideal.nD Cert.Reference23Ideal.τ).loc Cert.Reference23Ideal.main_v52) = v7 c
          ∧ r.2.mem ((c.tc : Thread Cert.Reference23Ideal.nD Cert.Reference23Ideal.τ).loc Cert.Reference23Ideal.main_v58) = v8 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)) (v6 : (c : Dev Cert.Kernel24Ideal.nD) → Buf (Elt Ideal) ((c.tc : Thread Cert.Kernel24Ideal.nD Cert.Kernel24Ideal.τ).loc Cert.Kernel24Ideal.main_v0_6)) (v7 : (c : Dev Cert.Kernel24Ideal.nD) → Buf (Elt Ideal) ((c.tc : Thread Cert.Kernel24Ideal.nD Cert.Kernel24Ideal.τ).loc Cert.Kernel24Ideal.main_v0_7)) (v8 : (c : Dev Cert.Kernel24Ideal.nD) → Buf (Elt Ideal) ((c.tc : Thread Cert.Kernel24Ideal.nD Cert.Kernel24Ideal.τ).loc Cert.Kernel24Ideal.main_v0_8)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_v0_6) = v6 c
          ∧ r.2.mem ((c.tc : Thread Cert.Kernel24Ideal.nD Cert.Kernel24Ideal.τ).loc Cert.Kernel24Ideal.main_v0_7) = v7 c
          ∧ r.2.mem ((c.tc : Thread Cert.Kernel24Ideal.nD Cert.Kernel24Ideal.τ).loc Cert.Kernel24Ideal.main_v0_8) = v8 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_v47) = v3 c
          ∧ r.2.mem ((c.tc : Thread Cert.Reference24Ideal.nD Cert.Reference24Ideal.τ).loc Cert.Reference24Ideal.main_v28) = v4 c
          ∧ r.2.mem ((c.tc : Thread Cert.Reference24Ideal.nD Cert.Reference24Ideal.τ).loc Cert.Reference24Ideal.main_v34) = v5 c
          ∧ r.2.mem ((c.tc : Thread Cert.Reference24Ideal.nD Cert.Reference24Ideal.τ).loc Cert.Reference24Ideal.main_v71) = v6 c
          ∧ r.2.mem ((c.tc : Thread Cert.Reference24Ideal.nD Cert.Reference24Ideal.τ).loc Cert.Reference24Ideal.main_v52) = v7 c
          ∧ r.2.mem ((c.tc : Thread Cert.Reference24Ideal.nD Cert.Reference24Ideal.τ).loc Cert.Reference24Ideal.main_v58) = v8 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)) (v5 : (c : Dev Cert.Kernel25Ideal.nD) → Buf (Elt Ideal) ((c.tc : Thread Cert.Kernel25Ideal.nD Cert.Kernel25Ideal.τ).loc Cert.Kernel25Ideal.main_v0_5)) (v6 : (c : Dev Cert.Kernel25Ideal.nD) → Buf (Elt Ideal) ((c.tc : Thread Cert.Kernel25Ideal.nD Cert.Kernel25Ideal.τ).loc Cert.Kernel25Ideal.main_v0_6)) (v7 : (c : Dev Cert.Kernel25Ideal.nD) → Buf (Elt Ideal) ((c.tc : Thread Cert.Kernel25Ideal.nD Cert.Kernel25Ideal.τ).loc Cert.Kernel25Ideal.main_v0_7)) (v8 : (c : Dev Cert.Kernel25Ideal.nD) → Buf (Elt Ideal) ((c.tc : Thread Cert.Kernel25Ideal.nD Cert.Kernel25Ideal.τ).loc Cert.Kernel25Ideal.main_v0_8)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_v0_5) = v5 c
          ∧ r.2.mem ((c.tc : Thread Cert.Kernel25Ideal.nD Cert.Kernel25Ideal.τ).loc Cert.Kernel25Ideal.main_v0_6) = v6 c
          ∧ r.2.mem ((c.tc : Thread Cert.Kernel25Ideal.nD Cert.Kernel25Ideal.τ).loc Cert.Kernel25Ideal.main_v0_7) = v7 c
          ∧ r.2.mem ((c.tc : Thread Cert.Kernel25Ideal.nD Cert.Kernel25Ideal.τ).loc Cert.Kernel25Ideal.main_v0_8) = v8 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_v47) = v3 c
          ∧ r.2.mem ((c.tc : Thread Cert.Reference25Ideal.nD Cert.Reference25Ideal.τ).loc Cert.Reference25Ideal.main_v28) = v4 c
          ∧ r.2.mem ((c.tc : Thread Cert.Reference25Ideal.nD Cert.Reference25Ideal.τ).loc Cert.Reference25Ideal.main_v34) = v5 c
          ∧ r.2.mem ((c.tc : Thread Cert.Reference25Ideal.nD Cert.Reference25Ideal.τ).loc Cert.Reference25Ideal.main_v71) = v6 c
          ∧ r.2.mem ((c.tc : Thread Cert.Reference25Ideal.nD Cert.Reference25Ideal.τ).loc Cert.Reference25Ideal.main_v52) = v7 c
          ∧ r.2.mem ((c.tc : Thread Cert.Reference25Ideal.nD Cert.Reference25Ideal.τ).loc Cert.Reference25Ideal.main_v58) = v8 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11))

def preserves_Kernel1_Kernel1Ideal : Prop :=
  True

def algebraic_Kernel1Ideal_Reference1Ideal_pre_post_finite [hKernel1Ideal : Cert.Kernel1Ideal.Facts] [hReference1Ideal : Cert.Reference1Ideal.Facts] [hPre_post_finite : Cert.Pre_post_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_post_finite m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)
      ∧ m' ((c.tc : Thread Cert.Reference1Ideal.nD Cert.Reference1Ideal.τ).loc Cert.Reference1Ideal.main_arg10) = m ((c.tc : Thread Cert.Kernel1Ideal.nD Cert.Kernel1Ideal.τ).loc Cert.Kernel1Ideal.main_arg10)
      ∧ m' ((c.tc : Thread Cert.Reference1Ideal.nD Cert.Reference1Ideal.τ).loc Cert.Reference1Ideal.main_arg11) = m ((c.tc : Thread Cert.Kernel1Ideal.nD Cert.Kernel1Ideal.τ).loc Cert.Kernel1Ideal.main_arg11)
      ∧ m' ((c.tc : Thread Cert.Reference1Ideal.nD Cert.Reference1Ideal.τ).loc Cert.Reference1Ideal.main_arg12) = m ((c.tc : Thread Cert.Kernel1Ideal.nD Cert.Kernel1Ideal.τ).loc Cert.Kernel1Ideal.main_arg12)) →
    ∃ (v0 : (c : Dev Cert.Kernel1Ideal.nD) → Buf (Elt Ideal) ((c.tc : Thread Cert.Kernel1Ideal.nD Cert.Kernel1Ideal.τ).loc Cert.Kernel1Ideal.main_v13_1)) (v1 : (c : Dev Cert.Kernel1Ideal.nD) → Buf (Elt Ideal) ((c.tc : Thread Cert.Kernel1Ideal.nD Cert.Kernel1Ideal.τ).loc Cert.Kernel1Ideal.main_v13_2)) (v2 : (c : Dev Cert.Kernel1Ideal.nD) → Buf (Elt Ideal) ((c.tc : Thread Cert.Kernel1Ideal.nD Cert.Kernel1Ideal.τ).loc Cert.Kernel1Ideal.main_v13_3)) (v3 : (c : Dev Cert.Kernel1Ideal.nD) → Buf (Elt Ideal) ((c.tc : Thread Cert.Kernel1Ideal.nD Cert.Kernel1Ideal.τ).loc Cert.Kernel1Ideal.main_v13_4)) (v4 : (c : Dev Cert.Kernel1Ideal.nD) → Buf (Elt Ideal) ((c.tc : Thread Cert.Kernel1Ideal.nD Cert.Kernel1Ideal.τ).loc Cert.Kernel1Ideal.main_v13_6)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v13_1) = v0 c
          ∧ r.2.mem ((c.tc : Thread Cert.Kernel1Ideal.nD Cert.Kernel1Ideal.τ).loc Cert.Kernel1Ideal.main_v13_2) = v1 c
          ∧ r.2.mem ((c.tc : Thread Cert.Kernel1Ideal.nD Cert.Kernel1Ideal.τ).loc Cert.Kernel1Ideal.main_v13_3) = v2 c
          ∧ r.2.mem ((c.tc : Thread Cert.Kernel1Ideal.nD Cert.Kernel1Ideal.τ).loc Cert.Kernel1Ideal.main_v13_4) = v3 c
          ∧ r.2.mem ((c.tc : Thread Cert.Kernel1Ideal.nD Cert.Kernel1Ideal.τ).loc Cert.Kernel1Ideal.main_v13_6) = v4 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
          ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10)
          ∧ r.2.mem ((c.tc : Thread Cert.Kernel1Ideal.nD Cert.Kernel1Ideal.τ).loc Cert.Kernel1Ideal.main_arg11) = m ((c.tc : Thread Cert.Kernel1Ideal.nD Cert.Kernel1Ideal.τ).loc Cert.Kernel1Ideal.main_arg11)
          ∧ r.2.mem ((c.tc : Thread Cert.Kernel1Ideal.nD Cert.Kernel1Ideal.τ).loc Cert.Kernel1Ideal.main_arg12) = m ((c.tc : Thread Cert.Kernel1Ideal.nD Cert.Kernel1Ideal.τ).loc Cert.Kernel1Ideal.main_arg12))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v145) = v0 c
          ∧ r.2.mem ((c.tc : Thread Cert.Reference1Ideal.nD Cert.Reference1Ideal.τ).loc Cert.Reference1Ideal.main_v143) = v1 c
          ∧ r.2.mem ((c.tc : Thread Cert.Reference1Ideal.nD Cert.Reference1Ideal.τ).loc Cert.Reference1Ideal.main_v129) = v2 c
          ∧ r.2.mem ((c.tc : Thread Cert.Reference1Ideal.nD Cert.Reference1Ideal.τ).loc Cert.Reference1Ideal.main_v144) = v3 c
          ∧ r.2.mem ((c.tc : Thread Cert.Reference1Ideal.nD Cert.Reference1Ideal.τ).loc Cert.Reference1Ideal.main_v146) = v4 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9)
          ∧ r.2.mem ((c.tc : Thread Cert.Reference1Ideal.nD Cert.Reference1Ideal.τ).loc Cert.Reference1Ideal.main_arg10) = m' ((c.tc : Thread Cert.Reference1Ideal.nD Cert.Reference1Ideal.τ).loc Cert.Reference1Ideal.main_arg10)
          ∧ r.2.mem ((c.tc : Thread Cert.Reference1Ideal.nD Cert.Reference1Ideal.τ).loc Cert.Reference1Ideal.main_arg11) = m' ((c.tc : Thread Cert.Reference1Ideal.nD Cert.Reference1Ideal.τ).loc Cert.Reference1Ideal.main_arg11)
          ∧ r.2.mem ((c.tc : Thread Cert.Reference1Ideal.nD Cert.Reference1Ideal.τ).loc Cert.Reference1Ideal.main_arg12) = m' ((c.tc : Thread Cert.Reference1Ideal.nD Cert.Reference1Ideal.τ).loc Cert.Reference1Ideal.main_arg12))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel20 : Cert.Kernel20.Facts) (hKernel20Ideal : Cert.Kernel20Ideal.Facts) (hReference20Ideal : Cert.Reference20Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel11 : Cert.Kernel11.Facts) (hKernel11Ideal : Cert.Kernel11Ideal.Facts) (hReference11Ideal : Cert.Reference11Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel1 : Cert.Kernel1.Facts) (hKernel1Ideal : Cert.Kernel1Ideal.Facts) (hReference1Ideal : Cert.Reference1Ideal.Facts) (hPre_ffn_in_bwd_finite : Cert.Pre_ffn_in_bwd_finite.Facts) (hPre_norm2_bwd_finite : Cert.Pre_norm2_bwd_finite.Facts) (hPre_norm1_bwd_finite : Cert.Pre_norm1_bwd_finite.Facts) (hPre_loss_finite : Cert.Pre_loss_finite.Facts) (hPre_post_finite : Cert.Pre_post_finite.Facts),
    quiescent_Kernel2 (hKernel2 := hKernel2)
    ∧ quiescent_Kernel2Ideal (hKernel2Ideal := hKernel2Ideal)
    ∧ quiescent_Kernel2Ideal_pre_ffn_in_bwd_finite (hKernel2Ideal := hKernel2Ideal) (hPre_ffn_in_bwd_finite := hPre_ffn_in_bwd_finite)
    ∧ quiescent_Reference2Ideal (hReference2Ideal := hReference2Ideal)
    ∧ quiescent_Reference2Ideal_pre_ffn_in_bwd_finite (hReference2Ideal := hReference2Ideal) (hPre_ffn_in_bwd_finite := hPre_ffn_in_bwd_finite)
    ∧ quiescent_Kernel3 (hKernel3 := hKernel3)
    ∧ quiescent_Kernel3Ideal (hKernel3Ideal := hKernel3Ideal)
    ∧ quiescent_Kernel3Ideal_pre_norm2_bwd_finite (hKernel3Ideal := hKernel3Ideal) (hPre_norm2_bwd_finite := hPre_norm2_bwd_finite)
    ∧ quiescent_Reference3Ideal (hReference3Ideal := hReference3Ideal)
    ∧ quiescent_Reference3Ideal_pre_norm2_bwd_finite (hReference3Ideal := hReference3Ideal) (hPre_norm2_bwd_finite := hPre_norm2_bwd_finite)
    ∧ quiescent_Kernel4 (hKernel4 := hKernel4)
    ∧ quiescent_Kernel4Ideal (hKernel4Ideal := hKernel4Ideal)
    ∧ quiescent_Kernel4Ideal_pre_norm1_bwd_finite (hKernel4Ideal := hKernel4Ideal) (hPre_norm1_bwd_finite := hPre_norm1_bwd_finite)
    ∧ quiescent_Reference4Ideal (hReference4Ideal := hReference4Ideal)
    ∧ quiescent_Reference4Ideal_pre_norm1_bwd_finite (hReference4Ideal := hReference4Ideal) (hPre_norm1_bwd_finite := hPre_norm1_bwd_finite)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel11 (hKernel11 := hKernel11)
    ∧ quiescent_Kernel11Ideal (hKernel11Ideal := hKernel11Ideal)
    ∧ quiescent_Kernel11Ideal_pre_loss_finite (hKernel11Ideal := hKernel11Ideal) (hPre_loss_finite := hPre_loss_finite)
    ∧ quiescent_Reference11Ideal (hReference11Ideal := hReference11Ideal)
    ∧ quiescent_Reference11Ideal_pre_loss_finite (hReference11Ideal := hReference11Ideal) (hPre_loss_finite := hPre_loss_finite)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel1 (hKernel1 := hKernel1)
    ∧ quiescent_Kernel1Ideal (hKernel1Ideal := hKernel1Ideal)
    ∧ quiescent_Kernel1Ideal_pre_post_finite (hKernel1Ideal := hKernel1Ideal) (hPre_post_finite := hPre_post_finite)
    ∧ quiescent_Reference1Ideal (hReference1Ideal := hReference1Ideal)
    ∧ quiescent_Reference1Ideal_pre_post_finite (hReference1Ideal := hReference1Ideal) (hPre_post_finite := hPre_post_finite)
    ∧ preserves_Kernel2_Kernel2Ideal
    ∧ algebraic_Kernel2Ideal_Reference2Ideal_pre_ffn_in_bwd_finite (hKernel2Ideal := hKernel2Ideal) (hReference2Ideal := hReference2Ideal) (hPre_ffn_in_bwd_finite := hPre_ffn_in_bwd_finite)
    ∧ preserves_Kernel3_Kernel3Ideal
    ∧ algebraic_Kernel3Ideal_Reference3Ideal_pre_norm2_bwd_finite (hKernel3Ideal := hKernel3Ideal) (hReference3Ideal := hReference3Ideal) (hPre_norm2_bwd_finite := hPre_norm2_bwd_finite)
    ∧ preserves_Kernel4_Kernel4Ideal
    ∧ algebraic_Kernel4Ideal_Reference4Ideal_pre_norm1_bwd_finite (hKernel4Ideal := hKernel4Ideal) (hReference4Ideal := hReference4Ideal) (hPre_norm1_bwd_finite := hPre_norm1_bwd_finite)
    ∧ preserves_Kernel20_Kernel20Ideal
    ∧ algebraic_Kernel20Ideal_Reference20Ideal (hKernel20Ideal := hKernel20Ideal) (hReference20Ideal := hReference20Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel11_Kernel11Ideal
    ∧ algebraic_Kernel11Ideal_Reference11Ideal_pre_loss_finite (hKernel11Ideal := hKernel11Ideal) (hReference11Ideal := hReference11Ideal) (hPre_loss_finite := hPre_loss_finite)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel1_Kernel1Ideal
    ∧ algebraic_Kernel1Ideal_Reference1Ideal_pre_post_finite (hKernel1Ideal := hKernel1Ideal) (hReference1Ideal := hReference1Ideal) (hPre_post_finite := hPre_post_finite)
-- ==== Pre_ffn_in_bwd_finite.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := subf main_arg0 main_arg0
  let main_cst : FVec F S_ .f32 := constant S_ .f32 0x00000000#32
  let main_v1 : FVec F S4096x2816 .f32 := broadcastInDim S4096x2816 ![] bcast_S_S4096x2816 main_cst
  let main_v2 : IVec S4096x2816 1 := cmpf .oeq main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := subf main_arg1 main_arg1
  let main_cst_0 : FVec F S_ .f32 := constant S_ .f32 0x00000000#32
  let main_v5 : FVec F S4096x2816 .f32 := broadcastInDim S4096x2816 ![] bcast_S_S4096x2816 main_cst_0
  let main_v6 : IVec S4096x2816 1 := cmpf .oeq main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := subf main_arg2 main_arg2
  let main_cst_2 : FVec F S_ .f32 := constant S_ .f32 0x00000000#32
  let main_v10 : FVec F S2816x1024 .f32 := broadcastInDim S2816x1024 ![] bcast_S_S2816x1024 main_cst_2
  let main_v11 : IVec S2816x1024 1 := cmpf .oeq main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := subf main_arg3 main_arg3
  let main_cst_4 : FVec F S_ .f32 := constant S_ .f32 0x00000000#32
  let main_v15 : FVec F S4096x1024 .f32 := broadcastInDim S4096x1024 ![] bcast_S_S4096x1024 main_cst_4
  let main_v16 : IVec S4096x1024 1 := cmpf .oeq main_v14 main_v15
  fn_part1 (F := F) main_v13 main_v16
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := subf main_arg4 main_arg4
  let main_cst_6 : FVec F S_ .f32 := constant S_ .f32 0x00000000#32
  let main_v20 : FVec F S4096x1024 .f32 := broadcastInDim S4096x1024 ![] bcast_S_S4096x1024 main_cst_6
  let main_v21 : IVec S4096x1024 1 := cmpf .oeq main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x2816 .f32) (main_arg1 : FVec F S2816x1024 .f32) (main_arg2 : FVec F S4096x1024 .f32) (main_arg3 : FVec F S1024 .f32) (main_arg4 : FVec F S4096x1024 .f32) : IVec S_ 1 :=
  let main_v0 : FVec F S4096x2816 .f32 := subf main_arg0 main_arg0
  let main_cst : FVec F S_ .f32 := constant S_ .f32 0x00000000#32
  let main_v1 : FVec F S4096x2816 .f32 := broadcastInDim S4096x2816 ![] bcast_S_S4096x2816 main_cst
  let main_v2 : IVec S4096x2816 1 := cmpf .oeq main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := subf main_arg1 main_arg1
  let main_cst_0 : FVec F S_ .f32 := constant S_ .f32 0x00000000#32
  let main_v5 : FVec F S2816x1024 .f32 := broadcastInDim S2816x1024 ![] bcast_S_S2816x1024 main_cst_0
  let main_v6 : IVec S2816x1024 1 := cmpf .oeq main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := subf main_arg2 main_arg2
  let main_cst_2 : FVec F S_ .f32 := constant S_ .f32 0x00000000#32
  let main_v10 : FVec F S4096x1024 .f32 := broadcastInDim S4096x1024 ![] bcast_S_S4096x1024 main_cst_2
  let main_v11 : IVec S4096x1024 1 := cmpf .oeq main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := subf main_arg3 main_arg3
  let main_cst_4 : FVec F S_ .f32 := constant S_ .f32 0x00000000#32
  let main_v15 : FVec F S1024 .f32 := broadcastInDim S1024 ![] bcast_S_S1024 main_cst_4
  let main_v16 : IVec S1024 1 := cmpf .oeq main_v14 main_v15
  fn_part1 (F := F) main_arg4 main_v13 main_v16
-- ==== Pre_norm1_bwd_finite.lean ====
abbrev S4096x1024 : Shape := ⟨2, ![4096, 1024]⟩
abbrev S1x1024 : Shape := ⟨2, ![1, 1024]⟩
abbrev S1024x3360 : Shape := ⟨2, ![1024, 3360]⟩
abbrev S4096x3360 : Shape := ⟨2, ![4096, 3360]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3360 : S_.BroadcastsInDim S1024x3360 (![] : Fin 0 → Fin S1024x3360.rank)
  reducesTo_S1024x3360_S_d0_1 : S1024x3360.ReducesTo [0, 1] S_
  bcast_S_S4096x3360 : S_.BroadcastsInDim S4096x3360 (![] : Fin 0 → Fin S4096x3360.rank)
  reducesTo_S4096x3360_S_d0_1 : S4096x3360.ReducesTo [0, 1] S_

variable [Facts]

def fn_part1 {F : FTy → Type} [FloatOps F] (main_v13 : IVec S_ 1) (main_v16 : IVec S4096x3360 1) : IVec S_ 1 :=
  let main_c_5 : IVec S_ 1 := constantI S_ 1 1#1
  let main_v17 : IVec S_ 1 := (fun x v => Host.reduce IntOp.andi x v reducesTo_S4096x3360_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x3360 .f32) (main_arg3 : FVec F S4096x1024 .f32) (main_arg4 : FVec F S4096x3360 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3360 .f32 := subf main_arg2 main_arg2
  let main_cst_2 : FVec F S_ .f32 := constant S_ .f32 0x00000000#32
  let main_v10 : FVec F S1024x3360 .f32 := broadcastInDim S1024x3360 ![] bcast_S_S1024x3360 main_cst_2
  let main_v11 : IVec S1024x3360 1 := cmpf .oeq main_v9 main_v10
  let main_c_3 : IVec S_ 1 := constantI S_ 1 1#1
  let main_v12 : IVec S_ 1 := (fun x v => Host.reduce IntOp.andi x v reducesTo_S1024x3360_S_d0_1 h_S_) main_v11 main_c_3
  let main_v13 : IVec S_ 1 := andi main_v8 main_v12
  let main_v14 : FVec F S4096x3360 .f32 := subf main_arg4 main_arg4
  let main_cst_4 : FVec F S_ .f32 := constant S_ .f32 0x00000000#32
  let main_v15 : FVec F S4096x3360 .f32 := broadcastInDim S4096x3360 ![] bcast_S_S4096x3360 main_cst_4
  let main_v16 : IVec S4096x3360 1 := cmpf .oeq main_v14 main_v15
  fn_part1 (F := F) main_v13 main_v16
-- ==== Pre_norm2_bwd_finite.lean ====
abbrev S4096x1024 : Shape := ⟨2, ![4096, 1024]⟩
abbrev S1x1024 : Shape := ⟨2, ![1, 1024]⟩
abbrev S1024x1024 : Shape := ⟨2, ![1024, 1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg8 : FVec F S4096x2816 .f32) (main_v33 : IVec S_ 1) : IVec S_ 1 :=
  let main_v34 : FVec F S4096x2816 .f32 := subf main_arg8 main_arg8
  let main_cst_12 : FVec F S_ .f32 := constant S_ .f32 0x00000000#32
  let main_v35 : FVec F S4096x2816 .f32 := broadcastInDim S4096x2816 ![] bcast_S_S4096x2816 main_cst_12
  let main_v36 : IVec S4096x2816 1 := cmpf .oeq main_v34 main_v35
  let main_c_13 : IVec S_ 1 := constantI S_ 1 1#1
  let main_v37 : IVec S_ 1 := (fun x v => Host.reduce IntOp.andi x v reducesTo_S4096x2816_S_d0_1 h_S_) main_v36 main_c_13
  let main_v38 : IVec S_ 1 := andi main_v33 main_v37
  main_v38

def fn_part1 {F : FTy → Type} [FloatOps F] (main_arg4 : FVec F S1024x2816 .f32) (main_arg5 : FVec F S1024x2816 .f32) (main_arg7 : FVec F S4096x2816 .f32) (main_arg8 : FVec F S4096x2816 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x2816 .f32 := subf main_arg4 main_arg4
  let main_cst_6 : FVec F S_ .f32 := constant S_ .f32 0x00000000#32
  let main_v20 : FVec F S1024x2816 .f32 := broadcastInDim S1024x2816 ![] bcast_S_S1024x2816 main_cst_6
  let main_v21 : IVec S1024x2816 1 := cmpf .oeq main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := subf main_arg5 main_arg5
  let main_cst_8 : FVec F S_ .f32 := constant S_ .f32 0x00000000#32
  let main_v25 : FVec F S1024x2816 .f32 := broadcastInDim S1024x2816 ![] bcast_S_S1024x2816 main_cst_8
  let main_v26 : IVec S1024x2816 1 := cmpf .oeq main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S4096x2816 .f32 := subf main_arg7 main_arg7
  let main_cst_10 : FVec F S_ .f32 := constant S_ .f32 0x00000000#32
  let main_v30 : FVec F S4096x2816 .f32 := broadcastInDim S4096x2816 ![] bcast_S_S4096x2816 main_cst_10
  let main_v31 : IVec S4096x2816 1 := cmpf .oeq main_v29 main_v30
  let main_c_11 : IVec S_ 1 := constantI S_ 1 1#1
  let main_v32 : IVec S_ 1 := (fun x v => Host.reduce IntOp.andi x v reducesTo_S4096x2816_S_d0_1 h_S_) main_v31 main_c_11
  let main_v33 : IVec S_ 1 := andi main_v28 main_v32
  fn_part2 (F := F) main_arg8 main_v33

def fn {F : FTy → Type} [FloatOps F] (main_arg0 : FVec F S4096x1024 .f32) (main_arg1 : FVec F S4096x1024 .f32) (main_arg2 : FVec F S1x1024 .f32) (main_arg3 : FVec F S1024x1024 .f32) (main_arg4 : FVec F S1024x2816 .f32) (main_arg5 : FVec F S1024x2816 .f32) (main_arg6 : FVec F S4096x1024 .f32) (main_arg7 : FVec F S4096x2816 .f32) (main_arg8 : FVec F S4096x2816 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := subf main_arg1 main_arg1
  let main_cst_0 : FVec F S_ .f32 := constant S_ .f32 0x00000000#32
  let main_v5 : FVec F S4096x1024 .f32 := broadcastInDim S4096x1024 ![] bcast_S_S4096x1024 main_cst_0
  let main_v6 : IVec S4096x1024 1 := cmpf .oeq main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := subf main_arg2 main_arg2
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := subf main_arg3 main_arg3
  let main_cst_4 : FVec F S_ .f32 := constant S_ .f32 0x00000000#32
  let main_v15 : FVec F S1024x1024 .f32 := broadcastInDim S1024x1024 ![] bcast_S_S1024x1024 main_cst_4
  let main_v16 : IVec S1024x1024 1 := cmpf .oeq main_v14 main_v15
  fn_part1 (F := F) main_arg4 main_arg5 main_arg7 main_arg8 main_v13 main_v16
-- ==== Pre_post_finite.lean ====
abbrev S4096x512 : Shape := ⟨2, ![4096, 512]⟩
abbrev S4096x2048 : Shape := ⟨2, ![4096, 2048]⟩
abbrev S4096x1536 : Shape := ⟨2, ![4096, 1536]⟩
abbrev S1x512 : Shape := ⟨2, ![1, 512]⟩
abbrev S1x8x64 : Shape := ⟨3, ![1, 8, 64]⟩
abbrev S1x3x512 : Shape := ⟨3, ![1, 3, 512]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1x8x64 : S_.BroadcastsInDim S1x8x64 (![] : Fin 0 → Fin S1x8x64.rank)
  reducesTo_S1x8x64_S_d0_1_2 : S1x8x64.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg9 : FVec F S1x8x64 .f32) (main_arg10 : FVec F S1x8x64 .f32) (main_arg12 : FVec F S4096x1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S1x8x64 .f32 := subf main_arg9 main_arg9
  let main_cst_6 : FVec F S_ .f32 := constant S_ .f32 0x00000000#32
  let main_v20 : FVec F S1x8x64 .f32 := broadcastInDim S1x8x64 ![] bcast_S_S1x8x64 main_cst_6
  let main_v21 : IVec S1x8x64 1 := cmpf .oeq main_v19 main_v20
  let main_c_7 : IVec S_ 1 := constantI S_ 1 1#1
  let main_v22 : IVec S_ 1 := (fun x v => Host.reduce IntOp.andi x v reducesTo_S1x8x64_S_d0_1_2 h_S_) main_v21 main_c_7
  let main_v23 : IVec S_ 1 := andi main_v18 main_v22
  let main_v24 : FVec F S1x8x64 .f32 := subf main_arg10 main_arg10
  let main_cst_8 : FVec F S_ .f32 := constant S_ .f32 0x00000000#32
  let main_v25 : FVec F S1x8x64 .f32 := broadcastInDim S1x8x64 ![] bcast_S_S1x8x64 main_cst_8
  let main_v26 : IVec S1x8x64 1 := cmpf .oeq main_v24 main_v25
  let main_c_9 : IVec S_ 1 := constantI S_ 1 1#1
  let main_v27 : IVec S_ 1 := (fun x v => Host.reduce IntOp.andi x v reducesTo_S1x8x64_S_d0_1_2 h_S_) main_v26 main_c_9
  let main_v28 : IVec S_ 1 := andi main_v23 main_v27
  let main_v29 : FVec F S4096x1024 .f32 := subf main_arg12 main_arg12
  let main_cst_10 : FVec F S_ .f32 := constant S_ .f32 0x00000000#32
  let main_v30 : FVec F S4096x1024 .f32 := broadcastInDim S4096x1024 ![] bcast_S_S4096x1024 main_cst_10
  let main_v31 : IVec S4096x1024 1 := cmpf .oeq main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x2048 .f32) (main_arg3 : FVec F S4096x512 .f32) (main_arg4 : FVec F S4096x512 .f32) (main_arg5 : FVec F S4096x512 .f32) (main_arg6 : FVec F S4096x1536 .f32) (main_arg7 : FVec F S1x512 .f32) (main_arg8 : FVec F S1x512 .f32) (main_arg9 : FVec F S1x8x64 .f32) (main_arg10 : FVec F S1x8x64 .f32) (main_arg11 : FVec F S1x3x512 .f32) (main_arg12 : FVec F S4096x1024 .f32) : IVec S_ 1 :=
  let main_v0 : FVec F S4096x2048 .f32 := subf main_arg2 main_arg2
  let main_cst : FVec F S_ .f32 := constant S_ .f32 0x00000000#32
  let main_v1 : FVec F S4096x2048 .f32 := broadcastInDim S4096x2048 ![] bcast_S_S4096x2048 main_cst
  let main_v2 : IVec S4096x2048 1 := cmpf .oeq main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := subf main_arg3 main_arg3
  let main_cst_0 : FVec F S_ .f32 := constant S_ .f32 0x00000000#32
  let main_v5 : FVec F S4096x512 .f32 := broadcastInDim S4096x512 ![] bcast_S_S4096x512 main_cst_0
  let main_v6 : IVec S4096x512 1 := cmpf .oeq main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := subf main_arg4 main_arg4
  let main_cst_2 : FVec F S_ .f32 := constant S_ .f32 0x00000000#32
  let main_v10 : FVec F S4096x512 .f32 := broadcastInDim S4096x512 ![] bcast_S_S4096x512 main_cst_2
  let main_v11 : IVec S4096x512 1 := cmpf .oeq main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := subf main_arg5 main_arg5
  let main_cst_4 : FVec F S_ .f32 := constant S_ .f32 0x00000000#32
  let main_v15 : FVec F S4096x512 .f32 := broadcastInDim S4096x512 ![] bcast_S_S4096x512 main_cst_4
  let main_v16 : IVec S4096x512 1 := cmpf .oeq main_v14 main_v15
  fn_part1 (F := F) main_arg9 main_arg10 main_arg12 main_v13 main_v16
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2816x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x1024 : Shape := ⟨2, ![1024, 1024]⟩
abbrev S1024x2816 : Shape := ⟨2, ![1024, 2816]⟩
abbrev S4096x2816 : Shape := ⟨2, ![4096, 2816]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S4096x1024, .bf16⟩
  | .hbm, ⟨10, _⟩ => ⟨S1024x1024, .bf16⟩
  | .hbm, ⟨11, _⟩ => ⟨S4096x1024, .f32⟩
  | .hbm, ⟨12, _⟩ => ⟨S4096x1024, .f32⟩
  | .hbm, ⟨13, _⟩ => ⟨S4096x2816, .bf16⟩
  | .hbm, ⟨14, _⟩ => ⟨S1024x2816, .bf16⟩
  | .hbm, ⟨15, _⟩ => ⟨S4096x2816, .bf16⟩
  | .hbm, ⟨16, _⟩ => ⟨S1024x2816, .bf16⟩
  | .hbm, ⟨17, _⟩ => ⟨S1024x1024, .bf16⟩
  | .hbm, ⟨18, _⟩ => ⟨S4096x1024, .f32⟩
  | .hbm, ⟨19, _⟩ => ⟨S1x1024, .f32⟩
  | .hbm, ⟨20, _⟩ => ⟨S4096x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x2816, .bf16⟩
  | .local _ .vmem, ⟨4, _⟩ => ⟨S256x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4096x1024 : Shape := ⟨2, ![4096, 1024]⟩
abbrev S1x1024 : Shape := ⟨2, ![1, 1024]⟩
abbrev S1024x1024 : Shape := ⟨2, ![1024, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x3360 : Shape := ⟨2, ![1024, 3360]⟩
abbrev S4096x3360 : Shape := ⟨2, ![4096, 3360]⟩
abbrev S1024x1824 : Shape := ⟨2, ![1024, 1824]⟩
abbrev S_ : Shape := ⟨0, ![]⟩
abbrev S1024x224 : Shape := ⟨2, ![1024, 224]⟩
abbrev S1024x2048 : Shape := ⟨2, ![1024, 2048]⟩
abbrev S4096x1824 : Shape := ⟨2, ![4096, 1824]⟩
abbrev S4096x224 : Shape := ⟨2, ![4096, 224]⟩
abbrev S4096x2048 : Shape := ⟨2, ![4096, 2048]⟩
abbrev S4096x1536 : Shape := ⟨2, ![4096, 1536]⟩
abbrev S1024x1536 : Shape := ⟨2, ![1024, 1536]⟩
abbrev S256x2048 : Shape := ⟨2, ![256, 2048]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3360, .f32⟩
  | .hbm, ⟨3, _⟩ => ⟨S4096x1024, .f32⟩
  | .hbm, ⟨4, _⟩ => ⟨S4096x3360, .f32⟩
  | .hbm, ⟨5, _⟩ => ⟨S1024x3360, .bf16⟩
  | .hbm, ⟨6, _⟩ => ⟨S1024x1824, .bf16⟩
  | .hbm, ⟨7, _⟩ => ⟨S_, .bf16⟩
  | .hbm, ⟨8, _⟩ => ⟨S1024x224, .bf16⟩
  | .hbm, ⟨9, _⟩ => ⟨S1024x2048, .bf16⟩
  | .hbm, ⟨10, _⟩ => ⟨S4096x3360, .bf16⟩
  | .hbm, ⟨11, _⟩ => ⟨S4096x1824, .bf16⟩
  | .hbm, ⟨12, _⟩ => ⟨S_, .bf16⟩
  | .hbm, ⟨13, _⟩ => ⟨S4096x224, .bf16⟩
  | .hbm, ⟨14, _⟩ => ⟨S4096x2048, .bf16⟩
  | .hbm, ⟨15, _⟩ => ⟨S4096x3360, .bf16⟩
  | .hbm, ⟨16, _⟩ => ⟨S4096x1536, .bf16⟩
  | .hbm, ⟨17, _⟩ => ⟨S1024x3360, .bf16⟩
  | .hbm, ⟨18, _⟩ => ⟨S1024x1536, .bf16⟩
  | .hbm, ⟨19, _⟩ => ⟨S4096x1024, .f32⟩
  | .hbm, ⟨20, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S256x1536, .bf16⟩
  | .local _ .vmem, ⟨4, _⟩ => ⟨S256x1536, .bf16⟩
  | .local _ .vmem, ⟨5, _⟩ => ⟨S1024x1536, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x1024 : Shape := ⟨2, ![4096, 1024]⟩
abbrev S1x1024 : Shape := ⟨2, ![1, 1024]⟩
abbrev S1024x3360 : Shape := ⟨2, ![1024, 3360]⟩
abbrev S4096x3360 : Shape := ⟨2, ![4096, 3360]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3360, .f32⟩
  | .hbm, ⟨3, _⟩ => ⟨S4096x1024, .f32⟩
  | .hbm, ⟨4, _⟩ => ⟨S4096x3360, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3360, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S2048 : Shape := ⟨1, ![2048]⟩

abbrev nBuf : Space → Nat
  | .hbm => 6
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S8x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S256x2048, .f32⟩
  | .local _ .vmem, ⟨7, _⟩ => ⟨S256x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S4096x2048 : Shape := ⟨2, ![4096, 2048]⟩
abbrev S1x2048 : Shape := ⟨2, ![1, 2048]⟩
abbrev S2x2048x2048 : Shape := ⟨3, ![2, 2048, 2048]⟩
abbrev S2x1x2048 : Shape := ⟨3, ![2, 1, 2048]⟩
abbrev S_ : Shape := ⟨0, ![]⟩
abbrev S2x2047x2048 : Shape := ⟨3, ![2, 2047, 2048]⟩
abbrev S1x1x2048 : Shape := ⟨3, ![1, 1, 2048]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2x2048x2048, .f32⟩
  | .hbm, ⟨4, _⟩ => ⟨S2x1x2048, .f32⟩
  | .hbm, ⟨5, _⟩ => ⟨S_, .f32⟩
  | .hbm, ⟨6, _⟩ => ⟨S2x1x2048, .f32⟩
  | .hbm, ⟨7, _⟩ => ⟨S2x2047x2048, .f32⟩
  | .hbm, ⟨8, _⟩ => ⟨S2x2048x2048, .f32⟩
  | .hbm, ⟨9, _⟩ => ⟨S_, .f32⟩
  | .hbm, ⟨10, _⟩ => ⟨S2x1x2048, .f32⟩
  | .hbm, ⟨11, _⟩ => ⟨S2x2047x2048, .f32⟩
  | .hbm, ⟨12, _⟩ => ⟨S2x2048x2048, .f32⟩
  | .hbm, ⟨13, _⟩ => ⟨S_, .f32⟩
  | .hbm, ⟨14, _⟩ => ⟨S2x1x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S1x1x2048, .f32⟩
  | .hbm, ⟨21, _⟩ => ⟨S2x2048x2048, .f32⟩
  | .hbm, ⟨22, _⟩ => ⟨S2x2048x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2048, .f32⟩
  | .hbm, ⟨30, _⟩ => ⟨S1x1x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S2x2048x2048, .f32⟩
  | .hbm, ⟨35, _⟩ => ⟨S2x2048x2048, .f32⟩
  | .hbm, ⟨36, _⟩ => ⟨S_, .f32⟩
  | .hbm, ⟨37, _⟩ => ⟨S2x2048x2048, .f32⟩
  | .hbm, ⟨38, _⟩ => ⟨S2x2048x2048, .f32⟩
  | .hbm, ⟨39, _⟩ => ⟨S2x2047x2048, .f32⟩
  | .hbm, ⟨40, _⟩ => ⟨S2x1x2048, .f32⟩
  | .hbm, ⟨41, _⟩ => ⟨S_, .f32⟩
  | .hbm, ⟨42, _⟩ => ⟨S2x2048x2048, .f32⟩
  | .hbm, ⟨43, _⟩ => ⟨S2x2048x2048, .f32⟩
  | .hbm, ⟨44, _⟩ => ⟨S2x1x2048, .f32⟩
  | .hbm, ⟨45, _⟩ => ⟨S2x2047x2048, .f32⟩
  | .hbm, ⟨46, _⟩ => ⟨S_, .f32⟩
  | .hbm, ⟨47, _⟩ => ⟨S2x2048x2048, .f32⟩
  | .hbm, ⟨48, _⟩ => ⟨S2x2048x2048, .f32⟩
  | .hbm, ⟨49, _⟩ => ⟨S4096x2048, .f32⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S2816x4096 : Shape := ⟨2, ![2816, 4096]⟩
abbrev S704x4096 : Shape := ⟨2, ![704, 4096]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S2816x4096, .f32⟩
  | .hbm, ⟨4, _⟩ => ⟨S2816x4096, .bf16⟩
  | .hbm, ⟨5, _⟩ => ⟨S4096x1024, .bf16⟩
  | .hbm, ⟨6, _⟩ => ⟨S2816x1024, .f32⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S704x1024, .f32⟩
  | .local _ .vmem, ⟨4, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x1024 : Shape := ⟨2, ![4096, 1024]⟩
abbrev S1024x2816 : Shape := ⟨2, ![1024, 2816]⟩
abbrev S4096x2816 : Shape := ⟨2, ![4096, 2816]⟩
abbrev S1024x4096 : Shape := ⟨2, ![1024, 4096]⟩
abbrev S512x4096 : Shape := ⟨2, ![512, 4096]⟩
abbrev S4096x1408 : Shape := ⟨2, ![4096, 1408]⟩
abbrev S512x1408 : Shape := ⟨2, ![512, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S1024x4096, .f32⟩
  | .hbm, ⟨4, _⟩ => ⟨S1024x4096, .bf16⟩
  | .hbm, ⟨5, _⟩ => ⟨S4096x2816, .bf16⟩
  | .hbm, ⟨6, _⟩ => ⟨S1024x2816, .f32⟩
  | .local _ .vmem, ⟨0, _⟩ => ⟨S512x4096, .bf16⟩
  | .local _ .vmem, ⟨1, _⟩ => ⟨S512x4096, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024x4096 : Shape := ⟨2, ![1024, 4096]⟩
abbrev S512x4096 : Shape := ⟨2, ![512, 4096]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S1024x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x3360 : Shape := ⟨2, ![1024, 3360]⟩
abbrev S4096x3360 : Shape := ⟨2, ![4096, 3360]⟩
abbrev S4096x1824 : Shape := ⟨2, ![4096, 1824]⟩
abbrev S_ : Shape := ⟨0, ![]⟩
abbrev S4096x224 : Shape := ⟨2, ![4096, 224]⟩
abbrev S4096x2048 : Shape := ⟨2, ![4096, 2048]⟩
abbrev S1024x4096 : Shape := ⟨2, ![1024, 4096]⟩
abbrev S1024x2048 : Shape := ⟨2, ![1024, 2048]⟩
abbrev S512x4096 : Shape := ⟨2, ![512, 4096]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | .hbm, ⟨3, _⟩ => ⟨S4096x3360, .bf16⟩
  | .hbm, ⟨4, _⟩ => ⟨S4096x1824, .bf16⟩
  | .hbm, ⟨5, _⟩ => ⟨S_, .bf16⟩
  | .hbm, ⟨6, _⟩ => ⟨S4096x224, .bf16⟩
  | .hbm, ⟨7, _⟩ => ⟨S4096x2048, .bf16⟩
  | .hbm, ⟨8, _⟩ => ⟨S1024x4096, .f32⟩
  | .hbm, ⟨9, _⟩ => ⟨S1024x4096, .bf16⟩
  | .hbm, ⟨10, _⟩ => ⟨S1024x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3360 : Shape := ⟨2, ![1024, 3360]⟩
abbrev S4096x3360 : Shape := ⟨2, ![4096, 3360]⟩
abbrev S3360x1024 : Shape := ⟨2, ![3360, 1024]⟩
abbrev S1024x1824 : Shape := ⟨2, ![1024, 1824]⟩
abbrev S_ : Shape := ⟨0, ![]⟩
abbrev S1024x224 : Shape := ⟨2, ![1024, 224]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | .hbm, ⟨3, _⟩ => ⟨S4096x3360, .f32⟩
  | .hbm, ⟨4, _⟩ => ⟨S3360x1024, .f32⟩
  | .hbm, ⟨5, _⟩ => ⟨S1024x3360, .f32⟩
  | .hbm, ⟨6, _⟩ => ⟨S1024x1824, .f32⟩
  | .hbm, ⟨7, _⟩ => ⟨S_, .f32⟩
  | .hbm, ⟨8, _⟩ => ⟨S1024x224, .f32⟩
  | .hbm, ⟨9, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x3360 : Shape := ⟨2, ![1024, 3360]⟩
abbrev S4096x3360 : Shape := ⟨2, ![4096, 3360]⟩
abbrev S1024x4096 : Shape := ⟨2, ![1024, 4096]⟩
abbrev S4096x1536 : Shape := ⟨2, ![4096, 1536]⟩
abbrev S1024x1536 : Shape := ⟨2, ![1024, 1536]⟩
abbrev S512x4096 : Shape := ⟨2, ![512, 4096]⟩
abbrev S512x1536 : Shape := ⟨2, ![512, 1536]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | .hbm, ⟨3, _⟩ => ⟨S1024x4096, .f32⟩
  | .hbm, ⟨4, _⟩ => ⟨S1024x4096, .bf16⟩
  | .hbm, ⟨5, _⟩ => ⟨S4096x3360, .bf16⟩
  | .hbm, ⟨6, _⟩ => ⟨S4096x1536, .bf16⟩
  | .hbm, ⟨7, _⟩ => ⟨S1024x1536, .f32⟩
  | .local _ .vmem, ⟨0, _⟩ => ⟨S512x4096, .bf16⟩
  | .local _ .vmem, ⟨1, _⟩ => ⟨S512x4096, .bf16⟩
  | .local _ .vmem, ⟨2, _⟩ => ⟨S4096x1536, .bf16⟩
  | .local _ .vmem, ⟨3, _⟩ => ⟨S512x1536, .f32⟩
  | .local _ .vmem, ⟨4, _⟩ => ⟨S512x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x3360 : Shape := ⟨2, ![1024, 3360]⟩
abbrev S4096x3360 : Shape := ⟨2, ![4096, 3360]⟩
abbrev S3360x1024 : Shape := ⟨2, ![3360, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | .hbm, ⟨3, _⟩ => ⟨S4096x3360, .f32⟩
  | .hbm, ⟨4, _⟩ => ⟨S3360x1024, .f32⟩
  | .hbm, ⟨5, _⟩ => ⟨S1024x3360, .f32⟩
  | .hbm, ⟨6, _⟩ => ⟨S1024x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x2816 : Shape := ⟨2, ![1024, 2816]⟩
abbrev S4096x2816 : Shape := ⟨2, ![4096, 2816]⟩
abbrev S2816x4096 : Shape := ⟨2, ![2816, 4096]⟩
abbrev S512x1024 : Shape := ⟨2, ![512, 1024]⟩
abbrev S1024x1408 : Shape := ⟨2, ![1024, 1408]⟩
abbrev S512x1408 : Shape := ⟨2, ![512, 1408]⟩
abbrev S1408x512 : Shape := ⟨2, ![1408, 512]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S1024x2816, .bf16⟩
  | .hbm, ⟨5, _⟩ => ⟨S1024x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S2816x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x512, .bf16⟩
  | .local _ .vmem, ⟨13, _⟩ => ⟨S1408x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S2816x4096 : Shape := ⟨2, ![2816, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x2816, .bf16⟩
  | .hbm, ⟨17, _⟩ => ⟨S4096x2816, .bf16⟩
  | .hbm, ⟨18, _⟩ => ⟨S2816x4096, .f32⟩
  | .hbm, ⟨19, _⟩ => ⟨S2816x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S1024x4096, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1024x256, .bf16⟩
  | .local _ .vmem, ⟨11, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4096, .f32⟩
  | .hbm, ⟨23, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x3360 : Shape := ⟨2, ![1024, 3360]⟩
abbrev S1024x1824 : Shape := ⟨2, ![1024, 1824]⟩
abbrev S_ : Shape := ⟨0, ![]⟩
abbrev S1024x224 : Shape := ⟨2, ![1024, 224]⟩
abbrev S1024x2048 : Shape := ⟨2, ![1024, 2048]⟩
abbrev S1024x1536 : Shape := ⟨2, ![1024, 1536]⟩
abbrev S1024x4096 : Shape := ⟨2, ![1024, 4096]⟩
abbrev S4096x2048 : Shape := ⟨2, ![4096, 2048]⟩
abbrev S4096x1536 : Shape := ⟨2, ![4096, 1536]⟩
abbrev S256x1024 : Shape := ⟨2, ![256, 1024]⟩
abbrev S1024x256 : Shape := ⟨2, ![1024, 256]⟩
abbrev S256x2048 : Shape := ⟨2, ![256, 2048]⟩
abbrev S256x1536 : Shape := ⟨2, ![256, 1536]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3360, .f32⟩
  | .hbm, ⟨3, _⟩ => ⟨S1024x3360, .bf16⟩
  | .hbm, ⟨4, _⟩ => ⟨S1024x1824, .bf16⟩
  | .hbm, ⟨5, _⟩ => ⟨S_, .bf16⟩
  | .hbm, ⟨6, _⟩ => ⟨S1024x224, .bf16⟩
  | .hbm, ⟨7, _⟩ => ⟨S1024x2048, .bf16⟩
  | .hbm, ⟨8, _⟩ => ⟨S1024x3360, .bf16⟩
  | .hbm, ⟨9, _⟩ => ⟨S1024x1536, .bf16⟩
  | .hbm, ⟨10, _⟩ => ⟨S1024x4096, .bf16⟩
  | .hbm, ⟨11, _⟩ => ⟨S4096x2048, .f32⟩
  | .hbm, ⟨12, _⟩ => ⟨S4096x1536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1536, .bf16⟩
  | .local _ .vmem, ⟨5, _⟩ => ⟨S1024x256, .bf16⟩
  | .local _ .vmem, ⟨6, _⟩ => ⟨S1024x256, .bf16⟩
  | .local _ .vmem, ⟨7, _⟩ => ⟨S256x2048, .f32⟩
  | .local _ .vmem, ⟨8, _⟩ => ⟨S256x2048, .f32⟩
  | .local _ .vmem, ⟨9, _⟩ => ⟨S256x1536, .f32⟩
  | .local _ .vmem, ⟨10, _⟩ => ⟨S256x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1024 : Shape := ⟨2, ![4096, 1024]⟩
abbrev S1x1024 : Shape := ⟨2, ![1, 1024]⟩
abbrev S1024x3360 : Shape := ⟨2, ![1024, 3360]⟩
abbrev S_ : Shape := ⟨0, ![]⟩
abbrev S4096 : Shape := ⟨1, ![4096]⟩
abbrev S4096x1 : Shape := ⟨2, ![4096, 1]⟩
abbrev S4096x3360 : Shape := ⟨2, ![4096, 3360]⟩
abbrev S1024x4096 : Shape := ⟨2, ![1024, 4096]⟩
abbrev S4096x1824 : Shape := ⟨2, ![4096, 1824]⟩
abbrev S4096x224 : Shape := ⟨2, ![4096, 224]⟩
abbrev S4096x2048 : Shape := ⟨2, ![4096, 2048]⟩
abbrev S4096x1536 : Shape := ⟨2, ![4096, 1536]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3360, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3360, .f32⟩
  | .hbm, ⟨19, _⟩ => ⟨S1024x4096, .f32⟩
  | .hbm, ⟨20, _⟩ => ⟨S1024x4096, .bf16⟩
  | .hbm, ⟨21, _⟩ => ⟨S4096x1824, .f32⟩
  | .hbm, ⟨22, _⟩ => ⟨S_, .f32⟩
  | .hbm, ⟨23, _⟩ => ⟨S4096x224, .f32⟩
  | .hbm, ⟨24, _⟩ => ⟨S4096x2048, .f32⟩
  | .hbm, ⟨25, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 12
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1x1024, .f32⟩
  | .hbm, ⟨77, _⟩ => ⟨S1x1, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel14.lean ====
abbrev S1x1024x840 : Shape := ⟨3, ![1, 1024, 840]⟩
abbrev S1x256x840 : Shape := ⟨3, ![1, 256, 840]⟩
abbrev S256x840 : Shape := ⟨2, ![256, 840]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x840, .f32⟩
  | .hbm, ⟨1, _⟩ => ⟨S1x1024x840, .f32⟩
  | .hbm, ⟨2, _⟩ => ⟨S1x1024x840, .f32⟩
  | .hbm, ⟨3, _⟩ => ⟨S1x1024x840, .f32⟩
  | .hbm, ⟨4, _⟩ => ⟨S1x1024x840, .f32⟩
  | .hbm, ⟨5, _⟩ => ⟨S1x1024x840, .f32⟩
  | .hbm, ⟨6, _⟩ => ⟨S1x1024x840, .f32⟩
  | .local _ .vmem, ⟨0, _⟩ => ⟨S1x256x840, .f32⟩
  | .local _ .vmem, ⟨1, _⟩ => ⟨S1x256x840, .f32⟩
  | .local _ .vmem, ⟨2, _⟩ => ⟨S1x256x840, .f32⟩
  | .local _ .vmem, ⟨3, _⟩ => ⟨S1x256x840, .f32⟩
  | .local _ .vmem, ⟨4, _⟩ => ⟨S1x256x840, .f32⟩
  | .local _ .vmem, ⟨5, _⟩ => ⟨S1x256x840, .f32⟩
  | .local _ .vmem, ⟨6, _⟩ => ⟨S1x256x840, .f32⟩
  | .local _ .vmem, ⟨7, _⟩ => ⟨S1x256x840, .f32⟩
  | .local _ .vmem, ⟨8, _⟩ => ⟨S1x256x840, .f32⟩
  | .local _ .vmem, ⟨9, _⟩ => ⟨S1x256x840, .f32⟩
  | .local _ .vmem, ⟨10, _⟩ => ⟨S1x256x840, .f32⟩
  | .local _ .vmem, ⟨11, _⟩ => ⟨S1x256x840, .f32⟩
  | .local _ .vmem, ⟨12, _⟩ => ⟨S1x256x840, .f32⟩
  | .local _ .vmem, ⟨13, _⟩ => ⟨S1x256x840, .f32⟩
  | _, _ => ⟨S1x1024x840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1x1024x840 : Shape := ⟨3, ![1, 1024, 840]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x840, .f32⟩
  | .hbm, ⟨1, _⟩ => ⟨S1x1024x840, .f32⟩
  | .hbm, ⟨2, _⟩ => ⟨S1x1024x840, .f32⟩
  | .hbm, ⟨3, _⟩ => ⟨S1x1024x840, .f32⟩
  | .hbm, ⟨4, _⟩ => ⟨S_, .f32⟩
  | .hbm, ⟨5, _⟩ => ⟨S1x1024x840, .f32⟩
  | .hbm, ⟨6, _⟩ => ⟨S1x1024x840, .f32⟩
  | .hbm, ⟨7, _⟩ => ⟨S_, .f32⟩
  | .hbm, ⟨8, _⟩ => ⟨S1x1024x840, .f32⟩
  | .hbm, ⟨9, _⟩ => ⟨S1x1024x840, .f32⟩
  | .hbm, ⟨10, _⟩ => ⟨S1x1024x840, .f32⟩
  | .hbm, ⟨11, _⟩ => ⟨S_, .f32⟩
  | .hbm, ⟨12, _⟩ => ⟨S1x1024x840, .f32⟩
  | .hbm, ⟨13, _⟩ => ⟨S1x1024x840, .f32⟩
  | .hbm, ⟨14, _⟩ => ⟨S1x1024x840, .f32⟩
  | .hbm, ⟨15, _⟩ => ⟨S_, .f32⟩
  | .hbm, ⟨16, _⟩ => ⟨S1x1024x840, .f32⟩
  | .hbm, ⟨17, _⟩ => ⟨S1x1024x840, .f32⟩
  | .hbm, ⟨18, _⟩ => ⟨S1x1024x840, .f32⟩
  | .hbm, ⟨19, _⟩ => ⟨S_, .f32⟩
  | .hbm, ⟨20, _⟩ => ⟨S1x1024x840, .f32⟩
  | .hbm, ⟨21, _⟩ => ⟨S1x1024x840, .f32⟩
  | .hbm, ⟨22, _⟩ => ⟨S_, .f32⟩
  | .hbm, ⟨23, _⟩ => ⟨S1x1024x840, .f32⟩
  | .hbm, ⟨24, _⟩ => ⟨S1x1024x840, .f32⟩
  | .hbm, ⟨25, _⟩ => ⟨S1x1024x840, .f32⟩
  | .hbm, ⟨26, _⟩ => ⟨S_, .f32⟩
  | .hbm, ⟨27, _⟩ => ⟨S1x1024x840, .f32⟩
  | .hbm, ⟨28, _⟩ => ⟨S1x1024x840, .f32⟩
  | .hbm, ⟨29, _⟩ => ⟨S1x1024x840, .f32⟩
  | .hbm, ⟨30, _⟩ => ⟨S_, .f32⟩
  | .hbm, ⟨31, _⟩ => ⟨S1x1024x840, .f32⟩
  | .hbm, ⟨32, _⟩ => ⟨S1x1024x840, .f32⟩
  | .hbm, ⟨33, _⟩ => ⟨S1x1024x840, .f32⟩
  | .hbm, ⟨34, _⟩ => ⟨S_, .f32⟩
  | .hbm, ⟨35, _⟩ => ⟨S1x1024x840, .f32⟩
  | .hbm, ⟨36, _⟩ => ⟨S1x1024x840, .f32⟩
  | _, _ => ⟨S1x1024x840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1x1024x704 : Shape := ⟨3, ![1, 1024, 704]⟩
abbrev S1x256x704 : Shape := ⟨3, ![1, 256, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1x1024x704 : Shape := ⟨3, ![1, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S_, .f32⟩
  | .hbm, ⟨5, _⟩ => ⟨S1x1024x704, .f32⟩
  | .hbm, ⟨6, _⟩ => ⟨S1x1024x704, .f32⟩
  | .hbm, ⟨7, _⟩ => ⟨S_, .f32⟩
  | .hbm, ⟨8, _⟩ => ⟨S1x1024x704, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x1024x704 : Shape := ⟨3, ![1, 1024, 704]⟩
abbrev S1x256x704 : Shape := ⟨3, ![1, 256, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1x1024x704 : Shape := ⟨3, ![1, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S_, .f32⟩
  | .hbm, ⟨5, _⟩ => ⟨S1x1024x704, .f32⟩
  | .hbm, ⟨6, _⟩ => ⟨S1x1024x704, .f32⟩
  | .hbm, ⟨7, _⟩ => ⟨S_, .f32⟩
  | .hbm, ⟨8, _⟩ => ⟨S1x1024x704, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x704x1024 : Shape := ⟨3, ![1, 704, 1024]⟩
abbrev S1x176x1024 : Shape := ⟨3, ![1, 176, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1x704x1024 : Shape := ⟨3, ![1, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x1024 : Shape := ⟨2, ![1, 1024]⟩
abbrev S1x1824 : Shape := ⟨2, ![1, 1824]⟩
abbrev S1x64x128 : Shape := ⟨3, ![1, 64, 128]⟩
abbrev S1x512 : Shape := ⟨2, ![1, 512]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1824, .f32⟩
  | .hbm, ⟨5, _⟩ => ⟨S1x1824, .f32⟩
  | .hbm, ⟨6, _⟩ => ⟨S1x1824, .f32⟩
  | .hbm, ⟨7, _⟩ => ⟨S1x1824, .f32⟩
  | .hbm, ⟨8, _⟩ => ⟨S1x64x128, .f32⟩
  | .hbm, ⟨9, _⟩ => ⟨S1x64x128, .f32⟩
  | .hbm, ⟨10, _⟩ => ⟨S1x64x128, .f32⟩
  | .hbm, ⟨11, _⟩ => ⟨S1x64x128, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1824, .f32⟩
  | .hbm, ⟨20, _⟩ => ⟨S1x1824, .f32⟩
  | .hbm, ⟨21, _⟩ => ⟨S1x1824, .f32⟩
  | .hbm, ⟨22, _⟩ => ⟨S1x64x128, .f32⟩
  | .hbm, ⟨23, _⟩ => ⟨S1x64x128, .f32⟩
  | .hbm, ⟨24, _⟩ => ⟨S1x64x128, .f32⟩
  | .hbm, ⟨25, _⟩ => ⟨S1x512, .f32⟩
  | .hbm, ⟨26, _⟩ => ⟨S1x512, .f32⟩
  | .hbm, ⟨27, _⟩ => ⟨S1x512, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1824, .f32⟩
  | .local _ .vmem, ⟨5, _⟩ => ⟨S1x1824, .f32⟩
  | .local _ .vmem, ⟨6, _⟩ => ⟨S1x1824, .f32⟩
  | .local _ .vmem, ⟨7, _⟩ => ⟨S1x1824, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1824, .f32⟩
  | .local _ .vmem, ⟨20, _⟩ => ⟨S1x1824, .f32⟩
  | .local _ .vmem, ⟨21, _⟩ => ⟨S1x1824, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1824 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1824 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1824 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1824 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1824 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1824 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x64x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference19Ideal.lean ====
abbrev S1x1024 : Shape := ⟨2, ![1, 1024]⟩
abbrev S1x1824 : Shape := ⟨2, ![1, 1824]⟩
abbrev S1x64x128 : Shape := ⟨3, ![1, 64, 128]⟩
abbrev S1x512 : Shape := ⟨2, ![1, 512]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1824, .f32⟩
  | 5 => ⟨S1x1824, .f32⟩
  | 6 => ⟨S1x1824, .f32⟩
  | 7 => ⟨S1x1824, .f32⟩
  | 8 => ⟨S1x64x128, .f32⟩
  | 9 => ⟨S1x64x128, .f32⟩
  | 10 => ⟨S1x64x128, .f32⟩
  | 11 => ⟨S1x64x128, .f32⟩
  | 12 => ⟨S1x512, .f32⟩
  | 13 => ⟨S1x512, .f32⟩
  | 14 => ⟨S1x512, .f32⟩
  | 15 => ⟨S1x512, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1824, .f32⟩
  | 51 => ⟨S1x1824, .f32⟩
  | 52 => ⟨S_, .f32⟩
  | 53 => ⟨S1x1824, .f32⟩
  | 54 => ⟨S1x1824, .f32⟩
  | 55 => ⟨S1x1824, .f32⟩
  | 56 => ⟨S_, .f32⟩
  | 57 => ⟨S1x1824, .f32⟩
  | 58 => ⟨S1x1824, .f32⟩
  | 59 => ⟨S1x1824, .f32⟩
  | 60 => ⟨S_, .f32⟩
  | 61 => ⟨S1x1824, .f32⟩
  | 62 => ⟨S1x1824, .f32⟩
  | 63 => ⟨S1x1824, .f32⟩
  | 64 => ⟨S_, .f32⟩
  | 65 => ⟨S1x1824, .f32⟩
  | 66 => ⟨S1x1824, .f32⟩
  | 67 => ⟨S_, .f32⟩
  | 68 => ⟨S1x1824, .f32⟩
  | 69 => ⟨S1x1824, .f32⟩
  | 70 => ⟨S1x1824, .f32⟩
  | 71 => ⟨S_, .f32⟩
  | 72 => ⟨S1x1824, .f32⟩
  | 73 => ⟨S1x1824, .f32⟩
  | 74 => ⟨S1x1824, .f32⟩
  | 75 => ⟨S_, .f32⟩
  | 76 => ⟨S1x1824, .f32⟩
  | 77 => ⟨S1x1824, .f32⟩
  | 78 => ⟨S1x1824, .f32⟩
  | 79 => ⟨S_, .f32⟩
  | 80 => ⟨S1x1824, .f32⟩
  | 81 => ⟨S1x1824, .f32⟩
  | 82 => ⟨S_, .f32⟩
  | 83 => ⟨S1x64x128, .f32⟩
  | 84 => ⟨S1x64x128, .f32⟩
  | 85 => ⟨S_, .f32⟩
  | 86 => ⟨S1x64x128, .f32⟩
  | 87 => ⟨S1x64x128, .f32⟩
  | 88 => ⟨S1x64x128, .f32⟩
  | 89 => ⟨S_, .f32⟩
  | 90 => ⟨S1x64x128, .f32⟩
  | 91 => ⟨S1x64x128, .f32⟩
  | 92 => ⟨S1x64x128, .f32⟩
  | 93 => ⟨S_, .f32⟩
  | 94 => ⟨S1x64x128, .f32⟩
  | 95 => ⟨S1x64x128, .f32⟩
  | 96 => ⟨S1x64x128, .f32⟩
  | 97 => ⟨S_, .f32⟩
  | 98 => ⟨S1x64x128, .f32⟩
  | 99 => ⟨S1x64x128, .f32⟩
  | 100 => ⟨S_, .f32⟩
  | 101 => ⟨S1x64x128, .f32⟩
  | 102 => ⟨S1x64x128, .f32⟩
  | 103 => ⟨S1x64x128, .f32⟩
  | 104 => ⟨S_, .f32⟩
  | 105 => ⟨S1x64x128, .f32⟩
  | 106 => ⟨S1x64x128, .f32⟩
  | 107 => ⟨S1x64x128, .f32⟩
  | 108 => ⟨S_, .f32⟩
  | 109 => ⟨S1x64x128, .f32⟩
  | 110 => ⟨S1x64x128, .f32⟩
  | 111 => ⟨S1x64x128, .f32⟩
  | 112 => ⟨S_, .f32⟩
  | 113 => ⟨S1x64x128, .f32⟩
  | 114 => ⟨S1x64x128, .f32⟩
  | 115 => ⟨S_, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S1x1024, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel21.lean ====
abbrev S1x64x128 : Shape := ⟨3, ![1, 64, 128]⟩
abbrev S1x512 : Shape := ⟨2, ![1, 512]⟩

abbrev nBuf : Space → Nat
  | .hbm => 28
  | .vmem => 28
  | .smem => 0
  | _ => 0

abbrev bufTy : (tb : Table) → Fin (tcTables nBuf tb) → BufTy
  | .hbm, ⟨0, _⟩ => ⟨S1x64x128, .f32⟩
  | .hbm, ⟨1, _⟩ => ⟨S1x64x128, .f32⟩
  | .hbm, ⟨2, _⟩ => ⟨S1x64x128, .f32⟩
  | .hbm, ⟨3, _⟩ => ⟨S1x64x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x64x128, .f32⟩
  | .hbm, ⟨9, _⟩ => ⟨S1x64x128, .f32⟩
  | .hbm, ⟨10, _⟩ => ⟨S1x64x128, .f32⟩
  | .hbm, ⟨11, _⟩ => ⟨S1x64x128, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x64x128, .f32⟩
  | .hbm, ⟨17, _⟩ => ⟨S1x64x128, .f32⟩
  | .hbm, ⟨18, _⟩ => ⟨S1x64x128, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x64x128, .f32⟩
  | .hbm, ⟨23, _⟩ => ⟨S1x64x128, .f32⟩
  | .hbm, ⟨24, _⟩ => ⟨S1x64x128, .f32⟩
  | .hbm, ⟨25, _⟩ => ⟨S1x512, .f32⟩
  | .hbm, ⟨26, _⟩ => ⟨S1x512, .f32⟩
  | .hbm, ⟨27, _⟩ => ⟨S1x512, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S1x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x64x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference21Ideal.lean ====
abbrev S1x64x128 : Shape := ⟨3, ![1, 64, 128]⟩
abbrev S1x512 : Shape := ⟨2, ![1, 512]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x64x128, .f32⟩
  | 1 => ⟨S1x64x128, .f32⟩
  | 2 => ⟨S1x64x128, .f32⟩
  | 3 => ⟨S1x64x128, .f32⟩
  | 4 => ⟨S1x512, .f32⟩
  | 5 => ⟨S1x512, .f32⟩
  | 6 => ⟨S1x512, .f32⟩
  | 7 => ⟨S1x512, .f32⟩
  | 8 => ⟨S1x64x128, .f32⟩
  | 9 => ⟨S1x64x128, .f32⟩
  | 10 => ⟨S1x64x128, .f32⟩
  | 11 => ⟨S1x64x128, .f32⟩
  | 12 => ⟨S1x512, .f32⟩
  | 13 => ⟨S1x512, .f32⟩
  | 14 => ⟨S1x512, .f32⟩
  | 15 => ⟨S1x512, .f32⟩
  | 16 => ⟨S_, .f32⟩
  | 17 => ⟨S1x64x128, .f32⟩
  | 18 => ⟨S1x64x128, .f32⟩
  | 19 => ⟨S_, .f32⟩
  | 20 => ⟨S1x64x128, .f32⟩
  | 21 => ⟨S1x64x128, .f32⟩
  | 22 => ⟨S1x64x128, .f32⟩
  | 23 => ⟨S_, .f32⟩
  | 24 => ⟨S1x64x128, .f32⟩
  | 25 => ⟨S1x64x128, .f32⟩
  | 26 => ⟨S1x64x128, .f32⟩
  | 27 => ⟨S_, .f32⟩
  | 28 => ⟨S1x64x128, .f32⟩
  | 29 => ⟨S1x64x128, .f32⟩
  | 30 => ⟨S1x64x128, .f32⟩
  | 31 => ⟨S_, .f32⟩
  | 32 => ⟨S1x64x128, .f32⟩
  | 33 => ⟨S1x64x128, .f32⟩
  | 34 => ⟨S_, .f32⟩
  | 35 => ⟨S1x64x128, .f32⟩
  | 36 => ⟨S1x64x128, .f32⟩
  | 37 => ⟨S1x64x128, .f32⟩
  | 38 => ⟨S_, .f32⟩
  | 39 => ⟨S1x64x128, .f32⟩
  | 40 => ⟨S1x64x128, .f32⟩
  | 41 => ⟨S1x64x128, .f32⟩
  | 42 => ⟨S_, .f32⟩
  | 43 => ⟨S1x64x128, .f32⟩
  | 44 => ⟨S1x64x128, .f32⟩
  | 45 => ⟨S1x64x128, .f32⟩
  | 46 => ⟨S_, .f32⟩
  | 47 => ⟨S1x64x128, .f32⟩
  | 48 => ⟨S1x64x128, .f32⟩
  | 49 => ⟨S_, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x64x128, .f32⟩
  | 84 => ⟨S1x64x128, .f32⟩
  | 85 => ⟨S_, .f32⟩
  | 86 => ⟨S1x64x128, .f32⟩
  | 87 => ⟨S1x64x128, .f32⟩
  | 88 => ⟨S1x64x128, .f32⟩
  | 89 => ⟨S_, .f32⟩
  | 90 => ⟨S1x64x128, .f32⟩
  | 91 => ⟨S1x64x128, .f32⟩
  | 92 => ⟨S1x64x128, .f32⟩
  | 93 => ⟨S_, .f32⟩
  | 94 => ⟨S1x64x128, .f32⟩
  | 95 => ⟨S1x64x128, .f32⟩
  | 96 => ⟨S1x64x128, .f32⟩
  | 97 => ⟨S_, .f32⟩
  | 98 => ⟨S1x64x128, .f32⟩
  | 99 => ⟨S1x64x128, .f32⟩
  | 100 => ⟨S_, .f32⟩
  | 101 => ⟨S1x64x128, .f32⟩
  | 102 => ⟨S1x64x128, .f32⟩
  | 103 => ⟨S1x64x128, .f32⟩
  | 104 => ⟨S_, .f32⟩
  | 105 => ⟨S1x64x128, .f32⟩
  | 106 => ⟨S1x64x128, .f32⟩
  | 107 => ⟨S1x64x128, .f32⟩
  | 108 => ⟨S_, .f32⟩
  | 109 => ⟨S1x64x128, .f32⟩
  | 110 => ⟨S1x64x128, .f32⟩
  | 111 => ⟨S1x64x128, .f32⟩
  | 112 => ⟨S_, .f32⟩
  | 113 => ⟨S1x64x128, .f32⟩
  | 114 => ⟨S1x64x128, .f32⟩
  | 115 => ⟨S_, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S1x64x128, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | _ => ⟨S1x64x128, .f32⟩

abbrev hbmTy (i : Nat) : BufTy := match i / 128 with
  | 0 => hbmTy0_0 i
  | 1 => hbmTy0_1 i
  | _ => ⟨S1x64x128, .f32⟩

abbrev bufTy : (tb : Table) → Fin (tcTables nBuf tb) → BufTy
  | .hbm, ⟨i, _⟩ => hbmTy i
  | _, _ => ⟨S1x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel22.lean ====
abbrev S1x64x128 : Shape := ⟨3, ![1, 64, 128]⟩
abbrev S1x512 : Shape := ⟨2, ![1, 512]⟩
abbrev S1x160x128 : Shape := ⟨3, ![1, 160, 128]⟩

abbrev nBuf : Space → Nat
  | .hbm => 28
  | .vmem => 28
  | .smem => 0
  | _ => 0

abbrev bufTy : (tb : Table) → Fin (tcTables nBuf tb) → BufTy
  | .hbm, ⟨0, _⟩ => ⟨S1x64x128, .f32⟩
  | .hbm, ⟨1, _⟩ => ⟨S1x64x128, .f32⟩
  | .hbm, ⟨2, _⟩ => ⟨S1x64x128, .f32⟩
  | .hbm, ⟨3, _⟩ => ⟨S1x64x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x160x128, .f32⟩
  | .hbm, ⟨9, _⟩ => ⟨S1x160x128, .f32⟩
  | .hbm, ⟨10, _⟩ => ⟨S1x160x128, .f32⟩
  | .hbm, ⟨11, _⟩ => ⟨S1x160x128, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x64x128, .f32⟩
  | .hbm, ⟨17, _⟩ => ⟨S1x64x128, .f32⟩
  | .hbm, ⟨18, _⟩ => ⟨S1x64x128, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x160x128, .f32⟩
  | .hbm, ⟨23, _⟩ => ⟨S1x160x128, .f32⟩
  | .hbm, ⟨24, _⟩ => ⟨S1x160x128, .f32⟩
  | .hbm, ⟨25, _⟩ => ⟨S1x512, .f32⟩
  | .hbm, ⟨26, _⟩ => ⟨S1x512, .f32⟩
  | .hbm, ⟨27, _⟩ => ⟨S1x512, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x160x128, .f32⟩
  | .local _ .vmem, ⟨9, _⟩ => ⟨S1x160x128, .f32⟩
  | .local _ .vmem, ⟨10, _⟩ => ⟨S1x160x128, .f32⟩
  | .local _ .vmem, ⟨11, _⟩ => ⟨S1x160x128, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x160x128, .f32⟩
  | .local _ .vmem, ⟨23, _⟩ => ⟨S1x160x128, .f32⟩
  | .local _ .vmem, ⟨24, _⟩ => ⟨S1x160x128, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S1x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x160x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x160x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x160x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x160x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x160x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference22Ideal.lean ====
abbrev S1x64x128 : Shape := ⟨3, ![1, 64, 128]⟩
abbrev S1x512 : Shape := ⟨2, ![1, 512]⟩
abbrev S1x160x128 : Shape := ⟨3, ![1, 160, 128]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x64x128, .f32⟩
  | 1 => ⟨S1x64x128, .f32⟩
  | 2 => ⟨S1x64x128, .f32⟩
  | 3 => ⟨S1x64x128, .f32⟩
  | 4 => ⟨S1x512, .f32⟩
  | 5 => ⟨S1x512, .f32⟩
  | 6 => ⟨S1x512, .f32⟩
  | 7 => ⟨S1x512, .f32⟩
  | 8 => ⟨S1x160x128, .f32⟩
  | 9 => ⟨S1x160x128, .f32⟩
  | 10 => ⟨S1x160x128, .f32⟩
  | 11 => ⟨S1x160x128, .f32⟩
  | 12 => ⟨S1x512, .f32⟩
  | 13 => ⟨S1x512, .f32⟩
  | 14 => ⟨S1x512, .f32⟩
  | 15 => ⟨S1x512, .f32⟩
  | 16 => ⟨S_, .f32⟩
  | 17 => ⟨S1x64x128, .f32⟩
  | 18 => ⟨S1x64x128, .f32⟩
  | 19 => ⟨S_, .f32⟩
  | 20 => ⟨S1x64x128, .f32⟩
  | 21 => ⟨S1x64x128, .f32⟩
  | 22 => ⟨S1x64x128, .f32⟩
  | 23 => ⟨S_, .f32⟩
  | 24 => ⟨S1x64x128, .f32⟩
  | 25 => ⟨S1x64x128, .f32⟩
  | 26 => ⟨S1x64x128, .f32⟩
  | 27 => ⟨S_, .f32⟩
  | 28 => ⟨S1x64x128, .f32⟩
  | 29 => ⟨S1x64x128, .f32⟩
  | 30 => ⟨S1x64x128, .f32⟩
  | 31 => ⟨S_, .f32⟩
  | 32 => ⟨S1x64x128, .f32⟩
  | 33 => ⟨S1x64x128, .f32⟩
  | 34 => ⟨S_, .f32⟩
  | 35 => ⟨S1x64x128, .f32⟩
  | 36 => ⟨S1x64x128, .f32⟩
  | 37 => ⟨S1x64x128, .f32⟩
  | 38 => ⟨S_, .f32⟩
  | 39 => ⟨S1x64x128, .f32⟩
  | 40 => ⟨S1x64x128, .f32⟩
  | 41 => ⟨S1x64x128, .f32⟩
  | 42 => ⟨S_, .f32⟩
  | 43 => ⟨S1x64x128, .f32⟩
  | 44 => ⟨S1x64x128, .f32⟩
  | 45 => ⟨S1x64x128, .f32⟩
  | 46 => ⟨S_, .f32⟩
  | 47 => ⟨S1x64x128, .f32⟩
  | 48 => ⟨S1x64x128, .f32⟩
  | 49 => ⟨S_, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x160x128, .f32⟩
  | 84 => ⟨S1x160x128, .f32⟩
  | 85 => ⟨S_, .f32⟩
  | 86 => ⟨S1x160x128, .f32⟩
  | 87 => ⟨S1x160x128, .f32⟩
  | 88 => ⟨S1x160x128, .f32⟩
  | 89 => ⟨S_, .f32⟩
  | 90 => ⟨S1x160x128, .f32⟩
  | 91 => ⟨S1x160x128, .f32⟩
  | 92 => ⟨S1x160x128, .f32⟩
  | 93 => ⟨S_, .f32⟩
  | 94 => ⟨S1x160x128, .f32⟩
  | 95 => ⟨S1x160x128, .f32⟩
  | 96 => ⟨S1x160x128, .f32⟩
  | 97 => ⟨S_, .f32⟩
  | 98 => ⟨S1x160x128, .f32⟩
  | 99 => ⟨S1x160x128, .f32⟩
  | 100 => ⟨S_, .f32⟩
  | 101 => ⟨S1x160x128, .f32⟩
  | 102 => ⟨S1x160x128, .f32⟩
  | 103 => ⟨S1x160x128, .f32⟩
  | 104 => ⟨S_, .f32⟩
  | 105 => ⟨S1x160x128, .f32⟩
  | 106 => ⟨S1x160x128, .f32⟩
  | 107 => ⟨S1x160x128, .f32⟩
  | 108 => ⟨S_, .f32⟩
  | 109 => ⟨S1x160x128, .f32⟩
  | 110 => ⟨S1x160x128, .f32⟩
  | 111 => ⟨S1x160x128, .f32⟩
  | 112 => ⟨S_, .f32⟩
  | 113 => ⟨S1x160x128, .f32⟩
  | 114 => ⟨S1x160x128, .f32⟩
  | 115 => ⟨S_, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S1x64x128, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | _ => ⟨S1x64x128, .f32⟩

abbrev hbmTy (i : Nat) : BufTy := match i / 128 with
  | 0 => hbmTy0_0 i
  | 1 => hbmTy0_1 i
  | _ => ⟨S1x64x128, .f32⟩

abbrev bufTy : (tb : Table) → Fin (tcTables nBuf tb) → BufTy
  | .hbm, ⟨i, _⟩ => hbmTy i
  | _, _ => ⟨S1x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel23.lean ====
abbrev S1x512 : Shape := ⟨2, ![1, 512]⟩
abbrev S1x8x64 : Shape := ⟨3, ![1, 8, 64]⟩

abbrev nBuf : Space → Nat
  | .hbm => 21
  | .vmem => 21
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x8x64, .f32⟩
  | .hbm, ⟨9, _⟩ => ⟨S1x8x64, .f32⟩
  | .hbm, ⟨10, _⟩ => ⟨S1x8x64, .f32⟩
  | .hbm, ⟨11, _⟩ => ⟨S1x8x64, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x8x64, .f32⟩
  | .hbm, ⟨19, _⟩ => ⟨S1x8x64, .f32⟩
  | .hbm, ⟨20, _⟩ => ⟨S1x8x64, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x8x64, .f32⟩
  | .local _ .vmem, ⟨9, _⟩ => ⟨S1x8x64, .f32⟩
  | .local _ .vmem, ⟨10, _⟩ => ⟨S1x8x64, .f32⟩
  | .local _ .vmem, ⟨11, _⟩ => ⟨S1x8x64, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x8x64, .f32⟩
  | .local _ .vmem, ⟨19, _⟩ => ⟨S1x8x64, .f32⟩
  | .local _ .vmem, ⟨20, _⟩ => ⟨S1x8x64, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference23Ideal.lean ====
abbrev S1x512 : Shape := ⟨2, ![1, 512]⟩
abbrev S1x8x64 : Shape := ⟨3, ![1, 8, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x8x64, .f32⟩
  | .hbm, ⟨9, _⟩ => ⟨S1x8x64, .f32⟩
  | .hbm, ⟨10, _⟩ => ⟨S1x8x64, .f32⟩
  | .hbm, ⟨11, _⟩ => ⟨S1x8x64, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S_, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x8x64, .f32⟩
  | .hbm, ⟨80, _⟩ => ⟨S1x8x64, .f32⟩
  | .hbm, ⟨81, _⟩ => ⟨S_, .f32⟩
  | .hbm, ⟨82, _⟩ => ⟨S1x8x64, .f32⟩
  | .hbm, ⟨83, _⟩ => ⟨S1x8x64, .f32⟩
  | .hbm, ⟨84, _⟩ => ⟨S1x8x64, .f32⟩
  | .hbm, ⟨85, _⟩ => ⟨S_, .f32⟩
  | .hbm, ⟨86, _⟩ => ⟨S1x8x64, .f32⟩
  | .hbm, ⟨87, _⟩ => ⟨S1x8x64, .f32⟩
  | .hbm, ⟨88, _⟩ => ⟨S1x8x64, .f32⟩
  | .hbm, ⟨89, _⟩ => ⟨S_, .f32⟩
  | .hbm, ⟨90, _⟩ => ⟨S1x8x64, .f32⟩
  | .hbm, ⟨91, _⟩ => ⟨S1x8x64, .f32⟩
  | .hbm, ⟨92, _⟩ => ⟨S1x8x64, .f32⟩
  | .hbm, ⟨93, _⟩ => ⟨S_, .f32⟩
  | .hbm, ⟨94, _⟩ => ⟨S1x8x64, .f32⟩
  | .hbm, ⟨95, _⟩ => ⟨S1x8x64, .f32⟩
  | .hbm, ⟨96, _⟩ => ⟨S_, .f32⟩
  | .hbm, ⟨97, _⟩ => ⟨S1x8x64, .f32⟩
  | .hbm, ⟨98, _⟩ => ⟨S1x8x64, .f32⟩
  | .hbm, ⟨99, _⟩ => ⟨S1x8x64, .f32⟩
  | .hbm, ⟨100, _⟩ => ⟨S_, .f32⟩
  | .hbm, ⟨101, _⟩ => ⟨S1x8x64, .f32⟩
  | .hbm, ⟨102, _⟩ => ⟨S1x8x64, .f32⟩
  | .hbm, ⟨103, _⟩ => ⟨S1x8x64, .f32⟩
  | .hbm, ⟨104, _⟩ => ⟨S_, .f32⟩
  | .hbm, ⟨105, _⟩ => ⟨S1x8x64, .f32⟩
  | .hbm, ⟨106, _⟩ => ⟨S1x8x64, .f32⟩
  | .hbm, ⟨107, _⟩ => ⟨S1x8x64, .f32⟩
  | .hbm, ⟨108, _⟩ => ⟨S_, .f32⟩
  | .hbm, ⟨109, _⟩ => ⟨S1x8x64, .f32⟩
  | .hbm, ⟨110, _⟩ => ⟨S1x8x64, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel24.lean ====
abbrev S1x8x64 : Shape := ⟨3, ![1, 8, 64]⟩
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S1x8x64, .f32⟩
  | .hbm, ⟨14, _⟩ => ⟨S1x8x64, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .local _ .vmem, ⟨0, _⟩ => ⟨S1x8x64, .f32⟩
  | .local _ .vmem, ⟨1, _⟩ => ⟨S1x8x64, .f32⟩
  | .local _ .vmem, ⟨2, _⟩ => ⟨S1x8x64, .f32⟩
  | .local _ .vmem, ⟨3, _⟩ => ⟨S1x8x64, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x8x64, .f32⟩
  | .local _ .vmem, ⟨13, _⟩ => ⟨S1x8x64, .f32⟩
  | .local _ .vmem, ⟨14, _⟩ => ⟨S1x8x64, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference24Ideal.lean ====
abbrev S1x8x64 : Shape := ⟨3, ![1, 8, 64]⟩
abbrev S1x512 : Shape := ⟨2, ![1, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S1x8x64, .f32⟩
  | .hbm, ⟨14, _⟩ => ⟨S1x8x64, .f32⟩
  | .hbm, ⟨15, _⟩ => ⟨S_, .f32⟩
  | .hbm, ⟨16, _⟩ => ⟨S1x8x64, .f32⟩
  | .hbm, ⟨17, _⟩ => ⟨S1x8x64, .f32⟩
  | .hbm, ⟨18, _⟩ => ⟨S1x8x64, .f32⟩
  | .hbm, ⟨19, _⟩ => ⟨S_, .f32⟩
  | .hbm, ⟨20, _⟩ => ⟨S1x8x64, .f32⟩
  | .hbm, ⟨21, _⟩ => ⟨S1x8x64, .f32⟩
  | .hbm, ⟨22, _⟩ => ⟨S1x8x64, .f32⟩
  | .hbm, ⟨23, _⟩ => ⟨S_, .f32⟩
  | .hbm, ⟨24, _⟩ => ⟨S1x8x64, .f32⟩
  | .hbm, ⟨25, _⟩ => ⟨S1x8x64, .f32⟩
  | .hbm, ⟨26, _⟩ => ⟨S1x8x64, .f32⟩
  | .hbm, ⟨27, _⟩ => ⟨S_, .f32⟩
  | .hbm, ⟨28, _⟩ => ⟨S1x8x64, .f32⟩
  | .hbm, ⟨29, _⟩ => ⟨S1x8x64, .f32⟩
  | .hbm, ⟨30, _⟩ => ⟨S_, .f32⟩
  | .hbm, ⟨31, _⟩ => ⟨S1x8x64, .f32⟩
  | .hbm, ⟨32, _⟩ => ⟨S1x8x64, .f32⟩
  | .hbm, ⟨33, _⟩ => ⟨S1x8x64, .f32⟩
  | .hbm, ⟨34, _⟩ => ⟨S_, .f32⟩
  | .hbm, ⟨35, _⟩ => ⟨S1x8x64, .f32⟩
  | .hbm, ⟨36, _⟩ => ⟨S1x8x64, .f32⟩
  | .hbm, ⟨37, _⟩ => ⟨S1x8x64, .f32⟩
  | .hbm, ⟨38, _⟩ => ⟨S_, .f32⟩
  | .hbm, ⟨39, _⟩ => ⟨S1x8x64, .f32⟩
  | .hbm, ⟨40, _⟩ => ⟨S1x8x64, .f32⟩
  | .hbm, ⟨41, _⟩ => ⟨S1x8x64, .f32⟩
  | .hbm, ⟨42, _⟩ => ⟨S_, .f32⟩
  | .hbm, ⟨43, _⟩ => ⟨S1x8x64, .f32⟩
  | .hbm, ⟨44, _⟩ => ⟨S1x8x64, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S_, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S_, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | _, _ => ⟨S1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel25.lean ====
abbrev S1x3x128 : Shape := ⟨3, ![1, 3, 128]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x3x128, .f32⟩
  | .hbm, ⟨13, _⟩ => ⟨S1x3x128, .f32⟩
  | .hbm, ⟨14, _⟩ => ⟨S1x3x128, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x3x128, .f32⟩
  | .local _ .vmem, ⟨13, _⟩ => ⟨S1x3x128, .f32⟩
  | .local _ .vmem, ⟨14, _⟩ => ⟨S1x3x128, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference25Ideal.lean ====
abbrev S1x3x128 : Shape := ⟨3, ![1, 3, 128]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x3x128, .f32⟩
  | .hbm, ⟨14, _⟩ => ⟨S1x3x128, .f32⟩
  | .hbm, ⟨15, _⟩ => ⟨S_, .f32⟩
  | .hbm, ⟨16, _⟩ => ⟨S1x3x128, .f32⟩
  | .hbm, ⟨17, _⟩ => ⟨S1x3x128, .f32⟩
  | .hbm, ⟨18, _⟩ => ⟨S1x3x128, .f32⟩
  | .hbm, ⟨19, _⟩ => ⟨S_, .f32⟩
  | .hbm, ⟨20, _⟩ => ⟨S1x3x128, .f32⟩
  | .hbm, ⟨21, _⟩ => ⟨S1x3x128, .f32⟩
  | .hbm, ⟨22, _⟩ => ⟨S1x3x128, .f32⟩
  | .hbm, ⟨23, _⟩ => ⟨S_, .f32⟩
  | .hbm, ⟨24, _⟩ => ⟨S1x3x128, .f32⟩
  | .hbm, ⟨25, _⟩ => ⟨S1x3x128, .f32⟩
  | .hbm, ⟨26, _⟩ => ⟨S1x3x128, .f32⟩
  | .hbm, ⟨27, _⟩ => ⟨S_, .f32⟩
  | .hbm, ⟨28, _⟩ => ⟨S1x3x128, .f32⟩
  | .hbm, ⟨29, _⟩ => ⟨S1x3x128, .f32⟩
  | .hbm, ⟨30, _⟩ => ⟨S_, .f32⟩
  | .hbm, ⟨31, _⟩ => ⟨S1x3x128, .f32⟩
  | .hbm, ⟨32, _⟩ => ⟨S1x3x128, .f32⟩
  | .hbm, ⟨33, _⟩ => ⟨S1x3x128, .f32⟩
  | .hbm, ⟨34, _⟩ => ⟨S_, .f32⟩
  | .hbm, ⟨35, _⟩ => ⟨S1x3x128, .f32⟩
  | .hbm, ⟨36, _⟩ => ⟨S1x3x128, .f32⟩
  | .hbm, ⟨37, _⟩ => ⟨S1x3x128, .f32⟩
  | .hbm, ⟨38, _⟩ => ⟨S_, .f32⟩
  | .hbm, ⟨39, _⟩ => ⟨S1x3x128, .f32⟩
  | .hbm, ⟨40, _⟩ => ⟨S1x3x128, .f32⟩
  | .hbm, ⟨41, _⟩ => ⟨S1x3x128, .f32⟩
  | .hbm, ⟨42, _⟩ => ⟨S_, .f32⟩
  | .hbm, ⟨43, _⟩ => ⟨S1x3x128, .f32⟩
  | .hbm, ⟨44, _⟩ => ⟨S1x3x128, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel1.lean ====
abbrev S4096x512 : Shape := ⟨2, ![4096, 512]⟩
abbrev S4096x2048 : Shape := ⟨2, ![4096, 2048]⟩
abbrev S4096x1536 : Shape := ⟨2, ![4096, 1536]⟩
abbrev S1x512 : Shape := ⟨2, ![1, 512]⟩
abbrev S1x8x64 : Shape := ⟨3, ![1, 8, 64]⟩
abbrev S1x3x512 : Shape := ⟨3, ![1, 3, 512]⟩
abbrev S4096x1024 : Shape := ⟨2, ![4096, 1024]⟩
abbrev S_ : Shape := ⟨0, ![]⟩
abbrev S3x512 : Shape := ⟨2, ![3, 512]⟩
abbrev S8x512 : Shape := ⟨2, ![8, 512]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S8x1024 : Shape := ⟨2, ![8, 1024]⟩
abbrev S256x512 : Shape := ⟨2, ![256, 512]⟩
abbrev S256x1536 : Shape := ⟨2, ![256, 1536]⟩
abbrev S8x1536 : Shape := ⟨2, ![8, 1536]⟩

abbrev nBuf : Space → Nat
  | .hbm => 52
  | .vmem => 43
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1536, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S1x8x64, .f32⟩
  | .hbm, ⟨11, _⟩ => ⟨S1x3x512, .f32⟩
  | .hbm, ⟨12, _⟩ => ⟨S4096x1024, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S3x512, .f32⟩
  | .hbm, ⟨18, _⟩ => ⟨S8x512, .f32⟩
  | .hbm, ⟨19, _⟩ => ⟨S512, .i32⟩
  | .hbm, ⟨20, _⟩ => ⟨S_, .i32⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S1x512, .i32⟩
  | .hbm, ⟨40, _⟩ => ⟨S512x512, .i32⟩
  | .hbm, ⟨41, _⟩ => ⟨S512x512, .i32⟩
  | .hbm, ⟨42, _⟩ => ⟨S512x512, .i1⟩
  | .hbm, ⟨43, _⟩ => ⟨S512x512, .bf16⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x1536, .bf16⟩
  | .hbm, ⟨51, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x1536, .f32⟩
  | .local _ .vmem, ⟨21, _⟩ => ⟨S256x1536, .f32⟩
  | .local _ .vmem, ⟨22, _⟩ => ⟨S8x1536, .f32⟩
  | .local _ .vmem, ⟨23, _⟩ => ⟨S8x1536, .f32⟩
  | .local _ .vmem, ⟨24, _⟩ => ⟨S8x1536, .f32⟩
  | .local _ .vmem, ⟨25, _⟩ => ⟨S8x1536, .f32⟩
  | .local _ .vmem, ⟨26, _⟩ => ⟨S8x512, .f32⟩
  | .local _ .vmem, ⟨27, _⟩ => ⟨S512x512, .bf16⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x1536, .bf16⟩
  | .local _ .vmem, ⟨41, _⟩ => ⟨S256x1536, .bf16⟩
  | .local _ .vmem, ⟨42, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13_0 : Ref sig .tc := ⟨.hbm, 44, rfl⟩
abbrev main_v13_1 : Ref sig .tc := ⟨.hbm, 45, rfl⟩
abbrev main_v13_2 : Ref sig .tc := ⟨.hbm, 46, rfl⟩
abbrev main_v13_3 : Ref sig .tc := ⟨.hbm, 47, rfl⟩
abbrev main_v13_4 : Ref sig .tc := ⟨.hbm, 48, rfl⟩
abbrev main_v13_5 : Ref sig .tc := ⟨.hbm, 49, rfl⟩
abbrev main_v13_6 : Ref sig .tc := ⟨.hbm, 50, rfl⟩
abbrev main_v13_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1536 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference1Ideal.lean ====
abbrev S4096x512 : Shape := ⟨2, ![4096, 512]⟩
abbrev S4096x2048 : Shape := ⟨2, ![4096, 2048]⟩
abbrev S4096x1536 : Shape := ⟨2, ![4096, 1536]⟩
abbrev S1x512 : Shape := ⟨2, ![1, 512]⟩
abbrev S1x8x64 : Shape := ⟨3, ![1, 8, 64]⟩
abbrev S1x3x512 : Shape := ⟨3, ![1, 3, 512]⟩
abbrev S4096x1024 : Shape := ⟨2, ![4096, 1024]⟩
abbrev S2x2048x8x64 : Shape := ⟨4, ![2, 2048, 8, 64]⟩
abbrev S8x64 : Shape := ⟨2, ![8, 64]⟩
abbrev S1x1x8x64 : Shape := ⟨4, ![1, 1, 8, 64]⟩
abbrev S_ : Shape := ⟨0, ![]⟩
abbrev S2x2048x8 : Shape := ⟨3, ![2, 2048, 8]⟩
abbrev S2x2048x8x1 : Shape := ⟨4, ![2, 2048, 8, 1]⟩
abbrev S512 : Shape := ⟨1, ![512]⟩
abbrev S2x2048x512 : Shape := ⟨3, ![2, 2048, 512]⟩
abbrev S2x2048x1536 : Shape := ⟨3, ![2, 2048, 1536]⟩
abbrev S2x1x512 : Shape := ⟨3, ![2, 1, 512]⟩
abbrev S2x2047x512 : Shape := ⟨3, ![2, 2047, 512]⟩
abbrev S1x1x512 : Shape := ⟨3, ![1, 1, 512]⟩
abbrev S2x2048x1024 : Shape := ⟨3, ![2, 2048, 1024]⟩

abbrev nBuf : Space → Nat
  | .hbm => 176
  | .vmem => 0
  | .smem => 0
  | _ => 0

abbrev hbmTy0_0 (i : Nat) : BufTy := match i % 128 with
  | 0 => ⟨S4096x512, .f32⟩
  | 1 => ⟨S4096x512, .f32⟩
  | 2 => ⟨S4096x2048, .f32⟩
  | 3 => ⟨S4096x512, .f32⟩
  | 4 => ⟨S4096x512, .f32⟩
  | 5 => ⟨S4096x512, .f32⟩
  | 6 => ⟨S4096x1536, .f32⟩
  | 7 => ⟨S1x512, .f32⟩
  | 8 => ⟨S1x512, .f32⟩
  | 9 => ⟨S1x8x64, .f32⟩
  | 10 => ⟨S1x8x64, .f32⟩
  | 11 => ⟨S1x3x512, .f32⟩
  | 12 => ⟨S4096x1024, .f32⟩
  | 13 => ⟨S4096x512, .f32⟩
  | 14 => ⟨S4096x512, .f32⟩
  | 15 => ⟨S2x2048x8x64, .f32⟩
  | 16 => ⟨S2x2048x8x64, .f32⟩
  | 17 => ⟨S2x2048x8x64, .f32⟩
  | 18 => ⟨S2x2048x8x64, .f32⟩
  | 19 => ⟨S8x64, .f32⟩
  | 20 => ⟨S1x1x8x64, .f32⟩
  | 21 => ⟨S2x2048x8x64, .f32⟩
  | 22 => ⟨S2x2048x8x64, .f32⟩
  | 23 => ⟨S_, .f32⟩
  | 24 => ⟨S2x2048x8, .f32⟩
  | 25 => ⟨S2x2048x8x1, .f32⟩
  | 26 => ⟨S2x2048x8x64, .f32⟩
  | 27 => ⟨S2x2048x8x64, .f32⟩
  | 28 => ⟨S2x2048x8x64, .f32⟩
  | 29 => ⟨S2x2048x8x64, .f32⟩
  | 30 => ⟨S8x64, .f32⟩
  | 31 => ⟨S1x1x8x64, .f32⟩
  | 32 => ⟨S2x2048x8x64, .f32⟩
  | 33 => ⟨S2x2048x8x64, .f32⟩
  | 34 => ⟨S_, .f32⟩
  | 35 => ⟨S2x2048x8, .f32⟩
  | 36 => ⟨S2x2048x8x1, .f32⟩
  | 37 => ⟨S2x2048x8x64, .f32⟩
  | 38 => ⟨S2x2048x8x64, .f32⟩
  | 39 => ⟨S2x2048x8x64, .f32⟩
  | 40 => ⟨S2x2048x8x64, .f32⟩
  | 41 => ⟨S2x2048x8x64, .f32⟩
  | 42 => ⟨S_, .f32⟩
  | 43 => ⟨S2x2048x8, .f32⟩
  | 44 => ⟨S2x2048x8x1, .f32⟩
  | 45 => ⟨S_, .f32⟩
  | 46 => ⟨S2x2048x8x1, .f32⟩
  | 47 => ⟨S2x2048x8x1, .f32⟩
  | 48 => ⟨S2x2048x8x64, .f32⟩
  | 49 => ⟨S2x2048x8x64, .f32⟩
  | 50 => ⟨S2x2048x8x64, .f32⟩
  | 51 => ⟨S_, .f32⟩
  | 52 => ⟨S2x2048x8, .f32⟩
  | 53 => ⟨S2x2048x8x1, .f32⟩
  | 54 => ⟨S_, .f32⟩
  | 55 => ⟨S2x2048x8x1, .f32⟩
  | 56 => ⟨S2x2048x8x1, .f32⟩
  | 57 => ⟨S2x2048x8x64, .f32⟩
  | 58 => ⟨S2x2048x8x64, .f32⟩
  | 59 => ⟨S_, .f32⟩
  | 60 => ⟨S2x2048x8x1, .f32⟩
  | 61 => ⟨S2x2048x8x1, .f32⟩
  | 62 => ⟨S2x2048x8x1, .f32⟩
  | 63 => ⟨S2x2048x8x64, .f32⟩
  | 64 => ⟨S2x2048x8x64, .f32⟩
  | 65 => ⟨S512, .f32⟩
  | 66 => ⟨S8x64, .f32⟩
  | 67 => ⟨S1x1x8x64, .f32⟩
  | 68 => ⟨S2x2048x8x64, .f32⟩
  | 69 => ⟨S2x2048x8x64, .f32⟩
  | 70 => ⟨S512, .f32⟩
  | 71 => ⟨S8x64, .f32⟩
  | 72 => ⟨S1x1x8x64, .f32⟩
  | 73 => ⟨S2x2048x8x64, .f32⟩
  | 74 => ⟨S2x2048x8x64, .f32⟩
  | 75 => ⟨S2x2048x8x64, .f32⟩
  | 76 => ⟨S2x2048x8x64, .f32⟩
  | 77 => ⟨S2x2048x512, .f32⟩
  | 78 => ⟨S2x2048x512, .f32⟩
  | 79 => ⟨S2x2048x512, .f32⟩
  | 80 => ⟨S2x2048x1536, .f32⟩
  | 81 => ⟨S2x2048x512, .f32⟩
  | 82 => ⟨S2x2048x512, .f32⟩
  | 83 => ⟨S2x2048x512, .f32⟩
  | 84 => ⟨S2x2048x512, .f32⟩
  | 85 => ⟨S2x1x512, .f32⟩
  | 86 => ⟨S_, .f32⟩
  | 87 => ⟨S2x1x512, .f32⟩
  | 88 => ⟨S2x2047x512, .f32⟩
  | 89 => ⟨S2x2048x512, .f32⟩
  | 90 => ⟨S_, .f32⟩
  | 91 => ⟨S2x1x512, .f32⟩
  | 92 => ⟨S2x2047x512, .f32⟩
  | 93 => ⟨S2x2048x512, .f32⟩
  | 94 => ⟨S_, .f32⟩
  | 95 => ⟨S2x1x512, .f32⟩
  | 96 => ⟨S1x1x512, .f32⟩
  | 97 => ⟨S512, .f32⟩
  | 98 => ⟨S1x1x512, .f32⟩
  | 99 => ⟨S2x2048x512, .f32⟩
  | 100 => ⟨S2x2048x512, .f32⟩
  | 101 => ⟨S1x1x512, .f32⟩
  | 102 => ⟨S512, .f32⟩
  | 103 => ⟨S1x1x512, .f32⟩
  | 104 => ⟨S2x2048x512, .f32⟩
  | 105 => ⟨S2x2048x512, .f32⟩
  | 106 => ⟨S2x2048x512, .f32⟩
  | 107 => ⟨S1x1x512, .f32⟩
  | 108 => ⟨S512, .f32⟩
  | 109 => ⟨S1x1x512, .f32⟩
  | 110 => ⟨S2x2048x512, .f32⟩
  | 111 => ⟨S2x2048x512, .f32⟩
  | 112 => ⟨S2x2048x512, .f32⟩
  | 113 => ⟨S2x2048x512, .f32⟩
  | 114 => ⟨S2x2048x1024, .f32⟩
  | 115 => ⟨S4096x1024, .f32⟩
  | 116 => ⟨S2x2048x1024, .f32⟩
  | 117 => ⟨S2x2048x512, .f32⟩
  | 118 => ⟨S2x2048x512, .f32⟩
  | 119 => ⟨S2x2048x512, .f32⟩
  | 120 => ⟨S2x2048x512, .f32⟩
  | 121 => ⟨S2x2048x512, .f32⟩
  | 122 => ⟨S2x2048x512, .f32⟩
  | 123 => ⟨S2x2048x512, .f32⟩
  | 124 => ⟨S2x2048x512, .f32⟩
  | 125 => ⟨S2x2048x512, .f32⟩
  | 126 => ⟨S2x2048x512, .f32⟩
  | 127 => ⟨S2x2047x512, .f32⟩
  | _ => ⟨S4096x512, .f32⟩

abbrev hbmTy0_1 (i : Nat) : BufTy := match i % 128 with
  | 0 => ⟨S2x1x512, .f32⟩
  | 1 => ⟨S_, .f32⟩
  | 2 => ⟨S2x2048x512, .f32⟩
  | 3 => ⟨S2x2048x512, .f32⟩
  | 4 => ⟨S2x1x512, .f32⟩
  | 5 => ⟨S2x2047x512, .f32⟩
  | 6 => ⟨S_, .f32⟩
  | 7 => ⟨S2x2048x512, .f32⟩
  | 8 => ⟨S2x2048x512, .f32⟩
  | 9 => ⟨S2x2048x512, .f32⟩
  | 10 => ⟨S2x2048x512, .f32⟩
  | 11 => ⟨S2x2048x1536, .f32⟩
  | 12 => ⟨S4096x1536, .f32⟩
  | 13 => ⟨S2x2048x512, .f32⟩
  | 14 => ⟨S2x2048x8x64, .f32⟩
  | 15 => ⟨S2x2048x8x64, .f32⟩
  | 16 => ⟨S2x2048x8x64, .f32⟩
  | 17 => ⟨S2x2048x8x64, .f32⟩
  | 18 => ⟨S_, .f32⟩
  | 19 => ⟨S2x2048x8, .f32⟩
  | 20 => ⟨S2x2048x8x1, .f32⟩
  | 21 => ⟨S_, .f32⟩
  | 22 => ⟨S2x2048x8, .f32⟩
  | 23 => ⟨S2x2048x8x64, .f32⟩
  | 24 => ⟨S2x2048x8x64, .f32⟩
  | 25 => ⟨S2x2048x8x64, .f32⟩
  | 26 => ⟨S2x2048x8x64, .f32⟩
  | 27 => ⟨S2x2048x8x64, .f32⟩
  | 28 => ⟨S4096x512, .f32⟩
  | 29 => ⟨S2x2048x8x64, .f32⟩
  | 30 => ⟨S2x2048x8x64, .f32⟩
  | 31 => ⟨S2x2048x8x64, .f32⟩
  | 32 => ⟨S2x2048x8x64, .f32⟩
  | 33 => ⟨S_, .f32⟩
  | 34 => ⟨S2x2048x8, .f32⟩
  | 35 => ⟨S2x2048x8x1, .f32⟩
  | 36 => ⟨S_, .f32⟩
  | 37 => ⟨S2x2048x8, .f32⟩
  | 38 => ⟨S2x2048x8x64, .f32⟩
  | 39 => ⟨S2x2048x8x64, .f32⟩
  | 40 => ⟨S2x2048x8x64, .f32⟩
  | 41 => ⟨S2x2048x8x64, .f32⟩
  | 42 => ⟨S2x2048x8x64, .f32⟩
  | 43 => ⟨S2x2048x8x64, .f32⟩
  | 44 => ⟨S4096x512, .f32⟩
  | 45 => ⟨S4096x512, .f32⟩
  | 46 => ⟨S4096x512, .f32⟩
  | 47 => ⟨S4096x1536, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_9 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_10 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_11 : Ref sig .tc := ⟨.hbm, 146, rfl⟩
abbrev main_v121 : Ref sig .tc := ⟨.hbm, 147, rfl⟩
abbrev main_v122 : Ref sig .tc := ⟨.hbm, 148, rfl⟩
abbrev main_cst_12 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_13 : Ref sig .tc := ⟨.hbm, 161, rfl⟩
abbrev main_v134 : Ref sig .tc := ⟨.hbm, 162, rfl⟩
abbrev main_v135 : Ref sig .tc := ⟨.hbm, 163, rfl⟩
abbrev main_cst_14 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩

abbrev nD : Nat := 1
abbrev τ : Topo := Topo.v7x

variable {F : FTy → Type} [FloatOps F]
-- ==== Proof.Finite.lean ====
/- What the preconditions say, and the arithmetic of finite entries: an array that passes `a - a == 0` everywhere holds real numbers. -/
module

public import Idealize.ShloMosaic.Lib.ReduceAll
public import Idealize.ShloMosaic.Lib.Pipeline.ValueKit

@[expose] public section

namespace Cert.Finite

open Idealize.ShloMosaic

/-- An extended real whose difference with itself is zero is a real. -/
theorem real_of_sub {x : EReal} (h : x - x = 0) : ∃ r : ℝ, x = (r : EReal) := by
  induction x using EReal.rec with
  | bot => simp at h
  | coe r => exact ⟨r, rfl⟩
  | top => simp at h

/-- The check `all (a - a == 0)` of an array, passed: its entries are reals. -/
theorem of_check {s t u : Shape} {axes : List (Fin s.rank)} [Subsingleton t.Idx] (a z : FVec Ideal s .f32) (hz : ∀ i, z i = 0)
    (init : u.Idx → BitVec 1) (h : s.ReducesTo axes t) (hu : 0 < u.numel) (j : t.Idx)
    (e : Host.reduce IntOp.andi (cmpf .oeq (subf a a) z) init h hu j = 1#1) : ∀ i, ∃ r : ℝ, a i = (r : EReal) := by
  intro i
  have hi := Host.reduce_andi_all _ init h hu j e i
  refine real_of_sub ?_
  have hi' : Ideal.cmp .oeq (a i - a i) (z i) = 1#1 := hi
  rw [hz i] at hi'
  by_contra hne
  simp [Ideal.cmp, hne] at hi'

/-- A finite sum of reals, taken among the extended reals. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A product of two arrays of reals, at one place, is a real. -/
theorem dot_real {ι : Type} (S : Finset ι) (f g : ι → EReal) (hf : ∀ k, ∃ r : ℝ, f k = r) (hg : ∀ k, ∃ r : ℝ, g k = r) :
    ∃ r : ℝ, ∑ k ∈ S, f k * g k = (r : EReal) := by
  choose F hF using hf
  choose G hG using hg
  exact ⟨∑ k ∈ S, F k * G k, by rw [← sum_coe]; exact Finset.sum_congr rfl fun k _ => by rw [hF, hG, EReal.coe_mul]⟩

/-- A quotient of reals by a real that is not zero. -/
theorem div_real (x : ℝ) {y : ℝ} (h : y ≠ 0) : Ideal.div (x : EReal) (y : EReal) = ((x / y : ℝ) : EReal) := by
  rw [Ideal.div_coe h, ← EReal.coe_mul]
  congr 1
  ring

/-- The reciprocal root of a positive real. -/
theorem rsqrt_real {y : ℝ} (h : 0 < y) : Ideal.rsqrt (y : EReal) = (((Real.sqrt y)⁻¹ : ℝ) : EReal) := by
  rw [Ideal.rsqrt_coe, if_neg (not_lt.2 h.le), if_neg h.ne']

/-- A sum of two reals. -/
theorem add_real {x y : EReal} (hx : ∃ r : ℝ, x = r) (hy : ∃ r : ℝ, y = r) : ∃ r : ℝ, x + y = (r : EReal) := by
  obtain ⟨a, rfl⟩ := hx
  obtain ⟨b, rfl⟩ := hy
  exact ⟨a + b, (EReal.coe_add _ _).symm⟩

/-- Two products equal factor by factor, the factors in the other order. -/
theorem mul_swap {a b c d : EReal} (h : a = c) (h' : b = d) : b * a = c * d := by
  rw [h, h', mul_comm]

end Cert.Finite

end
-- ==== Proof.FfnInBwd.lean ====
/- The value of `Cert.Kernel2Ideal`: the gradients of the FFN's two products that it leaves are the reference's. -/
module

public import proofs.«01_k».proof.Proof.Gen.Kernel2Ideal.Frame
public import proofs.«01_k».proof.Proof.Gen.Reference2Ideal
public import proofs.«01_k».proof.Proof.Gen.Pre_ffn_in_bwd_finite
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The reference's array of ones. -/
abbrev ONE : FVec Ideal Cert.Reference2Ideal.S4096x2816 .f32 := broadcastInDim Cert.Reference2Ideal.S4096x2816 ![] Cert.Reference2Ideal.Gen.bcast_S_S4096x2816 (constant Cert.Reference2Ideal.S_ .f32 0x3F800000#32)

/-- The sigmoid of the gate. -/
abbrev SG (a0 : FVec Ideal Cert.Reference2Ideal.S4096x2816 .f32) : FVec Ideal Cert.Reference2Ideal.S4096x2816 .f32 := Host.divf ONE (addf ONE (Host.exp (Host.negf a0)))

/-- The cotangent of the gated product. -/
abbrev DV (a2 : FVec Ideal Cert.Reference2Ideal.S2816x1024 .f32) (a3 : FVec Ideal Cert.Reference2Ideal.S4096x1024 .f32) : FVec Ideal Cert.Reference2Ideal.S4096x2816 .f32 :=
  Host.dotGeneral Cert.Reference2Ideal.dot_S4096x1024_S2816x1024_S4096x2816_1_1_0_0_n_n none a3 a2

/-- The reference's gradient of the gate. -/
abbrev REF0 (a0 a1 : FVec Ideal Cert.Reference2Ideal.S4096x2816 .f32)
    (a2 : FVec Ideal Cert.Reference2Ideal.S2816x1024 .f32) (a3 : FVec Ideal Cert.Reference2Ideal.S4096x1024 .f32) : FVec Ideal Cert.Reference2Ideal.S4096x2816 .bf16 :=
  truncf .bf16 (addf (mulf (mulf (DV a2 a3) a1) (SG a0)) (mulf (mulf a0 (mulf (DV a2 a3) a1)) (mulf (SG a0) (subf ONE (SG a0))))) Cert.Reference2Ideal.Gen.bitsLt_bf16_f32

/-- The reference's gradient of the second product. -/
abbrev REF1 (a0 a1 : FVec Ideal Cert.Reference2Ideal.S4096x2816 .f32)
    (a2 : FVec Ideal Cert.Reference2Ideal.S2816x1024 .f32) (a3 : FVec Ideal Cert.Reference2Ideal.S4096x1024 .f32) : FVec Ideal Cert.Reference2Ideal.S4096x2816 .bf16 :=
  truncf .bf16 (mulf (mulf a0 (SG a0)) (DV a2 a3)) Cert.Reference2Ideal.Gen.bitsLt_bf16_f32

/-- The precondition: every argument's entries are reals. -/
theorem reals (a0 a1 : FVec Ideal Cert.Reference2Ideal.S4096x2816 .f32)
    (a2 : FVec Ideal Cert.Reference2Ideal.S2816x1024 .f32) (a3 : FVec Ideal Cert.Reference2Ideal.S4096x1024 .f32)
    (h : Cert.Pre_ffn_in_bwd_finite.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ ∀ i, ∃ r : ℝ, a3 i = (r : EReal) := by
  have h := congrFun h ix0
  obtain ⟨h, h3⟩ := IntOp.andi_eq_one.1 h
  obtain ⟨h, h2⟩ := IntOp.andi_eq_one.1 h
  obtain ⟨h0, h1⟩ := IntOp.andi_eq_one.1 h
  have z : ∀ (s : Shape) (hb : Cert.Pre_ffn_in_bwd_finite.S_.BroadcastsInDim s ![]) (i),
      broadcastInDim s ![] hb (constant (F := Ideal) Cert.Pre_ffn_in_bwd_finite.S_ .f32 0x00000000#32) i = 0 := fun s hb i => by
    pointwise
  exact ⟨Finite.of_check _ _ (z _ _) _ _ _ _ h0, Finite.of_check _ _ (z _ _) _ _ _ _ h1,
    Finite.of_check _ _ (z _ _) _ _ _ _ h2, Finite.of_check _ _ (z _ _) _ _ _ _ h3⟩

/-- Each window's block index at every grid point, decided. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- The two ways of writing the gradient of `silu g * u`, on reals. -/
theorem gate_math (d u g : ℝ) :
    (d * u : EReal) * (Ideal.div 1 (1 + Ideal.exp (-(g : EReal))) * (1 + g * (1 - Ideal.div 1 (1 + Ideal.exp (-(g : EReal))))))
      = d * u * Ideal.div 1 (1 + Ideal.exp (-(g : EReal)))
        + g * (d * u) * (Ideal.div 1 (1 + Ideal.exp (-(g : EReal))) * (1 - Ideal.div 1 (1 + Ideal.exp (-(g : EReal))))) := by
  have hs : Ideal.div 1 (1 + Ideal.exp (-(g : EReal))) = ((1 / (1 + Real.exp (-g)) : ℝ) : EReal) := by
    rw [← EReal.coe_neg, Ideal.exp_coe, ← EReal.coe_one, ← EReal.coe_add, Finite.div_real]
    positivity
  rw [hs]
  generalize (1 / (1 + Real.exp (-g)) : ℝ) = s
  norm_cast
  ring

/-- What a grid point stores of the gate's gradient. -/
theorem point0 (c : Dev nD)
    (hp : Cert.Pre_ffn_in_bwd_finite.fn (F := Ideal) (m ((c : Thread nD τ).loc main_arg0)) (m ((c : Thread nD τ).loc main_arg1)) (m ((c : Thread nD τ).loc main_arg2)) (m ((c : Thread nD τ).loc main_arg3)) = fun _ => 1#1) (t : Fin cfg0.N) (y) :
    k0_pay5 (iblk m c 0 t) (iblk m c 1 t) (iblk m c 2 t) (iblk m c 3 t) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  obtain ⟨h0, h1, h2, h3⟩ := reals _ _ _ _ hp
  pointwise [k0_pay1, k0_pay2, k0_pay3, k0_pay5, REF0]
  simp only [Ideal.logistic]
  generalize he : ((View.whole main_v4_0).slice ((win0 4).rect t)).emb y = e
  obtain ⟨d, hd⟩ := Finite.dot_real Finset.univ (fun k => m (c.tc.loc main_arg3) (ix2 (e 0) k))
    (fun k => m (c.tc.loc main_arg2) (ix2 (e 1) k)) (fun k => h3 _) fun k => h2 _
  obtain ⟨u, hu⟩ := h1 e
  obtain ⟨g, hg⟩ := h0 e
  have := gate_math d u g
  rw [← hd, ← hu, ← hg] at this
  refine Eq.trans ?_ this
  subst he
  blk_point [iblk, V, idx t]

/-- What a grid point stores of the second product's gradient. -/
theorem point1 (c : Dev nD) (t : Fin cfg0.N) (y) :
    k0_pay4 (iblk m c 0 t) (iblk m c 1 t) (iblk m c 2 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, REF1]
  simp only [Ideal.logistic]
  refine (mul_assoc _ _ _).trans ((mul_comm _ _).trans ?_)
  blk_point [iblk, V, idx t]

/-- The gate's gradient after the run: the blocks tile it. -/
theorem final0 (c : Dev nD) (hp : Cert.Pre_ffn_in_bwd_finite.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point0 m c hp t y

/-- The second product's gradient after the run. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact point1 m c t y

end Cert.Kernel2Ideal.Value

end
-- ==== Proof.Claims2.lean ====
/- The claims about `Cert.Kernel2`, its ideal reading and its reference: the frames, the reading, and the values. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_ffn_in_bwd_finite
public import proofs.«01_k».proof.Proof.FfnInBwd
public import Idealize.ShloMosaic.Lib.Claim

@[expose] public section

noncomputable section

namespace Cert.Claims2

open Idealize.ShloMosaic Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference declares no semaphore, and none of its operations writes an argument. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run m ρ)

theorem preserves : Cert.preserves_Kernel2_Kernel2Ideal := trivial

theorem frame_ideal_pre : Cert.quiescent_Kernel2Ideal_pre_ffn_in_bwd_finite := fun m ρ _ => Cert.Kernel2Ideal.Gen.frame m ρ

theorem frame_reference_pre : Cert.quiescent_Reference2Ideal_pre_ffn_in_bwd_finite := fun m ρ _ => frame_reference m ρ trivial

/-- The kernel's ideal results are the reference's. -/
theorem algebraic : Cert.algebraic_Kernel2Ideal_Reference2Ideal_pre_ffn_in_bwd_finite := by
  pair_intro
  · run_from Cert.Kernel2Ideal.Gen.run_main m g
  · run_from Cert.Reference2Ideal.Value.run m' g'
    exacts [(Cert.Kernel2Ideal.Value.final0 m c (hpre c)).symm, (Cert.Kernel2Ideal.Value.final1 m c).symm]

end Cert.Claims2

end
-- ==== Proof.RmsNorm.lean ====
/- The gradient of a root-mean-square norm over rows of 1024 numbers: the kernel's form of it and the reference's are one number. -/
module

public import proofs.«01_k».proof.Proof.Finite

@[expose] public section

noncomputable section

open Idealize.ShloMosaic

namespace Cert.RmsNorm

/-- The length of a row, as the programs write it. -/
theorem n_eq : Ideal.ofBits .f32 1149239296#32 = ((1024 : ℝ) : EReal) := by
  simp [Ideal.ofBits, Ideal.ieee, -EReal.coe_mul]; norm_num

/-- Epsilon is a positive real. -/
theorem eps_pos : ∃ e : ℝ, 0 < e ∧ Ideal.ofBits .f32 897988541#32 = (e : EReal) := by
  refine ⟨_, ?_, by simp [Ideal.ofBits, Ideal.ieee, -EReal.coe_mul]; rfl⟩
  positivity

/-- Minus one half. -/
theorem half_eq : Ideal.ofBits .f32 3204448256#32 = ((-(1 / 2) : ℝ) : EReal) := by
  simp [Ideal.ofBits, Ideal.ieee, -EReal.coe_mul]; norm_num

/-- The mean square of a row of reals, plus epsilon, is a positive real. -/
theorem var_pos (x : Fin 1024 → ℝ) : ∃ v : ℝ, 0 < v ∧
    Ideal.div (∑ k, (x k : EReal) * x k) (Ideal.ofBits .f32 1149239296#32) + Ideal.ofBits .f32 897988541#32 = (v : EReal) := by
  obtain ⟨e, he, h⟩ := eps_pos
  refine ⟨(∑ k, x k * x k) / 1024 + e, ?_, ?_⟩
  · have : 0 ≤ ∑ k, x k * x k := Finset.sum_nonneg fun k _ => mul_self_nonneg _
    positivity
  · rw [h, n_eq, EReal.coe_add, ← Finite.div_real _ (by norm_num), ← Finite.sum_coe]
    simp only [EReal.coe_mul]

/-- With `V` a row's mean square plus epsilon, `I` its reciprocal root and `g` the gradient of the normalised row: what
    the kernel adds to `dx` at one place of the row, and what the reference does. -/
theorem grad (x g : Fin 1024 → EReal) (hx : ∀ k, ∃ r : ℝ, x k = r) (hg : ∀ k, ∃ r : ℝ, g k = r) (dx V I : EReal)
    (hV : V = Ideal.div (∑ k, x k * x k) (Ideal.ofBits .f32 1149239296#32) + Ideal.ofBits .f32 897988541#32)
    (hI : I = Ideal.rsqrt V) (q : Fin 1024) :
    dx + I * (g q - x q * I * Ideal.div (∑ k, g k * (x k * I)) (Ideal.ofBits .f32 1149239296#32))
      = dx + g q * I
        + x q * (∑ _k : Fin 1, Ideal.div ((∑ k, x k * g k) * (Ideal.ofBits .f32 3204448256#32 * Ideal.div I V)) (Ideal.ofBits .f32 1149239296#32))
        + (∑ _k : Fin 1, Ideal.div ((∑ k, x k * g k) * (Ideal.ofBits .f32 3204448256#32 * Ideal.div I V)) (Ideal.ofBits .f32 1149239296#32)) * x q := by
  choose X hX using hx
  choose G hG using hg
  simp only [hX, hG] at hV ⊢
  obtain ⟨v, hv, e⟩ := var_pos X
  rw [e] at hV
  subst hV
  rw [Finite.rsqrt_real hv] at hI
  subst hI
  have hs : Real.sqrt v * Real.sqrt v = v := Real.mul_self_sqrt hv.le
  have hp : 0 < Real.sqrt v := Real.sqrt_pos.2 hv
  generalize Real.sqrt v = s at hs hp
  have h1 : ∑ k, (G k : EReal) * ((X k : EReal) * ((s⁻¹ : ℝ) : EReal)) = (((∑ k, X k * G k) * s⁻¹ : ℝ) : EReal) := by
    rw [Finset.sum_mul, ← Finite.sum_coe]
    refine Finset.sum_congr rfl fun k _ => ?_
    rw [← EReal.coe_mul, ← EReal.coe_mul]
    congr 1
    ring
  have h2 : ∑ k, (X k : EReal) * (G k : EReal) = ((∑ k, X k * G k : ℝ) : EReal) := by
    rw [← Finite.sum_coe]
    exact Finset.sum_congr rfl fun k _ => by rw [EReal.coe_mul]
  rw [h1, h2, n_eq, half_eq, Finite.div_real _ hv.ne', Fin.sum_univ_one]
  generalize ∑ k, X k * G k = S
  rw [← EReal.coe_mul (-(1 / 2)), ← EReal.coe_mul S, Finite.div_real _ (by norm_num), Finite.div_real _ (by norm_num), add_assoc, add_assoc]
  refine congrArg (dx + ·) ?_
  simp only [← EReal.coe_mul, ← EReal.coe_sub, ← EReal.coe_add]
  refine congrArg Real.toEReal ?_
  subst hs
  field_simp
  ring

end Cert.RmsNorm

end
-- ==== Proof.Norm2Bwd.lean ====
/- The value of `Cert.Kernel3Ideal`: the gradients of the residual stream, of norm 2's weight and of the mixers' output that it leaves are the reference's. -/
module

public import proofs.«01_k».proof.Proof.Gen.Kernel3Ideal.Frame
public import proofs.«01_k».proof.Proof.Gen.Reference3Ideal
public import proofs.«01_k».proof.Proof.Gen.Pre_norm2_bwd_finite
public import proofs.«01_k».proof.Proof.RmsNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-! ## The reference's terms -/

/-- A column of one number. -/
abbrev COL (b : BitVec 32) : FVec Ideal Cert.Reference3Ideal.S4096x1 .f32 := broadcastInDim Cert.Reference3Ideal.S4096x1 ![] Cert.Reference3Ideal.Gen.bcast_S_S4096x1 (constant Cert.Reference3Ideal.S_ .f32 b)

/-- The mean square of each row, plus epsilon. -/
abbrev VAR (x : FVec Ideal Cert.Reference3Ideal.S4096x1024 .f32) : FVec Ideal Cert.Reference3Ideal.S4096x1 .f32 :=
  addf (Host.divf (broadcastInDim Cert.Reference3Ideal.S4096x1 ![0] Cert.Reference3Ideal.Gen.bcast_S4096_S4096x1_0 (Host.reduceAdd (mulf x x) (constant Cert.Reference3Ideal.S_ .f32 0x00000000#32) Cert.Reference3Ideal.Gen.reducesTo_S4096x1024_S4096_d1 Cert.Reference3Ideal.Gen.h_S_)) (COL 0x44800000#32)) (COL 0x358637BD#32)

/-- Its reciprocal root. -/
abbrev INV (x : FVec Ideal Cert.Reference3Ideal.S4096x1024 .f32) : FVec Ideal Cert.Reference3Ideal.S4096x1 .f32 := Host.rsqrt (VAR x)

/-- A gradient of the norm's output, times the norm's weight. -/
abbrev DHW (w : FVec Ideal Cert.Reference3Ideal.S1x1024 .f32) (dh : FVec Ideal Cert.Reference3Ideal.S4096x1024 .f32) : FVec Ideal Cert.Reference3Ideal.S4096x1024 .f32 :=
  mulf dh (broadcastInDim Cert.Reference3Ideal.S4096x1024 ![0, 1] Cert.Reference3Ideal.Gen.bcast_S1x1024_S4096x1024_0_1 w)

/-- Each row's gradient of its mean square, spread over the row. -/
abbrev DSQ (x : FVec Ideal Cert.Reference3Ideal.S4096x1024 .f32) (w : FVec Ideal Cert.Reference3Ideal.S1x1024 .f32) (dh : FVec Ideal Cert.Reference3Ideal.S4096x1024 .f32) : FVec Ideal Cert.Reference3Ideal.S4096x1024 .f32 :=
  broadcastInDim Cert.Reference3Ideal.S4096x1024 ![0] Cert.Reference3Ideal.Gen.bcast_S4096_S4096x1024_0 (Host.reduceAdd (Host.divf (mulf (shapeCast _ (Host.reduceAdd (mulf x (DHW w dh)) (constant Cert.Reference3Ideal.S_ .f32 0x00000000#32) Cert.Reference3Ideal.Gen.reducesTo_S4096x1024_S4096_d1 Cert.Reference3Ideal.Gen.h_S_) Cert.Reference3Ideal.Gen.shapeCasts_S4096_S4096x1) (mulf (COL 0xBF000000#32) (Host.divf (INV x) (VAR x)))) (COL 0x44800000#32)) (constant Cert.Reference3Ideal.S_ .f32 0x00000000#32) Cert.Reference3Ideal.Gen.reducesTo_S4096x1_S4096_d1 Cert.Reference3Ideal.Gen.h_S_)

/-- The gradient of the norm's input `x`, added to `dx`. -/
abbrev GX (x : FVec Ideal Cert.Reference3Ideal.S4096x1024 .f32) (w : FVec Ideal Cert.Reference3Ideal.S1x1024 .f32) (dh dx : FVec Ideal Cert.Reference3Ideal.S4096x1024 .f32) : FVec Ideal Cert.Reference3Ideal.S4096x1024 .f32 :=
  addf (addf (addf dx (mulf (DHW w dh) (broadcastInDim Cert.Reference3Ideal.S4096x1024 ![0, 1] Cert.Reference3Ideal.Gen.bcast_S4096x1_S4096x1024_0_1 (INV x)))) (mulf x (DSQ x w dh))) (mulf (DSQ x w dh) x)

/-- The gradient of the norm's weight. -/
abbrev GW (x dh : FVec Ideal Cert.Reference3Ideal.S4096x1024 .f32) : FVec Ideal Cert.Reference3Ideal.S1x1024 .f32 :=
  shapeCast _ (Host.reduceAdd (mulf (mulf x (broadcastInDim Cert.Reference3Ideal.S4096x1024 ![0, 1] Cert.Reference3Ideal.Gen.bcast_S4096x1_S4096x1024_0_1 (INV x))) dh) (constant Cert.Reference3Ideal.S_ .f32 0x00000000#32) Cert.Reference3Ideal.Gen.reducesTo_S4096x1024_S1024_d0 Cert.Reference3Ideal.Gen.h_S_) Cert.Reference3Ideal.Gen.shapeCasts_S1024_S1x1024

/-- The residual stream after the mixers. -/
abbrev X1 (x mixed : FVec Ideal Cert.Reference3Ideal.S4096x1024 .f32) (w_out : FVec Ideal Cert.Reference3Ideal.S1024x1024 .f32) : FVec Ideal Cert.Reference3Ideal.S4096x1024 .f32 :=
  addf x (Host.dotGeneral Cert.Reference3Ideal.dot_S4096x1024_S1024x1024_S4096x1024_1_0_0_1_n_n none mixed w_out)

/-- The gradient of the norm's output: the FFN's two cotangents times their transposed weights. -/
abbrev DH (d_up : FVec Ideal Cert.Reference3Ideal.S4096x2816 .f32) (w_up : FVec Ideal Cert.Reference3Ideal.S1024x2816 .f32) (d_gate : FVec Ideal Cert.Reference3Ideal.S4096x2816 .f32) (w_gate : FVec Ideal Cert.Reference3Ideal.S1024x2816 .f32) : FVec Ideal Cert.Reference3Ideal.S4096x1024 .f32 :=
  addf (Host.dotGeneral Cert.Reference3Ideal.dot_S4096x2816_S1024x2816_S4096x1024_1_1_0_0_n_n none d_up w_up) (Host.dotGeneral Cert.Reference3Ideal.dot_S4096x2816_S1024x2816_S4096x1024_1_1_0_0_n_n none d_gate w_gate)

/-- The reference's gradient of the residual stream. -/
abbrev REF0 (a0 a1 : FVec Ideal Cert.Reference3Ideal.S4096x1024 .f32) (a2 : FVec Ideal Cert.Reference3Ideal.S1x1024 .f32) (a3 : FVec Ideal Cert.Reference3Ideal.S1024x1024 .f32) (a4 a5 : FVec Ideal Cert.Reference3Ideal.S1024x2816 .f32) (a6 : FVec Ideal Cert.Reference3Ideal.S4096x1024 .f32) (a7 a8 : FVec Ideal Cert.Reference3Ideal.S4096x2816 .f32) : FVec Ideal Cert.Reference3Ideal.S4096x1024 .f32 :=
  GX (X1 a1 a0 a3) a2 (DH a8 a5 a7 a4) a6

/-- The reference's gradient of norm 2's weight. -/
abbrev REF1 (a0 a1 : FVec Ideal Cert.Reference3Ideal.S4096x1024 .f32) (a3 : FVec Ideal Cert.Reference3Ideal.S1024x1024 .f32) (a4 a5 : FVec Ideal Cert.Reference3Ideal.S1024x2816 .f32) (a7 a8 : FVec Ideal Cert.Reference3Ideal.S4096x2816 .f32) : FVec Ideal Cert.Reference3Ideal.S1x1024 .f32 :=
  GW (X1 a1 a0 a3) (DH a8 a5 a7 a4)

/-- The reference's gradient of the mixers' output. -/
abbrev REF2 (a0 a1 : FVec Ideal Cert.Reference3Ideal.S4096x1024 .f32) (a2 : FVec Ideal Cert.Reference3Ideal.S1x1024 .f32) (a3 : FVec Ideal Cert.Reference3Ideal.S1024x1024 .f32) (a4 a5 : FVec Ideal Cert.Reference3Ideal.S1024x2816 .f32) (a6 : FVec Ideal Cert.Reference3Ideal.S4096x1024 .f32) (a7 a8 : FVec Ideal Cert.Reference3Ideal.S4096x2816 .f32) : FVec Ideal Cert.Reference3Ideal.S4096x1024 .f32 :=
  Host.dotGeneral Cert.Reference3Ideal.dot_S4096x1024_S1024x1024_S4096x1024_1_1_0_0_n_n none (shapeCast _ (REF0 a0 a1 a2 a3 a4 a5 a6 a7 a8) Cert.Reference3Ideal.Gen.shapeCasts_S4096x1024_S4096x1024) a3

/-- Equal arguments, equal gradients. -/
theorem REF2_congr {a0 a1 b0 b1 : FVec Ideal Cert.Reference3Ideal.S4096x1024 .f32} {a2 b2 : FVec Ideal Cert.Reference3Ideal.S1x1024 .f32} {a3 b3 : FVec Ideal Cert.Reference3Ideal.S1024x1024 .f32} {a4 a5 b4 b5 : FVec Ideal Cert.Reference3Ideal.S1024x2816 .f32} {a6 b6 : FVec Ideal Cert.Reference3Ideal.S4096x1024 .f32} {a7 a8 b7 b8 : FVec Ideal Cert.Reference3Ideal.S4096x2816 .f32}
    (h0 : a0 = b0) (h1 : a1 = b1) (h2 : a2 = b2) (h3 : a3 = b3) (h4 : a4 = b4) (h5 : a5 = b5) (h6 : a6 = b6) (h7 : a7 = b7) (h8 : a8 = b8) :
    REF2 a0 a1 a2 a3 a4 a5 a6 a7 a8 = REF2 b0 b1 b2 b3 b4 b5 b6 b7 b8 := by
  subst h0 h1 h2 h3 h4 h5 h6 h7 h8
  rfl

/-- Each window's block index at every grid point, decided. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![0, 0]
    ∧ win0_8.index t = ![t.val, 0]
    ∧ win0_9.index t = ![0, 0]
    ∧ win0_10.index t = ![t.val, 0] :=
  (by decide +kernel : ∀ t : Fin grid0.N, _)

/-- The residual stream as the host computes it. -/
theorem operand (c : Dev nD) (i : S4096x1024.Idx) : V m c main_v3 i = (X1 (m ((c : Thread nD τ).loc main_arg1)) (m ((c : Thread nD τ).loc main_arg0)) (m ((c : Thread nD τ).loc main_arg3))) i := by
  entry_read
  pointwise [X1]

/-- A grid point's rows of it. -/
theorem rows (c : Dev nD) (t : Fin cfg0.N) (p : Fin 4096) (k : Fin 256) (q : Fin 1024) (hp : p.val = t.val * 256 + k.val) :
    iblk m c 4 t (ix2 k q) = (X1 (m ((c : Thread nD τ).loc main_arg1)) (m ((c : Thread nD τ).loc main_arg0)) (m ((c : Thread nD τ).loc main_arg3))) (ix2 p q) := by
  refine Eq.trans ?_ (operand m c (ix2 p q))
  obtain ⟨p, h⟩ := p
  obtain rfl : p = _ := hp
  blk_point [iblk, idx t]

/-- The two products of a grid point, added up, are its rows of the reference's two. -/
theorem dh (c : Dev nD) (t : Fin cfg0.N) (p : Fin 4096) (k : Fin 256) (q : Fin 1024) (hp : p.val = t.val * 256 + k.val) :
    k0_pay5 (iblk m c 0 t) (iblk m c 1 t) (iblk m c 2 t) (iblk m c 3 t) (ix2 k q) = (DH (m ((c : Thread nD τ).loc main_arg8)) (m ((c : Thread nD τ).loc main_arg5)) (m ((c : Thread nD τ).loc main_arg7)) (m ((c : Thread nD τ).loc main_arg4))) (ix2 p q) := by
  obtain ⟨p, h⟩ := p
  obtain rfl : p = _ := hp
  pointwise [k0_pay5, DH]
  refine (add_comm (G := EReal) _ _).trans (congrArg₂ (· + ·) ?_ ?_)
  · refine Finset.sum_congr rfl fun x _ => congrArg₂ (· * ·) ?_ ?_
    · blk_simp [iblk, idx t]; entry_read; pointwise; blk_ext [idx t]
    · blk_simp [iblk, idx t]; entry_read; pointwise; blk_ext [idx t]
  · refine Finset.sum_congr rfl fun x _ => congrArg₂ (· * ·) ?_ ?_
    · blk_simp [iblk, idx t]; entry_read; pointwise; blk_ext [idx t]
    · blk_simp [iblk, idx t]; entry_read; pointwise; blk_ext [idx t]

/-- Arrays that pass the check are arrays of reals. -/
theorem reals {a0 a1 : FVec Ideal Cert.Reference3Ideal.S4096x1024 .f32} {a2 : FVec Ideal Cert.Reference3Ideal.S1x1024 .f32} {a3 : FVec Ideal Cert.Reference3Ideal.S1024x1024 .f32} {a4 a5 : FVec Ideal Cert.Reference3Ideal.S1024x2816 .f32} {a6 : FVec Ideal Cert.Reference3Ideal.S4096x1024 .f32} {a7 a8 : FVec Ideal Cert.Reference3Ideal.S4096x2816 .f32}
    (h : Cert.Pre_norm2_bwd_finite.fn (F := Ideal) a0 a1 a2 a3 a4 a5 a6 a7 a8 = fun _ => 1#1) :
    (∀ i, ∃ r : ℝ, X1 a1 a0 a3 i = r) ∧ (∀ i, ∃ r : ℝ, a2 i = r) ∧ ∀ i, ∃ r : ℝ, DH a8 a5 a7 a4 i = r := by
  have h := congrFun h ix0
  obtain ⟨h, h8⟩ := IntOp.andi_eq_one.1 h
  obtain ⟨h, h7⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have z : ∀ (s) (hb : Cert.Pre_norm2_bwd_finite.S_.BroadcastsInDim s ![]) (i), broadcastInDim s ![] hb (constant (F := Ideal) Cert.Pre_norm2_bwd_finite.S_ .f32 0x00000000#32) i = 0 := by
    intro s hb i
    pointwise
  replace h0 := Finite.of_check _ _ (z _ _) _ _ _ _ h0
  replace h1 := Finite.of_check _ _ (z _ _) _ _ _ _ h1
  replace h3 := Finite.of_check _ _ (z _ _) _ _ _ _ h3
  replace h4 := Finite.of_check _ _ (z _ _) _ _ _ _ h4
  replace h5 := Finite.of_check _ _ (z _ _) _ _ _ _ h5
  replace h7 := Finite.of_check _ _ (z _ _) _ _ _ _ h7
  replace h8 := Finite.of_check _ _ (z _ _) _ _ _ _ h8
  refine ⟨fun i => ?_, Finite.of_check _ _ (z _ _) _ _ _ _ h2, fun i => ?_⟩
  · pointwise [X1]
    exact Finite.add_real (h1 _) (Finite.dot_real _ _ _ (fun _ => h0 _) fun _ => h3 _)
  · pointwise [DH]
    exact Finite.add_real (Finite.dot_real _ _ _ (fun _ => h8 _) fun _ => h5 _) (Finite.dot_real _ _ _ (fun _ => h7 _) fun _ => h4 _)

/-- What a grid point stores of the gradient of the residual stream. -/
theorem point0 (c : Dev nD) (hp : Cert.Pre_norm2_bwd_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) (t : Fin cfg0.N) (p : Fin 4096) (k : Fin 256) (q : Fin 1024) (hpk : p.val = t.val * 256 + k.val) :
    k0_pay1 (k0_pay9 (iblk m c 0 t) (iblk m c 1 t) (iblk m c 2 t) (iblk m c 3 t) (iblk m c 4 t) (iblk m c 5 t)) (iblk m c 6 t) (ix2 k q)
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 p q) := by
  obtain ⟨h0, h1, h2⟩ := reals hp
  have hd : ∀ q, k0_pay5 (iblk m c 0 t) (iblk m c 1 t) (iblk m c 2 t) (iblk m c 3 t) (ix2 k q) = (DH (m ((c : Thread nD τ).loc main_arg8)) (m ((c : Thread nD τ).loc main_arg5)) (m ((c : Thread nD τ).loc main_arg7)) (m ((c : Thread nD τ).loc main_arg4))) (ix2 p q) := fun q => dh m c t p k q hpk
  have hx : ∀ q, iblk m c 4 t (ix2 k q) = (X1 (m ((c : Thread nD τ).loc main_arg1)) (m ((c : Thread nD τ).loc main_arg0)) (m ((c : Thread nD τ).loc main_arg3))) (ix2 p q) := fun q => rows m c t p k q hpk
  have hw : ∀ k, iblk m c 5 t (ix2 0 k) = m ((c : Thread nD τ).loc main_arg2) (ix2 0 k) := by
    intro k; blk_point [iblk, V, idx t]
  have hdx : iblk m c 6 t (ix2 k q) = m ((c : Thread nD τ).loc main_arg6) (ix2 p q) := by
    obtain ⟨p, h⟩ := p
    obtain rfl : p = _ := hpk
    blk_point [iblk, V, idx t]
  unfold REF0
  generalize (X1 (m ((c : Thread nD τ).loc main_arg1)) (m ((c : Thread nD τ).loc main_arg0)) (m ((c : Thread nD τ).loc main_arg3))) = x at h0 hx ⊢
  generalize (DH (m ((c : Thread nD τ).loc main_arg8)) (m ((c : Thread nD τ).loc main_arg5)) (m ((c : Thread nD τ).loc main_arg7)) (m ((c : Thread nD τ).loc main_arg4))) = d at h2 hd ⊢
  pointwise [k0_pay1, k0_pay6, k0_pay7, k0_pay8, k0_pay9, GX]
  simp only [hd, hx, hw, hdx]
  refine Eq.trans ?_ ((RmsNorm.grad (fun k => x (ix2 p k)) (fun k => d (ix2 p k) * m ((c : Thread nD τ).loc main_arg2) (ix2 0 k)) (fun k => h0 _) (fun k => ?_)
    (m ((c : Thread nD τ).loc main_arg6) (ix2 p q)) _ _ rfl rfl q).trans ?_)
  · first | rfl | refine congrArg₂ (· + ·) rfl (congrArg₂ (· * ·) rfl (congrArg₂ (· - ·) (Ideal.mul_congr rfl (hw _)) rfl))
  · obtain ⟨d, hd⟩ := h2 (ix2 p k)
    obtain ⟨w, hw⟩ := h1 (ix2 0 k)
    exact ⟨d * w, (Ideal.mul_congr hd hw).trans (EReal.coe_mul _ _).symm⟩
  · rfl

/-- What a grid point stores of the gradient of the mixers' output. -/
theorem point2 (c : Dev nD) (hp : Cert.Pre_norm2_bwd_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) (t : Fin cfg0.N) (p : Fin 4096) (k : Fin 256) (q : Fin 1024) (hpk : p.val = t.val * 256 + k.val) :
    k0_pay2 (k0_pay9 (iblk m c 0 t) (iblk m c 1 t) (iblk m c 2 t) (iblk m c 3 t) (iblk m c 4 t) (iblk m c 5 t)) (iblk m c 6 t) (iblk m c 7 t) (ix2 k q)
      = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 p q) := by
  have h := fun q => point0 m c hp t p k q hpk
  unfold REF2
  generalize REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = d at h ⊢
  pointwise [k0_pay2]
  refine Finset.sum_congr rfl fun x _ => congrArg₂ (· * ·) (h x) ?_
  blk_simp [iblk, idx t]; entry_read; pointwise; blk_ext [idx t]

/-- The gradient of the residual stream after the run: the blocks tile it. -/
theorem final0 (c : Dev nD) (hp : Cert.Pre_norm2_bwd_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) : (dats m 0 c).arrAt 8 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 8 _ (by decide +kernel) fun t hf y => ?_
  have e : ((cfg0.win 8).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_8]
  by_cases h : t.val % 16 = 0
  · rw [outsAt0_A m c t h]
    frame_out
    exact (congrArg _ ey).trans ((point0 m c hp t _ (y 0) (y 1) rfl).trans (congrArg _ e.symm))
  · rw [outsAt0_B m c t h]
    frame_out
    exact (congrArg _ ey).trans ((point0 m c hp t _ (y 0) (y 1) rfl).trans (congrArg _ e.symm))

/-- The gradient of the mixers' output after the run. -/
theorem final2 (c : Dev nD) (hp : Cert.Pre_norm2_bwd_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) : (dats m 0 c).arrAt 10 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  have e : ((cfg0.win 10).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_10]
  by_cases h : t.val % 16 = 0
  · rw [outsAt0_A m c t h]
    frame_out
    exact (congrArg _ ey).trans ((point2 m c hp t _ (y 0) (y 1) rfl).trans (congrArg _ e.symm))
  · rw [outsAt0_B m c t h]
    frame_out
    exact (congrArg _ ey).trans ((point2 m c hp t _ (y 0) (y 1) rfl).trans (congrArg _ e.symm))

/-- The accumulator starts at zero. -/
theorem zero1 (j : S1x1024.Idx) : k0_pay3 (F := Ideal) j = 0 := by
  pointwise! [k0_pay3]

/-- A grid point adds its part to what the accumulator holds. -/
theorem step1 (v38 : FVec Ideal S1x1024 .f32) (v50 : Vec Ideal S1x1024 .f32) (j : S1x1024.Idx) :
    k0_pay4 v38 v50 j = v50 j + k0_pay4 v38 (fun _ => 0) j := by
  pointwise [k0_pay4]

set_option maxHeartbeats 2000000 in
/-- The gradient of the norm's weight after the run: the sum of the grid points' parts. -/
theorem final1 (c : Dev nD) : (dats m 0 c).arrAt 9 (cfgs 0).N = REF1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0) _
    (fun t h j => by rw [outsAt0_A m c t h]; frame_out; rw [step1, zero1])
    (fun t h j => by rw [outsAt0_B m c t h]; frame_out; rw [step1])
    (le_of_eq N_0) t0_15 rfl j, zero_add]
  have hd := dh m c
  have hx := rows m c
  unfold REF1
  generalize (X1 (m ((c : Thread nD τ).loc main_arg1)) (m ((c : Thread nD τ).loc main_arg0)) (m ((c : Thread nD τ).loc main_arg3))) = x at hx ⊢
  generalize (DH (m ((c : Thread nD τ).loc main_arg8)) (m ((c : Thread nD τ).loc main_arg5)) (m ((c : Thread nD τ).loc main_arg7)) (m ((c : Thread nD τ).loc main_arg4))) = d at hd ⊢
  pointwise [k0_pay4, k0_pay6, k0_pay7, k0_pay8, k0_pay10, GW]
  refine Fin.sum_mul_add_congr fun s k hl => Finite.mul_swap ?_ ?_
  · refine Ideal.mul_congr (hx s ⟨s.val * 256 + k.val, hl⟩ k _ rfl) ?_
    simp only [hx s ⟨s.val * 256 + k.val, hl⟩ k _ rfl]
  · exact hd s ⟨s.val * 256 + k.val, hl⟩ k (j 1) rfl

end Cert.Kernel3Ideal.Value

end
-- ==== Proof.Claims3.lean ====
/- The claims about `Cert.Kernel3`, its ideal reading and its reference: the frames, the reading, and the values. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_norm2_bwd_finite
public import proofs.«01_k».proof.Proof.Norm2Bwd
public import Idealize.ShloMosaic.Lib.Claim

@[expose] public section

noncomputable section

namespace Cert.Claims3

open Idealize.ShloMosaic Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

/-- The reference declares no semaphore, and none of its operations writes an argument. -/
theorem frame_reference : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run m ρ)

theorem preserves : Cert.preserves_Kernel3_Kernel3Ideal := trivial

theorem frame_ideal_pre : Cert.quiescent_Kernel3Ideal_pre_norm2_bwd_finite := fun m ρ _ => Cert.Kernel3Ideal.Gen.frame m ρ

theorem frame_reference_pre : Cert.quiescent_Reference3Ideal_pre_norm2_bwd_finite := fun m ρ _ => frame_reference m ρ trivial

set_option maxHeartbeats 2000000 in
/-- The kernel's ideal results are the reference's. -/
theorem algebraic : Cert.algebraic_Kernel3Ideal_Reference3Ideal_pre_norm2_bwd_finite := by
  pair_intro
  · run_from Cert.Kernel3Ideal.Gen.run_main m g
  · refine θ_run_mono (Cert.Reference3Ideal.Value.run m' g') fun r hr c => ?_
    obtain ⟨e0, e1, e2, e3, e4, e5, e6, e7, e8⟩ := hagree c
    have h0 : r.2.mem ((c.tc : Thread Cert.Reference3Ideal.nD Cert.Reference3Ideal.τ).loc Cert.Reference3Ideal.main_v41) = Cert.Kernel3Ideal.Value.REF0 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) := (hr c).1
    rw [e0, e1, e2, e3, e4, e5, e6, e7, e8] at h0
    replace h0 := h0.trans (Cert.Kernel3Ideal.Value.final0 m c (hpre c)).symm
    have h1 : r.2.mem ((c.tc : Thread Cert.Reference3Ideal.nD Cert.Reference3Ideal.τ).loc Cert.Reference3Ideal.main_v24) = Cert.Kernel3Ideal.Value.REF1 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) := (hr c).2.1
    rw [e0, e1, e3, e4, e5, e7, e8] at h1
    replace h1 := h1.trans (Cert.Kernel3Ideal.Value.final1 m c).symm
    have h2 : r.2.mem ((c.tc : Thread Cert.Reference3Ideal.nD Cert.Reference3Ideal.τ).loc Cert.Reference3Ideal.main_v43) = Cert.Kernel3Ideal.Value.REF2 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) := (hr c).2.2.1
    replace h2 := h2.trans (Cert.Kernel3Ideal.Value.REF2_congr e0 e1 e2 e3 e4 e5 e6 e7 e8)
    replace h2 := h2.trans (Cert.Kernel3Ideal.Value.final2 m c (hpre c)).symm
    exact ⟨h0, h1, h2, (hr c).2.2.2⟩

end Cert.Claims3

end
-- ==== Proof.Norm1Bwd.lean ====
/- The value of `Cert.Kernel4Ideal`: the gradient of the step's input and of norm 1's weight that it leaves are the reference's. -/
module

public import proofs.«01_k».proof.Proof.Gen.Kernel4Ideal.Frame
public import proofs.«01_k».proof.Proof.Gen.Reference4Ideal
public import proofs.«01_k».proof.Proof.Gen.Pre_norm1_bwd_finite
public import proofs.«01_k».proof.Proof.RmsNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-! ## The reference's terms -/

/-- A column of one number. -/
abbrev COL (b : BitVec 32) : FVec Ideal Cert.Reference4Ideal.S4096x1 .f32 := broadcastInDim Cert.Reference4Ideal.S4096x1 ![] Cert.Reference4Ideal.Gen.bcast_S_S4096x1 (constant Cert.Reference4Ideal.S_ .f32 b)

/-- The mean square of each row, plus epsilon. -/
abbrev VAR (a0 : FVec Ideal Cert.Reference4Ideal.S4096x1024 .f32) : FVec Ideal Cert.Reference4Ideal.S4096x1 .f32 :=
  addf (Host.divf (broadcastInDim Cert.Reference4Ideal.S4096x1 ![0] Cert.Reference4Ideal.Gen.bcast_S4096_S4096x1_0 (Host.reduceAdd (mulf a0 a0) (constant Cert.Reference4Ideal.S_ .f32 0x00000000#32) Cert.Reference4Ideal.Gen.reducesTo_S4096x1024_S4096_d1 Cert.Reference4Ideal.Gen.h_S_)) (COL 0x44800000#32)) (COL 0x358637BD#32)

/-- Its reciprocal root. -/
abbrev INV (a0 : FVec Ideal Cert.Reference4Ideal.S4096x1024 .f32) : FVec Ideal Cert.Reference4Ideal.S4096x1 .f32 := Host.rsqrt (VAR a0)

/-- The gradient of the norm's output: the projection's cotangent times the transposed weight. -/
abbrev DH (a2 : FVec Ideal Cert.Reference4Ideal.S1024x3360 .f32) (a4 : FVec Ideal Cert.Reference4Ideal.S4096x3360 .f32) : FVec Ideal Cert.Reference4Ideal.S4096x1024 .f32 :=
  Host.dotGeneral Cert.Reference4Ideal.dot_S4096x3360_S1024x3360_S4096x1024_1_1_0_0_n_n none a4 a2

/-- The same, times the norm's weight. -/
abbrev DHW (a1 : FVec Ideal Cert.Reference4Ideal.S1x1024 .f32) (a2 : FVec Ideal Cert.Reference4Ideal.S1024x3360 .f32) (a4 : FVec Ideal Cert.Reference4Ideal.S4096x3360 .f32) : FVec Ideal Cert.Reference4Ideal.S4096x1024 .f32 :=
  mulf (DH a2 a4) (broadcastInDim Cert.Reference4Ideal.S4096x1024 ![0, 1] Cert.Reference4Ideal.Gen.bcast_S1x1024_S4096x1024_0_1 a1)

/-- Each row's gradient of its mean square, spread over the row. -/
abbrev DSQ (a0 : FVec Ideal Cert.Reference4Ideal.S4096x1024 .f32) (a1 : FVec Ideal Cert.Reference4Ideal.S1x1024 .f32) (a2 : FVec Ideal Cert.Reference4Ideal.S1024x3360 .f32) (a4 : FVec Ideal Cert.Reference4Ideal.S4096x3360 .f32) : FVec Ideal Cert.Reference4Ideal.S4096x1024 .f32 :=
  broadcastInDim Cert.Reference4Ideal.S4096x1024 ![0] Cert.Reference4Ideal.Gen.bcast_S4096_S4096x1024_0 (Host.reduceAdd (Host.divf (mulf (shapeCast _ (Host.reduceAdd (mulf a0 (DHW a1 a2 a4)) (constant Cert.Reference4Ideal.S_ .f32 0x00000000#32) Cert.Reference4Ideal.Gen.reducesTo_S4096x1024_S4096_d1 Cert.Reference4Ideal.Gen.h_S_) Cert.Reference4Ideal.Gen.shapeCasts_S4096_S4096x1) (mulf (COL 0xBF000000#32) (Host.divf (INV a0) (VAR a0)))) (COL 0x44800000#32)) (constant Cert.Reference4Ideal.S_ .f32 0x00000000#32) Cert.Reference4Ideal.Gen.reducesTo_S4096x1_S4096_d1 Cert.Reference4Ideal.Gen.h_S_)

/-- The reference's gradient of the step's input. -/
abbrev REF0 (a0 : FVec Ideal Cert.Reference4Ideal.S4096x1024 .f32) (a1 : FVec Ideal Cert.Reference4Ideal.S1x1024 .f32) (a2 : FVec Ideal Cert.Reference4Ideal.S1024x3360 .f32) (a3 : FVec Ideal Cert.Reference4Ideal.S4096x1024 .f32) (a4 : FVec Ideal Cert.Reference4Ideal.S4096x3360 .f32) : FVec Ideal Cert.Reference4Ideal.S4096x1024 .f32 :=
  addf (addf (addf a3 (mulf (DHW a1 a2 a4) (broadcastInDim Cert.Reference4Ideal.S4096x1024 ![0, 1] Cert.Reference4Ideal.Gen.bcast_S4096x1_S4096x1024_0_1 (INV a0)))) (mulf a0 (DSQ a0 a1 a2 a4))) (mulf (DSQ a0 a1 a2 a4) a0)

/-- The reference's gradient of norm 1's weight. -/
abbrev REF1 (a0 : FVec Ideal Cert.Reference4Ideal.S4096x1024 .f32) (a2 : FVec Ideal Cert.Reference4Ideal.S1024x3360 .f32) (a4 : FVec Ideal Cert.Reference4Ideal.S4096x3360 .f32) : FVec Ideal Cert.Reference4Ideal.S1x1024 .f32 :=
  shapeCast _ (Host.reduceAdd (mulf (mulf a0 (broadcastInDim Cert.Reference4Ideal.S4096x1024 ![0, 1] Cert.Reference4Ideal.Gen.bcast_S4096x1_S4096x1024_0_1 (INV a0))) (DH a2 a4)) (constant Cert.Reference4Ideal.S_ .f32 0x00000000#32) Cert.Reference4Ideal.Gen.reducesTo_S4096x1024_S1024_d0 Cert.Reference4Ideal.Gen.h_S_) Cert.Reference4Ideal.Gen.shapeCasts_S1024_S1x1024

/-- Each window's block index at every grid point, decided. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0]
    ∧ win0_8.index t = ![0, 0] :=
  (by decide +kernel : ∀ t : Fin grid0.N, _)

/-- The cotangent's token-shifted columns as the host lays them out: 1824 columns, then zeros. -/
theorem operand0 (c : Dev nD) (i : S4096x2048.Idx) :
    V m c main_v7 i = dite (α := EReal) ((i 1).val < 1824)
      (fun h => m ((c : Thread nD τ).loc main_arg4) (ix2 (i 0) ⟨(i 1).val, lt_trans h (by decide)⟩)) fun _ => 0 := by
  entry_read
  pointwise

/-- The weight's token-shifted columns, the same way. -/
theorem operand1 (c : Dev nD) (i : S1024x2048.Idx) :
    V m c main_v3 i = dite (α := EReal) ((i 1).val < 1824)
      (fun h => m ((c : Thread nD τ).loc main_arg2) (ix2 (i 0) ⟨(i 1).val, lt_trans h (by decide)⟩)) fun _ => 0 := by
  entry_read
  pointwise

/-- The two products of a grid point, added up, are its rows of the one product of the reference. -/
theorem dh (c : Dev nD) (t : Fin cfg0.N) (p : Fin 4096) (y : S256x1024.Idx) (hp : p.val = t.val * 256 + (y 0).val) :
    k0_pay4 (iblk m c 0 t) (iblk m c 1 t) (iblk m c 2 t) (iblk m c 3 t) y = DH (m ((c : Thread nD τ).loc main_arg2)) (m ((c : Thread nD τ).loc main_arg4)) (ix2 p (y 1)) := by
  pointwise [k0_pay4, DH]
  rw [Fin.sum_univ_two_halves 1824 1536 rfl, Fin.sum_univ_two_halves 1824 224 rfl]
  refine congrArg₂ (· + ·) ?_ ?_
  · refine (congrArg₂ (· + ·) (Finset.sum_congr rfl fun k _ => ?_) (Finset.sum_eq_zero fun k _ => ?_)).trans (add_zero _)
    · refine congrArg₂ (· * ·) ?_ ?_
      · refine (operand0 m c _).trans ((dif_pos ?_).trans ?_)
        · blk_simp [idx t]
          exact k.isLt
        · blk_ext [idx t]
      · refine (operand1 m c _).trans ((dif_pos ?_).trans ?_)
        · blk_simp [idx t]
          exact k.isLt
        · blk_ext [idx t]
    · refine (Ideal.mul_congr ((operand0 m c _).trans (dif_neg ?_)) rfl).trans (zero_mul _)
      blk_simp [idx t]
      exact not_lt.2 (Nat.le_add_right _ _)
  · refine Finset.sum_congr rfl fun k _ => congrArg₂ (· * ·) ?_ ?_
    · blk_simp [iblk, idx t]; entry_read; pointwise; blk_ext [idx t]
    · blk_simp [iblk, idx t]; entry_read; pointwise; blk_ext [idx t]

/-- Arrays that pass the check are arrays of reals. -/
theorem reals {a0 : FVec Ideal Cert.Reference4Ideal.S4096x1024 .f32} {a1 : FVec Ideal Cert.Reference4Ideal.S1x1024 .f32} {a2 : FVec Ideal Cert.Reference4Ideal.S1024x3360 .f32} {a3 : FVec Ideal Cert.Reference4Ideal.S4096x1024 .f32} {a4 : FVec Ideal Cert.Reference4Ideal.S4096x3360 .f32}
    (h : Cert.Pre_norm1_bwd_finite.fn (F := Ideal) a0 a1 a2 a3 a4 = fun _ => 1#1) :
    (∀ i, ∃ r : ℝ, a0 i = r) ∧ (∀ i, ∃ r : ℝ, a1 i = r) ∧ (∀ i, ∃ r : ℝ, a2 i = r) ∧ ∀ i, ∃ r : ℝ, a4 i = r := by
  have h := congrFun h ix0
  obtain ⟨h, h4⟩ := IntOp.andi_eq_one.1 h
  obtain ⟨h, h2⟩ := IntOp.andi_eq_one.1 h
  obtain ⟨h0, h1⟩ := IntOp.andi_eq_one.1 h
  have z : ∀ (s) (hb : Cert.Pre_norm1_bwd_finite.S_.BroadcastsInDim s ![]) (i), broadcastInDim s ![] hb (constant (F := Ideal) Cert.Pre_norm1_bwd_finite.S_ .f32 0x00000000#32) i = 0 := by
    intro s hb i
    pointwise
  exact ⟨Finite.of_check _ _ (z _ _) _ _ _ _ h0, Finite.of_check _ _ (z _ _) _ _ _ _ h1, Finite.of_check _ _ (z _ _) _ _ _ _ h2, Finite.of_check _ _ (z _ _) _ _ _ _ h4⟩

/-- What a grid point stores of the gradient of the step's input. -/
theorem point0 (c : Dev nD)
    (hp : Cert.Pre_norm1_bwd_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) (t : Fin cfg0.N) (y) :
    k0_pay1 (k0_pay7 (iblk m c 0 t) (iblk m c 1 t) (iblk m c 2 t) (iblk m c 3 t) (iblk m c 4 t) (iblk m c 5 t)) (iblk m c 6 t) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  obtain ⟨h0, h1, h2, h4⟩ := reals hp
  pointwise [k0_pay1, k0_pay5, k0_pay6, k0_pay7, REF0]
  generalize he : (((cfg0.win 7).blk t).view.emb y) = e
  have e0 : (e 0).val = t.val * 256 + (y 0).val := by subst he; blk_simp [idx t]
  have e1 : e 1 = y 1 := Fin.ext (by subst he; blk_simp [idx t])
  have hd : ∀ k, k0_pay4 (iblk m c 0 t) (iblk m c 1 t) (iblk m c 2 t) (iblk m c 3 t) (ix2 (y 0) k) = DH (m ((c : Thread nD τ).loc main_arg2)) (m ((c : Thread nD τ).loc main_arg4)) (ix2 (e 0) k) :=
    fun k => dh m c t (e 0) (ix2 (y 0) k) e0
  have hx : ∀ k, iblk m c 4 t (ix2 (y 0) k) = m ((c : Thread nD τ).loc main_arg0) (ix2 (e 0) k) := by
    intro k; subst he; blk_point [iblk, V, idx t]
  have hw : ∀ k, iblk m c 5 t (ix2 0 k) = m ((c : Thread nD τ).loc main_arg1) (ix2 0 k) := by
    intro k; blk_point [iblk, V, idx t]
  have hdx : iblk m c 6 t y = m ((c : Thread nD τ).loc main_arg3) e := by
    subst he; blk_point [iblk, V, idx t]
  have hxy : iblk m c 4 t y = m ((c : Thread nD τ).loc main_arg0) (ix2 (e 0) (y 1)) := by
    subst he; blk_point [iblk, V, idx t]
  have hdy : k0_pay4 (iblk m c 0 t) (iblk m c 1 t) (iblk m c 2 t) (iblk m c 3 t) y = DH (m ((c : Thread nD τ).loc main_arg2)) (m ((c : Thread nD τ).loc main_arg4)) (ix2 (e 0) (y 1)) :=
    dh m c t (e 0) y e0
  have hey : e = ix2 (e 0) (y 1) := by rw [← e1]; blk_ext
  have hxe := congrArg (m ((c : Thread nD τ).loc main_arg0)) hey
  simp only [hd, hx, hw, hdx, hxy, hdy]
  refine Eq.trans ?_ ((RmsNorm.grad (fun k => m ((c : Thread nD τ).loc main_arg0) (ix2 (e 0) k))
    (fun k => DH (m ((c : Thread nD τ).loc main_arg2)) (m ((c : Thread nD τ).loc main_arg4)) (ix2 (e 0) k) * m ((c : Thread nD τ).loc main_arg1) (ix2 0 k)) (fun k => h0 _) (fun k => ?_)
    (m ((c : Thread nD τ).loc main_arg3) e) _ _ rfl rfl (y 1)).trans ?_)
  · refine congrArg₂ (· + ·) rfl (congrArg₂ (· * ·) rfl (congrArg₂ (· - ·) (Ideal.mul_congr rfl (hw _)) rfl))
  · obtain ⟨d, hd⟩ : ∃ r : ℝ, DH (m ((c : Thread nD τ).loc main_arg2)) (m ((c : Thread nD τ).loc main_arg4)) (ix2 (e 0) k) = r := by
      pointwise [DH]
      exact Finite.dot_real _ _ _ (fun _ => h4 _) fun _ => h2 _
    obtain ⟨w, hw⟩ := h1 (ix2 0 k)
    exact ⟨d * w, (Ideal.mul_congr hd hw).trans (EReal.coe_mul _ _).symm⟩
  · rw [hxe, e1]
    pointwise [DH]

/-- The gradient of the step's input after the run: the blocks tile it. -/
theorem final0 (c : Dev nD)
    (hp : Cert.Pre_norm1_bwd_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (dats m 0 c).arrAt 7 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  by_cases h : t.val % 16 = 0
  · rw [outsAt0_A m c t h]
    frame_out
    exact point0 m c hp t y
  · rw [outsAt0_B m c t h]
    frame_out
    exact point0 m c hp t y

/-- The accumulator starts at zero. -/
theorem zero1 (j : S1x1024.Idx) : k0_pay2 (F := Ideal) j = 0 := by
  pointwise! [k0_pay2]

/-- A grid point adds its part to what the accumulator holds. -/
theorem step1 (v37 : FVec Ideal S1x1024 .f32) (v44 : Vec Ideal S1x1024 .f32) (j : S1x1024.Idx) :
    k0_pay3 v37 v44 j = v44 j + k0_pay3 v37 (fun _ => 0) j := by
  pointwise [k0_pay3]

/-- A grid point's rows are those of the whole array. -/
theorem rows (c : Dev nD) (t : Fin cfg0.N) (p : Fin 4096) (k : Fin 256) (q : Fin 1024) (hp : p.val = t.val * 256 + k.val) :
    iblk m c 4 t (ix2 k q) = m ((c : Thread nD τ).loc main_arg0) (ix2 p q) := by
  obtain ⟨p, h⟩ := p
  obtain rfl : p = _ := hp
  blk_point [iblk, V, idx t]

set_option maxHeartbeats 2000000 in
/-- The gradient of the norm's weight after the run: the sum of the grid points' parts. -/
theorem final1 (c : Dev nD) : (dats m 0 c).arrAt 8 (cfgs 0).N = REF1 (m ((c : Thread nD τ).loc main_arg0)) (m ((c : Thread nD τ).loc main_arg2)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0) _
    (fun t h j => by rw [outsAt0_A m c t h]; frame_out; rw [step1, zero1])
    (fun t h j => by rw [outsAt0_B m c t h]; frame_out; rw [step1])
    (le_of_eq N_0) t0_15 rfl j, zero_add]
  pointwise [k0_pay3, k0_pay5, k0_pay6, k0_pay8, REF1]
  refine Fin.sum_mul_add_congr fun s k hl => Finite.mul_swap ?_ ?_
  · refine Ideal.mul_congr (rows m c s ⟨s.val * 256 + k.val, hl⟩ k _ rfl) ?_
    simp only [rows m c s ⟨s.val * 256 + k.val, hl⟩ k _ rfl]
  · exact (dh m c s ⟨s.val * 256 + k.val, hl⟩ (ix2 k (j 1)) rfl).trans (by pointwise [DH])

end Cert.Kernel4Ideal.Value

end
-- ==== Proof.Claims4.lean ====
/- The claims about `Cert.Kernel4`, its ideal reading and its reference: the frames, the reading, and the values. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Pre_norm1_bwd_finite
public import proofs.«01_k».proof.Proof.Norm1Bwd
public import Idealize.ShloMosaic.Lib.Claim

@[expose] public section

noncomputable section

namespace Cert.Claims4

open Idealize.ShloMosaic Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

/-- The reference declares no semaphore, and none of its operations writes an argument. -/
theorem frame_reference : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run m ρ)

theorem preserves : Cert.preserves_Kernel4_Kernel4Ideal := trivial

theorem frame_ideal_pre : Cert.quiescent_Kernel4Ideal_pre_norm1_bwd_finite := fun m ρ _ => Cert.Kernel4Ideal.Gen.frame m ρ

theorem frame_reference_pre : Cert.quiescent_Reference4Ideal_pre_norm1_bwd_finite := fun m ρ _ => frame_reference m ρ trivial

/-- The kernel's ideal results are the reference's. -/
theorem algebraic : Cert.algebraic_Kernel4Ideal_Reference4Ideal_pre_norm1_bwd_finite := by
  pair_intro
  · run_from Cert.Kernel4Ideal.Gen.run_main m g
  · refine θ_run_mono (Cert.Reference4Ideal.Value.run m' g') fun r hr c => ?_
    obtain ⟨e0, e1, e2, e3, e4⟩ := hagree c
    have h0 : r.2.mem ((c.tc : Thread Cert.Reference4Ideal.nD Cert.Reference4Ideal.τ).loc Cert.Reference4Ideal.main_v36) = Cert.Kernel4Ideal.Value.REF0 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) := (hr c).1
    rw [e0, e1, e2, e3, e4] at h0
    replace h0 := h0.trans (Cert.Kernel4Ideal.Value.final0 m c (hpre c)).symm
    have h1 : r.2.mem ((c.tc : Thread Cert.Reference4Ideal.nD Cert.Reference4Ideal.τ).loc Cert.Reference4Ideal.main_v19) = Cert.Kernel4Ideal.Value.REF1 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) := (hr c).2.1
    rw [e0, e2, e4] at h1
    replace h1 := h1.trans (Cert.Kernel4Ideal.Value.final1 m c).symm
    exact ⟨h0, h1, (hr c).2.2⟩

end Cert.Claims4

end
-- ==== Proof.ShiftBwd.lean ====
/- The value of `Cert.Kernel20Ideal`: the gradients of the shifted columns and of the shift's weight that it leaves are the reference's. -/
module

public import proofs.«01_k».proof.Proof.Gen.Kernel20Ideal.Frame
public import proofs.«01_k».proof.Proof.Gen.Reference20Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen

variable (m : (ℓ : Loc nD τ sig) → Buf (Elt Ideal) ℓ)

/-! ## The reference's terms -/

/-- The rows as two sequences. -/
abbrev SEQ (x : FVec Ideal Cert.Reference20Ideal.S4096x2048 .f32) : FVec Ideal Cert.Reference20Ideal.S2x2048x2048 .f32 := shapeCast _ x Cert.Reference20Ideal.Gen.shapeCasts_S4096x2048_S2x2048x2048

/-- The shift's weight times its output's gradient. -/
abbrev MQ (q : FVec Ideal Cert.Reference20Ideal.S4096x2048 .f32) (w : FVec Ideal Cert.Reference20Ideal.S1x2048 .f32) : FVec Ideal Cert.Reference20Ideal.S2x2048x2048 .f32 :=
  mulf (broadcastInDim Cert.Reference20Ideal.S2x2048x2048 ![0, 1, 2] Cert.Reference20Ideal.Gen.bcast_S1x1x2048_S2x2048x2048_0_1_2 (broadcastInDim Cert.Reference20Ideal.S1x1x2048 ![1, 2] Cert.Reference20Ideal.Gen.bcast_S1x2048_S1x1x2048_1_2 w)) (SEQ q)

/-- One half of an array. -/
abbrev HALF (x : FVec Ideal Cert.Reference20Ideal.S2x2048x2048 .f32) : FVec Ideal Cert.Reference20Ideal.S2x2048x2048 .f32 := mulf (broadcastInDim Cert.Reference20Ideal.S2x2048x2048 ![] Cert.Reference20Ideal.Gen.bcast_S_S2x2048x2048 (constant Cert.Reference20Ideal.S_ .f32 0x3F000000#32)) x

/-- The reference's gradient of the shifted columns. -/
abbrev REF0 (a0 : FVec Ideal Cert.Reference20Ideal.S4096x2048 .f32) (a2 : FVec Ideal Cert.Reference20Ideal.S1x2048 .f32) : FVec Ideal Cert.Reference20Ideal.S4096x2048 .bf16 :=
  truncf .bf16 (shapeCast _ (addf (addf (addf (SEQ a0) (Host.negf (MQ a0 a2)))
      (pad Cert.Reference20Ideal.S2x2048x2048 ![0, 1, 0] ![0, 0, 0] ![0, 0, 0] (extractStridedSlice Cert.Reference20Ideal.S2x2047x2048 ![0, 0, 0] (HALF (MQ a0 a2)) Cert.Reference20Ideal.Gen.slices_S2x2048x2048_S2x2047x2048_0_0_0) (constant Cert.Reference20Ideal.S_ .f32 0x00000000#32) Cert.Reference20Ideal.Gen.pads_S2x2047x2048_S2x2048x2048_000_100_000 Cert.Reference20Ideal.Gen.h_S_))
      (pad Cert.Reference20Ideal.S2x2048x2048 ![0, 0, 0] ![0, 1, 0] ![0, 0, 0] (extractStridedSlice Cert.Reference20Ideal.S2x2047x2048 ![0, 1, 0] (HALF (MQ a0 a2)) Cert.Reference20Ideal.Gen.slices_S2x2048x2048_S2x2047x2048_0_1_0) (constant Cert.Reference20Ideal.S_ .f32 0x00000000#32) Cert.Reference20Ideal.Gen.pads_S2x2047x2048_S2x2048x2048_000_010_000 Cert.Reference20Ideal.Gen.h_S_))
    Cert.Reference20Ideal.Gen.shapeCasts_S2x2048x2048_S4096x2048) Cert.Reference20Ideal.Gen.bitsLt_bf16_f32

/-- A row of zeros in each sequence. -/
abbrev EDGE : FVec Ideal Cert.Reference20Ideal.S2x1x2048 .f32 := broadcastInDim Cert.Reference20Ideal.S2x1x2048 ![] Cert.Reference20Ideal.Gen.bcast_S_S2x1x2048 (constant Cert.Reference20Ideal.S_ .f32 0x00000000#32)

/-- Half the sum of a row's two neighbours, less the row. -/
abbrev MIX (a1 : FVec Ideal Cert.Reference20Ideal.S4096x2048 .f32) : FVec Ideal Cert.Reference20Ideal.S2x2048x2048 .f32 :=
  subf (HALF (addf (concatenate Cert.Reference20Ideal.S2x2048x2048 1 [⟨Cert.Reference20Ideal.S2x1x2048, EDGE⟩, ⟨Cert.Reference20Ideal.S2x2047x2048, extractStridedSlice Cert.Reference20Ideal.S2x2047x2048 ![0, 0, 0] (SEQ a1) Cert.Reference20Ideal.Gen.slices_S2x2048x2048_S2x2047x2048_0_0_0⟩] Cert.Reference20Ideal.Gen.concatenates_S2x1x2048_S2x2047x2048_S2x2048x2048_d1)
      (concatenate Cert.Reference20Ideal.S2x2048x2048 1 [⟨Cert.Reference20Ideal.S2x2047x2048, extractStridedSlice Cert.Reference20Ideal.S2x2047x2048 ![0, 1, 0] (SEQ a1) Cert.Reference20Ideal.Gen.slices_S2x2048x2048_S2x2047x2048_0_1_0⟩, ⟨Cert.Reference20Ideal.S2x1x2048, EDGE⟩] Cert.Reference20Ideal.Gen.concatenates_S2x2047x2048_S2x1x2048_S2x2048x2048_d1)))
    (SEQ a1)

/-- The reference's gradient of the shift's weight. -/
abbrev REF1 (a0 a1 : FVec Ideal Cert.Reference20Ideal.S4096x2048 .f32) : FVec Ideal Cert.Reference20Ideal.S1x2048 .f32 :=
  broadcastInDim Cert.Reference20Ideal.S1x2048 ![1] Cert.Reference20Ideal.Gen.bcast_S2048_S1x2048_1 (Host.reduceAdd (shapeCast _ (Host.reduceAdd (mulf (SEQ a0) (MIX a1)) (constant Cert.Reference20Ideal.S_ .f32 0x00000000#32) Cert.Reference20Ideal.Gen.reducesTo_S2x2048x2048_S2048_d0_1 Cert.Reference20Ideal.Gen.h_S_) Cert.Reference20Ideal.Gen.shapeCasts_S2048_S1x1x2048) (constant Cert.Reference20Ideal.S_ .f32 0x00000000#32) Cert.Reference20Ideal.Gen.reducesTo_S1x1x2048_S2048_d0_1 Cert.Reference20Ideal.Gen.h_S_)

/-- Each window's block index at every grid point, decided: the neighbours' groups of eight rows stop at the array's ends. -/
theorem idx : ∀ t : Fin cfg0.N, win0_0.index t = ![t.val, 0]
    ∧ win0_1.index t = ![t.val * 32 - 1, 0]
    ∧ win0_2.index t = ![min (t.val * 32 + 32) 511, 0]
    ∧ win0_3.index t = ![t.val, 0]
    ∧ win0_4.index t = ![t.val * 32 - 1, 0]
    ∧ win0_5.index t = ![min (t.val * 32 + 32) 511, 0]
    ∧ win0_6.index t = ![0, 0]
    ∧ win0_7.index t = ![t.val, 0]
    ∧ win0_8.index t = ![0, 0] :=
  (by decide +kernel : ∀ t : Fin grid0.N, _)

/-- Whether a grid point's first row has a row before it in its sequence. -/
theorem prev : ∀ t : Fin cfg0.N, k0_pay3 (F := Ideal) (grid0.coords t) = if t.val % 8 = 0 then 0 else 1 := by
  intro t
  have h : ∀ t : Fin grid0.N, Scalar.cmpi .eq (Scalar.select (Scalar.andi (Scalar.xori (Scalar.cmpi .slt (Scalar.remsi (Scalar.muli (BitVec.ofNat 32 ((grid0.coords t) 0).val) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (BitVec.ofNat 32 ((grid0.coords t) 0).val) 256#32) (Scalar.select (Scalar.cmpi .eq 2048#32 0#32) 1#32 2048#32)) 0#32)) (Scalar.addi (Scalar.remsi (Scalar.muli (BitVec.ofNat 32 ((grid0.coords t) 0).val) 256#32) (Scalar.select (Scalar.cmpi .eq 2048#32 0#32) 1#32 2048#32)) (Scalar.select (Scalar.cmpi .eq 2048#32 0#32) 1#32 2048#32)) (Scalar.remsi (Scalar.muli (BitVec.ofNat 32 ((grid0.coords t) 0).val) 256#32) (Scalar.select (Scalar.cmpi .eq 2048#32 0#32) 1#32 2048#32))) 0#32 = if t.val % 8 = 0 then 1#1 else 0#1 := by decide +kernel
  unfold k0_pay3
  dsimp only
  rw [h t]
  by_cases h0 : t.val % 8 = 0
  · simp only [h0, if_true]
    pointwise
  · simp only [h0, if_false]
    pointwise

/-- A choice whose condition holds. -/
theorem select_of_eq_one {α : Type} {b : BitVec 1} {x y : α} (h : b = 1#1) : Scalar.select b x y = x := by subst h; rfl

/-- A choice whose condition fails. -/
theorem select_of_ne_one {α : Type} {b : BitVec 1} {x y : α} (h : b ≠ 1#1) : Scalar.select b x y = y := by
  have h0 : b = 0#1 := by revert h; revert b; decide
  subst h0; rfl

/-- The row of the array that a block's row is. -/
abbrev ROWP (t : Fin cfg0.N) (k : Fin 256) : Fin 4096 := ⟨t.val * 256 + k.val, by have ht : t.val < 16 := lt_of_lt_of_eq t.isLt N_0; have hk := k.isLt; omega⟩

/-- The row before a row in its sequence, or zero. -/
noncomputable def DN (X : Fin 4096 → EReal) (p : Fin 4096) : EReal := if _h : 1 ≤ p.val % 2048 then X ⟨p.val - 1, by omega⟩ else 0

/-- The row after a row in its sequence, or zero. -/
noncomputable def UP (X : Fin 4096 → EReal) (p : Fin 4096) : EReal := if _h : p.val % 2048 < 2047 then X ⟨p.val + 1, by omega⟩ else 0

/-- A block's row before, taken from the block or from the last row of the group before it. -/
theorem down (X : Fin 4096 → EReal) (t : Fin cfg0.N) (p : Fin 4096) (k : Fin 256) (hp : p.val = t.val * 256 + k.val) (B : Fin 256 → EReal)
    (hB : ∀ (l : Fin 256) (r : Fin 4096), r.val = t.val * 256 + l.val → B l = X r) (H f : EReal)
    (hH : ∀ r : Fin 4096, r.val = (t.val * 32 - 1) * 8 + 7 → H = X r) (hf : f = if t.val % 8 = 0 then 0 else 1) (hz : (k.val + 256 - 1) % 256 < 256) :
    Scalar.select (IntOp.cmpi .eq (BitVec.ofNat 32 k.val) 0#32) (H * f) (B ⟨(k.val + 256 - 1) % 256, hz⟩) = DN X p := by
  have hc : ∀ k : Fin 256, IntOp.cmpi .eq (BitVec.ofNat 32 k.val) 0#32 = if k.val = 0 then 1#1 else 0#1 := by decide +kernel
  have ht : t.val < 16 := lt_of_lt_of_eq t.isLt N_0
  have hk := k.isLt
  rw [hc k, hf]
  unfold DN
  by_cases h0 : k.val = 0
  · rw [if_pos h0]
    refine (select_of_eq_one rfl).trans ?_
    by_cases h8 : t.val % 8 = 0
    · rw [if_pos h8, mul_zero, dif_neg (by omega)]
    · rw [if_neg h8, mul_one, dif_pos (by omega)]
      exact hH _ (by show p.val - 1 = _; omega)
  · rw [if_neg h0]
    refine (select_of_ne_one (by decide)).trans ?_
    rw [dif_pos (by omega)]
    exact hB _ _ (by show p.val - 1 = t.val * 256 + (k.val + 256 - 1) % 256; omega)

/-- A block's row after, taken from the block or from the first row of the group after it. -/
theorem up (X : Fin 4096 → EReal) (t : Fin cfg0.N) (p : Fin 4096) (k : Fin 256) (hp : p.val = t.val * 256 + k.val) (B : Fin 256 → EReal)
    (hB : ∀ (l : Fin 256) (r : Fin 4096), r.val = t.val * 256 + l.val → B l = X r) (H f : EReal)
    (hH : ∀ r : Fin 4096, r.val = min (t.val * 32 + 32) 511 * 8 → H = X r) (hf : f = if t.val % 8 = 7 then 0 else 1) (hz : (k.val + 256 - 255) % 256 < 256) :
    Scalar.select (IntOp.cmpi .eq (BitVec.ofNat 32 k.val) 255#32) (H * f) (B ⟨(k.val + 256 - 255) % 256, hz⟩) = UP X p := by
  have hc : ∀ k : Fin 256, IntOp.cmpi .eq (BitVec.ofNat 32 k.val) 255#32 = if k.val = 255 then 1#1 else 0#1 := by decide +kernel
  have ht : t.val < 16 := lt_of_lt_of_eq t.isLt N_0
  have hk := k.isLt
  rw [hc k, hf]
  unfold UP
  by_cases h0 : k.val = 255
  · rw [if_pos h0]
    refine (select_of_eq_one rfl).trans ?_
    by_cases h8 : t.val % 8 = 7
    · rw [if_pos h8, mul_zero, dif_neg (by omega)]
    · rw [if_neg h8, mul_one, dif_pos (by omega)]
      exact hH _ (by show p.val + 1 = _; omega)
  · rw [if_neg h0]
    refine (select_of_ne_one (by decide)).trans ?_
    rw [dif_pos (by omega)]
    exact hB _ _ (by show p.val + 1 = t.val * 256 + (k.val + 256 - 255) % 256; omega)

/-- One half of a sum. -/
theorem half_add (x y : EReal) : Ideal.ofBits .f32 1056964608#32 * (x + y) = Ideal.ofBits .f32 1056964608#32 * x + Ideal.ofBits .f32 1056964608#32 * y := by
  have h1 : Ideal.ofBits .f32 1056964608#32 = ((1 / 2 : ℝ) : EReal) := by simp [Ideal.ofBits, Ideal.ieee, -EReal.coe_mul]; norm_num
  rw [h1, EReal.left_distrib_of_nonneg_of_ne_top (by exact_mod_cast (by norm_num : (0 : ℝ) ≤ 1 / 2)) (EReal.coe_ne_top _)]

/-- The reference's gradient of the shifted columns at a row, by the row's neighbours. -/
theorem ref0 (a0 : FVec Ideal Cert.Reference20Ideal.S4096x2048 .f32) (a2 : FVec Ideal Cert.Reference20Ideal.S1x2048 .f32) (p : Fin 4096) (q : Fin 2048) :
    REF0 a0 a2 (ix2 p q) = a0 (ix2 p q) + -(a2 (ix2 0 q) * a0 (ix2 p q)) + Ideal.ofBits .f32 1056964608#32 * DN (fun r => a2 (ix2 0 q) * a0 (ix2 r q)) p
      + Ideal.ofBits .f32 1056964608#32 * UP (fun r => a2 (ix2 0 q) * a0 (ix2 r q)) p := by
  have hp := p.isLt
  pointwise [REF0, MQ, HALF, SEQ]
  unfold DN UP
  have key : ∀ r r' : Fin 4096, r.val = r'.val → Ideal.ofBits .f32 1056964608#32 * (a2 (ix2 0 q) * a0 (ix2 r q)) = Ideal.ofBits .f32 1056964608#32 * (a2 (ix2 0 q) * a0 (ix2 r' q)) :=
    fun r r' e => by rw [Fin.ext e]
  refine congrArg₂ (· + ·) (congrArg₂ (· + ·) rfl ?_) ?_
  · by_cases h : 1 ≤ p.val % 2048
    · refine (dif_pos ⟨by omega, h, by omega⟩).trans (Eq.trans ?_ (congrArg (Ideal.ofBits .f32 1056964608#32 * ·) (dif_pos h).symm))
      exact key _ _ (by show p.val / 2048 * 2048 + (p.val % 2048 - 1) = p.val - 1; omega)
    · exact (dif_neg fun h' => h h'.2.1).trans ((congrArg (Ideal.ofBits .f32 1056964608#32 * ·) (dif_neg h)).trans (mul_zero _)).symm
  · by_cases h : p.val % 2048 < 2047
    · refine (dif_pos ⟨by omega, h⟩).trans (Eq.trans ?_ (congrArg (Ideal.ofBits .f32 1056964608#32 * ·) (dif_pos h).symm))
      exact key _ _ (by show p.val / 2048 * 2048 + (1 + p.val % 2048) = p.val + 1; omega)
    · exact (dif_neg fun h' => h h'.2).trans ((congrArg (Ideal.ofBits .f32 1056964608#32 * ·) (dif_neg h)).trans (mul_zero _)).symm

/-- A sum over the first two axes of a block. -/
theorem sum_front {n0 n1 n2 : ℕ} {t : Shape} (h : (⟨3, ![n0, n1, n2]⟩ : Shape).ReducesTo [0, 1] t) (v : (⟨3, ![n0, n1, n2]⟩ : Shape).Idx → EReal) (init : EReal) (j : t.Idx)
    (h0 : 0 < t.rank) (hs : t.size ⟨0, h0⟩ = n2) :
    Ideal.hostReduceAdd h v init j = init + ∑ a : Fin n0, ∑ s : Fin n1, v (ix3 a s ⟨(j ⟨0, h0⟩).val, Shape.coordLt (j ⟨0, h0⟩) hs⟩) := by
  have fiber : ∀ i : (⟨3, ![n0, n1, n2]⟩ : Shape).Idx, h.drop i = j ↔ ∃ k : Fin n0 × Fin n1, ix3 k.1 k.2 ⟨(j ⟨0, h0⟩).val, Shape.coordLt (j ⟨0, h0⟩) hs⟩ = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, h0⟩)).symm
    · rintro ⟨k, rfl⟩
      funext b
      apply Fin.ext
      match b with
      | ⟨0, _⟩ => rfl
      | ⟨_ + 1, hb⟩ => exact absurd hb (by have h1 : t.rank = 1 := h.1; omega)
  refine congrArg (init + ·) ((Finset.sum_filter_eq_sum_of_fiber _ (fun k : Fin n0 × Fin n1 => ix3 k.1 k.2 ⟨(j ⟨0, h0⟩).val, Shape.coordLt (j ⟨0, h0⟩) hs⟩)
    (fun _ _ e => Prod.ext (congrFun e 0) (congrFun e 1)) fiber v).trans ?_)
  simp only [Fintype.sum_prod_type]

/-- Half the sum of a row's neighbours less the row, by the neighbours. -/
theorem mix (a1 : FVec Ideal Cert.Reference20Ideal.S4096x2048 .f32) (a : Fin 2) (s : Fin 2048) (q : Fin 2048) (p : Fin 4096) (hp : p.val = a.val * 2048 + s.val) :
    MIX a1 (ix3 a s q) = Ideal.ofBits .f32 1056964608#32 * (DN (fun r => a1 (ix2 r q)) p + UP (fun r => a1 (ix2 r q)) p) - a1 (ix2 p q) := by
  obtain ⟨p, h⟩ := p; obtain rfl : p = _ := hp
  have ha := a.isLt
  have hs := s.isLt
  pointwise [MIX, HALF, SEQ, EDGE]
  unfold DN UP
  have key : ∀ r r' : Fin 4096, r.val = r'.val → a1 (ix2 r q) = a1 (ix2 r' q) := fun r r' e => by rw [Fin.ext e]
  refine congrArg (· - _) (congrArg (_ * ·) (congrArg₂ (· + ·) ?_ ?_))
  · by_cases h : s.val < 1
    · rw [dif_pos h, dif_neg (by show ¬ 1 ≤ (a.val * 2048 + s.val) % 2048; omega)]
    · rw [dif_neg h, dif_pos (by show 1 ≤ (a.val * 2048 + s.val) % 2048; omega)]
      exact key _ _ (by show a.val * 2048 + (s.val - 1) = a.val * 2048 + s.val - 1; omega)
  · by_cases h : s.val < 2047
    · rw [dif_pos h, dif_pos (by show (a.val * 2048 + s.val) % 2048 < 2047; omega)]
      exact key _ _ (by show a.val * 2048 + (1 + s.val) = a.val * 2048 + s.val + 1; omega)
    · rw [dif_neg h, dif_neg (by show ¬ (a.val * 2048 + s.val) % 2048 < 2047; omega)]

/-- The reference's gradient of the shift's weight, by the rows' neighbours. -/
theorem ref1 (a0 : FVec Ideal Cert.Reference20Ideal.S4096x2048 .f32) (a1 : FVec Ideal Cert.Reference20Ideal.S4096x2048 .f32) (q : Fin 2048) : REF1 a0 a1 (ix2 0 q) = ∑ a : Fin 2, ∑ s : Fin 2048, SEQ a0 (ix3 a s q) * MIX a1 (ix3 a s q) := by
  generalize hx : MIX a1 = x
  unfold REF1
  rw [hx]
  refine (show _ = Ideal.hostReduceAdd Cert.Reference20Ideal.Gen.reducesTo_S1x1x2048_S2048_d0_1 (shapeCast _ (Host.reduceAdd (mulf (SEQ a0) x) (constant (F := Ideal) Cert.Reference20Ideal.S_ .f32 0x00000000#32) Cert.Reference20Ideal.Gen.reducesTo_S2x2048x2048_S2048_d0_1 Cert.Reference20Ideal.Gen.h_S_) Cert.Reference20Ideal.Gen.shapeCasts_S2048_S1x1x2048) (Ideal.ofBits .f32 0#32) (ix1 q) by pointwise).trans ?_
  refine (sum_front Cert.Reference20Ideal.Gen.reducesTo_S1x1x2048_S2048_d0_1 _ _ _ (by decide) rfl).trans ?_
  pointwise
  refine (Fin.sum_univ_one (M := EReal) _).trans ((Fin.sum_univ_one (M := EReal) _).trans ?_)
  refine (sum_front Cert.Reference20Ideal.Gen.reducesTo_S2x2048x2048_S2048_d0_1 _ _ _ (by decide) rfl).trans ?_
  refine (zero_add _).trans ?_
  pointwise

/-- Whether a grid point's last row has a row after it in its sequence. -/
theorem next : ∀ t : Fin cfg0.N, k0_pay4 (F := Ideal) (grid0.coords t) = if t.val % 8 = 7 then 0 else 1 := by
  intro t
  have h : ∀ t : Fin grid0.N, Scalar.cmpi .eq (Scalar.select (Scalar.andi (Scalar.xori (Scalar.cmpi .slt (Scalar.remsi (Scalar.muli (Scalar.addi (BitVec.ofNat 32 ((grid0.coords t) 0).val) 1#32) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (Scalar.addi (BitVec.ofNat 32 ((grid0.coords t) 0).val) 1#32) 256#32) (Scalar.select (Scalar.cmpi .eq 2048#32 0#32) 1#32 2048#32)) 0#32)) (Scalar.addi (Scalar.remsi (Scalar.muli (Scalar.addi (BitVec.ofNat 32 ((grid0.coords t) 0).val) 1#32) 256#32) (Scalar.select (Scalar.cmpi .eq 2048#32 0#32) 1#32 2048#32)) (Scalar.select (Scalar.cmpi .eq 2048#32 0#32) 1#32 2048#32)) (Scalar.remsi (Scalar.muli (Scalar.addi (BitVec.ofNat 32 ((grid0.coords t) 0).val) 1#32) 256#32) (Scalar.select (Scalar.cmpi .eq 2048#32 0#32) 1#32 2048#32))) 0#32 = if t.val % 8 = 7 then 1#1 else 0#1 := by decide +kernel
  unfold k0_pay4
  dsimp only
  rw [h t]
  by_cases h0 : t.val % 8 = 7
  · simp only [h0, if_true]
    pointwise
  · simp only [h0, if_false]
    pointwise

/-- A row of a block of the output's gradient. -/
theorem x_q (c : Dev nD) (t : Fin cfg0.N) (p : Fin 4096) (k : Fin 256) (q : Fin 2048) (hp : p.val = t.val * 256 + k.val) : iblk m c 0 t (ix2 k q) = m ((c : Thread nD τ).loc main_arg0) (ix2 p q) := by
  obtain ⟨p, h⟩ := p; obtain rfl : p = _ := hp
  blk_point [iblk, V, idx t]

/-- A row of a block of the columns. -/
theorem x_p (c : Dev nD) (t : Fin cfg0.N) (p : Fin 4096) (k : Fin 256) (q : Fin 2048) (hp : p.val = t.val * 256 + k.val) : iblk m c 3 t (ix2 k q) = m ((c : Thread nD τ).loc main_arg1) (ix2 p q) := by
  obtain ⟨p, h⟩ := p; obtain rfl : p = _ := hp
  blk_point [iblk, V, idx t]

/-- The row of the output's gradient before a block. -/
theorem h_q (c : Dev nD) (t : Fin cfg0.N) (r : Fin 4096) (q : Fin 2048) (hr : r.val = (t.val * 32 - 1) * 8 + 7) :
    View.ld (iblk m c 1 t) (Rect.unit ![7, 0] ![1, 2048] inb_S8x2048_S1x2048_7_0) (ix2 0 q) = m ((c : Thread nD τ).loc main_arg0) (ix2 r q) := by
  obtain ⟨r, h⟩ := r; obtain rfl : r = _ := hr
  blk_point [iblk, V, idx t]

/-- The row of the output's gradient after a block. -/
theorem g_q (c : Dev nD) (t : Fin cfg0.N) (r : Fin 4096) (q : Fin 2048) (hr : r.val = min (t.val * 32 + 32) 511 * 8) :
    View.ld (iblk m c 2 t) (Rect.unit ![0, 0] ![1, 2048] inb_S8x2048_S1x2048_0_0) (ix2 0 q) = m ((c : Thread nD τ).loc main_arg0) (ix2 r q) := by
  obtain ⟨r, h⟩ := r; obtain rfl : r = _ := hr
  blk_point [iblk, V, idx t]

/-- The row of the columns before a block. -/
theorem h_p (c : Dev nD) (t : Fin cfg0.N) (r : Fin 4096) (q : Fin 2048) (hr : r.val = (t.val * 32 - 1) * 8 + 7) :
    View.ld (iblk m c 4 t) (Rect.unit ![7, 0] ![1, 2048] inb_S8x2048_S1x2048_7_0) (ix2 0 q) = m ((c : Thread nD τ).loc main_arg1) (ix2 r q) := by
  obtain ⟨r, h⟩ := r; obtain rfl : r = _ := hr
  blk_point [iblk, V, idx t]

/-- The row of the columns after a block. -/
theorem g_p (c : Dev nD) (t : Fin cfg0.N) (r : Fin 4096) (q : Fin 2048) (hr : r.val = min (t.val * 32 + 32) 511 * 8) :
    View.ld (iblk m c 5 t) (Rect.unit ![0, 0] ![1, 2048] inb_S8x2048_S1x2048_0_0) (ix2 0 q) = m ((c : Thread nD τ).loc main_arg1) (ix2 r q) := by
  obtain ⟨r, h⟩ := r; obtain rfl : r = _ := hr
  blk_point [iblk, V, idx t]

/-- The shift's weight as each block sees it. -/
theorem w_mu (c : Dev nD) (t : Fin cfg0.N) (q : Fin 2048) :
    View.ld (iblk m c 6 t) (Rect.unit ![0, 0] ![1, 2048] inb_S8x2048_S1x2048_0_0) (ix2 0 q) = m ((c : Thread nD τ).loc main_arg2) (ix2 0 q) := by
  blk_simp [iblk, idx t]; entry_read; pointwise
  have e : (win0_6.blk t).view.emb (ix2 0 q) = ix2 0 q := by blk_ext [idx t]
  exact (congrArg (broadcastInDim S8x2048 ![0, 1] bcast_S1x2048_S8x2048_0_1 (m ((c : Thread nD τ).loc main_arg2))) e).trans (show broadcastInDim S8x2048 ![0, 1] bcast_S1x2048_S8x2048_0_1 (m ((c : Thread nD τ).loc main_arg2)) (ix2 0 q) = m ((c : Thread nD τ).loc main_arg2) (ix2 0 q) by pointwise)

/-- A block of the gradient of the shifted columns, from the rows it reads. -/
theorem body7 (a0 : FVec Ideal Cert.Reference20Ideal.S4096x2048 .f32) (a2 : FVec Ideal Cert.Reference20Ideal.S1x2048 .f32) (t : Fin cfg0.N) (p : Fin 4096) (k : Fin 256) (q : Fin 2048) (hp : p.val = t.val * 256 + k.val)
    (x : Vec Ideal S256x2048 .f32) (w h1 h2 : Vec Ideal S1x2048 .f32) (f g : Ideal .f32) (hw : w (ix2 0 q) = a2 (ix2 0 q))
    (hx : ∀ (l : Fin 256) (r : Fin 4096), r.val = t.val * 256 + l.val → x (ix2 l q) = a0 (ix2 r q))
    (hh : ∀ r : Fin 4096, r.val = (t.val * 32 - 1) * 8 + 7 → h1 (ix2 0 q) = a0 (ix2 r q)) (hg : ∀ r : Fin 4096, r.val = min (t.val * 32 + 32) 511 * 8 → h2 (ix2 0 q) = a0 (ix2 r q))
    (hf : f = if t.val % 8 = 0 then (0 : EReal) else 1) (hf' : g = if t.val % 8 = 7 then (0 : EReal) else 1) :
    k0_pay7 f g (k0_pay5 w) x (k0_pay6 w x) h1 h2 (ix2 k q) = REF0 a0 a2 (ix2 p q) := by
  rw [ref0]
  pointwise [k0_pay7, k0_pay6, k0_pay5]
  rw [hw, hx k p hp]
  have hd := down (fun r => a2 (ix2 0 q) * a0 (ix2 r q)) t p k hp (fun l => a2 (ix2 0 q) * x (ix2 l q)) (fun l r hr => congrArg (a2 (ix2 0 q) * ·) (hx l r hr)) (a2 (ix2 0 q) * h1 (ix2 0 q)) f
    (fun r hr => congrArg (a2 (ix2 0 q) * ·) (hh r hr)) hf (Nat.mod_lt _ (by omega))
  have hu := up (fun r => a2 (ix2 0 q) * a0 (ix2 r q)) t p k hp (fun l => a2 (ix2 0 q) * x (ix2 l q)) (fun l r hr => congrArg (a2 (ix2 0 q) * ·) (hx l r hr)) (a2 (ix2 0 q) * h2 (ix2 0 q)) g
    (fun r hr => congrArg (a2 (ix2 0 q) * ·) (hg r hr)) hf' (Nat.mod_lt _ (by omega))
  refine (congrArg (fun e : EReal => a0 (ix2 p q) - a2 (ix2 0 q) * a0 (ix2 p q) + Ideal.ofBits .f32 1056964608#32 * e) (congrArg₂ (· + ·) hd hu)).trans ?_
  rw [half_add, sub_eq_add_neg]
  exact (add_assoc (G := EReal) _ _ _).symm

/-- A block of the gradient of the shifted columns. -/
theorem point (c : Dev nD) (t : Fin cfg0.N) (p : Fin 4096) (k : Fin 256) (q : Fin 2048) (hp : p.val = t.val * 256 + k.val) :
    k0_pay7 (k0_pay3 (grid0.coords t)) (k0_pay4 (grid0.coords t)) (k0_pay5 (View.ld (iblk m c 6 t) (Rect.unit ![0, 0] ![1, 2048] inb_S8x2048_S1x2048_0_0))) (iblk m c 0 t)
      (k0_pay6 (View.ld (iblk m c 6 t) (Rect.unit ![0, 0] ![1, 2048] inb_S8x2048_S1x2048_0_0)) (iblk m c 0 t))
      (View.ld (iblk m c 1 t) (Rect.unit ![7, 0] ![1, 2048] inb_S8x2048_S1x2048_7_0)) (View.ld (iblk m c 2 t) (Rect.unit ![0, 0] ![1, 2048] inb_S8x2048_S1x2048_0_0)) (ix2 k q)
      = REF0 (m ((c : Thread nD τ).loc main_arg0)) (m ((c : Thread nD τ).loc main_arg2)) (ix2 p q) :=
  body7 _ _ t p k q hp _ _ _ _ _ _ (w_mu m c t q) (fun l r hr => x_q m c t r l q hr) (fun r hr => h_q m c t r q hr) (fun r hr => g_q m c t r q hr) (prev t) (next t)

/-- The gradient of the shifted columns that the call leaves is the reference's. -/
theorem final0 (c : Dev nD) : (dats m 0 c).arrAt 7 (cfgs 0).N = REF0 (m ((c : Thread nD τ).loc main_arg0)) (m ((c : Thread nD τ).loc main_arg2)) := by
  refine (dats m 0 c).arrAt_eq_of_covers 7 _ (by decide +kernel) fun t hf y => ?_
  blk_simp; rw [after0_7]
  obtain ⟨k, q, rfl⟩ : ∃ (k : Fin 256) (q : Fin 2048), y = ix2 k q := ⟨y 0, y 1, by blk_ext⟩
  have ht : t.val < 16 := lt_of_lt_of_eq t.isLt N_0
  have e : ((cfg0.win 7).blk t).view.emb (ix2 k q) = ix2 (⟨t.val * 256 + k.val, by omega⟩ : Fin 4096) q := by blk_ext [idx t]
  refine Eq.trans ?_ (congrArg _ e.symm)
  by_cases h : t.val % 16 = 0
  · rw [outsAt0_A m c t h]; frame_out; exact point m c t _ k q rfl
  · rw [outsAt0_B m c t h]; frame_out; exact point m c t _ k q rfl

/-- The fill of the weight's gradient is zero. -/
theorem zero (j : S1x2048.Idx) : k0_pay1 (F := Ideal) j = 0 := by pointwise! [k0_pay1]

/-- A grid point adds its block's part to the weight's gradient. -/
theorem step (v29 : Vec Ideal S256x2048 .f32) (v60 : Vec Ideal S256x2048 .f32) (v66 : FVec Ideal S1x2048 .f32) (v67 : IVec S256x2048 32) (v73 : FVec Ideal S256x2048 .f32) (v83 : Vec Ideal S1x2048 .f32) (j : S1x2048.Idx) :
    k0_pay2 v29 v60 v66 v67 v73 v83 j = v83 j + k0_pay2 v29 v60 v66 v67 v73 (fun _ => 0) j := by
  pointwise [k0_pay2]

/-- A block's part of the weight's gradient, from the rows it reads. -/
theorem body8 (a0 : FVec Ideal Cert.Reference20Ideal.S4096x2048 .f32) (a1 : FVec Ideal Cert.Reference20Ideal.S4096x2048 .f32) (t : Fin cfg0.N) (q : Fin 2048)
    (v x : Vec Ideal S256x2048 .f32) (h1 h2 : Vec Ideal S1x2048 .f32) (f g : Ideal .f32)
    (hv : ∀ (l : Fin 256) (r : Fin 4096), r.val = t.val * 256 + l.val → v (ix2 l q) = a0 (ix2 r q))
    (hx : ∀ (l : Fin 256) (r : Fin 4096), r.val = t.val * 256 + l.val → x (ix2 l q) = a1 (ix2 r q))
    (hh : ∀ r : Fin 4096, r.val = (t.val * 32 - 1) * 8 + 7 → h1 (ix2 0 q) = a1 (ix2 r q)) (hg : ∀ r : Fin 4096, r.val = min (t.val * 32 + 32) 511 * 8 → h2 (ix2 0 q) = a1 (ix2 r q))
    (hf : f = if t.val % 8 = 0 then (0 : EReal) else 1) (hf' : g = if t.val % 8 = 7 then (0 : EReal) else 1) :
    k0_pay2 v x (k0_pay8 g h2) (iota .tc S256x2048 32 [0] iota_S256x2048_d0_w32) (k0_pay9 f x h1) (fun _ => (0 : EReal)) (ix2 0 q)
      = ∑ k : Fin 256, a0 (ix2 (ROWP t k) q) * (Ideal.ofBits .f32 1056964608#32 * (DN (fun r => a1 (ix2 r q)) (ROWP t k) + UP (fun r => a1 (ix2 r q)) (ROWP t k)) - a1 (ix2 (ROWP t k) q)) := by
  pointwise [k0_pay2, k0_pay8, k0_pay9]
  refine Finset.sum_congr rfl fun k _ => Ideal.mul_congr (hv k _ rfl) ?_
  have hd := down (fun r => a1 (ix2 r q)) t (ROWP t k) k rfl (fun l => x (ix2 l q)) hx (h1 (ix2 0 q)) f hh hf (Nat.mod_lt _ (by omega))
  have hu := up (fun r => a1 (ix2 r q)) t (ROWP t k) k rfl (fun l => x (ix2 l q)) hx (h2 (ix2 0 q)) g hg hf' (Nat.mod_lt _ (by omega))
  exact congrArg₂ (fun a b : EReal => Ideal.ofBits .f32 1056964608#32 * a - b) (congrArg₂ (· + ·) hd hu) (hx k _ rfl)

/-- The parts of all blocks together are the reference's sum. -/
theorem total (a0 : FVec Ideal Cert.Reference20Ideal.S4096x2048 .f32) (a1 : FVec Ideal Cert.Reference20Ideal.S4096x2048 .f32) (q : Fin 2048) :
    ∑ t : Fin cfg0.N, ∑ k : Fin 256, a0 (ix2 (ROWP t k) q) * (Ideal.ofBits .f32 1056964608#32 * (DN (fun r => a1 (ix2 r q)) (ROWP t k) + UP (fun r => a1 (ix2 r q)) (ROWP t k)) - a1 (ix2 (ROWP t k) q))
      = REF1 a0 a1 (ix2 0 q) := by
  rw [ref1]
  refine Fin.sum_points_lanes_congr 8 fun t k ha hl => ?_
  have ht : t.val < 16 := lt_of_lt_of_eq t.isLt N_0
  have hk := k.isLt
  have e : (ROWP t k).val = t.val / 8 * 2048 + (t.val % 8 * 256 + k.val) := by show t.val * 256 + k.val = _; omega
  rw [mix a1 ⟨t.val / 8, ha⟩ ⟨t.val % 8 * 256 + k.val, hl⟩ q (ROWP t k) e]
  refine Ideal.mul_congr ?_ rfl
  pointwise [SEQ]
  exact congrArg (fun r : Fin 4096 => a0 (ix2 r q)) (Fin.ext e)

/-- The gradient of the shift's weight that the call leaves is the reference's. -/
theorem final1 (c : Dev nD) : (dats m 0 c).arrAt 8 (cfgs 0).N = REF1 (m ((c : Thread nD τ).loc main_arg0)) (m ((c : Thread nD τ).loc main_arg1)) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0) _
    (fun t h j => by rw [outsAt0_A m c t h]; frame_out; rw [step, zero])
    (fun t h j => by rw [outsAt0_B m c t h]; frame_out; rw [step])
    (le_of_eq N_0) t0_15 rfl j, zero_add]
  obtain ⟨q, rfl⟩ : ∃ q : Fin 2048, j = ix2 (0 : Fin 1) q := ⟨j 1, by blk_ext⟩
  exact (Finset.sum_congr rfl fun t _ => body8 _ _ t q _ _ _ _ _ _ (fun l r hr => x_q m c t r l q hr) (fun l r hr => x_p m c t r l q hr) (fun r hr => h_p m c t r q hr) (fun r hr => g_p m c t r q hr) (prev t) (next t)).trans (total _ _ q)

end Cert.Kernel20Ideal.Value

end
-- ==== Proof.Claims20.lean ====
/- The claims about `Cert.Kernel20`, its ideal reading and its reference: the frames, the reading, and the values. -/
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.ShiftBwd
public import Idealize.ShloMosaic.Lib.Claim

@[expose] public section

noncomputable section

namespace Cert.Claims20

open Idealize.ShloMosaic Idealize.SL.Sem

theorem frame_kernel : Cert.quiescent_Kernel20 := fun m ρ _ => Cert.Kernel20.Gen.frame m ρ

theorem frame_ideal : Cert.quiescent_Kernel20Ideal := fun m ρ _ => Cert.Kernel20Ideal.Gen.frame m ρ

/-- The reference declares no semaphore, and none of its operations writes an argument. -/
theorem frame_reference : Cert.quiescent_Reference20Ideal := fun m ρ _ =>
  (θ_run Cert.Reference20Ideal.defs _ _).mono
    (fun r h => ⟨fun c => (h c).2.2, sem_eq_zero_of_no_sems (by decide) r.2⟩)
    (Cert.Reference20Ideal.Value.run m ρ)

theorem preserves : Cert.preserves_Kernel20_Kernel20Ideal := trivial

/-- The kernel's ideal results are the reference's. -/
theorem algebraic : Cert.algebraic_Kernel20Ideal_Reference20Ideal := by
  pair_intro
  · run_from Cert.Kernel20Ideal.Gen.run_main m g
  · refine θ_run_mono (Cert.Reference20Ideal.Value.run m' g') fun r hr c => ?_
    obtain ⟨e0, e1, e2⟩ := hagree c
    have h0 : r.2.mem ((c.tc : Thread Cert.Reference20Ideal.nD Cert.Reference20Ideal.τ).loc Cert.Reference20Ideal.main_v38) = Cert.Kernel20Ideal.Value.REF0 (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg2)) := (hr c).1
    rw [e0, e2] at h0
    replace h0 := h0.trans (Cert.Kernel20Ideal.Value.final0 m c).symm
    have h1 : r.2.mem ((c.tc : Thread Cert.Reference20Ideal.nD Cert.Reference20Ideal.τ).loc Cert.Reference20Ideal.main_v24) = Cert.Kernel20Ideal.Value.REF1 (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) := (hr c).2.1
    rw [e0, e1] at h1
    replace h1 := h1.trans (Cert.Kernel20Ideal.Value.final1 m c).symm
    exact ⟨h0, h1, (hr c).2.2⟩

end Cert.Claims20

end
-- ==== Proof.DownDw.lean ====
/- The value of `Cert.Kernel5Ideal`: the weight gradient that its tiled product leaves is the transposed product of the reference. -/
module

public import proofs.«01_k».proof.Proof.Gen.Kernel5Ideal.Frame
public import proofs.«01_k».proof.Proof.Gen.Reference5Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Dw

open Cert.Kernel5Ideal Cert.Kernel5Ideal.Gen

variable (m : (ℓ : Loc nD τ sig) → Buf (Elt Ideal) ℓ)

/-- The reference's gradient of a product `A · W` in `W`, at the cotangent `D`. -/
abbrev REF (A : FVec Ideal Cert.Reference5Ideal.S4096x2816 .f32) (D : FVec Ideal Cert.Reference5Ideal.S4096x1024 .f32) :
    FVec Ideal Cert.Reference5Ideal.S2816x1024 .f32 :=
  transpose Cert.Reference5Ideal.S2816x1024 [1, 0] (Host.dotGeneral Cert.Reference5Ideal.dot_S4096x1024_S4096x2816_S1024x2816_0_0_1_1_n_n none D A) Cert.Reference5Ideal.Gen.transposes_S1024x2816_S2816x1024_1_0

/-- Each window's block index at every grid point, decided. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at a place of its block is the reference's gradient at the place of the array: both are one sum over the 4096 rows. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb y) := by
  pointwise [k0_pay1, REF]
  refine Finset.sum_congr rfl fun k _ => (mul_comm _ _).trans ?_
  blk_point [iblk, V, idx t]

/-- The result array after the run: the blocks tile it. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.Kernel5Ideal.Dw

end
-- ==== Proof.Claims5.lean ====
/- The claims about `Cert.Kernel5`, its ideal reading and its reference: the frames, the reading, and the values. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.DownDw
public import Idealize.ShloMosaic.Lib.Claim

@[expose] public section

noncomputable section

namespace Cert.Claims5

open Idealize.ShloMosaic Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

/-- The reference declares no semaphore, and none of its operations writes an argument. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

theorem preserves : Cert.preserves_Kernel5_Kernel5Ideal := trivial

/-- The kernel's ideal results are the reference's. -/
theorem algebraic : Cert.algebraic_Kernel5Ideal_Reference5Ideal := by
  pair_intro
  · run_from Cert.Kernel5Ideal.Gen.run_main m g
  · run_from Cert.Reference5Ideal.Value.run m' g'
    exact (Cert.Kernel5Ideal.Dw.final m c).symm

end Cert.Claims5

end
-- ==== Proof.GateDw.lean ====
/- The value of `Cert.Kernel6Ideal`: the weight gradient that its tiled product leaves is the transposed product of the reference. -/
module

public import proofs.«01_k».proof.Proof.Gen.Kernel6Ideal.Frame
public import proofs.«01_k».proof.Proof.Gen.Reference6Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Dw

open Cert.Kernel6Ideal Cert.Kernel6Ideal.Gen

variable (m : (ℓ : Loc nD τ sig) → Buf (Elt Ideal) ℓ)

/-- The reference's gradient of a product `A · W` in `W`, at the cotangent `D`. -/
abbrev REF (A : FVec Ideal Cert.Reference6Ideal.S4096x1024 .f32) (D : FVec Ideal Cert.Reference6Ideal.S4096x2816 .f32) :
    FVec Ideal Cert.Reference6Ideal.S1024x2816 .f32 :=
  transpose Cert.Reference6Ideal.S1024x2816 [1, 0] (Host.dotGeneral Cert.Reference6Ideal.dot_S4096x2816_S4096x1024_S2816x1024_0_0_1_1_n_n none D A) Cert.Reference6Ideal.Gen.transposes_S2816x1024_S1024x2816_1_0

/-- Each window's block index at every grid point, decided. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at a place of its block is the reference's gradient at the place of the array: both are one sum over the 4096 rows. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb y) := by
  pointwise [k0_pay1, REF]
  refine Finset.sum_congr rfl fun k _ => (mul_comm _ _).trans ?_
  blk_point [iblk, V, idx t]

/-- The result array after the run: the blocks tile it. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.Kernel6Ideal.Dw

end
-- ==== Proof.Claims6.lean ====
/- The claims about `Cert.Kernel6`, its ideal reading and its reference: the frames, the reading, and the values. -/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.GateDw
public import Idealize.ShloMosaic.Lib.Claim

@[expose] public section

noncomputable section

namespace Cert.Claims6

open Idealize.ShloMosaic Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

/-- The reference declares no semaphore, and none of its operations writes an argument. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run m ρ)

theorem preserves : Cert.preserves_Kernel6_Kernel6Ideal := trivial

/-- The kernel's ideal results are the reference's. -/
theorem algebraic : Cert.algebraic_Kernel6Ideal_Reference6Ideal := by
  pair_intro
  · run_from Cert.Kernel6Ideal.Gen.run_main m g
  · run_from Cert.Reference6Ideal.Value.run m' g'
    exact (Cert.Kernel6Ideal.Dw.final m c).symm

end Cert.Claims6

end
-- ==== Proof.OutDw.lean ====
/- The value of `Cert.Kernel7Ideal`: the weight gradient that its tiled product leaves is the transposed product of the reference. -/
module

public import proofs.«01_k».proof.Proof.Gen.Kernel7Ideal.Frame
public import proofs.«01_k».proof.Proof.Gen.Reference7Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Dw

open Cert.Kernel7Ideal Cert.Kernel7Ideal.Gen

variable (m : (ℓ : Loc nD τ sig) → Buf (Elt Ideal) ℓ)

/-- The reference's gradient of a product `A · W` in `W`, at the cotangent `D`. -/
abbrev REF (A : FVec Ideal Cert.Reference7Ideal.S4096x1024 .f32) (D : FVec Ideal Cert.Reference7Ideal.S4096x1024 .f32) :
    FVec Ideal Cert.Reference7Ideal.S1024x1024 .f32 :=
  transpose Cert.Reference7Ideal.S1024x1024 [1, 0] (Host.dotGeneral Cert.Reference7Ideal.dot_S4096x1024_S4096x1024_S1024x1024_0_0_1_1_n_n none D A) Cert.Reference7Ideal.Gen.transposes_S1024x1024_S1024x1024_1_0

/-- Each window's block index at every grid point, decided. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at a place of its block is the reference's gradient at the place of the array: both are one sum over the 4096 rows. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb y) := by
  pointwise [k0_pay1, REF]
  refine Finset.sum_congr rfl fun k _ => (mul_comm _ _).trans ?_
  blk_point [iblk, V, idx t]

/-- The result array after the run: the blocks tile it. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.Kernel7Ideal.Dw

end
-- ==== Proof.Claims7.lean ====
/- The claims about `Cert.Kernel7`, its ideal reading and its reference: the frames, the reading, and the values. -/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.OutDw
public import Idealize.ShloMosaic.Lib.Claim

@[expose] public section

noncomputable section

namespace Cert.Claims7

open Idealize.ShloMosaic Idealize.SL.Sem

theorem frame_kernel : Cert.quiescent_Kernel7 := fun m ρ _ => Cert.Kernel7.Gen.frame m ρ

theorem frame_ideal : Cert.quiescent_Kernel7Ideal := fun m ρ _ => Cert.Kernel7Ideal.Gen.frame m ρ

/-- The reference declares no semaphore, and none of its operations writes an argument. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run m ρ)

theorem preserves : Cert.preserves_Kernel7_Kernel7Ideal := trivial

/-- The kernel's ideal results are the reference's. -/
theorem algebraic : Cert.algebraic_Kernel7Ideal_Reference7Ideal := by
  pair_intro
  · run_from Cert.Kernel7Ideal.Gen.run_main m g
  · run_from Cert.Reference7Ideal.Value.run m' g'
    exact (Cert.Kernel7Ideal.Dw.final m c).symm

end Cert.Claims7

end
-- ==== Proof.ShiftDw.lean ====
/- The value of `Cert.Kernel8Ideal`: the weight gradient that its tiled product leaves is the transposed product of the reference. -/
module

public import proofs.«01_k».proof.Proof.Gen.Kernel8Ideal.Frame
public import proofs.«01_k».proof.Proof.Gen.Reference8Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Dw

open Cert.Kernel8Ideal Cert.Kernel8Ideal.Gen

variable (m : (ℓ : Loc nD τ sig) → Buf (Elt Ideal) ℓ)

/-- The reference's gradient of a product `A · W` in `W`, at the cotangent `D`. -/
abbrev REF (A : FVec Ideal Cert.Reference8Ideal.S4096x1024 .f32) (D : FVec Ideal Cert.Reference8Ideal.S4096x3360 .f32) :
    FVec Ideal Cert.Reference8Ideal.S1024x2048 .f32 :=
  concatenate Cert.Reference8Ideal.S1024x2048 1 [⟨Cert.Reference8Ideal.S1024x1824, extractStridedSlice Cert.Reference8Ideal.S1024x1824 ![0, 0] (transpose Cert.Reference8Ideal.S1024x3360 [1, 0] (Host.dotGeneral Cert.Reference8Ideal.dot_S4096x3360_S4096x1024_S3360x1024_0_0_1_1_n_n none D A) Cert.Reference8Ideal.Gen.transposes_S3360x1024_S1024x3360_1_0) Cert.Reference8Ideal.Gen.slices_S1024x3360_S1024x1824_0_0⟩,
    ⟨Cert.Reference8Ideal.S1024x224, broadcastInDim Cert.Reference8Ideal.S1024x224 ![] Cert.Reference8Ideal.Gen.bcast_S_S1024x224 (constant Cert.Reference8Ideal.S_ .f32 0x00000000#32)⟩] Cert.Reference8Ideal.Gen.concatenates_S1024x1824_S1024x224_S1024x2048_d1

/-- Each window's block index at every grid point, decided. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The second operand as the host lays it out: the cotangent's first 1824 columns, then zeros. -/
theorem operand (c : Dev nD) (i : S4096x2048.Idx) :
    V m c main_v3 i = dite (α := EReal) ((i 1).val < 1824)
      (fun h => m ((c : Thread nD τ).loc main_arg2) (ix2 (i 0) ⟨(i 1).val, lt_trans h (by decide)⟩)) fun _ => 0 := by
  entry_read
  pointwise

/-- What a grid point stores at a place of its block is the reference's gradient at the place of the array: both are one sum over the 4096 rows. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb y) := by
  pointwise [k0_pay1, REF]
  split
  next h =>
    refine Finset.sum_congr rfl fun k _ => (mul_comm _ _).trans ?_
    refine congrArg₂ (· * ·) ?_ ?_
    · refine (operand m c _).trans ((dif_pos ?_).trans ?_)
      · blk_simp [idx t] at h ⊢
        exact h
      · blk_ext [idx t]
    · blk_point [iblk, V, idx t]
  next h =>
    refine Finset.sum_eq_zero fun k _ => ?_
    refine (Ideal.mul_congr rfl ((operand m c _).trans (dif_neg ?_))).trans (mul_zero _)
    blk_simp [idx t] at h ⊢
    exact h

/-- The result array after the run: the blocks tile it. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.Kernel8Ideal.Dw

end
-- ==== Proof.Claims8.lean ====
/- The claims about `Cert.Kernel8`, its ideal reading and its reference: the frames, the reading, and the values. -/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.ShiftDw
public import Idealize.ShloMosaic.Lib.Claim

@[expose] public section

noncomputable section

namespace Cert.Claims8

open Idealize.ShloMosaic Idealize.SL.Sem

theorem frame_kernel : Cert.quiescent_Kernel8 := fun m ρ _ => Cert.Kernel8.Gen.frame m ρ

theorem frame_ideal : Cert.quiescent_Kernel8Ideal := fun m ρ _ => Cert.Kernel8Ideal.Gen.frame m ρ

/-- The reference declares no semaphore, and none of its operations writes an argument. -/
theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run m ρ)

theorem preserves : Cert.preserves_Kernel8_Kernel8Ideal := trivial

/-- The kernel's ideal results are the reference's. -/
theorem algebraic : Cert.algebraic_Kernel8Ideal_Reference8Ideal := by
  pair_intro
  · run_from Cert.Kernel8Ideal.Gen.run_main m g
  · run_from Cert.Reference8Ideal.Value.run m' g'
    exact (congrArg (Cert.Kernel8Ideal.Dw.REF _) (hagree c).2.2).trans (Cert.Kernel8Ideal.Dw.final m c).symm

end Cert.Claims8

end
-- ==== Proof.ConvDw.lean ====
/- The value of `Cert.Kernel9Ideal`: the weight gradient that its tiled product leaves is the transposed product of the reference. -/
module

public import proofs.«01_k».proof.Proof.Gen.Kernel9Ideal.Frame
public import proofs.«01_k».proof.Proof.Gen.Reference9Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Dw

open Cert.Kernel9Ideal Cert.Kernel9Ideal.Gen

variable (m : (ℓ : Loc nD τ sig) → Buf (Elt Ideal) ℓ)

/-- The reference's gradient of a product `A · W` in `W`, at the cotangent `D`. -/
abbrev REF (A : FVec Ideal Cert.Reference9Ideal.S4096x1024 .f32) (D : FVec Ideal Cert.Reference9Ideal.S4096x3360 .f32) :
    FVec Ideal Cert.Reference9Ideal.S1024x1536 .f32 :=
  extractStridedSlice Cert.Reference9Ideal.S1024x1536 ![0, 1824] (transpose Cert.Reference9Ideal.S1024x3360 [1, 0] (Host.dotGeneral Cert.Reference9Ideal.dot_S4096x3360_S4096x1024_S3360x1024_0_0_1_1_n_n none D A) Cert.Reference9Ideal.Gen.transposes_S3360x1024_S1024x3360_1_0) Cert.Reference9Ideal.Gen.slices_S1024x3360_S1024x1536_0_1824

/-- Each window's block index at every grid point, decided. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at a place of its block is the reference's gradient at the place of the array: both are one sum over the 4096 rows. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb y) := by
  pointwise [k0_pay1, REF]
  refine Finset.sum_congr rfl fun k _ => (mul_comm _ _).trans ?_
  blk_point [iblk, V, idx t]

/-- The result array after the run: the blocks tile it. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.Kernel9Ideal.Dw

end
-- ==== Proof.Claims9.lean ====
/- The claims about `Cert.Kernel9`, its ideal reading and its reference: the frames, the reading, and the values. -/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.ConvDw
public import Idealize.ShloMosaic.Lib.Claim

@[expose] public section

noncomputable section

namespace Cert.Claims9

open Idealize.ShloMosaic Idealize.SL.Sem

theorem frame_kernel : Cert.quiescent_Kernel9 := fun m ρ _ => Cert.Kernel9.Gen.frame m ρ

theorem frame_ideal : Cert.quiescent_Kernel9Ideal := fun m ρ _ => Cert.Kernel9Ideal.Gen.frame m ρ

/-- The reference declares no semaphore, and none of its operations writes an argument. -/
theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run m ρ)

theorem preserves : Cert.preserves_Kernel9_Kernel9Ideal := trivial

/-- The kernel's ideal results are the reference's. -/
theorem algebraic : Cert.algebraic_Kernel9Ideal_Reference9Ideal := by
  pair_intro
  · run_from Cert.Kernel9Ideal.Gen.run_main m g
  · run_from Cert.Reference9Ideal.Value.run m' g'
    exact (Cert.Kernel9Ideal.Dw.final m c).symm

end Cert.Claims9

end
-- ==== Proof.FfnIn.lean ====
/- The value of `Cert.Kernel10Ideal`: SwiGLU's two products and their gated product, as rows and transposed, that it leaves are the reference's. -/
module

public import proofs.«01_k».proof.Proof.Gen.Kernel10Ideal.Frame
public import proofs.«01_k».proof.Proof.Gen.Reference10Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ)

/-! ## The reference's terms -/

/-- A product of the normalised rows and a weight. -/
abbrev DOT (a : FVec Ideal Cert.Reference10Ideal.S4096x1024 .f32) (w : FVec Ideal Cert.Reference10Ideal.S1024x2816 .f32) : FVec Ideal Cert.Reference10Ideal.S4096x2816 .f32 := Host.dotGeneral Cert.Reference10Ideal.dot_S4096x1024_S1024x2816_S4096x2816_1_0_0_1_n_n none a w

/-- The gate's product. -/
abbrev REF0 (a0 : FVec Ideal Cert.Reference10Ideal.S4096x1024 .f32) (a1 a2 : FVec Ideal Cert.Reference10Ideal.S1024x2816 .f32) : FVec Ideal Cert.Reference10Ideal.S4096x2816 .bf16 := truncf .bf16 (DOT a0 a1) Cert.Reference10Ideal.Gen.bitsLt_bf16_f32

/-- The second product. -/
abbrev REF1 (a0 : FVec Ideal Cert.Reference10Ideal.S4096x1024 .f32) (a1 a2 : FVec Ideal Cert.Reference10Ideal.S1024x2816 .f32) : FVec Ideal Cert.Reference10Ideal.S4096x2816 .bf16 := truncf .bf16 (DOT a0 a2) Cert.Reference10Ideal.Gen.bitsLt_bf16_f32

/-- `silu gate * up`. -/
abbrev ACT (a0 : FVec Ideal Cert.Reference10Ideal.S4096x1024 .f32) (a1 a2 : FVec Ideal Cert.Reference10Ideal.S1024x2816 .f32) : FVec Ideal Cert.Reference10Ideal.S4096x2816 .f32 :=
  mulf (mulf (DOT a0 a1) (Host.divf (broadcastInDim Cert.Reference10Ideal.S4096x2816 ![] Cert.Reference10Ideal.Gen.bcast_S_S4096x2816 (constant Cert.Reference10Ideal.S_ .f32 0x3F800000#32)) (addf (broadcastInDim Cert.Reference10Ideal.S4096x2816 ![] Cert.Reference10Ideal.Gen.bcast_S_S4096x2816 (constant Cert.Reference10Ideal.S_ .f32 0x3F800000#32)) (Host.exp (Host.negf (DOT a0 a1)))))) (DOT a0 a2)

/-- The same, rounded. -/
abbrev REF2 (a0 : FVec Ideal Cert.Reference10Ideal.S4096x1024 .f32) (a1 a2 : FVec Ideal Cert.Reference10Ideal.S1024x2816 .f32) : FVec Ideal Cert.Reference10Ideal.S4096x2816 .bf16 := truncf .bf16 (ACT a0 a1 a2) Cert.Reference10Ideal.Gen.bitsLt_bf16_f32

/-- The same, transposed. -/
abbrev REF3 (a0 : FVec Ideal Cert.Reference10Ideal.S4096x1024 .f32) (a1 a2 : FVec Ideal Cert.Reference10Ideal.S1024x2816 .f32) : FVec Ideal Cert.Reference10Ideal.S2816x4096 .bf16 :=
  truncf .bf16 (transpose Cert.Reference10Ideal.S2816x4096 [1, 0] (ACT a0 a1 a2) Cert.Reference10Ideal.Gen.transposes_S4096x2816_S2816x4096_1_0) Cert.Reference10Ideal.Gen.bitsLt_bf16_f32

/-- Each window's block index at every grid point, decided. -/
theorem idx : ∀ t : Fin cfg0.N, win0_0.index t = ![t.val / 2, 0]
    ∧ win0_1.index t = ![0, t.val % 2]
    ∧ win0_2.index t = ![0, t.val % 2]
    ∧ win0_3.index t = ![t.val / 2, t.val % 2]
    ∧ win0_4.index t = ![t.val / 2, t.val % 2]
    ∧ win0_5.index t = ![t.val / 2, t.val % 2]
    ∧ win0_6.index t = ![t.val % 2, t.val / 2] :=
  (by decide +kernel : ∀ t : Fin grid0.N, _)

/-- A block's product with the gate's weight is the array's. -/
theorem dot1 (c : Dev nD) (t : Fin cfg0.N) (k : Fin 512) (q : Fin 1408) (p : Fin 4096) (l : Fin 2816)
    (hp : p.val = t.val / 2 * 512 + k.val) (hl : l.val = t.val % 2 * 1408 + q.val) :
    k0_pay2 (iblk m c 0 t) (iblk m c 1 t) (ix2 k q) = DOT (m ((c : Thread nD τ).loc main_arg0)) (m ((c : Thread nD τ).loc main_arg1)) (ix2 p l) := by
  obtain ⟨p, h⟩ := p
  obtain rfl : p = _ := hp
  obtain ⟨l, h'⟩ := l
  obtain rfl : l = _ := hl
  pointwise [k0_pay1, k0_pay2, DOT]
  refine Finset.sum_congr rfl fun x _ => congrArg₂ (· * ·) ?_ ?_
  · blk_simp [iblk, idx t]; entry_read; pointwise; blk_ext [idx t]
  · blk_simp [iblk, idx t]; entry_read; pointwise; blk_ext [idx t]

/-- A block's product with the second weight is the array's. -/
theorem dot2 (c : Dev nD) (t : Fin cfg0.N) (k : Fin 512) (q : Fin 1408) (p : Fin 4096) (l : Fin 2816)
    (hp : p.val = t.val / 2 * 512 + k.val) (hl : l.val = t.val % 2 * 1408 + q.val) :
    k0_pay3 (iblk m c 0 t) (iblk m c 2 t) (ix2 k q) = DOT (m ((c : Thread nD τ).loc main_arg0)) (m ((c : Thread nD τ).loc main_arg2)) (ix2 p l) := by
  obtain ⟨p, h⟩ := p
  obtain rfl : p = _ := hp
  obtain ⟨l, h'⟩ := l
  obtain rfl : l = _ := hl
  pointwise [k0_pay1, k0_pay3, DOT]
  refine Finset.sum_congr rfl fun x _ => congrArg₂ (· * ·) ?_ ?_
  · blk_simp [iblk, idx t]; entry_read; pointwise; blk_ext [idx t]
  · blk_simp [iblk, idx t]; entry_read; pointwise; blk_ext [idx t]

/-- The gated product of a block is the array's. -/
theorem act (c : Dev nD) (t : Fin cfg0.N) (k : Fin 512) (q : Fin 1408) (p : Fin 4096) (l : Fin 2816)
    (hp : p.val = t.val / 2 * 512 + k.val) (hl : l.val = t.val % 2 * 1408 + q.val) :
    k0_pay4 (iblk m c 0 t) (iblk m c 1 t) (iblk m c 2 t) (ix2 k q) = ACT (m ((c : Thread nD τ).loc main_arg0)) (m ((c : Thread nD τ).loc main_arg1)) (m ((c : Thread nD τ).loc main_arg2)) (ix2 p l) := by
  have h1 := dot1 m c t k q p l hp hl
  have h2 := dot2 m c t k q p l hp hl
  unfold ACT
  generalize DOT (m ((c : Thread nD τ).loc main_arg0)) (m ((c : Thread nD τ).loc main_arg1)) = g at h1 ⊢
  generalize DOT (m ((c : Thread nD τ).loc main_arg0)) (m ((c : Thread nD τ).loc main_arg2)) = u at h2 ⊢
  pointwise [k0_pay4]
  simp only [Ideal.logistic, h1, h2]

/-- What a grid point stores of the gate's product. -/
theorem point0 (c : Dev nD) (t : Fin cfg0.N) (y) :
    k0_pay5 (iblk m c 0 t) (iblk m c 1 t) y = REF0 (m ((c : Thread nD τ).loc main_arg0)) (m ((c : Thread nD τ).loc main_arg1)) (m ((c : Thread nD τ).loc main_arg2)) (((cfg0.win 3).blk t).view.emb y) := by
  generalize he : (((cfg0.win 3).blk t).view.emb y) = e
  have e0 : (e 0).val = t.val / 2 * 512 + (y 0).val := by subst he; blk_simp [idx t]
  have e1 : (e 1).val = t.val % 2 * 1408 + (y 1).val := by subst he; blk_simp [idx t]
  have h := dot1 m c t (y 0) (y 1) (e 0) (e 1) e0 e1
  have ey : y = ix2 (y 0) (y 1) := by blk_ext
  have ee : e = ix2 (e 0) (e 1) := by blk_ext
  unfold REF0
  generalize DOT (m ((c : Thread nD τ).loc main_arg0)) (m ((c : Thread nD τ).loc main_arg1)) = g at h ⊢
  pointwise [k0_pay5]
  exact (congrArg _ ey).trans (h.trans (congrArg g ee.symm))

/-- It after the run: the blocks tile the array. -/
theorem final0 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point0 m c t y

/-- What a grid point stores of the second product. -/
theorem point1 (c : Dev nD) (t : Fin cfg0.N) (y) :
    k0_pay6 (iblk m c 0 t) (iblk m c 2 t) y = REF1 (m ((c : Thread nD τ).loc main_arg0)) (m ((c : Thread nD τ).loc main_arg1)) (m ((c : Thread nD τ).loc main_arg2)) (((cfg0.win 4).blk t).view.emb y) := by
  generalize he : (((cfg0.win 4).blk t).view.emb y) = e
  have e0 : (e 0).val = t.val / 2 * 512 + (y 0).val := by subst he; blk_simp [idx t]
  have e1 : (e 1).val = t.val % 2 * 1408 + (y 1).val := by subst he; blk_simp [idx t]
  have h := dot2 m c t (y 0) (y 1) (e 0) (e 1) e0 e1
  have ey : y = ix2 (y 0) (y 1) := by blk_ext
  have ee : e = ix2 (e 0) (e 1) := by blk_ext
  unfold REF1
  generalize DOT (m ((c : Thread nD τ).loc main_arg0)) (m ((c : Thread nD τ).loc main_arg2)) = g at h ⊢
  pointwise [k0_pay6]
  exact (congrArg _ ey).trans (h.trans (congrArg g ee.symm))

/-- It after the run: the blocks tile the array. -/
theorem final1 (c : Dev nD) : (dats m 0 c).arrAt 4 (cfgs 0).N = REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  exact point1 m c t y

/-- What a grid point stores of the gated product. -/
theorem point2 (c : Dev nD) (t : Fin cfg0.N) (y) :
    k0_pay7 (iblk m c 0 t) (iblk m c 1 t) (iblk m c 2 t) y = REF2 (m ((c : Thread nD τ).loc main_arg0)) (m ((c : Thread nD τ).loc main_arg1)) (m ((c : Thread nD τ).loc main_arg2)) (((cfg0.win 5).blk t).view.emb y) := by
  generalize he : (((cfg0.win 5).blk t).view.emb y) = e
  have e0 : (e 0).val = t.val / 2 * 512 + (y 0).val := by subst he; blk_simp [idx t]
  have e1 : (e 1).val = t.val % 2 * 1408 + (y 1).val := by subst he; blk_simp [idx t]
  have h := act m c t (y 0) (y 1) (e 0) (e 1) e0 e1
  have ey : y = ix2 (y 0) (y 1) := by blk_ext
  have ee : e = ix2 (e 0) (e 1) := by blk_ext
  unfold REF2
  generalize ACT (m ((c : Thread nD τ).loc main_arg0)) (m ((c : Thread nD τ).loc main_arg1)) (m ((c : Thread nD τ).loc main_arg2)) = g at h ⊢
  pointwise [k0_pay7]
  exact (congrArg _ ey).trans (h.trans (congrArg g ee.symm))

/-- It after the run: the blocks tile the array. -/
theorem final2 (c : Dev nD) : (dats m 0 c).arrAt 5 (cfgs 0).N = REF2 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point2 m c t y

/-- What a grid point stores of the gated product, transposed. -/
theorem point3 (c : Dev nD) (t : Fin cfg0.N) (y) :
    k0_pay8 (iblk m c 0 t) (iblk m c 1 t) (iblk m c 2 t) y = REF3 (m ((c : Thread nD τ).loc main_arg0)) (m ((c : Thread nD τ).loc main_arg1)) (m ((c : Thread nD τ).loc main_arg2)) (((cfg0.win 6).blk t).view.emb y) := by
  generalize he : (((cfg0.win 6).blk t).view.emb y) = e
  have e0 : (e 0).val = t.val % 2 * 1408 + (y 0).val := by subst he; blk_simp [idx t]
  have e1 : (e 1).val = t.val / 2 * 512 + (y 1).val := by subst he; blk_simp [idx t]
  have h := act m c t (y 1) (y 0) (e 1) (e 0) e1 e0
  have ey : y = ix2 (y 0) (y 1) := by blk_ext
  have ee : e = ix2 (e 0) (e 1) := by blk_ext
  rw [ey, ee]
  unfold REF3
  generalize ACT (m ((c : Thread nD τ).loc main_arg0)) (m ((c : Thread nD τ).loc main_arg1)) (m ((c : Thread nD τ).loc main_arg2)) = g at h ⊢
  pointwise [k0_pay8]
  exact h

/-- It after the run: the blocks tile the array. -/
theorem final3 (c : Dev nD) : (dats m 0 c).arrAt 6 (cfgs 0).N = REF3 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  exact point3 m c t y

end Cert.Kernel10Ideal.Value

end
-- ==== Proof.Claims10.lean ====
/- The claims about `Cert.Kernel10`, its ideal reading and its reference: the frames, the reading, and the values. -/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.FfnIn
public import Idealize.ShloMosaic.Lib.Claim

@[expose] public section

noncomputable section

namespace Cert.Claims10

open Idealize.ShloMosaic Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

/-- The reference declares no semaphore, and none of its operations writes an argument. -/
theorem frame_reference : Cert.quiescent_Reference10Ideal := fun m ρ _ =>
  (θ_run Cert.Reference10Ideal.defs _ _).mono
    (fun r h => ⟨fun c => (h c).2.2.2.2, sem_eq_zero_of_no_sems (by decide) r.2⟩)
    (Cert.Reference10Ideal.Value.run m ρ)

theorem preserves : Cert.preserves_Kernel10_Kernel10Ideal := trivial

set_option maxHeartbeats 2000000 in
/-- The kernel's ideal results are the reference's. -/
theorem algebraic : Cert.algebraic_Kernel10Ideal_Reference10Ideal := by
  pair_intro
  · run_from Cert.Kernel10Ideal.Gen.run_main m g
  · refine θ_run_mono (Cert.Reference10Ideal.Value.run m' g') fun r hr c => ?_
    obtain ⟨e0, e1, e2⟩ := hagree c
    have h0 : r.2.mem ((c.tc : Thread Cert.Reference10Ideal.nD Cert.Reference10Ideal.τ).loc Cert.Reference10Ideal.main_v4) = Cert.Kernel10Ideal.Value.REF0 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) := (hr c).1
    rw [e0, e1, e2] at h0
    replace h0 := h0.trans (Cert.Kernel10Ideal.Value.final0 m c).symm
    have h1 : r.2.mem ((c.tc : Thread Cert.Reference10Ideal.nD Cert.Reference10Ideal.τ).loc Cert.Reference10Ideal.main_v5) = Cert.Kernel10Ideal.Value.REF1 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) := (hr c).2.1
    rw [e0, e1, e2] at h1
    replace h1 := h1.trans (Cert.Kernel10Ideal.Value.final1 m c).symm
    have h2 : r.2.mem ((c.tc : Thread Cert.Reference10Ideal.nD Cert.Reference10Ideal.τ).loc Cert.Reference10Ideal.main_v6) = Cert.Kernel10Ideal.Value.REF2 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) := (hr c).2.2.1
    rw [e0, e1, e2] at h2
    replace h2 := h2.trans (Cert.Kernel10Ideal.Value.final2 m c).symm
    have h3 : r.2.mem ((c.tc : Thread Cert.Reference10Ideal.nD Cert.Reference10Ideal.τ).loc Cert.Reference10Ideal.main_v8) = Cert.Kernel10Ideal.Value.REF3 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) := (hr c).2.2.2.1
    rw [e0, e1, e2] at h3
    replace h3 := h3.trans (Cert.Kernel10Ideal.Value.final3 m c).symm
    exact ⟨h0, h1, h2, h3, (hr c).2.2.2.2⟩

end Cert.Claims10

end
-- ==== Proof.OutProj.lean ====
/- The value of `Cert.Kernel12Ideal`: the residual stream, and its norm as rows and transposed, that it leaves are the reference's. -/
module

public import proofs.«01_k».proof.Proof.Gen.Kernel12Ideal.Frame
public import proofs.«01_k».proof.Proof.Gen.Reference12Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

variable (m : (ℓ : Loc nD τ sig) → Buf (Elt Ideal) ℓ)

/-! ## The reference's terms -/

/-- A column of one number. -/
abbrev COL (b : BitVec 32) : FVec Ideal Cert.Reference12Ideal.S4096x1 .f32 := broadcastInDim Cert.Reference12Ideal.S4096x1 ![] Cert.Reference12Ideal.Gen.bcast_S_S4096x1 (constant Cert.Reference12Ideal.S_ .f32 b)

/-- The reciprocal root of each row's mean square plus epsilon. -/
abbrev INV (x : FVec Ideal Cert.Reference12Ideal.S4096x1024 .f32) : FVec Ideal Cert.Reference12Ideal.S4096x1 .f32 :=
  Host.rsqrt (addf (Host.divf (broadcastInDim Cert.Reference12Ideal.S4096x1 ![0] Cert.Reference12Ideal.Gen.bcast_S4096_S4096x1_0 (Host.reduceAdd (mulf x x) (constant Cert.Reference12Ideal.S_ .f32 0x00000000#32) Cert.Reference12Ideal.Gen.reducesTo_S4096x1024_S4096_d1 Cert.Reference12Ideal.Gen.h_S_)) (COL 0x44800000#32)) (COL 0x358637BD#32))

/-- The norm of `x` times its weight. -/
abbrev NORM (x : FVec Ideal Cert.Reference12Ideal.S4096x1024 .f32) (w : FVec Ideal Cert.Reference12Ideal.S1x1024 .f32) : FVec Ideal Cert.Reference12Ideal.S4096x1024 .f32 :=
  mulf (mulf x (broadcastInDim Cert.Reference12Ideal.S4096x1024 ![0, 1] Cert.Reference12Ideal.Gen.bcast_S4096x1_S4096x1024_0_1 (INV x))) (broadcastInDim Cert.Reference12Ideal.S4096x1024 ![0, 1] Cert.Reference12Ideal.Gen.bcast_S1x1024_S4096x1024_0_1 w)

/-- The residual stream after the mixers. -/
abbrev REF0 (a0 : FVec Ideal Cert.Reference12Ideal.S4096x1024 .f32) (a1 : FVec Ideal Cert.Reference12Ideal.S1024x1024 .f32) (a2 : FVec Ideal Cert.Reference12Ideal.S4096x1024 .f32) : FVec Ideal Cert.Reference12Ideal.S4096x1024 .f32 := addf a2 (Host.dotGeneral Cert.Reference12Ideal.dot_S4096x1024_S1024x1024_S4096x1024_1_0_0_1_n_n none a0 a1)

/-- Its norm, rounded. -/
abbrev REF1 (a0 : FVec Ideal Cert.Reference12Ideal.S4096x1024 .f32) (a1 : FVec Ideal Cert.Reference12Ideal.S1024x1024 .f32) (a2 : FVec Ideal Cert.Reference12Ideal.S4096x1024 .f32) (a3 : FVec Ideal Cert.Reference12Ideal.S1x1024 .f32) : FVec Ideal Cert.Reference12Ideal.S4096x1024 .bf16 := truncf .bf16 (NORM (REF0 a0 a1 a2) a3) Cert.Reference12Ideal.Gen.bitsLt_bf16_f32

/-- The same, transposed. -/
abbrev REF2 (a0 : FVec Ideal Cert.Reference12Ideal.S4096x1024 .f32) (a1 : FVec Ideal Cert.Reference12Ideal.S1024x1024 .f32) (a2 : FVec Ideal Cert.Reference12Ideal.S4096x1024 .f32) (a3 : FVec Ideal Cert.Reference12Ideal.S1x1024 .f32) : FVec Ideal Cert.Reference12Ideal.S1024x4096 .bf16 :=
  truncf .bf16 (transpose Cert.Reference12Ideal.S1024x4096 [1, 0] (NORM (REF0 a0 a1 a2) a3) Cert.Reference12Ideal.Gen.transposes_S4096x1024_S1024x4096_1_0) Cert.Reference12Ideal.Gen.bitsLt_bf16_f32

/-- Each window's block index at every grid point, decided. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, t.val] :=
  (by decide +kernel : ∀ t : Fin grid0.N, _)

/-- What a grid point stores of the residual stream. -/
theorem point0 (c : Dev nD) (t : Fin cfg0.N) (p : Fin 4096) (k : Fin 256) (q : Fin 1024) (hp : p.val = t.val * 256 + k.val) :
    k0_pay1 (iblk m c 2 t) (iblk m c 0 t) (iblk m c 1 t) (ix2 k q) = REF0 (m ((c : Thread nD τ).loc main_arg0)) (m ((c : Thread nD τ).loc main_arg1)) (m ((c : Thread nD τ).loc main_arg2)) (ix2 p q) := by
  obtain ⟨p, h⟩ := p
  obtain rfl : p = _ := hp
  pointwise [k0_pay1, REF0]
  refine congrArg₂ (· + ·) (by blk_point [iblk, V, idx t]) (Finset.sum_congr rfl fun x _ => congrArg₂ (· * ·) ?_ ?_)
  · blk_simp [iblk, idx t]; entry_read; pointwise; blk_ext [idx t]
  · blk_simp [iblk, idx t]; entry_read; pointwise; blk_ext [idx t]

/-- The norm of a grid point's rows. -/
theorem norm (c : Dev nD) (t : Fin cfg0.N) (p : Fin 4096) (k : Fin 256) (q : Fin 1024) (hp : p.val = t.val * 256 + k.val) :
    k0_pay2 (iblk m c 2 t) (iblk m c 0 t) (iblk m c 1 t) (iblk m c 3 t) (ix2 k q) = NORM (REF0 (m ((c : Thread nD τ).loc main_arg0)) (m ((c : Thread nD τ).loc main_arg1)) (m ((c : Thread nD τ).loc main_arg2))) (m ((c : Thread nD τ).loc main_arg3)) (ix2 p q) := by
  have hx := fun q => point0 m c t p k q hp
  have hw : ∀ k, iblk m c 3 t (ix2 0 k) = m ((c : Thread nD τ).loc main_arg3) (ix2 0 k) := by
    intro k; blk_point [iblk, V, idx t]
  generalize REF0 (m ((c : Thread nD τ).loc main_arg0)) (m ((c : Thread nD τ).loc main_arg1)) (m ((c : Thread nD τ).loc main_arg2)) = x at hx ⊢
  pointwise [k0_pay2, NORM]
  refine Ideal.mul_congr ?_ (hw _)
  simp only [hx]

/-- What a grid point stores of the norm. -/
theorem point1 (c : Dev nD) (t : Fin cfg0.N) (p : Fin 4096) (k : Fin 256) (q : Fin 1024) (hp : p.val = t.val * 256 + k.val) :
    k0_pay3 (iblk m c 2 t) (iblk m c 0 t) (iblk m c 1 t) (iblk m c 3 t) (ix2 k q) = REF1 (m ((c : Thread nD τ).loc main_arg0)) (m ((c : Thread nD τ).loc main_arg1)) (m ((c : Thread nD τ).loc main_arg2)) (m ((c : Thread nD τ).loc main_arg3)) (ix2 p q) := by
  have h := norm m c t p k q hp
  unfold REF1
  generalize NORM (REF0 (m ((c : Thread nD τ).loc main_arg0)) (m ((c : Thread nD τ).loc main_arg1)) (m ((c : Thread nD τ).loc main_arg2))) (m ((c : Thread nD τ).loc main_arg3)) = g at h ⊢
  pointwise [k0_pay3]
  exact h

/-- What a grid point stores of the transposed norm. -/
theorem point2 (c : Dev nD) (t : Fin cfg0.N) (p : Fin 4096) (k : Fin 256) (q : Fin 1024) (hp : p.val = t.val * 256 + k.val) :
    k0_pay4 (iblk m c 2 t) (iblk m c 0 t) (iblk m c 1 t) (iblk m c 3 t) (ix2 q k) = REF2 (m ((c : Thread nD τ).loc main_arg0)) (m ((c : Thread nD τ).loc main_arg1)) (m ((c : Thread nD τ).loc main_arg2)) (m ((c : Thread nD τ).loc main_arg3)) (ix2 q p) := by
  have h := norm m c t p k q hp
  unfold REF2
  generalize NORM (REF0 (m ((c : Thread nD τ).loc main_arg0)) (m ((c : Thread nD τ).loc main_arg1)) (m ((c : Thread nD τ).loc main_arg2))) (m ((c : Thread nD τ).loc main_arg3)) = g at h ⊢
  pointwise [k0_pay4]
  exact h

/-- The residual stream after the run: the blocks tile the array. -/
theorem final0 (c : Dev nD) : (dats m 0 c).arrAt 4 (cfgs 0).N = REF0 (m ((c : Thread nD τ).loc main_arg0)) (m ((c : Thread nD τ).loc main_arg1)) (m ((c : Thread nD τ).loc main_arg2)) := by
  refine (dats m 0 c).arrAt_eq_of_covers 4 _ (by decide +kernel) fun t hf y => ?_
  have e : ((cfg0.win 4).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_4]
  frame_out
  exact (congrArg _ ey).trans ((point0 m c t _ (y 0) (y 1) rfl).trans (congrArg _ e.symm))

/-- The norm after the run: the blocks tile the array. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e : ((cfg0.win 5).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_5]
  frame_out
  exact (congrArg _ ey).trans ((point1 m c t _ (y 0) (y 1) rfl).trans (congrArg _ e.symm))

/-- The transposed norm after the run: the blocks tile the array. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have e : ((cfg0.win 6).blk t).view.emb y = ix2 (y 0) ⟨t.val * 256 + (y 1).val, by have : t.val < 16 := t.isLt; have : (y 1).val < 256 := (y 1).isLt; omega⟩ := by blk_ext [idx t]
  have ey : y = ix2 (y 0) (y 1) := by blk_ext
  blk_simp
  rw [after0_6]
  frame_out
  exact (congrArg _ ey).trans ((point2 m c t _ (y 1) (y 0) rfl).trans (congrArg _ e.symm))

end Cert.Kernel12Ideal.Value

end
-- ==== Proof.Claims12.lean ====
/- The claims about `Cert.Kernel12`, its ideal reading and its reference: the frames, the reading, and the values. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.OutProj
public import Idealize.ShloMosaic.Lib.Claim

@[expose] public section

noncomputable section

namespace Cert.Claims12

open Idealize.ShloMosaic Idealize.SL.Sem

theorem frame_kernel : Cert.quiescent_Kernel12 := fun m ρ _ => Cert.Kernel12.Gen.frame m ρ

theorem frame_ideal : Cert.quiescent_Kernel12Ideal := fun m ρ _ => Cert.Kernel12Ideal.Gen.frame m ρ

/-- The reference declares no semaphore, and none of its operations writes an argument. -/
theorem frame_reference : Cert.quiescent_Reference12Ideal := fun m ρ _ =>
  (θ_run Cert.Reference12Ideal.defs _ _).mono
    (fun r h => ⟨fun c => (h c).2.2.2, sem_eq_zero_of_no_sems (by decide) r.2⟩)
    (Cert.Reference12Ideal.Value.run m ρ)

theorem preserves : Cert.preserves_Kernel12_Kernel12Ideal := trivial

set_option maxHeartbeats 2000000 in
/-- The kernel's ideal results are the reference's. -/
theorem algebraic : Cert.algebraic_Kernel12Ideal_Reference12Ideal := by
  pair_intro
  · run_from Cert.Kernel12Ideal.Gen.run_main m g
  · refine θ_run_mono (Cert.Reference12Ideal.Value.run m' g') fun r hr c => ?_
    obtain ⟨e0, e1, e2, e3⟩ := hagree c
    have h0 : r.2.mem ((c.tc : Thread Cert.Reference12Ideal.nD Cert.Reference12Ideal.τ).loc Cert.Reference12Ideal.main_v1) = Cert.Kernel12Ideal.Value.REF0 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) := (hr c).1
    rw [e0, e1, e2] at h0
    replace h0 := h0.trans (Cert.Kernel12Ideal.Value.final0 m c).symm
    have h1 : r.2.mem ((c.tc : Thread Cert.Reference12Ideal.nD Cert.Reference12Ideal.τ).loc Cert.Reference12Ideal.main_v14) = Cert.Kernel12Ideal.Value.REF1 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) := (hr c).2.1
    rw [e0, e1, e2, e3] at h1
    replace h1 := h1.trans (Cert.Kernel12Ideal.Value.final1 m c).symm
    have h2 : r.2.mem ((c.tc : Thread Cert.Reference12Ideal.nD Cert.Reference12Ideal.τ).loc Cert.Reference12Ideal.main_v16) = Cert.Kernel12Ideal.Value.REF2 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) := (hr c).2.2.1
    rw [e0, e1, e2, e3] at h2
    replace h2 := h2.trans (Cert.Kernel12Ideal.Value.final2 m c).symm
    exact ⟨h0, h1, h2, (hr c).2.2.2⟩

end Cert.Claims12

end
-- ==== Proof.NormIn.lean ====
/- The value of `Cert.Kernel13Ideal`: the transposed norm and the two products with the input projection that it leaves are the reference's. -/
module

public import proofs.«01_k».proof.Proof.Gen.Kernel13Ideal.Frame
public import proofs.«01_k».proof.Proof.Gen.Reference13Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

variable (m : (ℓ : Loc nD τ sig) → Buf (Elt Ideal) ℓ)

/-! ## The reference's terms -/

/-- A column of one number. -/
abbrev COL (b : BitVec 32) : FVec Ideal Cert.Reference13Ideal.S4096x1 .f32 := broadcastInDim Cert.Reference13Ideal.S4096x1 ![] Cert.Reference13Ideal.Gen.bcast_S_S4096x1 (constant Cert.Reference13Ideal.S_ .f32 b)

/-- The reciprocal root of each row's mean square plus epsilon. -/
abbrev INV (x : FVec Ideal Cert.Reference13Ideal.S4096x1024 .f32) : FVec Ideal Cert.Reference13Ideal.S4096x1 .f32 :=
  Host.rsqrt (addf (Host.divf (broadcastInDim Cert.Reference13Ideal.S4096x1 ![0] Cert.Reference13Ideal.Gen.bcast_S4096_S4096x1_0 (Host.reduceAdd (mulf x x) (constant Cert.Reference13Ideal.S_ .f32 0x00000000#32) Cert.Reference13Ideal.Gen.reducesTo_S4096x1024_S4096_d1 Cert.Reference13Ideal.Gen.h_S_)) (COL 0x44800000#32)) (COL 0x358637BD#32))

/-- The norm of `x` times its weight. -/
abbrev NORM (x : FVec Ideal Cert.Reference13Ideal.S4096x1024 .f32) (w : FVec Ideal Cert.Reference13Ideal.S1x1024 .f32) : FVec Ideal Cert.Reference13Ideal.S4096x1024 .f32 :=
  mulf (mulf x (broadcastInDim Cert.Reference13Ideal.S4096x1024 ![0, 1] Cert.Reference13Ideal.Gen.bcast_S4096x1_S4096x1024_0_1 (INV x))) (broadcastInDim Cert.Reference13Ideal.S4096x1024 ![0, 1] Cert.Reference13Ideal.Gen.bcast_S1x1024_S4096x1024_0_1 w)

/-- The transposed norm, rounded. -/
abbrev REF0 (a0 : FVec Ideal Cert.Reference13Ideal.S4096x1024 .f32) (a1 : FVec Ideal Cert.Reference13Ideal.S1x1024 .f32) : FVec Ideal Cert.Reference13Ideal.S1024x4096 .bf16 :=
  truncf .bf16 (transpose Cert.Reference13Ideal.S1024x4096 [1, 0] (NORM a0 a1) Cert.Reference13Ideal.Gen.transposes_S4096x1024_S1024x4096_1_0) Cert.Reference13Ideal.Gen.bitsLt_bf16_f32

/-- The input projection of the normalised rows. -/
abbrev DOT (h : FVec Ideal Cert.Reference13Ideal.S4096x1024 .f32) (w : FVec Ideal Cert.Reference13Ideal.S1024x3360 .f32) : FVec Ideal Cert.Reference13Ideal.S4096x3360 .f32 :=
  Host.dotGeneral Cert.Reference13Ideal.dot_S4096x1024_S1024x3360_S4096x3360_1_0_0_1_n_n none h w

/-- Its token-shifted columns, padded by zeros. -/
abbrev PAD (p : FVec Ideal Cert.Reference13Ideal.S4096x3360 .f32) : FVec Ideal Cert.Reference13Ideal.S4096x2048 .f32 :=
  concatenate Cert.Reference13Ideal.S4096x2048 1 [⟨Cert.Reference13Ideal.S4096x1824, extractStridedSlice Cert.Reference13Ideal.S4096x1824 ![0, 0] p Cert.Reference13Ideal.Gen.slices_S4096x3360_S4096x1824_0_0⟩, ⟨Cert.Reference13Ideal.S4096x224, broadcastInDim Cert.Reference13Ideal.S4096x224 ![] Cert.Reference13Ideal.Gen.bcast_S_S4096x224 (constant Cert.Reference13Ideal.S_ .f32 0x00000000#32)⟩] Cert.Reference13Ideal.Gen.concatenates_S4096x1824_S4096x224_S4096x2048_d1

/-- The token-shifted columns of the projection. -/
abbrev REF1 (a0 : FVec Ideal Cert.Reference13Ideal.S4096x1024 .f32) (a1 : FVec Ideal Cert.Reference13Ideal.S1x1024 .f32) (a2 : FVec Ideal Cert.Reference13Ideal.S1024x3360 .f32) : FVec Ideal Cert.Reference13Ideal.S4096x2048 .f32 := PAD (DOT (NORM a0 a1) a2)

/-- The convolution's columns of the projection. -/
abbrev REF2 (a0 : FVec Ideal Cert.Reference13Ideal.S4096x1024 .f32) (a1 : FVec Ideal Cert.Reference13Ideal.S1x1024 .f32) (a2 : FVec Ideal Cert.Reference13Ideal.S1024x3360 .f32) : FVec Ideal Cert.Reference13Ideal.S4096x1536 .f32 :=
  extractStridedSlice Cert.Reference13Ideal.S4096x1536 ![0, 1824] (DOT (NORM a0 a1) a2) Cert.Reference13Ideal.Gen.slices_S4096x3360_S4096x1536_0_1824

/-- Each window's block index at every grid point, decided. -/
theorem idx : ∀ t : Fin cfg0.N, win0_0.index t = ![t.val, 0]
    ∧ win0_1.index t = ![0, 0]
    ∧ win0_2.index t = ![0, 0]
    ∧ win0_3.index t = ![0, 0]
    ∧ win0_4.index t = ![0, t.val]
    ∧ win0_5.index t = ![t.val, 0]
    ∧ win0_6.index t = ![t.val, 0] :=
  (by decide +kernel : ∀ t : Fin grid0.N, _)

/-- The weight's token-shifted columns as the host lays them out: 1824 columns, then zeros. -/
theorem operand (c : Dev nD) (i : S1024x2048.Idx) :
    V m c main_v3 i = dite (α := EReal) ((i 1).val < 1824)
      (fun h => m ((c : Thread nD τ).loc main_arg2) (ix2 (i 0) ⟨(i 1).val, lt_trans h (by decide)⟩)) fun _ => 0 := by
  entry_read
  pointwise

/-- The padded columns, read at one place. -/
theorem pad_apply (x : FVec Ideal Cert.Reference13Ideal.S4096x3360 .f32) (p : Fin 4096) (q : Fin 2048) :
    PAD x (ix2 p q) = dite (α := EReal) (q.val < 1824) (fun h => x (ix2 p ⟨q.val, lt_trans h (by decide)⟩)) fun _ => 0 := by
  pointwise [PAD]

/-- The norm of a grid point's rows. -/
theorem norm (c : Dev nD) (t : Fin cfg0.N) (p : Fin 4096) (k : Fin 256) (q : Fin 1024) (hp : p.val = t.val * 256 + k.val) :
    k0_pay1 (iblk m c 0 t) (iblk m c 1 t) (ix2 k q) = (NORM (m ((c : Thread nD τ).loc main_arg0)) (m ((c : Thread nD τ).loc main_arg1))) (ix2 p q) := by
  obtain ⟨p, h⟩ := p
  obtain rfl : p = _ := hp
  pointwise [k0_pay1, NORM]
  blk_point [iblk, V, idx t]

/-- What a grid point stores of the transposed norm. -/
theorem point0 (c : Dev nD) (t : Fin cfg0.N) (p : Fin 4096) (k : Fin 256) (q : Fin 1024) (hp : p.val = t.val * 256 + k.val) :
    k0_pay2 (iblk m c 0 t) (iblk m c 1 t) (ix2 q k) = REF0 (m ((c : Thread nD τ).loc main_arg0)) (m ((c : Thread nD τ).loc main_arg1)) (ix2 q p) := by
  have h := norm m c t p k q hp
  unfold REF0
  generalize (NORM (m ((c : Thread nD τ).loc main_arg0)) (m ((c : Thread nD τ).loc main_arg1))) = g at h ⊢
  pointwise [k0_pay2]
  exact h

/-- What a grid point stores of the token-shifted columns. -/
theorem point1 (c : Dev nD) (t : Fin cfg0.N) (p : Fin 4096) (k : Fin 256) (q : Fin 2048) (hp : p.val = t.val * 256 + k.val) :
    k0_pay4 (iblk m c 0 t) (iblk m c 1 t) (iblk m c 2 t) (ix2 k q) = REF1 (m ((c : Thread nD τ).loc main_arg0)) (m ((c : Thread nD τ).loc main_arg1)) (m ((c : Thread nD τ).loc main_arg2)) (ix2 p q) := by
  have h := fun x => norm m c t p k x hp
  unfold REF1
  generalize (NORM (m ((c : Thread nD τ).loc main_arg0)) (m ((c : Thread nD τ).loc main_arg1))) = g at h ⊢
  rw [pad_apply]
  have hw : ∀ x, iblk m c 2 t (ix2 x q) = V m c main_v3 (ix2 x q) := by
    intro x; blk_point [iblk, idx t]
  have e : k0_pay4 (iblk m c 0 t) (iblk m c 1 t) (iblk m c 2 t) (ix2 k q) = Finset.univ.sum fun x : Fin 1024 => g (ix2 p x) * iblk m c 2 t (ix2 x q) := by
    pointwise [k0_pay4, k0_pay3]
    exact Finset.sum_congr rfl fun x _ => Ideal.mul_congr (h x) rfl
  refine e.trans ?_
  by_cases hq : q.val < 1824
  · rw [dif_pos hq]
    pointwise [DOT]
    exact Finset.sum_congr rfl fun x _ => Ideal.mul_congr rfl ((hw x).trans ((operand m c _).trans (dif_pos hq)))
  · rw [dif_neg hq]
    exact Finset.sum_eq_zero fun x _ => (Ideal.mul_congr rfl ((hw x).trans ((operand m c _).trans (dif_neg hq)))).trans (mul_zero _)

/-- What a grid point stores of the convolution's columns. -/
theorem point2 (c : Dev nD) (t : Fin cfg0.N) (p : Fin 4096) (k : Fin 256) (q : Fin 1536) (hp : p.val = t.val * 256 + k.val) :
    k0_pay5 (iblk m c 0 t) (iblk m c 1 t) (iblk m c 3 t) (ix2 k q) = REF2 (m ((c : Thread nD τ).loc main_arg0)) (m ((c : Thread nD τ).loc main_arg1)) (m ((c : Thread nD τ).loc main_arg2)) (ix2 p q) := by
  have h := fun x => norm m c t p k x hp
  unfold REF2
  generalize (NORM (m ((c : Thread nD τ).loc main_arg0)) (m ((c : Thread nD τ).loc main_arg1))) = g at h ⊢
  pointwise [k0_pay5, k0_pay3, DOT]
  refine Finset.sum_congr rfl fun x _ => Ideal.mul_congr (h x) ?_
  blk_simp [iblk, idx t]; entry_read; pointwise; blk_ext [idx t]

/-- The transposed norm after the run: the blocks tile the array. -/
theorem final0 (c : Dev nD) : (dats m 0 c).arrAt 4 (cfgs 0).N = REF0 (m ((c : Thread nD τ).loc main_arg0)) (m ((c : Thread nD τ).loc main_arg1)) := by
  refine (dats m 0 c).arrAt_eq_of_covers 4 _ (by decide +kernel) fun t hf y => ?_
  have e : ((cfg0.win 4).blk t).view.emb y = ix2 (y 0) ⟨t.val * 256 + (y 1).val, by have : t.val < 16 := t.isLt; have : (y 1).val < 256 := (y 1).isLt; omega⟩ := by blk_ext [idx t]
  have ey : y = ix2 (y 0) (y 1) := by blk_ext
  blk_simp
  rw [after0_4]
  frame_out
  exact (congrArg _ ey).trans ((point0 m c t _ (y 1) (y 0) rfl).trans (congrArg _ e.symm))

/-- The token-shifted columns after the run: the blocks tile the array. -/
theorem final1 (c : Dev nD) : (dats m 0 c).arrAt 5 (cfgs 0).N = REF1 (m ((c : Thread nD τ).loc main_arg0)) (m ((c : Thread nD τ).loc main_arg1)) (m ((c : Thread nD τ).loc main_arg2)) := by
  refine (dats m 0 c).arrAt_eq_of_covers 5 _ (by decide +kernel) fun t hf y => ?_
  have e : ((cfg0.win 5).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_5]
  frame_out
  exact (congrArg _ ey).trans ((point1 m c t _ (y 0) (y 1) rfl).trans (congrArg _ e.symm))

/-- The convolution's columns after the run: the blocks tile the array. -/
theorem final2 (c : Dev nD) : (dats m 0 c).arrAt 6 (cfgs 0).N = REF2 (m ((c : Thread nD τ).loc main_arg0)) (m ((c : Thread nD τ).loc main_arg1)) (m ((c : Thread nD τ).loc main_arg2)) := by
  refine (dats m 0 c).arrAt_eq_of_covers 6 _ (by decide +kernel) fun t hf y => ?_
  have e : ((cfg0.win 6).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_6]
  frame_out
  exact (congrArg _ ey).trans ((point2 m c t _ (y 0) (y 1) rfl).trans (congrArg _ e.symm))

end Cert.Kernel13Ideal.Value

end
-- ==== Proof.Claims13.lean ====
/- The claims about `Cert.Kernel13`, its ideal reading and its reference: the frames, the reading, and the values. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.NormIn
public import Idealize.ShloMosaic.Lib.Claim

@[expose] public section

noncomputable section

namespace Cert.Claims13

open Idealize.ShloMosaic Idealize.SL.Sem

theorem frame_kernel : Cert.quiescent_Kernel13 := fun m ρ _ => Cert.Kernel13.Gen.frame m ρ

theorem frame_ideal : Cert.quiescent_Kernel13Ideal := fun m ρ _ => Cert.Kernel13Ideal.Gen.frame m ρ

/-- The reference declares no semaphore, and none of its operations writes an argument. -/
theorem frame_reference : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run m ρ)

theorem preserves : Cert.preserves_Kernel13_Kernel13Ideal := trivial

set_option maxHeartbeats 2000000 in
/-- The kernel's ideal results are the reference's. -/
theorem algebraic : Cert.algebraic_Kernel13Ideal_Reference13Ideal := by
  pair_intro
  · run_from Cert.Kernel13Ideal.Gen.run_main m g
  · refine θ_run_mono (Cert.Reference13Ideal.Value.run m' g') fun r hr c => ?_
    obtain ⟨e0, e1, e2⟩ := hagree c
    have h0 : r.2.mem ((c.tc : Thread Cert.Reference13Ideal.nD Cert.Reference13Ideal.τ).loc Cert.Reference13Ideal.main_v14) = Cert.Kernel13Ideal.Value.REF0 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) := (hr c).1
    rw [e0, e1] at h0
    replace h0 := h0.trans (Cert.Kernel13Ideal.Value.final0 m c).symm
    have h1 : r.2.mem ((c.tc : Thread Cert.Reference13Ideal.nD Cert.Reference13Ideal.τ).loc Cert.Reference13Ideal.main_v17) = Cert.Kernel13Ideal.Value.REF1 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) := (hr c).2.1
    rw [e0, e1, e2] at h1
    replace h1 := h1.trans (Cert.Kernel13Ideal.Value.final1 m c).symm
    have h2 : r.2.mem ((c.tc : Thread Cert.Reference13Ideal.nD Cert.Reference13Ideal.τ).loc Cert.Reference13Ideal.main_v18) = Cert.Kernel13Ideal.Value.REF2 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) := (hr c).2.2.1
    rw [e0, e1, e2] at h2
    replace h2 := h2.trans (Cert.Kernel13Ideal.Value.final2 m c).symm
    exact ⟨h0, h1, h2, (hr c).2.2.2⟩

end Cert.Claims13

end
-- ==== Proof.Loss.lean ====
/- The value of `Cert.Kernel11Ideal`: the gradients of the residual stream and of the final norm's weight, and the loss, that it leaves are the reference's. -/
module

public import proofs.«01_k».proof.Proof.Gen.Kernel11Ideal.Frame
public import proofs.«01_k».proof.Proof.Gen.Reference11Ideal
public import proofs.«01_k».proof.Proof.Gen.Pre_loss_finite
public import proofs.«01_k».proof.Proof.RmsNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ)

/-! ## The reference's terms -/

/-- A column of one number. -/
abbrev COL (b : BitVec 32) : FVec Ideal Cert.Reference11Ideal.S4096x1 .f32 := broadcastInDim Cert.Reference11Ideal.S4096x1 ![] Cert.Reference11Ideal.Gen.bcast_S_S4096x1 (constant Cert.Reference11Ideal.S_ .f32 b)

/-- One number for each row. -/
abbrev ROW (b : FVec Ideal Cert.Reference11Ideal.S_ .f32) : FVec Ideal Cert.Reference11Ideal.S4096 .f32 := broadcastInDim Cert.Reference11Ideal.S4096 ![] Cert.Reference11Ideal.Gen.bcast_S_S4096 b

/-- The mean square of each row, plus epsilon. -/
abbrev VAR (x : FVec Ideal Cert.Reference11Ideal.S4096x1024 .f32) : FVec Ideal Cert.Reference11Ideal.S4096x1 .f32 :=
  addf (Host.divf (broadcastInDim Cert.Reference11Ideal.S4096x1 ![0] Cert.Reference11Ideal.Gen.bcast_S4096_S4096x1_0 (Host.reduceAdd (mulf x x) (constant Cert.Reference11Ideal.S_ .f32 0x00000000#32) Cert.Reference11Ideal.Gen.reducesTo_S4096x1024_S4096_d1 Cert.Reference11Ideal.Gen.h_S_)) (COL 0x44800000#32)) (COL 0x358637BD#32)

/-- Its reciprocal root. -/
abbrev INV (x : FVec Ideal Cert.Reference11Ideal.S4096x1024 .f32) : FVec Ideal Cert.Reference11Ideal.S4096x1 .f32 := Host.rsqrt (VAR x)

/-- The residual stream after the FFN. -/
abbrev X2 (a0 : FVec Ideal Cert.Reference11Ideal.S4096x2816 .f32) (a1 : FVec Ideal Cert.Reference11Ideal.S2816x1024 .f32) (a2 : FVec Ideal Cert.Reference11Ideal.S4096x1024 .f32) : FVec Ideal Cert.Reference11Ideal.S4096x1024 .f32 :=
  addf a2 (Host.dotGeneral Cert.Reference11Ideal.dot_S4096x2816_S2816x1024_S4096x1024_1_0_0_1_n_n none a0 a1)

/-- The rows divided by their root mean squares. -/
abbrev XH (x : FVec Ideal Cert.Reference11Ideal.S4096x1024 .f32) : FVec Ideal Cert.Reference11Ideal.S4096x1024 .f32 := mulf x (broadcastInDim Cert.Reference11Ideal.S4096x1024 ![0, 1] Cert.Reference11Ideal.Gen.bcast_S4096x1_S4096x1024_0_1 (INV x))

/-- The norm's weight on every row. -/
abbrev WB (w : FVec Ideal Cert.Reference11Ideal.S1024 .f32) : FVec Ideal Cert.Reference11Ideal.S4096x1024 .f32 :=
  broadcastInDim Cert.Reference11Ideal.S4096x1024 ![0, 1] Cert.Reference11Ideal.Gen.bcast_S1x1024_S4096x1024_0_1 (broadcastInDim Cert.Reference11Ideal.S1x1024 ![1] Cert.Reference11Ideal.Gen.bcast_S1024_S1x1024_1 w)

/-- What the norm's output misses the target by. -/
abbrev ERR (x : FVec Ideal Cert.Reference11Ideal.S4096x1024 .f32) (w : FVec Ideal Cert.Reference11Ideal.S1024 .f32) (a4 : FVec Ideal Cert.Reference11Ideal.S4096x1024 .f32) : FVec Ideal Cert.Reference11Ideal.S4096x1024 .f32 := subf (mulf (XH x) (WB w)) a4

/-- The loss's gradient at the norm's output. -/
abbrev DY (e : FVec Ideal Cert.Reference11Ideal.S4096x1024 .f32) : FVec Ideal Cert.Reference11Ideal.S4096x1024 .f32 :=
  mulf (broadcastInDim Cert.Reference11Ideal.S4096x1024 ![0] Cert.Reference11Ideal.Gen.bcast_S4096_S4096x1024_0 (Host.divf (ROW (mulf (constant Cert.Reference11Ideal.S_ .f32 0x3F000000#32) (constant Cert.Reference11Ideal.S_ .f32 0x3F800000#32))) (ROW (constant Cert.Reference11Ideal.S_ .f32 0x44800000#32))))
    (mulf (broadcastInDim Cert.Reference11Ideal.S4096x1024 ![] Cert.Reference11Ideal.Gen.bcast_S_S4096x1024 (constant Cert.Reference11Ideal.S_ .f32 0x40000000#32)) e)

/-- Each row's gradient of its mean square, spread over the row; `g` is the gradient of the row's quotient. -/
abbrev DSQ (x g : FVec Ideal Cert.Reference11Ideal.S4096x1024 .f32) : FVec Ideal Cert.Reference11Ideal.S4096x1024 .f32 :=
  broadcastInDim Cert.Reference11Ideal.S4096x1024 ![0] Cert.Reference11Ideal.Gen.bcast_S4096_S4096x1024_0 (Host.reduceAdd (Host.divf (mulf (shapeCast _ (Host.reduceAdd (mulf x g) (constant Cert.Reference11Ideal.S_ .f32 0x00000000#32) Cert.Reference11Ideal.Gen.reducesTo_S4096x1024_S4096_d1 Cert.Reference11Ideal.Gen.h_S_) Cert.Reference11Ideal.Gen.shapeCasts_S4096_S4096x1) (mulf (COL 0xBF000000#32) (Host.divf (INV x) (VAR x)))) (COL 0x44800000#32)) (constant Cert.Reference11Ideal.S_ .f32 0x00000000#32) Cert.Reference11Ideal.Gen.reducesTo_S4096x1_S4096_d1 Cert.Reference11Ideal.Gen.h_S_)

/-- The gradient of the norm's input `x`. -/
abbrev GX (x : FVec Ideal Cert.Reference11Ideal.S4096x1024 .f32) (w : FVec Ideal Cert.Reference11Ideal.S1024 .f32) (d : FVec Ideal Cert.Reference11Ideal.S4096x1024 .f32) : FVec Ideal Cert.Reference11Ideal.S4096x1024 .f32 :=
  addf (addf (mulf (mulf d (WB w)) (broadcastInDim Cert.Reference11Ideal.S4096x1024 ![0, 1] Cert.Reference11Ideal.Gen.bcast_S4096x1_S4096x1024_0_1 (INV x))) (mulf x (DSQ x (mulf d (WB w))))) (mulf (DSQ x (mulf d (WB w))) x)

/-- The gradient of the norm's weight. -/
abbrev GW (x d : FVec Ideal Cert.Reference11Ideal.S4096x1024 .f32) : FVec Ideal Cert.Reference11Ideal.S1x1024 .f32 :=
  shapeCast _ (Host.reduceAdd (shapeCast _ (Host.reduceAdd (mulf (XH x) d) (constant Cert.Reference11Ideal.S_ .f32 0x00000000#32) Cert.Reference11Ideal.Gen.reducesTo_S4096x1024_S1024_d0 Cert.Reference11Ideal.Gen.h_S_) Cert.Reference11Ideal.Gen.shapeCasts_S1024_S1x1024) (constant Cert.Reference11Ideal.S_ .f32 0x00000000#32) Cert.Reference11Ideal.Gen.reducesTo_S1x1024_S1024_d0 Cert.Reference11Ideal.Gen.h_S_) Cert.Reference11Ideal.Gen.shapeCasts_S1024_S1x1024

/-- Half the sum of the rows' mean squares. -/
abbrev LOSS (e : FVec Ideal Cert.Reference11Ideal.S4096x1024 .f32) : FVec Ideal Cert.Reference11Ideal.S1x1 .f32 :=
  shapeCast _ (mulf (constant Cert.Reference11Ideal.S_ .f32 0x3F000000#32) (Host.reduceAdd (Host.divf (Host.reduceAdd (mulf e e) (constant Cert.Reference11Ideal.S_ .f32 0x00000000#32) Cert.Reference11Ideal.Gen.reducesTo_S4096x1024_S4096_d1 Cert.Reference11Ideal.Gen.h_S_) (ROW (constant Cert.Reference11Ideal.S_ .f32 0x44800000#32))) (constant Cert.Reference11Ideal.S_ .f32 0x00000000#32) Cert.Reference11Ideal.Gen.reducesTo_S4096_S_d0 Cert.Reference11Ideal.Gen.h_S_)) Cert.Reference11Ideal.Gen.shapeCasts_S_S1x1

/-- The reference's gradient of the residual stream. -/
abbrev REF0 (a0 : FVec Ideal Cert.Reference11Ideal.S4096x2816 .f32) (a1 : FVec Ideal Cert.Reference11Ideal.S2816x1024 .f32) (a2 : FVec Ideal Cert.Reference11Ideal.S4096x1024 .f32) (a3 : FVec Ideal Cert.Reference11Ideal.S1024 .f32) (a4 : FVec Ideal Cert.Reference11Ideal.S4096x1024 .f32) : FVec Ideal Cert.Reference11Ideal.S4096x1024 .f32 := GX (X2 a0 a1 a2) a3 (DY (ERR (X2 a0 a1 a2) a3 a4))

/-- The same, rounded. -/
abbrev REF1 (a0 : FVec Ideal Cert.Reference11Ideal.S4096x2816 .f32) (a1 : FVec Ideal Cert.Reference11Ideal.S2816x1024 .f32) (a2 : FVec Ideal Cert.Reference11Ideal.S4096x1024 .f32) (a3 : FVec Ideal Cert.Reference11Ideal.S1024 .f32) (a4 : FVec Ideal Cert.Reference11Ideal.S4096x1024 .f32) : FVec Ideal Cert.Reference11Ideal.S4096x1024 .bf16 := truncf .bf16 (REF0 a0 a1 a2 a3 a4) Cert.Reference11Ideal.Gen.bitsLt_bf16_f32

/-- The reference's gradient of the final norm's weight. -/
abbrev REF2 (a0 : FVec Ideal Cert.Reference11Ideal.S4096x2816 .f32) (a1 : FVec Ideal Cert.Reference11Ideal.S2816x1024 .f32) (a2 : FVec Ideal Cert.Reference11Ideal.S4096x1024 .f32) (a3 : FVec Ideal Cert.Reference11Ideal.S1024 .f32) (a4 : FVec Ideal Cert.Reference11Ideal.S4096x1024 .f32) : FVec Ideal Cert.Reference11Ideal.S1x1024 .f32 := GW (X2 a0 a1 a2) (DY (ERR (X2 a0 a1 a2) a3 a4))

/-- The reference's loss. -/
abbrev REF3 (a0 : FVec Ideal Cert.Reference11Ideal.S4096x2816 .f32) (a1 : FVec Ideal Cert.Reference11Ideal.S2816x1024 .f32) (a2 : FVec Ideal Cert.Reference11Ideal.S4096x1024 .f32) (a3 : FVec Ideal Cert.Reference11Ideal.S1024 .f32) (a4 : FVec Ideal Cert.Reference11Ideal.S4096x1024 .f32) : FVec Ideal Cert.Reference11Ideal.S1x1 .f32 := LOSS (ERR (X2 a0 a1 a2) a3 a4)

/-! ## Real arithmetic -/

/-- Half of twice a number, over 1024, is the number times 1/1024. -/
theorem scale (e : EReal) : Ideal.div (Ideal.ofBits .f32 1056964608#32) (Ideal.ofBits .f32 1149239296#32) * (Ideal.ofBits .f32 1073741824#32 * e)
    = e * Ideal.ofBits .f32 981467136#32 := by
  have h1 : Ideal.ofBits .f32 1056964608#32 = ((1 / 2 : ℝ) : EReal) := by simp [Ideal.ofBits, Ideal.ieee, -EReal.coe_mul]; norm_num
  have h3 : Ideal.ofBits .f32 1073741824#32 = ((2 : ℝ) : EReal) := by simp [Ideal.ofBits, Ideal.ieee, -EReal.coe_mul]; norm_num
  have h4 : Ideal.ofBits .f32 981467136#32 = ((1 / 1024 : ℝ) : EReal) := by simp [Ideal.ofBits, Ideal.ieee, -EReal.coe_mul]; norm_num
  rw [h1, h3, h4, RmsNorm.n_eq, Finite.div_real _ (by norm_num), ← mul_assoc, ← EReal.coe_mul, mul_comm]
  congr 2
  norm_num

/-- Half of a sum is the sum of the halves. -/
theorem half_sum {ι : Type} (S : Finset ι) (f : ι → EReal) : ∑ i ∈ S, Ideal.ofBits .f32 1056964608#32 * f i = Ideal.ofBits .f32 1056964608#32 * ∑ i ∈ S, f i := by
  have h1 : Ideal.ofBits .f32 1056964608#32 = ((1 / 2 : ℝ) : EReal) := by simp [Ideal.ofBits, Ideal.ieee, -EReal.coe_mul]; norm_num
  rw [h1]
  classical
  induction S using Finset.induction_on with
  | empty => simp
  | insert a S ha ih => rw [Finset.sum_insert ha, Finset.sum_insert ha, ih, EReal.left_distrib_of_nonneg_of_ne_top (by exact_mod_cast (by norm_num : (0 : ℝ) ≤ 1 / 2)) (EReal.coe_ne_top _)]

/-- Each window's block index at every grid point, decided. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- A grid point's rows of the residual stream. -/
theorem rows (c : Dev nD) (t : Fin cfg0.N) (p : Fin 4096) (k : Fin 256) (q : Fin 1024) (hpk : p.val = t.val * 256 + k.val) :
    k0_pay7 (iblk m c 2 t) (iblk m c 0 t) (iblk m c 1 t) (ix2 k q) = (X2 (m ((c : Thread nD τ).loc main_arg0)) (m ((c : Thread nD τ).loc main_arg1)) (m ((c : Thread nD τ).loc main_arg2))) (ix2 p q) := by
  obtain ⟨p, h⟩ := p
  obtain rfl : p = _ := hpk
  pointwise [k0_pay7, X2]
  refine congrArg₂ (· + ·) (by blk_point [iblk, V, idx t]) (Finset.sum_congr rfl fun x _ => congrArg₂ (· * ·) ?_ ?_)
  · blk_simp [iblk, idx t]; entry_read; pointwise; blk_ext [idx t]
  · blk_simp [iblk, idx t]; entry_read; pointwise; blk_ext [idx t]

/-- The weight that a grid point reads. -/
theorem weight (c : Dev nD) (t : Fin cfg0.N) (q : Fin 1024) : iblk m c 3 t (ix2 0 q) = (m ((c : Thread nD τ).loc main_arg3)) (ix1 q) := by
  blk_simp [iblk, idx t]; entry_read; pointwise; blk_ext [idx t]

/-- A grid point's rows of what the norm's output misses the target by. -/
theorem err (c : Dev nD) (t : Fin cfg0.N) (p : Fin 4096) (k : Fin 256) (q : Fin 1024) (hpk : p.val = t.val * 256 + k.val) :
    k0_pay9 (iblk m c 2 t) (iblk m c 0 t) (iblk m c 1 t) (iblk m c 3 t) (iblk m c 4 t) (ix2 k q) = ERR (X2 (m ((c : Thread nD τ).loc main_arg0)) (m ((c : Thread nD τ).loc main_arg1)) (m ((c : Thread nD τ).loc main_arg2))) (m ((c : Thread nD τ).loc main_arg3)) (m ((c : Thread nD τ).loc main_arg4)) (ix2 p q) := by
  have hx := fun q => rows m c t p k q hpk
  have hw := weight m c t
  have ht : iblk m c 4 t (ix2 k q) = m ((c : Thread nD τ).loc main_arg4) (ix2 p q) := by
    obtain ⟨p, h⟩ := p
    obtain rfl : p = _ := hpk
    blk_point [iblk, V, idx t]
  generalize (X2 (m ((c : Thread nD τ).loc main_arg0)) (m ((c : Thread nD τ).loc main_arg1)) (m ((c : Thread nD τ).loc main_arg2))) = x at hx ⊢
  pointwise [k0_pay8, k0_pay9, ERR]
  simp only [hx, ht]
  exact congrArg (· - _) (Ideal.mul_congr rfl (hw _))

/-- A grid point's rows of the loss's gradient at the norm's output. -/
theorem dy (c : Dev nD) (t : Fin cfg0.N) (p : Fin 4096) (k : Fin 256) (q : Fin 1024) (hpk : p.val = t.val * 256 + k.val) :
    k0_pay10 (iblk m c 2 t) (iblk m c 0 t) (iblk m c 1 t) (iblk m c 3 t) (iblk m c 4 t) (ix2 k q) = DY (ERR (X2 (m ((c : Thread nD τ).loc main_arg0)) (m ((c : Thread nD τ).loc main_arg1)) (m ((c : Thread nD τ).loc main_arg2))) (m ((c : Thread nD τ).loc main_arg3)) (m ((c : Thread nD τ).loc main_arg4))) (ix2 p q) := by
  have h := err m c t p k q hpk
  generalize ERR (X2 (m ((c : Thread nD τ).loc main_arg0)) (m ((c : Thread nD τ).loc main_arg1)) (m ((c : Thread nD τ).loc main_arg2))) (m ((c : Thread nD τ).loc main_arg3)) (m ((c : Thread nD τ).loc main_arg4)) = e at h ⊢
  pointwise [k0_pay10, DY]
  rw [h]
  exact (scale _).symm

/-- Arrays that pass the check are arrays of reals. -/
theorem reals {a0 : FVec Ideal Cert.Reference11Ideal.S4096x2816 .f32} {a1 : FVec Ideal Cert.Reference11Ideal.S2816x1024 .f32} {a2 : FVec Ideal Cert.Reference11Ideal.S4096x1024 .f32} {a3 : FVec Ideal Cert.Reference11Ideal.S1024 .f32} {a4 : FVec Ideal Cert.Reference11Ideal.S4096x1024 .f32}
    (h : Cert.Pre_loss_finite.fn (F := Ideal) a0 a1 a2 a3 a4 = fun _ => 1#1) :
    (∀ i, ∃ r : ℝ, X2 a0 a1 a2 i = r) ∧ (∀ i, ∃ r : ℝ, a3 i = r) ∧ ∀ i, ∃ r : ℝ, a4 i = r := by
  have h := congrFun h ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have z : ∀ (s) (hb : Cert.Pre_loss_finite.S_.BroadcastsInDim s ![]) (i), broadcastInDim s ![] hb (constant (F := Ideal) Cert.Pre_loss_finite.S_ .f32 0x00000000#32) i = 0 := by
    intro s hb i
    pointwise
  replace h0 := Finite.of_check _ _ (z _ _) _ _ _ _ h0
  replace h1 := Finite.of_check _ _ (z _ _) _ _ _ _ h1
  replace h2 := Finite.of_check _ _ (z _ _) _ _ _ _ h2
  refine ⟨fun i => ?_, Finite.of_check _ _ (z _ _) _ _ _ _ h3, Finite.of_check _ _ (z _ _) _ _ _ _ h4⟩
  pointwise [X2]
  exact Finite.add_real (h2 _) (Finite.dot_real _ _ _ (fun _ => h0 _) fun _ => h1 _)

/-- The loss's gradient at the norm's output is real when the norm's input, its weight and the target are. -/
theorem dy_real {x : FVec Ideal Cert.Reference11Ideal.S4096x1024 .f32} {w : FVec Ideal Cert.Reference11Ideal.S1024 .f32} {y : FVec Ideal Cert.Reference11Ideal.S4096x1024 .f32} (hx : ∀ i, ∃ r : ℝ, x i = r) (hw : ∀ i, ∃ r : ℝ, w i = r)
    (hy : ∀ i, ∃ r : ℝ, y i = r) (p : Fin 4096) (q : Fin 1024) : ∃ r : ℝ, DY (ERR x w y) (ix2 p q) = r := by
  choose X hX using hx
  obtain ⟨b, hb⟩ := hw (ix1 q)
  obtain ⟨d, hd⟩ := hy (ix2 p q)
  obtain ⟨v, hv, e⟩ := RmsNorm.var_pos fun k => X (ix2 p k)
  have h4 : Ideal.ofBits .f32 981467136#32 = ((1 / 1024 : ℝ) : EReal) := by simp [Ideal.ofBits, Ideal.ieee, -EReal.coe_mul]; norm_num
  refine ⟨(X (ix2 p q) * (Real.sqrt v)⁻¹ * b - d) * (1 / 1024), ?_⟩
  pointwise [DY, ERR]
  refine (scale _).trans ?_
  rw [EReal.coe_mul, EReal.coe_sub, EReal.coe_mul, EReal.coe_mul]
  refine Ideal.mul_congr (congrArg₂ (· - ·) (Ideal.mul_congr (Ideal.mul_congr (hX _) ?_) hb) hd) h4
  simp only [hX]
  exact (congrArg Ideal.rsqrt e).trans (Finite.rsqrt_real hv)

/-- What a grid point stores of the gradient of the residual stream. -/
theorem point0 (c : Dev nD) (hp : Cert.Pre_loss_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) (t : Fin cfg0.N) (p : Fin 4096) (k : Fin 256) (q : Fin 1024) (hpk : p.val = t.val * 256 + k.val) :
    k0_pay1 (k0_pay11 (iblk m c 2 t) (iblk m c 0 t) (iblk m c 1 t)) (k0_pay12 (iblk m c 2 t) (iblk m c 0 t) (iblk m c 1 t)) (k0_pay13 (iblk m c 2 t) (iblk m c 0 t) (iblk m c 1 t) (iblk m c 3 t) (iblk m c 4 t)) (k0_pay14 (iblk m c 2 t) (iblk m c 0 t) (iblk m c 1 t) (iblk m c 3 t) (iblk m c 4 t)) (ix2 k q) = REF0 (m ((c : Thread nD τ).loc main_arg0)) (m ((c : Thread nD τ).loc main_arg1)) (m ((c : Thread nD τ).loc main_arg2)) (m ((c : Thread nD τ).loc main_arg3)) (m ((c : Thread nD τ).loc main_arg4)) (ix2 p q) := by
  obtain ⟨h0, h1, h2⟩ := reals hp
  have hd : ∀ q, k0_pay10 (iblk m c 2 t) (iblk m c 0 t) (iblk m c 1 t) (iblk m c 3 t) (iblk m c 4 t) (ix2 k q) = _ := fun q => dy m c t p k q hpk
  have hr := dy_real h0 h1 h2 p
  have hx := fun q => rows m c t p k q hpk
  have hw := weight m c t
  unfold REF0
  generalize DY (ERR (X2 (m ((c : Thread nD τ).loc main_arg0)) (m ((c : Thread nD τ).loc main_arg1)) (m ((c : Thread nD τ).loc main_arg2))) (m ((c : Thread nD τ).loc main_arg3)) (m ((c : Thread nD τ).loc main_arg4))) = d at hd hr ⊢
  generalize (X2 (m ((c : Thread nD τ).loc main_arg0)) (m ((c : Thread nD τ).loc main_arg1)) (m ((c : Thread nD τ).loc main_arg2))) = x at h0 hx ⊢
  pointwise [k0_pay1, k0_pay8, k0_pay11, k0_pay12, k0_pay13, k0_pay14, GX]
  simp only [hd, hx]
  refine Eq.trans ?_ ((RmsNorm.grad (fun k => x (ix2 p k)) (fun k => d (ix2 p k) * (m ((c : Thread nD τ).loc main_arg3)) (ix1 k)) (fun k => h0 _) (fun k => ?_)
    0 _ _ rfl rfl q).trans ?_)
  · refine Eq.trans ?_ ((fun e : EReal => (zero_add e).symm) _)
    refine congrArg₂ (· * ·) rfl (congrArg₂ (· - ·) (Ideal.mul_congr rfl (hw _)) (congrArg₂ (· * ·) rfl (congrArg (Ideal.div · _) (Finset.sum_congr rfl fun k _ => Ideal.mul_congr (Ideal.mul_congr rfl (hw _)) rfl))))
  · obtain ⟨d, hd⟩ := hr k
    obtain ⟨w, hw⟩ := h1 (ix1 k)
    exact ⟨d * w, (Ideal.mul_congr hd hw).trans (EReal.coe_mul _ _).symm⟩
  · rw [zero_add]

/-- What a grid point stores of it, rounded. -/
theorem point1 (c : Dev nD) (hp : Cert.Pre_loss_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) (t : Fin cfg0.N) (p : Fin 4096) (k : Fin 256) (q : Fin 1024) (hpk : p.val = t.val * 256 + k.val) :
    k0_pay2 (k0_pay11 (iblk m c 2 t) (iblk m c 0 t) (iblk m c 1 t)) (k0_pay12 (iblk m c 2 t) (iblk m c 0 t) (iblk m c 1 t)) (k0_pay13 (iblk m c 2 t) (iblk m c 0 t) (iblk m c 1 t) (iblk m c 3 t) (iblk m c 4 t)) (k0_pay14 (iblk m c 2 t) (iblk m c 0 t) (iblk m c 1 t) (iblk m c 3 t) (iblk m c 4 t)) (ix2 k q) = REF1 (m ((c : Thread nD τ).loc main_arg0)) (m ((c : Thread nD τ).loc main_arg1)) (m ((c : Thread nD τ).loc main_arg2)) (m ((c : Thread nD τ).loc main_arg3)) (m ((c : Thread nD τ).loc main_arg4)) (ix2 p q) := by
  have h := point0 m c hp t p k q hpk
  unfold REF1
  generalize REF0 (m ((c : Thread nD τ).loc main_arg0)) (m ((c : Thread nD τ).loc main_arg1)) (m ((c : Thread nD τ).loc main_arg2)) (m ((c : Thread nD τ).loc main_arg3)) (m ((c : Thread nD τ).loc main_arg4)) = d at h ⊢
  pointwise [k0_pay2]
  exact h

/-- The gradient of the residual stream after the run: the blocks tile the array. -/
theorem final0 (c : Dev nD) (hp : Cert.Pre_loss_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have e : ((cfg0.win 5).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_5]
  by_cases h : t.val % 16 = 0
  · rw [outsAt0_A m c t h]
    frame_out
    exact (congrArg _ ey).trans ((point0 m c hp t _ (y 0) (y 1) rfl).trans (congrArg _ e.symm))
  · rw [outsAt0_B m c t h]
    frame_out
    exact (congrArg _ ey).trans ((point0 m c hp t _ (y 0) (y 1) rfl).trans (congrArg _ e.symm))

/-- The same, rounded, after the run: the blocks tile the array. -/
theorem final1 (c : Dev nD) (hp : Cert.Pre_loss_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e : ((cfg0.win 6).blk t).view.emb y = ix2 ⟨t.val * 256 + (y 0).val, by have : t.val < 16 := t.isLt; have : (y 0).val < 256 := (y 0).isLt; omega⟩ (y 1) := by blk_ext [idx t]
  have ey : y = ix2 (y 0) (y 1) := by blk_ext
  blk_simp
  rw [after0_6]
  by_cases h : t.val % 16 = 0
  · rw [outsAt0_A m c t h]
    frame_out
    exact (congrArg _ ey).trans ((point1 m c hp t _ (y 0) (y 1) rfl).trans (congrArg _ e.symm))
  · rw [outsAt0_B m c t h]
    frame_out
    exact (congrArg _ ey).trans ((point1 m c hp t _ (y 0) (y 1) rfl).trans (congrArg _ e.symm))

/-- The weight's gradient starts at zero. -/
theorem zero2 (j : S1x1024.Idx) : k0_pay3 (F := Ideal) j = 0 := by
  pointwise! [k0_pay3]

/-- A grid point adds its part to it. -/
theorem step2 (v24 v34 : FVec Ideal S256x1024 .f32) (v56 : Vec Ideal S1x1024 .f32) (j : S1x1024.Idx) :
    k0_pay5 v24 v34 v56 j = v56 j + k0_pay5 v24 v34 (fun _ => 0) j := by
  pointwise [k0_pay5]

set_option maxHeartbeats 2000000 in
/-- The gradient of the norm's weight after the run: the sum of the grid points' parts. -/
theorem final2 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [step2, zero2])
    (fun t h j => by rw [outsAt0_B m c t h]; frame_out; rw [step2])
    (le_of_eq N_0) t0_15 rfl j, zero_add]
  have hd := dy m c
  have hx := rows m c
  unfold REF2
  generalize DY (ERR (X2 (m ((c : Thread nD τ).loc main_arg0)) (m ((c : Thread nD τ).loc main_arg1)) (m ((c : Thread nD τ).loc main_arg2))) (m ((c : Thread nD τ).loc main_arg3)) (m ((c : Thread nD τ).loc main_arg4))) = d at hd ⊢
  generalize (X2 (m ((c : Thread nD τ).loc main_arg0)) (m ((c : Thread nD τ).loc main_arg1)) (m ((c : Thread nD τ).loc main_arg2))) = x at hx ⊢
  pointwise [k0_pay5, k0_pay11, k0_pay12, GW]
  refine Eq.trans ?_ (Fin.sum_univ_one (M := EReal) _).symm
  refine Fin.sum_mul_add_congr fun s k hl => Finite.mul_swap ?_ ?_
  · refine Ideal.mul_congr (hx s ⟨s.val * 256 + k.val, hl⟩ k _ rfl) ?_
    simp only [hx s ⟨s.val * 256 + k.val, hl⟩ k _ rfl]
  · exact hd s ⟨s.val * 256 + k.val, hl⟩ k (j 1) rfl

/-- The loss starts at zero. -/
theorem zero3 (j : S1x1.Idx) : k0_pay4 (F := Ideal) j = 0 := by
  pointwise! [k0_pay4]

/-- A grid point adds its part to it. -/
theorem step3 (v22 : FVec Ideal S256x1024 .f32) (v60 : Vec Ideal S1x1 .f32) (j : S1x1.Idx) :
    k0_pay6 v22 v60 j = v60 j + k0_pay6 v22 (fun _ => 0) j := by
  pointwise [k0_pay6]

set_option maxHeartbeats 2000000 in
/-- The loss after the run: the sum of the grid points' parts. -/
theorem final3 (c : Dev nD) : (dats m 0 c).arrAt 8 (cfgs 0).N = REF3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => by rw [outsAt0_A m c t h]; frame_out; rw [step3, zero3])
    (fun t h j => by rw [outsAt0_B m c t h]; frame_out; rw [step3])
    (le_of_eq N_0) t0_15 rfl j, zero_add]
  have he := err m c
  unfold REF3
  generalize ERR (X2 (m ((c : Thread nD τ).loc main_arg0)) (m ((c : Thread nD τ).loc main_arg1)) (m ((c : Thread nD τ).loc main_arg2))) (m ((c : Thread nD τ).loc main_arg3)) (m ((c : Thread nD τ).loc main_arg4)) = e at he ⊢
  pointwise [k0_pay6, LOSS]
  refine (half_sum _ _).trans (congrArg _ ?_)
  refine Fin.sum_mul_add_congr fun s k hl => congrArg (Ideal.div · _) (Finset.sum_congr rfl fun q _ => ?_)
  exact Ideal.mul_congr (he s ⟨s.val * 256 + k.val, hl⟩ k q rfl) (he s ⟨s.val * 256 + k.val, hl⟩ k q rfl)

end Cert.Kernel11Ideal.Value

end
-- ==== Proof.Claims11.lean ====
/- The claims about `Cert.Kernel11`, its ideal reading and its reference: the frames, the reading, and the values. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Pre_loss_finite
public import proofs.«01_k».proof.Proof.Loss
public import Idealize.ShloMosaic.Lib.Claim

@[expose] public section

noncomputable section

namespace Cert.Claims11

open Idealize.ShloMosaic Idealize.SL.Sem

theorem frame_kernel : Cert.quiescent_Kernel11 := fun m ρ _ => Cert.Kernel11.Gen.frame m ρ

theorem frame_ideal : Cert.quiescent_Kernel11Ideal := fun m ρ _ => Cert.Kernel11Ideal.Gen.frame m ρ

/-- The reference declares no semaphore, and none of its operations writes an argument. -/
theorem frame_reference : Cert.quiescent_Reference11Ideal := fun m ρ _ =>
  (θ_run Cert.Reference11Ideal.defs _ _).mono
    (fun r h => ⟨fun c => (h c).2.2.2.2, sem_eq_zero_of_no_sems (by decide) r.2⟩)
    (Cert.Reference11Ideal.Value.run m ρ)

theorem preserves : Cert.preserves_Kernel11_Kernel11Ideal := trivial

theorem frame_ideal_pre : Cert.quiescent_Kernel11Ideal_pre_loss_finite := fun m ρ _ => Cert.Kernel11Ideal.Gen.frame m ρ

theorem frame_reference_pre : Cert.quiescent_Reference11Ideal_pre_loss_finite := fun m ρ _ => frame_reference m ρ trivial

set_option maxHeartbeats 2000000 in
/-- The kernel's ideal results are the reference's. -/
theorem algebraic : Cert.algebraic_Kernel11Ideal_Reference11Ideal_pre_loss_finite := by
  pair_intro
  · run_from Cert.Kernel11Ideal.Gen.run_main m g
  · refine θ_run_mono (Cert.Reference11Ideal.Value.run m' g') fun r hr c => ?_
    obtain ⟨e0, e1, e2, e3, e4⟩ := hagree c
    have h0 : r.2.mem ((c.tc : Thread Cert.Reference11Ideal.nD Cert.Reference11Ideal.τ).loc Cert.Reference11Ideal.main_v52) = Cert.Kernel11Ideal.Value.REF0 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) := (hr c).1
    rw [e0, e1, e2, e3, e4] at h0
    replace h0 := h0.trans (Cert.Kernel11Ideal.Value.final0 m c (hpre c)).symm
    have h1 : r.2.mem ((c.tc : Thread Cert.Reference11Ideal.nD Cert.Reference11Ideal.τ).loc Cert.Reference11Ideal.main_v53) = Cert.Kernel11Ideal.Value.REF1 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) := (hr c).2.1
    rw [e0, e1, e2, e3, e4] at h1
    replace h1 := h1.trans (Cert.Kernel11Ideal.Value.final1 m c (hpre c)).symm
    have h2 : r.2.mem ((c.tc : Thread Cert.Reference11Ideal.nD Cert.Reference11Ideal.τ).loc Cert.Reference11Ideal.main_v54) = Cert.Kernel11Ideal.Value.REF2 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) := (hr c).2.2.1
    rw [e0, e1, e2, e3, e4] at h2
    replace h2 := h2.trans (Cert.Kernel11Ideal.Value.final2 m c).symm
    have h3 : r.2.mem ((c.tc : Thread Cert.Reference11Ideal.nD Cert.Reference11Ideal.τ).loc Cert.Reference11Ideal.main_v55) = Cert.Kernel11Ideal.Value.REF3 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) := (hr c).2.2.2.1
    rw [e0, e1, e2, e3, e4] at h3
    replace h3 := h3.trans (Cert.Kernel11Ideal.Value.final3 m c).symm
    exact ⟨h0, h1, h2, h3, (hr c).2.2.2.2⟩

end Cert.Claims11

end
-- ==== Proof.AdamWIn.lean ====
/- The value of `Cert.Kernel14Ideal`: the update and the two moments that the optimiser's step of w_in leaves are the reference's. -/
module

public import proofs.«01_k».proof.Proof.Gen.Kernel14Ideal.Frame
public import proofs.«01_k».proof.Proof.Gen.Reference14Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ)

/-! ## The reference's terms, of the weight `w`, its gradient `g` and its moments `a`, `b` -/

/-- The array of one constant. -/
abbrev CONST (k : BitVec 32) : FVec Ideal Cert.Reference14Ideal.S1x1024x840 .f32 := broadcastInDim Cert.Reference14Ideal.S1x1024x840 ![] Cert.Reference14Ideal.Gen.bcast_S_S1x1024x840 (constant Cert.Reference14Ideal.S_ .f32 k)

/-- The new first moment. -/
abbrev REF1 (g a : FVec Ideal Cert.Reference14Ideal.S1x1024x840 .f32) : FVec Ideal Cert.Reference14Ideal.S1x1024x840 .f32 := addf (mulf (CONST 0x3F666666#32) a) (mulf (CONST 0x3DCCCCCD#32) g)

/-- The new second moment. -/
abbrev REF2 (g b : FVec Ideal Cert.Reference14Ideal.S1x1024x840 .f32) : FVec Ideal Cert.Reference14Ideal.S1x1024x840 .f32 := addf (mulf (CONST 0x3F7FBE77#32) b) (mulf (CONST 0x3A83126F#32) (mulf g g))

/-- The update. -/
abbrev REF0 (w g a b : FVec Ideal Cert.Reference14Ideal.S1x1024x840 .f32) : FVec Ideal Cert.Reference14Ideal.S1x1024x840 .f32 :=
  mulf (CONST 0xBA83126F#32) (addf
    (Host.divf (Host.divf (REF1 g a) (CONST 0x3F26BD02#32)) (addf (Host.sqrt (Host.divf (REF2 g b) (CONST 0x3C231ACC#32))) (CONST 0x322BCC77#32)))
    (mulf (CONST 0x3C23D70A#32) w))

/-- Each window's block index at every grid point, decided. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- What a grid point stores of the update. -/
theorem point0 (c : Dev nD) (t : Fin cfg0.N) (y) :
    k0_pay6 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0, REF1, REF2, CONST]
  blk_point [iblk, V, idx t]

/-- It after the run: the blocks tile the array. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point0 m c t y

/-- What a grid point stores of the first moment. -/
theorem point1 (c : Dev nD) (t : Fin cfg0.N) (y) :
    k0_pay1 (k0_pay4 (iblk m c 1 t) (iblk m c 2 t)) y = REF1 (m ((c : Thread nD τ).loc main_arg1)) (m ((c : Thread nD τ).loc main_arg2)) (((cfg0.win 5).blk t).view.emb y) := by
  pointwise [k0_pay1, k0_pay2, k0_pay3, k0_pay4, k0_pay5, k0_pay6, REF1, CONST]
  blk_point [iblk, V, idx t]

/-- It after the run: the blocks tile the array. -/
theorem final1 (c : Dev nD) : (dats m 0 c).arrAt 5 (cfgs 0).N = REF1 (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point1 m c t y

/-- What a grid point stores of the second moment. -/
theorem point2 (c : Dev nD) (t : Fin cfg0.N) (y) :
    k0_pay2 (k0_pay5 (iblk m c 1 t) (iblk m c 3 t)) y = REF2 (m ((c : Thread nD τ).loc main_arg1)) (m ((c : Thread nD τ).loc main_arg3)) (((cfg0.win 6).blk t).view.emb y) := by
  pointwise [k0_pay1, k0_pay2, k0_pay3, k0_pay4, k0_pay5, k0_pay6, REF2, CONST]
  blk_point [iblk, V, idx t]

/-- It after the run: the blocks tile the array. -/
theorem final2 (c : Dev nD) : (dats m 0 c).arrAt 6 (cfgs 0).N = REF2 (m ((c : Thread nD τ).loc main_arg1)) (m ((c : Thread nD τ).loc main_arg3)) := by
  refine (dats m 0 c).arrAt_eq_of_covers 6 _ (by decide +kernel) fun t hf y => ?_
  blk_simp
  rw [after0_6]
  frame_out
  exact point2 m c t y

end Cert.Kernel14Ideal.Value

end
-- ==== Proof.Claims14.lean ====
/- The claims about `Cert.Kernel14`, its ideal reading and its reference: the frames, the reading, and the values. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.AdamWIn
public import Idealize.ShloMosaic.Lib.Claim

@[expose] public section

noncomputable section

namespace Cert.Claims14

open Idealize.ShloMosaic Idealize.SL.Sem

theorem frame_kernel : Cert.quiescent_Kernel14 := fun m ρ _ => Cert.Kernel14.Gen.frame m ρ

theorem frame_ideal : Cert.quiescent_Kernel14Ideal := fun m ρ _ => Cert.Kernel14Ideal.Gen.frame m ρ

/-- The reference declares no semaphore, and none of its operations writes an argument. -/
theorem frame_reference : Cert.quiescent_Reference14Ideal := fun m ρ _ =>
  (θ_run Cert.Reference14Ideal.defs _ _).mono
    (fun r h => ⟨fun c => (h c).2.2.2, sem_eq_zero_of_no_sems (by decide) r.2⟩)
    (Cert.Reference14Ideal.Value.run m ρ)

theorem preserves : Cert.preserves_Kernel14_Kernel14Ideal := trivial

set_option maxHeartbeats 2000000 in
/-- The kernel's ideal results are the reference's. -/
theorem algebraic : Cert.algebraic_Kernel14Ideal_Reference14Ideal := by
  pair_intro
  · run_from Cert.Kernel14Ideal.Gen.run_main m g
  · refine θ_run_mono (Cert.Reference14Ideal.Value.run m' g') fun r hr c => ?_
    obtain ⟨e0, e1, e2, e3⟩ := hagree c
    have h0 : r.2.mem ((c.tc : Thread Cert.Reference14Ideal.nD Cert.Reference14Ideal.τ).loc Cert.Reference14Ideal.main_v23) = Cert.Kernel14Ideal.Value.REF0 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) := (hr c).1
    rw [e0, e1, e2, e3] at h0
    replace h0 := h0.trans (Cert.Kernel14Ideal.Value.final0 m c).symm
    have h1 : r.2.mem ((c.tc : Thread Cert.Reference14Ideal.nD Cert.Reference14Ideal.τ).loc Cert.Reference14Ideal.main_v4) = Cert.Kernel14Ideal.Value.REF1 (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) := (hr c).2.1
    rw [e1, e2] at h1
    replace h1 := h1.trans (Cert.Kernel14Ideal.Value.final1 m c).symm
    have h2 : r.2.mem ((c.tc : Thread Cert.Reference14Ideal.nD Cert.Reference14Ideal.τ).loc Cert.Reference14Ideal.main_v10) = Cert.Kernel14Ideal.Value.REF2 (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg3)) := (hr c).2.2.1
    rw [e1, e3] at h2
    replace h2 := h2.trans (Cert.Kernel14Ideal.Value.final2 m c).symm
    exact ⟨h0, h1, h2, (hr c).2.2.2⟩

end Cert.Claims14

end
-- ==== Proof.AdamWOut.lean ====
/- The value of `Cert.Kernel15Ideal`: the update and the two moments that the optimiser's step of w_out leaves are the reference's. -/
module

public import proofs.«01_k».proof.Proof.Gen.Kernel15Ideal.Frame
public import proofs.«01_k».proof.Proof.Gen.Reference15Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ)

/-! ## The reference's terms, of the weight `w`, its gradient `g` and its moments `a`, `b` -/

/-- The array of one constant. -/
abbrev CONST (k : BitVec 32) : FVec Ideal Cert.Reference15Ideal.S1x256x1024 .f32 := broadcastInDim Cert.Reference15Ideal.S1x256x1024 ![] Cert.Reference15Ideal.Gen.bcast_S_S1x256x1024 (constant Cert.Reference15Ideal.S_ .f32 k)

/-- The new first moment. -/
abbrev REF1 (g a : FVec Ideal Cert.Reference15Ideal.S1x256x1024 .f32) : FVec Ideal Cert.Reference15Ideal.S1x256x1024 .f32 := addf (mulf (CONST 0x3F666666#32) a) (mulf (CONST 0x3DCCCCCD#32) g)

/-- The new second moment. -/
abbrev REF2 (g b : FVec Ideal Cert.Reference15Ideal.S1x256x1024 .f32) : FVec Ideal Cert.Reference15Ideal.S1x256x1024 .f32 := addf (mulf (CONST 0x3F7FBE77#32) b) (mulf (CONST 0x3A83126F#32) (mulf g g))

/-- The update. -/
abbrev REF0 (w g a b : FVec Ideal Cert.Reference15Ideal.S1x256x1024 .f32) : FVec Ideal Cert.Reference15Ideal.S1x256x1024 .f32 :=
  mulf (CONST 0xBA83126F#32) (addf
    (Host.divf (Host.divf (REF1 g a) (CONST 0x3F26BD02#32)) (addf (Host.sqrt (Host.divf (REF2 g b) (CONST 0x3C231ACC#32))) (CONST 0x322BCC77#32)))
    (mulf (CONST 0x3C23D70A#32) w))

/-- Each window's block index at every grid point, decided. -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0] :=
  (by decide +kernel : ∀ t : Fin grid0.N, _)

/-- What a grid point stores of the update. -/
theorem point0 (c : Dev nD) (t : Fin cfg0.N) (y) :
    k0_pay6 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0, REF1, REF2, CONST]
  blk_point [iblk, V, idx t]

/-- It after the run: the blocks tile the array. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point0 m c t y

/-- What a grid point stores of the first moment. -/
theorem point1 (c : Dev nD) (t : Fin cfg0.N) (y) :
    k0_pay1 (k0_pay4 (iblk m c 1 t) (iblk m c 2 t)) y = REF1 (m ((c : Thread nD τ).loc main_arg1)) (m ((c : Thread nD τ).loc main_arg2)) (((cfg0.win 5).blk t).view.emb y) := by
  pointwise [k0_pay1, k0_pay2, k0_pay3, k0_pay4, k0_pay5, k0_pay6, REF1, CONST]
  blk_point [iblk, V, idx t]

/-- It after the run: the blocks tile the array. -/
theorem final1 (c : Dev nD) : (dats m 0 c).arrAt 5 (cfgs 0).N = REF1 (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point1 m c t y

/-- What a grid point stores of the second moment. -/
theorem point2 (c : Dev nD) (t : Fin cfg0.N) (y) :
    k0_pay2 (k0_pay5 (iblk m c 1 t) (iblk m c 3 t)) y = REF2 (m ((c : Thread nD τ).loc main_arg1)) (m ((c : Thread nD τ).loc main_arg3)) (((cfg0.win 6).blk t).view.emb y) := by
  pointwise [k0_pay1, k0_pay2, k0_pay3, k0_pay4, k0_pay5, k0_pay6, REF2, CONST]
  blk_point [iblk, V, idx t]

/-- It after the run: the blocks tile the array. -/
theorem final2 (c : Dev nD) : (dats m 0 c).arrAt 6 (cfgs 0).N = REF2 (m ((c : Thread nD τ).loc main_arg1)) (m ((c : Thread nD τ).loc main_arg3)) := by
  refine (dats m 0 c).arrAt_eq_of_covers 6 _ (by decide +kernel) fun t hf y => ?_
  blk_simp
  rw [after0_6]
  frame_out
  exact point2 m c t y

end Cert.Kernel15Ideal.Value

end
-- ==== Proof.Claims15.lean ====
/- The claims about `Cert.Kernel15`, its ideal reading and its reference: the frames, the reading, and the values. -/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.AdamWOut
public import Idealize.ShloMosaic.Lib.Claim

@[expose] public section

noncomputable section

namespace Cert.Claims15

open Idealize.ShloMosaic Idealize.SL.Sem

theorem frame_kernel : Cert.quiescent_Kernel15 := fun m ρ _ => Cert.Kernel15.Gen.frame m ρ

theorem frame_ideal : Cert.quiescent_Kernel15Ideal := fun m ρ _ => Cert.Kernel15Ideal.Gen.frame m ρ

/-- The reference declares no semaphore, and none of its operations writes an argument. -/
theorem frame_reference : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run m ρ)

theorem preserves : Cert.preserves_Kernel15_Kernel15Ideal := trivial

set_option maxHeartbeats 2000000 in
/-- The kernel's ideal results are the reference's. -/
theorem algebraic : Cert.algebraic_Kernel15Ideal_Reference15Ideal := by
  pair_intro
  · run_from Cert.Kernel15Ideal.Gen.run_main m g
  · refine θ_run_mono (Cert.Reference15Ideal.Value.run m' g') fun r hr c => ?_
    obtain ⟨e0, e1, e2, e3⟩ := hagree c
    have h0 : r.2.mem ((c.tc : Thread Cert.Reference15Ideal.nD Cert.Reference15Ideal.τ).loc Cert.Reference15Ideal.main_v23) = Cert.Kernel15Ideal.Value.REF0 (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) := (hr c).1
    rw [e0, e1, e2, e3] at h0
    replace h0 := h0.trans (Cert.Kernel15Ideal.Value.final0 m c).symm
    have h1 : r.2.mem ((c.tc : Thread Cert.Reference15Ideal.nD Cert.Reference15Ideal.τ).loc Cert.Reference15Ideal.main_v4) = Cert.Kernel15Ideal.Value.REF1 (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) := (hr c).2.1
    rw [e1, e2] at h1
    replace h1 := h1.trans (Cert.Kernel15Ideal.Value.final1 m c).symm
    have h2 : r.2.mem ((c.tc : Thread Cert.Reference15Ideal.nD Cert.Reference15Ideal.τ).loc Cert.Reference15Ideal.main_v10) = Cert.Kernel15Ideal.Value.REF2 (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg3)) := (hr c).2.2.1
    rw [e1, e3] at h2
    replace h2 := h2.trans (Cert.Kernel15Ideal.Value.final2 m c).symm
    exact ⟨h0, h1, h2, (hr c).2.2.2⟩

end Cert.Claims15

end
-- ==== Proof.AdamWGate.lean ====
/- The value of `Cert.Kernel16Ideal`: the update and the two moments that the optimiser's step of w_gate leaves are the reference's. -/
module

public import proofs.«01_k».proof.Proof.Gen.Kernel16Ideal.Frame
public import proofs.«01_k».proof.Proof.Gen.Reference16Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen

variable (m : (ℓ : Loc nD τ sig) → Buf (Elt Ideal) ℓ)

/-! ## The reference's terms, of the weight `w`, its gradient `g` and its moments `a`, `b` -/

/-- The array of one constant. -/
abbrev CONST (k : BitVec 32) : FVec Ideal Cert.Reference16Ideal.S1x1024x704 .f32 := broadcastInDim Cert.Reference16Ideal.S1x1024x704 ![] Cert.Reference16Ideal.Gen.bcast_S_S1x1024x704 (constant Cert.Reference16Ideal.S_ .f32 k)

/-- The new first moment. -/
abbrev REF1 (g a : FVec Ideal Cert.Reference16Ideal.S1x1024x704 .f32) : FVec Ideal Cert.Reference16Ideal.S1x1024x704 .f32 := addf (mulf (CONST 0x3F666666#32) a) (mulf (CONST 0x3DCCCCCD#32) g)

/-- The new second moment. -/
abbrev REF2 (g b : FVec Ideal Cert.Reference16Ideal.S1x1024x704 .f32) : FVec Ideal Cert.Reference16Ideal.S1x1024x704 .f32 := addf (mulf (CONST 0x3F7FBE77#32) b) (mulf (CONST 0x3A83126F#32) (mulf g g))

/-- The update. -/
abbrev REF0 (w g a b : FVec Ideal Cert.Reference16Ideal.S1x1024x704 .f32) : FVec Ideal Cert.Reference16Ideal.S1x1024x704 .f32 :=
  mulf (CONST 0xBA83126F#32) (addf
    (Host.divf (Host.divf (REF1 g a) (CONST 0x3F26BD02#32)) (addf (Host.sqrt (Host.divf (REF2 g b) (CONST 0x3C231ACC#32))) (CONST 0x322BCC77#32)))
    (mulf (CONST 0x3C23D70A#32) w))

/-- Each window's block index at every grid point, decided. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- What a grid point stores of the update. -/
theorem point0 (c : Dev nD) (t : Fin cfg0.N) (y) :
    k0_pay6 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0, REF1, REF2, CONST]
  blk_point [iblk, V, idx t]

/-- It after the run: the blocks tile the array. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point0 m c t y

/-- What a grid point stores of the first moment. -/
theorem point1 (c : Dev nD) (t : Fin cfg0.N) (y) :
    k0_pay1 (k0_pay4 (iblk m c 1 t) (iblk m c 2 t)) y = REF1 (m ((c : Thread nD τ).loc main_arg1)) (m ((c : Thread nD τ).loc main_arg2)) (((cfg0.win 5).blk t).view.emb y) := by
  pointwise [k0_pay1, k0_pay2, k0_pay3, k0_pay4, k0_pay5, k0_pay6, REF1, CONST]
  blk_point [iblk, V, idx t]

/-- It after the run: the blocks tile the array. -/
theorem final1 (c : Dev nD) : (dats m 0 c).arrAt 5 (cfgs 0).N = REF1 (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point1 m c t y

/-- What a grid point stores of the second moment. -/
theorem point2 (c : Dev nD) (t : Fin cfg0.N) (y) :
    k0_pay2 (k0_pay5 (iblk m c 1 t) (iblk m c 3 t)) y = REF2 (m ((c : Thread nD τ).loc main_arg1)) (m ((c : Thread nD τ).loc main_arg3)) (((cfg0.win 6).blk t).view.emb y) := by
  pointwise [k0_pay1, k0_pay2, k0_pay3, k0_pay4, k0_pay5, k0_pay6, REF2, CONST]
  blk_point [iblk, V, idx t]

/-- It after the run: the blocks tile the array. -/
theorem final2 (c : Dev nD) : (dats m 0 c).arrAt 6 (cfgs 0).N = REF2 (m ((c : Thread nD τ).loc main_arg1)) (m ((c : Thread nD τ).loc main_arg3)) := by
  refine (dats m 0 c).arrAt_eq_of_covers 6 _ (by decide +kernel) fun t hf y => ?_
  blk_simp
  rw [after0_6]
  frame_out
  exact point2 m c t y

end Cert.Kernel16Ideal.Value

end
-- ==== Proof.Claims16.lean ====
/- The claims about `Cert.Kernel16`, its ideal reading and its reference: the frames, the reading, and the values. -/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.AdamWGate
public import Idealize.ShloMosaic.Lib.Claim

@[expose] public section

noncomputable section

namespace Cert.Claims16

open Idealize.ShloMosaic Idealize.SL.Sem

theorem frame_kernel : Cert.quiescent_Kernel16 := fun m ρ _ => Cert.Kernel16.Gen.frame m ρ

theorem frame_ideal : Cert.quiescent_Kernel16Ideal := fun m ρ _ => Cert.Kernel16Ideal.Gen.frame m ρ

/-- The reference declares no semaphore, and none of its operations writes an argument. -/
theorem frame_reference : Cert.quiescent_Reference16Ideal := fun m ρ _ =>
  (θ_run Cert.Reference16Ideal.defs _ _).mono
    (fun r h => ⟨fun c => (h c).2.2.2, sem_eq_zero_of_no_sems (by decide) r.2⟩)
    (Cert.Reference16Ideal.Value.run m ρ)

theorem preserves : Cert.preserves_Kernel16_Kernel16Ideal := trivial

set_option maxHeartbeats 2000000 in
/-- The kernel's ideal results are the reference's. -/
theorem algebraic : Cert.algebraic_Kernel16Ideal_Reference16Ideal := by
  pair_intro
  · run_from Cert.Kernel16Ideal.Gen.run_main m g
  · refine θ_run_mono (Cert.Reference16Ideal.Value.run m' g') fun r hr c => ?_
    obtain ⟨e0, e1, e2, e3⟩ := hagree c
    have h0 : r.2.mem ((c.tc : Thread Cert.Reference16Ideal.nD Cert.Reference16Ideal.τ).loc Cert.Reference16Ideal.main_v23) = Cert.Kernel16Ideal.Value.REF0 (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) := (hr c).1
    rw [e0, e1, e2, e3] at h0
    replace h0 := h0.trans (Cert.Kernel16Ideal.Value.final0 m c).symm
    have h1 : r.2.mem ((c.tc : Thread Cert.Reference16Ideal.nD Cert.Reference16Ideal.τ).loc Cert.Reference16Ideal.main_v4) = Cert.Kernel16Ideal.Value.REF1 (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) := (hr c).2.1
    rw [e1, e2] at h1
    replace h1 := h1.trans (Cert.Kernel16Ideal.Value.final1 m c).symm
    have h2 : r.2.mem ((c.tc : Thread Cert.Reference16Ideal.nD Cert.Reference16Ideal.τ).loc Cert.Reference16Ideal.main_v10) = Cert.Kernel16Ideal.Value.REF2 (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg3)) := (hr c).2.2.1
    rw [e1, e3] at h2
    replace h2 := h2.trans (Cert.Kernel16Ideal.Value.final2 m c).symm
    exact ⟨h0, h1, h2, (hr c).2.2.2⟩

end Cert.Claims16

end
-- ==== Proof.AdamWUp.lean ====
/- The value of `Cert.Kernel17Ideal`: the update and the two moments that the optimiser's step of w_up leaves are the reference's. -/
module

public import proofs.«01_k».proof.Proof.Gen.Kernel17Ideal.Frame
public import proofs.«01_k».proof.Proof.Gen.Reference17Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ)

/-! ## The reference's terms, of the weight `w`, its gradient `g` and its moments `a`, `b` -/

/-- The array of one constant. -/
abbrev CONST (k : BitVec 32) : FVec Ideal Cert.Reference17Ideal.S1x1024x704 .f32 := broadcastInDim Cert.Reference17Ideal.S1x1024x704 ![] Cert.Reference17Ideal.Gen.bcast_S_S1x1024x704 (constant Cert.Reference17Ideal.S_ .f32 k)

/-- The new first moment. -/
abbrev REF1 (g a : FVec Ideal Cert.Reference17Ideal.S1x1024x704 .f32) : FVec Ideal Cert.Reference17Ideal.S1x1024x704 .f32 := addf (mulf (CONST 0x3F666666#32) a) (mulf (CONST 0x3DCCCCCD#32) g)

/-- The new second moment. -/
abbrev REF2 (g b : FVec Ideal Cert.Reference17Ideal.S1x1024x704 .f32) : FVec Ideal Cert.Reference17Ideal.S1x1024x704 .f32 := addf (mulf (CONST 0x3F7FBE77#32) b) (mulf (CONST 0x3A83126F#32) (mulf g g))

/-- The update. -/
abbrev REF0 (w g a b : FVec Ideal Cert.Reference17Ideal.S1x1024x704 .f32) : FVec Ideal Cert.Reference17Ideal.S1x1024x704 .f32 :=
  mulf (CONST 0xBA83126F#32) (addf
    (Host.divf (Host.divf (REF1 g a) (CONST 0x3F26BD02#32)) (addf (Host.sqrt (Host.divf (REF2 g b) (CONST 0x3C231ACC#32))) (CONST 0x322BCC77#32)))
    (mulf (CONST 0x3C23D70A#32) w))

/-- Each window's block index at every grid point, decided. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- What a grid point stores of the update. -/
theorem point0 (c : Dev nD) (t : Fin cfg0.N) (y) :
    k0_pay6 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0, REF1, REF2, CONST]
  blk_point [iblk, V, idx t]

/-- It after the run: the blocks tile the array. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point0 m c t y

/-- What a grid point stores of the first moment. -/
theorem point1 (c : Dev nD) (t : Fin cfg0.N) (y) :
    k0_pay1 (k0_pay4 (iblk m c 1 t) (iblk m c 2 t)) y = REF1 (m ((c : Thread nD τ).loc main_arg1)) (m ((c : Thread nD τ).loc main_arg2)) (((cfg0.win 5).blk t).view.emb y) := by
  pointwise [k0_pay1, k0_pay2, k0_pay3, k0_pay4, k0_pay5, k0_pay6, REF1, CONST]
  blk_point [iblk, V, idx t]

/-- It after the run: the blocks tile the array. -/
theorem final1 (c : Dev nD) : (dats m 0 c).arrAt 5 (cfgs 0).N = REF1 (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point1 m c t y

/-- What a grid point stores of the second moment. -/
theorem point2 (c : Dev nD) (t : Fin cfg0.N) (y) :
    k0_pay2 (k0_pay5 (iblk m c 1 t) (iblk m c 3 t)) y = REF2 (m ((c : Thread nD τ).loc main_arg1)) (m ((c : Thread nD τ).loc main_arg3)) (((cfg0.win 6).blk t).view.emb y) := by
  pointwise [k0_pay1, k0_pay2, k0_pay3, k0_pay4, k0_pay5, k0_pay6, REF2, CONST]
  blk_point [iblk, V, idx t]

/-- It after the run: the blocks tile the array. -/
theorem final2 (c : Dev nD) : (dats m 0 c).arrAt 6 (cfgs 0).N = REF2 (m ((c : Thread nD τ).loc main_arg1)) (m ((c : Thread nD τ).loc main_arg3)) := by
  refine (dats m 0 c).arrAt_eq_of_covers 6 _ (by decide +kernel) fun t hf y => ?_
  blk_simp
  rw [after0_6]
  frame_out
  exact point2 m c t y

end Cert.Kernel17Ideal.Value

end
-- ==== Proof.Claims17.lean ====
/- The claims about `Cert.Kernel17`, its ideal reading and its reference: the frames, the reading, and the values. -/
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.AdamWUp
public import Idealize.ShloMosaic.Lib.Claim

@[expose] public section

noncomputable section

namespace Cert.Claims17

open Idealize.ShloMosaic Idealize.SL.Sem

theorem frame_kernel : Cert.quiescent_Kernel17 := fun m ρ _ => Cert.Kernel17.Gen.frame m ρ

theorem frame_ideal : Cert.quiescent_Kernel17Ideal := fun m ρ _ => Cert.Kernel17Ideal.Gen.frame m ρ

/-- The reference declares no semaphore, and none of its operations writes an argument. -/
theorem frame_reference : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run m ρ)

theorem preserves : Cert.preserves_Kernel17_Kernel17Ideal := trivial

set_option maxHeartbeats 2000000 in
/-- The kernel's ideal results are the reference's. -/
theorem algebraic : Cert.algebraic_Kernel17Ideal_Reference17Ideal := by
  pair_intro
  · run_from Cert.Kernel17Ideal.Gen.run_main m g
  · refine θ_run_mono (Cert.Reference17Ideal.Value.run m' g') fun r hr c => ?_
    obtain ⟨e0, e1, e2, e3⟩ := hagree c
    have h0 : r.2.mem ((c.tc : Thread Cert.Reference17Ideal.nD Cert.Reference17Ideal.τ).loc Cert.Reference17Ideal.main_v23) = Cert.Kernel17Ideal.Value.REF0 (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) := (hr c).1
    rw [e0, e1, e2, e3] at h0
    replace h0 := h0.trans (Cert.Kernel17Ideal.Value.final0 m c).symm
    have h1 : r.2.mem ((c.tc : Thread Cert.Reference17Ideal.nD Cert.Reference17Ideal.τ).loc Cert.Reference17Ideal.main_v4) = Cert.Kernel17Ideal.Value.REF1 (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) := (hr c).2.1
    rw [e1, e2] at h1
    replace h1 := h1.trans (Cert.Kernel17Ideal.Value.final1 m c).symm
    have h2 : r.2.mem ((c.tc : Thread Cert.Reference17Ideal.nD Cert.Reference17Ideal.τ).loc Cert.Reference17Ideal.main_v10) = Cert.Kernel17Ideal.Value.REF2 (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg3)) := (hr c).2.2.1
    rw [e1, e3] at h2
    replace h2 := h2.trans (Cert.Kernel17Ideal.Value.final2 m c).symm
    exact ⟨h0, h1, h2, (hr c).2.2.2⟩

end Cert.Claims17

end
-- ==== Proof.AdamWDown.lean ====
/- The value of `Cert.Kernel18Ideal`: the update and the two moments that the optimiser's step of w_down leaves are the reference's. -/
module

public import proofs.«01_k».proof.Proof.Gen.Kernel18Ideal.Frame
public import proofs.«01_k».proof.Proof.Gen.Reference18Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen

variable (m : (ℓ : Loc nD τ sig) → Buf (Elt Ideal) ℓ)

/-! ## The reference's terms, of the weight `w`, its gradient `g` and its moments `a`, `b` -/

/-- The array of one constant. -/
abbrev CONST (k : BitVec 32) : FVec Ideal Cert.Reference18Ideal.S1x704x1024 .f32 := broadcastInDim Cert.Reference18Ideal.S1x704x1024 ![] Cert.Reference18Ideal.Gen.bcast_S_S1x704x1024 (constant Cert.Reference18Ideal.S_ .f32 k)

/-- The new first moment. -/
abbrev REF1 (g a : FVec Ideal Cert.Reference18Ideal.S1x704x1024 .f32) : FVec Ideal Cert.Reference18Ideal.S1x704x1024 .f32 := addf (mulf (CONST 0x3F666666#32) a) (mulf (CONST 0x3DCCCCCD#32) g)

/-- The new second moment. -/
abbrev REF2 (g b : FVec Ideal Cert.Reference18Ideal.S1x704x1024 .f32) : FVec Ideal Cert.Reference18Ideal.S1x704x1024 .f32 := addf (mulf (CONST 0x3F7FBE77#32) b) (mulf (CONST 0x3A83126F#32) (mulf g g))

/-- The update. -/
abbrev REF0 (w g a b : FVec Ideal Cert.Reference18Ideal.S1x704x1024 .f32) : FVec Ideal Cert.Reference18Ideal.S1x704x1024 .f32 :=
  mulf (CONST 0xBA83126F#32) (addf
    (Host.divf (Host.divf (REF1 g a) (CONST 0x3F26BD02#32)) (addf (Host.sqrt (Host.divf (REF2 g b) (CONST 0x3C231ACC#32))) (CONST 0x322BCC77#32)))
    (mulf (CONST 0x3C23D70A#32) w))

/-- Each window's block index at every grid point, decided. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- What a grid point stores of the update. -/
theorem point0 (c : Dev nD) (t : Fin cfg0.N) (y) :
    k0_pay6 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0, REF1, REF2, CONST]
  blk_point [iblk, V, idx t]

/-- It after the run: the blocks tile the array. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point0 m c t y

/-- What a grid point stores of the first moment. -/
theorem point1 (c : Dev nD) (t : Fin cfg0.N) (y) :
    k0_pay1 (k0_pay4 (iblk m c 1 t) (iblk m c 2 t)) y = REF1 (m ((c : Thread nD τ).loc main_arg1)) (m ((c : Thread nD τ).loc main_arg2)) (((cfg0.win 5).blk t).view.emb y) := by
  pointwise [k0_pay1, k0_pay2, k0_pay3, k0_pay4, k0_pay5, k0_pay6, REF1, CONST]
  blk_point [iblk, V, idx t]

/-- It after the run: the blocks tile the array. -/
theorem final1 (c : Dev nD) : (dats m 0 c).arrAt 5 (cfgs 0).N = REF1 (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point1 m c t y

/-- What a grid point stores of the second moment. -/
theorem point2 (c : Dev nD) (t : Fin cfg0.N) (y) :
    k0_pay2 (k0_pay5 (iblk m c 1 t) (iblk m c 3 t)) y = REF2 (m ((c : Thread nD τ).loc main_arg1)) (m ((c : Thread nD τ).loc main_arg3)) (((cfg0.win 6).blk t).view.emb y) := by
  pointwise [k0_pay1, k0_pay2, k0_pay3, k0_pay4, k0_pay5, k0_pay6, REF2, CONST]
  blk_point [iblk, V, idx t]

/-- It after the run: the blocks tile the array. -/
theorem final2 (c : Dev nD) : (dats m 0 c).arrAt 6 (cfgs 0).N = REF2 (m ((c : Thread nD τ).loc main_arg1)) (m ((c : Thread nD τ).loc main_arg3)) := by
  refine (dats m 0 c).arrAt_eq_of_covers 6 _ (by decide +kernel) fun t hf y => ?_
  blk_simp
  rw [after0_6]
  frame_out
  exact point2 m c t y

end Cert.Kernel18Ideal.Value

end
-- ==== Proof.Claims18.lean ====
/- The claims about `Cert.Kernel18`, its ideal reading and its reference: the frames, the reading, and the values. -/
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import proofs.«01_k».proof.Proof.AdamWDown
public import Idealize.ShloMosaic.Lib.Claim

@[expose] public section

noncomputable section

namespace Cert.Claims18

open Idealize.ShloMosaic Idealize.SL.Sem

theorem frame_kernel : Cert.quiescent_Kernel18 := fun m ρ _ => Cert.Kernel18.Gen.frame m ρ

theorem frame_ideal : Cert.quiescent_Kernel18Ideal := fun m ρ _ => Cert.Kernel18Ideal.Gen.frame m ρ

/-- The reference declares no semaphore, and none of its operations writes an argument. -/
theorem frame_reference : Cert.quiescent_Reference18Ideal := fun m ρ _ =>
  (θ_run Cert.Reference18Ideal.defs _ _).mono
    (fun r h => ⟨fun c => (h c).2.2.2, sem_eq_zero_of_no_sems (by decide) r.2⟩)
    (Cert.Reference18Ideal.Value.run m ρ)

theorem preserves : Cert.preserves_Kernel18_Kernel18Ideal := trivial

set_option maxHeartbeats 2000000 in
/-- The kernel's ideal results are the reference's. -/
theorem algebraic : Cert.algebraic_Kernel18Ideal_Reference18Ideal := by
  pair_intro
  · run_from Cert.Kernel18Ideal.Gen.run_main m g
  · refine θ_run_mono (Cert.Reference18Ideal.Value.run m' g') fun r hr c => ?_
    obtain ⟨e0, e1, e2, e3⟩ := hagree c
    have h0 : r.2.mem ((c.tc : Thread Cert.Reference18Ideal.nD Cert.Reference18Ideal.τ).loc Cert.Reference18Ideal.main_v23) = Cert.Kernel18Ideal.Value.REF0 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) := (hr c).1
    rw [e0, e1, e2, e3] at h0
    replace h0 := h0.trans (Cert.Kernel18Ideal.Value.final0 m c).symm
    have h1 : r.2.mem ((c.tc : Thread Cert.Reference18Ideal.nD Cert.Reference18Ideal.τ).loc Cert.Reference18Ideal.main_v4) = Cert.Kernel18Ideal.Value.REF1 (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) := (hr c).2.1
    rw [e1, e2] at h1
    replace h1 := h1.trans (Cert.Kernel18Ideal.Value.final1 m c).symm
    have h2 : r.2.mem ((c.tc : Thread Cert.Reference18Ideal.nD Cert.Reference18Ideal.τ).loc Cert.Reference18Ideal.main_v10) = Cert.Kernel18Ideal.Value.REF2 (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg3)) := (hr c).2.2.1
    rw [e1, e3] at h2
    replace h2 := h2.trans (Cert.Kernel18Ideal.Value.final2 m c).symm
    exact ⟨h0, h1, h2, (hr c).2.2.2⟩

end Cert.Claims18

end
-- ==== Proof.AdamSmallA.lean ====
/- The value of `Cert.Kernel19Ideal`: the update and the two moments that the optimiser's step of norm1_w, mu_shift, w_up_f and w0_f leaves are the reference's. -/
module

public import proofs.«01_k».proof.Proof.Gen.Kernel19Ideal.Frame
public import proofs.«01_k».proof.Proof.Gen.Reference19Ideal
public import Idealize.ShloMosaic.Lib.Pipeline.ValueKit

@[expose] public section

set_option maxRecDepth 16384
set_option synthInstance.maxSize 4096

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen

variable (m : (ℓ : Loc nD τ sig) → Buf (Elt Ideal) ℓ)

/-! ## The reference's terms, of a weight `w` of any shape, its gradient `g` and its moments `a`, `b` -/

section Terms
variable {S : Shape} (h : Cert.Reference19Ideal.S_.BroadcastsInDim S (![] : Fin 0 → Fin S.rank))

/-- The array of one constant. -/
abbrev CONST (k : BitVec 32) : FVec Ideal S .f32 := broadcastInDim S ![] h (constant Cert.Reference19Ideal.S_ .f32 k)

/-- The new first moment. -/
abbrev FIRST (g a : FVec Ideal S .f32) : FVec Ideal S .f32 := addf (mulf (CONST h 0x3F666666#32) a) (mulf (CONST h 0x3DCCCCCD#32) g)

/-- The new second moment. -/
abbrev SECOND (g b : FVec Ideal S .f32) : FVec Ideal S .f32 := addf (mulf (CONST h 0x3F7FBE77#32) b) (mulf (CONST h 0x3A83126F#32) (mulf g g))

/-- The update. -/
abbrev UPDATE (w g a b : FVec Ideal S .f32) : FVec Ideal S .f32 :=
  mulf (CONST h 0xBA83126F#32) (addf
    (Host.divf (Host.divf (FIRST h g a) (CONST h 0x3F26BD02#32)) (addf (Host.sqrt (Host.divf (SECOND h g b) (CONST h 0x3C231ACC#32))) (CONST h 0x322BCC77#32)))
    (mulf (CONST h 0x3C23D70A#32) w))

end Terms

/-- Each window's block index at the grid point, decided. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0, 0]
    ∧ win0_10.index t = ![0, 0, 0]
    ∧ win0_11.index t = ![0, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0, 0]
    ∧ win0_23.index t = ![0, 0, 0]
    ∧ win0_24.index t = ![0, 0, 0]
    ∧ win0_25.index t = ![0, 0]
    ∧ win0_26.index t = ![0, 0]
    ∧ win0_27.index t = ![0, 0] :=
  (by decide +kernel : ∀ t : Fin grid0.N, _)

/-- The reference's update of norm1_w. -/
abbrev REF0 (w g a b : FVec Ideal Cert.Reference19Ideal.S1x1024 .f32) : FVec Ideal Cert.Reference19Ideal.S1x1024 .f32 := UPDATE Cert.Reference19Ideal.Gen.bcast_S_S1x1024 w g a b

/-- The update of norm1_w that the body stores. -/
theorem point0 (c : Dev nD) (t : Fin cfg0.N) (y) :
    k0_pay6 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 16).blk t).view.emb y) := by
  pointwise [k0_pay4, k0_pay5, k0_pay6, REF0, UPDATE, FIRST, SECOND, CONST]
  blk_point [iblk, V, idx t]

/-- The array after the run. -/
theorem final0 (c : Dev nD) : (dats m 0 c).arrAt 16 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  rw [after0_16]
  frame_out
  exact point0 m c t y

/-- The reference's new first moment of norm1_w. -/
abbrev REF1 (g a : FVec Ideal Cert.Reference19Ideal.S1x1024 .f32) : FVec Ideal Cert.Reference19Ideal.S1x1024 .f32 := FIRST Cert.Reference19Ideal.Gen.bcast_S_S1x1024 g a

/-- The new first moment of norm1_w that the body stores. -/
theorem point1 (c : Dev nD) (t : Fin cfg0.N) (y) :
    k0_pay4 (iblk m c 1 t) (iblk m c 2 t) y = REF1 (m ((c : Thread nD τ).loc main_arg1)) (m ((c : Thread nD τ).loc main_arg2)) (((cfg0.win 17).blk t).view.emb y) := by
  pointwise [k0_pay4, REF1, FIRST, CONST]
  blk_point [iblk, V, idx t]

/-- The array after the run. -/
theorem final1 (c : Dev nD) : (dats m 0 c).arrAt 17 (cfgs 0).N = REF1 (m ((c : Thread nD τ).loc main_arg1)) (m ((c : Thread nD τ).loc main_arg2)) := by
  refine (dats m 0 c).arrAt_eq_of_covers 17 _ (by decide +kernel) fun t hf y => ?_
  blk_simp
  rw [after0_17]
  frame_out
  exact point1 m c t y

/-- The reference's new second moment of norm1_w. -/
abbrev REF2 (g b : FVec Ideal Cert.Reference19Ideal.S1x1024 .f32) : FVec Ideal Cert.Reference19Ideal.S1x1024 .f32 := SECOND Cert.Reference19Ideal.Gen.bcast_S_S1x1024 g b

/-- The new second moment of norm1_w that the body stores. -/
theorem point2 (c : Dev nD) (t : Fin cfg0.N) (y) :
    k0_pay5 (iblk m c 1 t) (iblk m c 3 t) y = REF2 (m ((c : Thread nD τ).loc main_arg1)) (m ((c : Thread nD τ).loc main_arg3)) (((cfg0.win 18).blk t).view.emb y) := by
  pointwise [k0_pay5, REF2, SECOND, CONST]
  blk_point [iblk, V, idx t]

/-- The array after the run. -/
theorem final2 (c : Dev nD) : (dats m 0 c).arrAt 18 (cfgs 0).N = REF2 (m ((c : Thread nD τ).loc main_arg1)) (m ((c : Thread nD τ).loc main_arg3)) := by
  refine (dats m 0 c).arrAt_eq_of_covers 18 _ (by decide +kernel) fun t hf y => ?_
  blk_simp
  rw [after0_18]
  frame_out
  exact point2 m c t y

/-- The reference's update of mu_shift. -/
abbrev REF3 (w g a b : FVec Ideal Cert.Reference19Ideal.S1x1824 .f32) : FVec Ideal Cert.Reference19Ideal.S1x1824 .f32 := UPDATE Cert.Reference19Ideal.Gen.bcast_S_S1x1824 w g a b

/-- The update of mu_shift that the body stores. -/
theorem point3 (c : Dev nD) (t : Fin cfg0.N) (y) :
    k0_pay9 (iblk m c 4 t) (iblk m c 5 t) (iblk m c 6 t) (iblk m c 7 t) y = REF3 (m ((c : Thread nD τ).loc main_arg4)) (m ((c : Thread nD τ).loc main_arg5)) (m ((c : Thread nD τ).loc main_arg6)) (m ((c : Thread nD τ).loc main_arg7)) (((cfg0.win 19).blk t).view.emb y) := by
  pointwise [k0_pay7, k0_pay8, k0_pay9, REF3, UPDATE, FIRST, SECOND, CONST]
  blk_point [iblk, V, idx t]

/-- The array after the run. -/
theorem final3 (c : Dev nD) : (dats m 0 c).arrAt 19 (cfgs 0).N = REF3 (m ((c : Thread nD τ).loc main_arg4)) (m ((c : Thread nD τ).loc main_arg5)) (m ((c : Thread nD τ).loc main_arg6)) (m ((c : Thread nD τ).loc main_arg7)) := by
  refine (dats m 0 c).arrAt_eq_of_covers 19 _ (by decide +kernel) fun t hf y => ?_
  blk_simp
  rw [after0_19]
  frame_out
  exact point3 m c t y

/-- The reference's new first moment of mu_shift. -/
abbrev REF4 (g a : FVec Ideal Cert.Reference19Ideal.S1x1824 .f32) : FVec Ideal Cert.Reference19Ideal.S1x1824 .f32 := FIRST Cert.Reference19Ideal.Gen.bcast_S_S1x1824 g a

/-- The new first moment of mu_shift that the body stores. -/
theorem point4 (c : Dev nD) (t : Fin cfg0.N) (y) :
    k0_pay7 (iblk m c 5 t) (iblk m c 6 t) y = REF4 (m ((c : Thread nD τ).loc main_arg5)) (m ((c : Thread nD τ).loc main_arg6)) (((cfg0.win 20).blk t).view.emb y) := by
  pointwise [k0_pay7, REF4, FIRST, CONST]
  blk_point [iblk, V, idx t]

/-- The array after the run. -/
theorem final4 (c : Dev nD) : (dats m 0 c).arrAt 20 (cfgs 0).N = REF4 (m ((c : Thread nD τ).loc main_arg5)) (m ((c : Thread nD τ).loc main_arg6)) := by
  refine (dats m 0 c).arrAt_eq_of_covers 20 _ (by decide +kernel) fun t hf y => ?_
  blk_simp
  rw [after0_20]
  frame_out
  exact point4 m c t y

/-- The reference's new second moment of mu_shift. -/
abbrev REF5 (g b : FVec Ideal Cert.Reference19Ideal.S1x1824 .f32) : FVec Ideal Cert.Reference19Ideal.S1x1824 .f32 := SECOND Cert.Reference19Ideal.Gen.bcast_S_S1x1824 g b

/-- The new second moment of mu_shift that the body stores. -/
theorem point5 (c : Dev nD) (t : Fin cfg0.N) (y) :
    k0_pay8 (iblk m c 5 t) (iblk m c 7 t) y = REF5 (m ((c : Thread nD τ).loc main_arg5)) (m ((c : Thread nD τ).loc main_arg7)) (((cfg0.win 21).blk t).view.emb y) := by
  pointwise [k0_pay8, REF5, SECOND, CONST]
  blk_point [iblk, V, idx t]

/-- The array after the run. -/
theorem final5 (c : Dev nD) : (dats m 0 c).arrAt 21 (cfgs 0).N = REF5 (m ((c : Thread nD τ).loc main_arg5)) (m ((c : Thread nD τ).loc main_arg7)) := by
  refine (dats m 0 c).arrAt_eq_of_covers 21 _ (by decide +kernel) fun t hf y => ?_
  blk_simp
  rw [after0_21]
  frame_out
  exact point5 m c t y

/-- The reference's update of w_up_f. -/
abbrev REF6 (w g a b : FVec Ideal Cert.Reference19Ideal.S1x64x128 .f32) : FVec Ideal Cert.Reference19Ideal.S1x64x128 .f32 := UPDATE Cert.Reference19Ideal.Gen.bcast_S_S1x64x128 w g a b

/-- The update of w_up_f that the body stores. -/
theorem point6 (c : Dev nD) (t : Fin cfg0.N) (y) :
    k0_pay12 (iblk m c 8 t) (iblk m c 9 t) (iblk m c 10 t) (iblk m c 11 t) y = REF6 (m ((c : Thread nD τ).loc main_arg8)) (m ((c : Thread nD τ).loc main_arg9)) (m ((c : Thread nD τ).loc main_arg10)) (m ((c : Thread nD τ).loc main_arg11)) (((cfg0.win 22).blk t).view.emb y) := by
  pointwise [k0_pay10, k0_pay11, k0_pay12, REF6, UPDATE, FIRST, SECOND, CONST]
  blk_point [iblk, V, idx t]

/-- The array after the run. -/
theorem final6 (c : Dev nD) : (dats m 0 c).arrAt 22 (cfgs 0).N = REF6 (m ((c : Thread nD τ).loc main_arg8)) (m ((c : Thread nD τ).loc main_arg9)) (m ((c : Thread nD τ).loc main_arg10)) (m ((c : Thread nD τ).loc main_arg11)) := by
  refine (dats m 0 c).arrAt_eq_of_covers 22 _ (by decide +kernel) fun t hf y => ?_
  blk_simp
  rw [after0_22]
  frame_out
  exact point6 m c t y

/-- The reference's new first moment of w_up_f. -/
abbrev REF7 (g a : FVec Ideal Cert.Reference19Ideal.S1x64x128 .f32) : FVec Ideal Cert.Reference19Ideal.S1x64x128 .f32 := FIRST Cert.Reference19Ideal.Gen.bcast_S_S1x64x128 g a

/-- The new first moment of w_up_f that the body stores. -/
theorem point7 (c : Dev nD) (t : Fin cfg0.N) (y) :
    k0_pay10 (iblk m c 9 t) (iblk m c 10 t) y = REF7 (m ((c : Thread nD τ).loc main_arg9)) (m ((c : Thread nD τ).loc main_arg10)) (((cfg0.win 23).blk t).view.emb y) := by
  pointwise [k0_pay10, REF7, FIRST, CONST]
  blk_point [iblk, V, idx t]

/-- The array after the run. -/
theorem final7 (c : Dev nD) : (dats m 0 c).arrAt 23 (cfgs 0).N = REF7 (m ((c : Thread nD τ).loc main_arg9)) (m ((c : Thread nD τ).loc main_arg10)) := by
  refine (dats m 0 c).arrAt_eq_of_covers 23 _ (by decide +kernel) fun t hf y => ?_
  blk_simp
  rw [after0_23]
  frame_out
  exact point7 m c t y

/-- The reference's new second moment of w_up_f. -/
abbrev REF8 (g b : FVec Ideal Cert.Reference19Ideal.S1x64x128 .f32) : FVec Ideal Cert.Reference19Ideal.S1x64x128 .f32 := SECOND Cert.Reference19Ideal.Gen.bcast_S_S1x64x128 g b

/-- The new second moment of w_up_f that the body stores. -/
theorem point8 (c : Dev nD) (t : Fin cfg0.N) (y) :
    k0_pay11 (iblk m c 9 t) (iblk m c 11 t) y = REF8 (m ((c : Thread nD τ).loc main_arg9)) (m ((c : Thread nD τ).loc main_arg11)) (((cfg0.win 24).blk t).view.emb y) := by
  pointwise [k0_pay11, REF8, SECOND, CONST]
  blk_point [iblk, V, idx t]

/-- The array after the run. -/
theorem final8 (c : Dev nD) : (dats m 0 c).arrAt 24 (cfgs 0).N = REF8 (m ((c : Thread nD τ).loc main_arg9)) (m ((c : Thread nD τ).loc main_arg11)) := by
  refine (dats m 0 c).arrAt_eq_of_covers 24 _ (by decide +kernel) fun t hf y => ?_
  blk_simp
  rw [after0_24]
  frame_out
  exact point8 m c t y

/-- The reference's update of w0_f. -/
abbrev REF9 (w g a b : FVec Ideal Cert.Reference19Ideal.S1x512 .f32) : FVec Ideal Cert.Reference19Ideal.S1x512 .f32 := UPDATE Cert.Reference19Ideal.Gen.bcast_S_S1x512 w g a b

/-- The update of w0_f that the body stores. -/
theorem point9 (c : Dev nD) (t : Fin cfg0.N) (y) :
    k0_pay3 (iblk m c 12 t) (iblk m c 13 t) (iblk m c 14 t) (iblk m c 15 t) y = REF9 (m ((c : Thread nD τ).loc main_arg12)) (m ((c : Thread nD τ).loc main_arg13)) (m ((c : Thread nD τ).loc main_arg14)) (m ((c : Thread nD τ).loc main_arg15)) (((cfg0.win 25).blk t).view.emb y) := by
  pointwise [k0_pay1, k0_pay2, k0_pay3, REF9, UPDATE, FIRST, SECOND, CONST]
  blk_point [iblk, V, idx t]

/-- The array after the run. -/
theorem final9 (c : Dev nD) : (dats m 0 c).arrAt 25 (cfgs 0).N = REF9 (m ((c : Thread nD τ).loc main_arg12)) (m ((c : Thread nD τ).loc main_arg13)) (m ((c : Thread nD τ).loc main_arg14)) (m ((c : Thread nD τ).loc main_arg15)) := by
  refine (dats m 0 c).arrAt_eq_of_covers 25 _ (by decide +kernel) fun t hf y => ?_
  blk_simp
  rw [after0_25]
  frame_out
  exact point9 m c t y

/-- The reference's new first moment of w0_f. -/
abbrev REF10 (g a : FVec Ideal Cert.Reference19Ideal.S1x512 .f32) : FVec Ideal Cert.Reference19Ideal.S1x512 .f32 := FIRST Cert.Reference19Ideal.Gen.bcast_S_S1x512 g a

/-- The new first moment of w0_f that the body stores. -/
theorem point10 (c : Dev nD) (t : Fin cfg0.N) (y) :
    k0_pay1 (iblk m c 13 t) (iblk m c 14 t) y = REF10 (m ((c : Thread nD τ).loc main_arg13)) (m ((c : Thread nD τ).loc main_arg14)) (((cfg0.win 26).blk t).view.emb y) := by
  pointwise [k0_pay1, REF10, FIRST, CONST]
  blk_point [iblk, V, idx t]

/-- The array after the run. -/
theorem final10 (c : Dev nD) : (dats m 0 c).arrAt 26 (cfgs 0).N = REF10 (m ((c : Thread nD τ).loc main_arg13)) (m ((c : Thread nD τ).loc main_arg14)) := by
  refine (dats m 0 c).arrAt_eq_of_covers 26 _ (by decide +kernel) fun t hf y => ?_
  blk_simp
  rw [after0_26]
  frame_out
  exact point10 m c t y

/-- The reference's new second moment of w0_f. -/
abbrev REF11 (g b : FVec Ideal Cert.Reference19Ideal.S1x512 .f32) : FVec Ideal Cert.Reference19Ideal.S1x512 .f32 := SECOND Cert.Reference19Ideal.Gen.bcast_S_S1x512 g b

/-- The new second moment of w0_f that the body stores. -/
theorem point11 (c : Dev nD) (t : Fin cfg0.N) (y) :
    k0_pay2 (iblk m c 13 t) (iblk m c 15 t) y = REF11 (m ((c : Thread nD τ).loc main_arg13)) (m ((c : Thread nD τ).loc main_arg15)) (((cfg0.win 27).blk t).view.emb y) := by
  pointwise [k0_pay2, REF11, SECOND, CONST]
  blk_point [iblk, V, idx t]

/-- The array after the run. -/
theorem final11 (c : Dev nD) : (dats m 0 c).arrAt 27 (cfgs 0).N = REF11 (m ((c : Thread nD τ).loc main_arg13)) (m ((c : Thread nD τ).loc main_arg15)) := by
  refine (dats m 0 c).arrAt_eq_of_covers 27 _ (by decide +kernel) fun t hf y => ?_
  blk_simp
  rw [after0_27]
  frame_out
  exact point11 m c t y

end Cert.Kernel19Ideal.Value

end
-- ==== Proof.Claims19.lean ====
/- The claims about `Cert.Kernel19`, its ideal reading and its reference: the frames, the reading, and the values. -/
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.AdamSmallA
public import Idealize.ShloMosaic.Lib.Claim

@[expose] public section

noncomputable section

namespace Cert.Claims19

open Idealize.ShloMosaic Idealize.SL.Sem

theorem frame_kernel : Cert.quiescent_Kernel19 := fun m ρ _ => Cert.Kernel19.Gen.frame m ρ

theorem frame_ideal : Cert.quiescent_Kernel19Ideal := fun m ρ _ => Cert.Kernel19Ideal.Gen.frame m ρ

/-- The reference declares no semaphore, and none of its operations writes an argument. -/
theorem frame_reference : Cert.quiescent_Reference19Ideal := fun m ρ _ =>
  (θ_run Cert.Reference19Ideal.defs _ _).mono
    (fun r h => ⟨fun c => (h c).2.2.2.2.2.2.2.2.2.2.2.2, sem_eq_zero_of_no_sems (by decide) r.2⟩)
    (Cert.Reference19Ideal.Value.run m ρ)

theorem preserves : Cert.preserves_Kernel19_Kernel19Ideal := trivial

set_option maxHeartbeats 2000000 in
/-- The kernel's ideal results are the reference's. -/
theorem algebraic : Cert.algebraic_Kernel19Ideal_Reference19Ideal := by
  intro m g m' g' hpre hagree
  refine ⟨fun c => (Cert.Kernel19Ideal.Gen.dats m 0 c).arrAt 16 (Cert.Kernel19Ideal.cfgs 0).N,
    fun c => (Cert.Kernel19Ideal.Gen.dats m 0 c).arrAt 17 (Cert.Kernel19Ideal.cfgs 0).N,
    fun c => (Cert.Kernel19Ideal.Gen.dats m 0 c).arrAt 18 (Cert.Kernel19Ideal.cfgs 0).N,
    fun c => (Cert.Kernel19Ideal.Gen.dats m 0 c).arrAt 19 (Cert.Kernel19Ideal.cfgs 0).N,
    fun c => (Cert.Kernel19Ideal.Gen.dats m 0 c).arrAt 20 (Cert.Kernel19Ideal.cfgs 0).N,
    fun c => (Cert.Kernel19Ideal.Gen.dats m 0 c).arrAt 21 (Cert.Kernel19Ideal.cfgs 0).N,
    fun c => (Cert.Kernel19Ideal.Gen.dats m 0 c).arrAt 22 (Cert.Kernel19Ideal.cfgs 0).N,
    fun c => (Cert.Kernel19Ideal.Gen.dats m 0 c).arrAt 23 (Cert.Kernel19Ideal.cfgs 0).N,
    fun c => (Cert.Kernel19Ideal.Gen.dats m 0 c).arrAt 24 (Cert.Kernel19Ideal.cfgs 0).N,
    fun c => (Cert.Kernel19Ideal.Gen.dats m 0 c).arrAt 25 (Cert.Kernel19Ideal.cfgs 0).N,
    fun c => (Cert.Kernel19Ideal.Gen.dats m 0 c).arrAt 26 (Cert.Kernel19Ideal.cfgs 0).N,
    fun c => (Cert.Kernel19Ideal.Gen.dats m 0 c).arrAt 27 (Cert.Kernel19Ideal.cfgs 0).N, ?_, ?_⟩
  · refine θ_run_mono (θ_run_and (Cert.Kernel19Ideal.Gen.run_main m g) (Cert.Kernel19Ideal.Gen.unchanged m g)) fun r hr c => ?_
    exact ⟨(hr.1 c).1 16, (hr.1 c).1 17, (hr.1 c).1 18, (hr.1 c).1 19, (hr.1 c).1 20, (hr.1 c).1 21, (hr.1 c).1 22, (hr.1 c).1 23, (hr.1 c).1 24, (hr.1 c).1 25, (hr.1 c).1 26, (hr.1 c).1 27, hr.2 c⟩
  · refine θ_run_mono (Cert.Reference19Ideal.Value.run m' g') fun r hr c => ?_
    obtain ⟨e0, e1, e2, e3, e4, e5, e6, e7, e8, e9, e10, e11, e12, e13, e14, e15⟩ := hagree c
    have h0 : r.2.mem ((c.tc : Thread Cert.Reference19Ideal.nD Cert.Reference19Ideal.τ).loc Cert.Reference19Ideal.main_v23) = Cert.Kernel19Ideal.Value.REF0 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) := (hr c).1
    rw [e0, e1, e2, e3] at h0
    replace h0 := h0.trans (Cert.Kernel19Ideal.Value.final0 m c).symm
    have h1 : r.2.mem ((c.tc : Thread Cert.Reference19Ideal.nD Cert.Reference19Ideal.τ).loc Cert.Reference19Ideal.main_v4) = Cert.Kernel19Ideal.Value.REF1 (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) := (hr c).2.1
    rw [e1, e2] at h1
    replace h1 := h1.trans (Cert.Kernel19Ideal.Value.final1 m c).symm
    have h2 : r.2.mem ((c.tc : Thread Cert.Reference19Ideal.nD Cert.Reference19Ideal.τ).loc Cert.Reference19Ideal.main_v10) = Cert.Kernel19Ideal.Value.REF2 (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg3)) := (hr c).2.2.1
    rw [e1, e3] at h2
    replace h2 := h2.trans (Cert.Kernel19Ideal.Value.final2 m c).symm
    have h3 : r.2.mem ((c.tc : Thread Cert.Reference19Ideal.nD Cert.Reference19Ideal.τ).loc Cert.Reference19Ideal.main_v47) = Cert.Kernel19Ideal.Value.REF3 (m' ((c.tc : Thread Cert.Reference19Ideal.nD Cert.Reference19Ideal.τ).loc Cert.Reference19Ideal.main_arg4)) (m' ((c.tc : Thread Cert.Reference19Ideal.nD Cert.Reference19Ideal.τ).loc Cert.Reference19Ideal.main_arg5)) (m' ((c.tc : Thread Cert.Reference19Ideal.nD Cert.Reference19Ideal.τ).loc Cert.Reference19Ideal.main_arg6)) (m' ((c.tc : Thread Cert.Reference19Ideal.nD Cert.Reference19Ideal.τ).loc Cert.Reference19Ideal.main_arg7)) := (hr c).2.2.2.1
    rw [e4, e5, e6, e7] at h3
    replace h3 := h3.trans (Cert.Kernel19Ideal.Value.final3 m c).symm
    have h4 : r.2.mem ((c.tc : Thread Cert.Reference19Ideal.nD Cert.Reference19Ideal.τ).loc Cert.Reference19Ideal.main_v28) = Cert.Kernel19Ideal.Value.REF4 (m' ((c.tc : Thread Cert.Reference19Ideal.nD Cert.Reference19Ideal.τ).loc Cert.Reference19Ideal.main_arg5)) (m' ((c.tc : Thread Cert.Reference19Ideal.nD Cert.Reference19Ideal.τ).loc Cert.Reference19Ideal.main_arg6)) := (hr c).2.2.2.2.1
    rw [e5, e6] at h4
    replace h4 := h4.trans (Cert.Kernel19Ideal.Value.final4 m c).symm
    have h5 : r.2.mem ((c.tc : Thread Cert.Reference19Ideal.nD Cert.Reference19Ideal.τ).loc Cert.Reference19Ideal.main_v34) = Cert.Kernel19Ideal.Value.REF5 (m' ((c.tc : Thread Cert.Reference19Ideal.nD Cert.Reference19Ideal.τ).loc Cert.Reference19Ideal.main_arg5)) (m' ((c.tc : Thread Cert.Reference19Ideal.nD Cert.Reference19Ideal.τ).loc Cert.Reference19Ideal.main_arg7)) := (hr c).2.2.2.2.2.1
    rw [e5, e7] at h5
    replace h5 := h5.trans (Cert.Kernel19Ideal.Value.final5 m c).symm
    have h6 : r.2.mem ((c.tc : Thread Cert.Reference19Ideal.nD Cert.Reference19Ideal.τ).loc Cert.Reference19Ideal.main_v71) = Cert.Kernel19Ideal.Value.REF6 (m' ((c.tc : Thread Cert.Reference19Ideal.nD Cert.Reference19Ideal.τ).loc Cert.Reference19Ideal.main_arg8)) (m' ((c.tc : Thread Cert.Reference19Ideal.nD Cert.Reference19Ideal.τ).loc Cert.Reference19Ideal.main_arg9)) (m' ((c.tc : Thread Cert.Reference19Ideal.nD Cert.Reference19Ideal.τ).loc Cert.Reference19Ideal.main_arg10)) (m' ((c.tc : Thread Cert.Reference19Ideal.nD Cert.Reference19Ideal.τ).loc Cert.Reference19Ideal.main_arg11)) := (hr c).2.2.2.2.2.2.1
    rw [e8, e9, e10, e11] at h6
    replace h6 := h6.trans (Cert.Kernel19Ideal.Value.final6 m c).symm
    have h7 : r.2.mem ((c.tc : Thread Cert.Reference19Ideal.nD Cert.Reference19Ideal.τ).loc Cert.Reference19Ideal.main_v52) = Cert.Kernel19Ideal.Value.REF7 (m' ((c.tc : Thread Cert.Reference19Ideal.nD Cert.Reference19Ideal.τ).loc Cert.Reference19Ideal.main_arg9)) (m' ((c.tc : Thread Cert.Reference19Ideal.nD Cert.Reference19Ideal.τ).loc Cert.Reference19Ideal.main_arg10)) := (hr c).2.2.2.2.2.2.2.1
    rw [e9, e10] at h7
    replace h7 := h7.trans (Cert.Kernel19Ideal.Value.final7 m c).symm
    have h8 : r.2.mem ((c.tc : Thread Cert.Reference19Ideal.nD Cert.Reference19Ideal.τ).loc Cert.Reference19Ideal.main_v58) = Cert.Kernel19Ideal.Value.REF8 (m' ((c.tc : Thread Cert.Reference19Ideal.nD Cert.Reference19Ideal.τ).loc Cert.Reference19Ideal.main_arg9)) (m' ((c.tc : Thread Cert.Reference19Ideal.nD Cert.Reference19Ideal.τ).loc Cert.Reference19Ideal.main_arg11)) := (hr c).2.2.2.2.2.2.2.2.1
    rw [e9, e11] at h8
    replace h8 := h8.trans (Cert.Kernel19Ideal.Value.final8 m c).symm
    have h9 : r.2.mem ((c.tc : Thread Cert.Reference19Ideal.nD Cert.Reference19Ideal.τ).loc Cert.Reference19Ideal.main_v95) = Cert.Kernel19Ideal.Value.REF9 (m' ((c.tc : Thread Cert.Reference19Ideal.nD Cert.Reference19Ideal.τ).loc Cert.Reference19Ideal.main_arg12)) (m' ((c.tc : Thread Cert.Reference19Ideal.nD Cert.Reference19Ideal.τ).loc Cert.Reference19Ideal.main_arg13)) (m' ((c.tc : Thread Cert.Reference19Ideal.nD Cert.Reference19Ideal.τ).loc Cert.Reference19Ideal.main_arg14)) (m' ((c.tc : Thread Cert.Reference19Ideal.nD Cert.Reference19Ideal.τ).loc Cert.Reference19Ideal.main_arg15)) := (hr c).2.2.2.2.2.2.2.2.2.1
    rw [e12, e13, e14, e15] at h9
    replace h9 := h9.trans (Cert.Kernel19Ideal.Value.final9 m c).symm
    have h10 : r.2.mem ((c.tc : Thread Cert.Reference19Ideal.nD Cert.Reference19Ideal.τ).loc Cert.Reference19Ideal.main_v76) = Cert.Kernel19Ideal.Value.REF10 (m' ((c.tc : Thread Cert.Reference19Ideal.nD Cert.Reference19Ideal.τ).loc Cert.Reference19Ideal.main_arg13)) (m' ((c.tc : Thread Cert.Reference19Ideal.nD Cert.Reference19Ideal.τ).loc Cert.Reference19Ideal.main_arg14)) := (hr c).2.2.2.2.2.2.2.2.2.2.1
    rw [e13, e14] at h10
    replace h10 := h10.trans (Cert.Kernel19Ideal.Value.final10 m c).symm
    have h11 : r.2.mem ((c.tc : Thread Cert.Reference19Ideal.nD Cert.Reference19Ideal.τ).loc Cert.Reference19Ideal.main_v82) = Cert.Kernel19Ideal.Value.REF11 (m' ((c.tc : Thread Cert.Reference19Ideal.nD Cert.Reference19Ideal.τ).loc Cert.Reference19Ideal.main_arg13)) (m' ((c.tc : Thread Cert.Reference19Ideal.nD Cert.Reference19Ideal.τ).loc Cert.Reference19Ideal.main_arg15)) := (hr c).2.2.2.2.2.2.2.2.2.2.2.1
    rw [e13, e15] at h11
    replace h11 := h11.trans (Cert.Kernel19Ideal.Value.final11 m c).symm
    exact ⟨h0, h1, h2, h3, h4, h5, h6, h7, h8, h9, h10, h11, (hr c).2.2.2.2.2.2.2.2.2.2.2.2⟩

end Cert.Claims19

end
-- ==== Proof.AdamSmallB.lean ====
/- The value of `Cert.Kernel21Ideal`: the update and the two moments that the optimiser's step of w_up_b, w0_b, a_up_f and a0_f leaves are the reference's. -/
module

public import proofs.«01_k».proof.Proof.Gen.Kernel21Ideal.Frame
public import proofs.«01_k».proof.Proof.Gen.Reference21Ideal
public import Idealize.ShloMosaic.Lib.Pipeline.ValueKit

@[expose] public section

set_option maxRecDepth 16384
set_option synthInstance.maxSize 4096

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen

variable (m : (ℓ : Loc nD τ sig) → Buf (Elt Ideal) ℓ)

/-! ## The reference's terms, of a weight `w` of any shape, its gradient `g` and its moments `a`, `b` -/

section Terms
variable {S : Shape} (h : Cert.Reference21Ideal.S_.BroadcastsInDim S (![] : Fin 0 → Fin S.rank))

/-- The array of one constant. -/
abbrev CONST (k : BitVec 32) : FVec Ideal S .f32 := broadcastInDim S ![] h (constant Cert.Reference21Ideal.S_ .f32 k)

/-- The new first moment. -/
abbrev FIRST (g a : FVec Ideal S .f32) : FVec Ideal S .f32 := addf (mulf (CONST h 0x3F666666#32) a) (mulf (CONST h 0x3DCCCCCD#32) g)

/-- The new second moment. -/
abbrev SECOND (g b : FVec Ideal S .f32) : FVec Ideal S .f32 := addf (mulf (CONST h 0x3F7FBE77#32) b) (mulf (CONST h 0x3A83126F#32) (mulf g g))

/-- The update. -/
abbrev UPDATE (w g a b : FVec Ideal S .f32) : FVec Ideal S .f32 :=
  mulf (CONST h 0xBA83126F#32) (addf
    (Host.divf (Host.divf (FIRST h g a) (CONST h 0x3F26BD02#32)) (addf (Host.sqrt (Host.divf (SECOND h g b) (CONST h 0x3C231ACC#32))) (CONST h 0x322BCC77#32)))
    (mulf (CONST h 0x3C23D70A#32) w))

end Terms

/-- Each window's block index at the grid point, decided. -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0, 0]
    ∧ win0_10.index t = ![0, 0, 0]
    ∧ win0_11.index t = ![0, 0, 0]
    ∧ win0_12.index t = ![0, 0]
    ∧ win0_13.index t = ![0, 0]
    ∧ win0_14.index t = ![0, 0]
    ∧ win0_15.index t = ![0, 0]
    ∧ win0_16.index t = ![0, 0, 0]
    ∧ win0_17.index t = ![0, 0, 0]
    ∧ win0_18.index t = ![0, 0, 0]
    ∧ win0_19.index t = ![0, 0]
    ∧ win0_20.index t = ![0, 0]
    ∧ win0_21.index t = ![0, 0]
    ∧ win0_22.index t = ![0, 0, 0]
    ∧ win0_23.index t = ![0, 0, 0]
    ∧ win0_24.index t = ![0, 0, 0]
    ∧ win0_25.index t = ![0, 0]
    ∧ win0_26.index t = ![0, 0]
    ∧ win0_27.index t = ![0, 0] :=
  (by decide +kernel : ∀ t : Fin grid0.N, _)

/-- The reference's update of w_up_b. -/
abbrev REF0 (w g a b : FVec Ideal Cert.Reference21Ideal.S1x64x128 .f32) : FVec Ideal Cert.Reference21Ideal.S1x64x128 .f32 := UPDATE Cert.Reference21Ideal.Gen.bcast_S_S1x64x128 w g a b

/-- The update of w_up_b that the body stores. -/
theorem point0 (c : Dev nD) (t : Fin cfg0.N) (y) :
    k0_pay3 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 16).blk t).view.emb y) := by
  pointwise [k0_pay1, k0_pay2, k0_pay3, REF0, UPDATE, FIRST, SECOND, CONST]
  blk_point [iblk, V, idx t]

/-- The array after the run. -/
theorem final0 (c : Dev nD) : (dats m 0 c).arrAt 16 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  rw [after0_16]
  frame_out
  exact point0 m c t y

/-- The reference's new first moment of w_up_b. -/
abbrev REF1 (g a : FVec Ideal Cert.Reference21Ideal.S1x64x128 .f32) : FVec Ideal Cert.Reference21Ideal.S1x64x128 .f32 := FIRST Cert.Reference21Ideal.Gen.bcast_S_S1x64x128 g a

/-- The new first moment of w_up_b that the body stores. -/
theorem point1 (c : Dev nD) (t : Fin cfg0.N) (y) :
    k0_pay1 (iblk m c 1 t) (iblk m c 2 t) y = REF1 (m ((c : Thread nD τ).loc main_arg1)) (m ((c : Thread nD τ).loc main_arg2)) (((cfg0.win 17).blk t).view.emb y) := by
  pointwise [k0_pay1, REF1, FIRST, CONST]
  blk_point [iblk, V, idx t]

/-- The array after the run. -/
theorem final1 (c : Dev nD) : (dats m 0 c).arrAt 17 (cfgs 0).N = REF1 (m ((c : Thread nD τ).loc main_arg1)) (m ((c : Thread nD τ).loc main_arg2)) := by
  refine (dats m 0 c).arrAt_eq_of_covers 17 _ (by decide +kernel) fun t hf y => ?_
  blk_simp
  rw [after0_17]
  frame_out
  exact point1 m c t y

/-- The reference's new second moment of w_up_b. -/
abbrev REF2 (g b : FVec Ideal Cert.Reference21Ideal.S1x64x128 .f32) : FVec Ideal Cert.Reference21Ideal.S1x64x128 .f32 := SECOND Cert.Reference21Ideal.Gen.bcast_S_S1x64x128 g b

/-- The new second moment of w_up_b that the body stores. -/
theorem point2 (c : Dev nD) (t : Fin cfg0.N) (y) :
    k0_pay2 (iblk m c 1 t) (iblk m c 3 t) y = REF2 (m ((c : Thread nD τ).loc main_arg1)) (m ((c : Thread nD τ).loc main_arg3)) (((cfg0.win 18).blk t).view.emb y) := by
  pointwise [k0_pay2, REF2, SECOND, CONST]
  blk_point [iblk, V, idx t]

/-- The array after the run. -/
theorem final2 (c : Dev nD) : (dats m 0 c).arrAt 18 (cfgs 0).N = REF2 (m ((c : Thread nD τ).loc main_arg1)) (m ((c : Thread nD τ).loc main_arg3)) := by
  refine (dats m 0 c).arrAt_eq_of_covers 18 _ (by decide +kernel) fun t hf y => ?_
  blk_simp
  rw [after0_18]
  frame_out
  exact point2 m c t y

/-- The reference's update of w0_b. -/
abbrev REF3 (w g a b : FVec Ideal Cert.Reference21Ideal.S1x512 .f32) : FVec Ideal Cert.Reference21Ideal.S1x512 .f32 := UPDATE Cert.Reference21Ideal.Gen.bcast_S_S1x512 w g a b

/-- The update of w0_b that the body stores. -/
theorem point3 (c : Dev nD) (t : Fin cfg0.N) (y) :
    k0_pay6 (iblk m c 4 t) (iblk m c 5 t) (iblk m c 6 t) (iblk m c 7 t) y = REF3 (m ((c : Thread nD τ).loc main_arg4)) (m ((c : Thread nD τ).loc main_arg5)) (m ((c : Thread nD τ).loc main_arg6)) (m ((c : Thread nD τ).loc main_arg7)) (((cfg0.win 19).blk t).view.emb y) := by
  pointwise [k0_pay4, k0_pay5, k0_pay6, REF3, UPDATE, FIRST, SECOND, CONST]
  blk_point [iblk, V, idx t]

/-- The array after the run. -/
theorem final3 (c : Dev nD) : (dats m 0 c).arrAt 19 (cfgs 0).N = REF3 (m ((c : Thread nD τ).loc main_arg4)) (m ((c : Thread nD τ).loc main_arg5)) (m ((c : Thread nD τ).loc main_arg6)) (m ((c : Thread nD τ).loc main_arg7)) := by
  refine (dats m 0 c).arrAt_eq_of_covers 19 _ (by decide +kernel) fun t hf y => ?_
  blk_simp
  rw [after0_19]
  frame_out
  exact point3 m c t y

/-- The reference's new first moment of w0_b. -/
abbrev REF4 (g a : FVec Ideal Cert.Reference21Ideal.S1x512 .f32) : FVec Ideal Cert.Reference21Ideal.S1x512 .f32 := FIRST Cert.Reference21Ideal.Gen.bcast_S_S1x512 g a

/-- The new first moment of w0_b that the body stores. -/
theorem point4 (c : Dev nD) (t : Fin cfg0.N) (y) :
    k0_pay4 (iblk m c 5 t) (iblk m c 6 t) y = REF4 (m ((c : Thread nD τ).loc main_arg5)) (m ((c : Thread nD τ).loc main_arg6)) (((cfg0.win 20).blk t).view.emb y) := by
  pointwise [k0_pay4, REF4, FIRST, CONST]
  blk_point [iblk, V, idx t]

/-- The array after the run. -/
theorem final4 (c : Dev nD) : (dats m 0 c).arrAt 20 (cfgs 0).N = REF4 (m ((c : Thread nD τ).loc main_arg5)) (m ((c : Thread nD τ).loc main_arg6)) := by
  refine (dats m 0 c).arrAt_eq_of_covers 20 _ (by decide +kernel) fun t hf y => ?_
  blk_simp
  rw [after0_20]
  frame_out
  exact point4 m c t y

/-- The reference's new second moment of w0_b. -/
abbrev REF5 (g b : FVec Ideal Cert.Reference21Ideal.S1x512 .f32) : FVec Ideal Cert.Reference21Ideal.S1x512 .f32 := SECOND Cert.Reference21Ideal.Gen.bcast_S_S1x512 g b

/-- The new second moment of w0_b that the body stores. -/
theorem point5 (c : Dev nD) (t : Fin cfg0.N) (y) :
    k0_pay5 (iblk m c 5 t) (iblk m c 7 t) y = REF5 (m ((c : Thread nD τ).loc main_arg5)) (m ((c : Thread nD τ).loc main_arg7)) (((cfg0.win 21).blk t).view.emb y) := by
  pointwise [k0_pay5, REF5, SECOND, CONST]
  blk_point [iblk, V, idx t]

/-- The array after the run. -/
theorem final5 (c : Dev nD) : (dats m 0 c).arrAt 21 (cfgs 0).N = REF5 (m ((c : Thread nD τ).loc main_arg5)) (m ((c : Thread nD τ).loc main_arg7)) := by
  refine (dats m 0 c).arrAt_eq_of_covers 21 _ (by decide +kernel) fun t hf y => ?_
  blk_simp
  rw [after0_21]
  frame_out
  exact point5 m c t y

/-- The reference's update of a_up_f. -/
abbrev REF6 (w g a b : FVec Ideal Cert.Reference21Ideal.S1x64x128 .f32) : FVec Ideal Cert.Reference21Ideal.S1x64x128 .f32 := UPDATE Cert.Reference21Ideal.Gen.bcast_S_S1x64x128 w g a b

/-- The update of a_up_f that the body stores. -/
theorem point6 (c : Dev nD) (t : Fin cfg0.N) (y) :
    k0_pay9 (iblk m c 8 t) (iblk m c 9 t) (iblk m c 10 t) (iblk m c 11 t) y = REF6 (m ((c : Thread nD τ).loc main_arg8)) (m ((c : Thread nD τ).loc main_arg9)) (m ((c : Thread nD τ).loc main_arg10)) (m ((c : Thread nD τ).loc main_arg11)) (((cfg0.win 22).blk t).view.emb y) := by
  pointwise [k0_pay7, k0_pay8, k0_pay9, REF6, UPDATE, FIRST, SECOND, CONST]
  blk_point [iblk, V, idx t]

/-- The array after the run. -/
theorem final6 (c : Dev nD) : (dats m 0 c).arrAt 22 (cfgs 0).N = REF6 (m ((c : Thread nD τ).loc main_arg8)) (m ((c : Thread nD τ).loc main_arg9)) (m ((c : Thread nD τ).loc main_arg10)) (m ((c : Thread nD τ).loc main_arg11)) := by
  refine (dats m 0 c).arrAt_eq_of_covers 22 _ (by decide +kernel) fun t hf y => ?_
  blk_simp
  rw [after0_22]
  frame_out
  exact point6 m c t y

/-- The reference's new first moment of a_up_f. -/
abbrev REF7 (g a : FVec Ideal Cert.Reference21Ideal.S1x64x128 .f32) : FVec Ideal Cert.Reference21Ideal.S1x64x128 .f32 := FIRST Cert.Reference21Ideal.Gen.bcast_S_S1x64x128 g a

/-- The new first moment of a_up_f that the body stores. -/
theorem point7 (c : Dev nD) (t : Fin cfg0.N) (y) :
    k0_pay7 (iblk m c 9 t) (iblk m c 10 t) y = REF7 (m ((c : Thread nD τ).loc main_arg9)) (m ((c : Thread nD τ).loc main_arg10)) (((cfg0.win 23).blk t).view.emb y) := by
  pointwise [k0_pay7, REF7, FIRST, CONST]
  blk_point [iblk, V, idx t]

/-- The array after the run. -/
theorem final7 (c : Dev nD) : (dats m 0 c).arrAt 23 (cfgs 0).N = REF7 (m ((c : Thread nD τ).loc main_arg9)) (m ((c : Thread nD τ).loc main_arg10)) := by
  refine (dats m 0 c).arrAt_eq_of_covers 23 _ (by decide +kernel) fun t hf y => ?_
  blk_simp
  rw [after0_23]
  frame_out
  exact point7 m c t y

/-- The reference's new second moment of a_up_f. -/
abbrev REF8 (g b : FVec Ideal Cert.Reference21Ideal.S1x64x128 .f32) : FVec Ideal Cert.Reference21Ideal.S1x64x128 .f32 := SECOND Cert.Reference21Ideal.Gen.bcast_S_S1x64x128 g b

/-- The new second moment of a_up_f that the body stores. -/
theorem point8 (c : Dev nD) (t : Fin cfg0.N) (y) :
    k0_pay8 (iblk m c 9 t) (iblk m c 11 t) y = REF8 (m ((c : Thread nD τ).loc main_arg9)) (m ((c : Thread nD τ).loc main_arg11)) (((cfg0.win 24).blk t).view.emb y) := by
  pointwise [k0_pay8, REF8, SECOND, CONST]
  blk_point [iblk, V, idx t]

/-- The array after the run. -/
theorem final8 (c : Dev nD) : (dats m 0 c).arrAt 24 (cfgs 0).N = REF8 (m ((c : Thread nD τ).loc main_arg9)) (m ((c : Thread nD τ).loc main_arg11)) := by
  refine (dats m 0 c).arrAt_eq_of_covers 24 _ (by decide +kernel) fun t hf y => ?_
  blk_simp
  rw [after0_24]
  frame_out
  exact point8 m c t y

/-- The reference's update of a0_f. -/
abbrev REF9 (w g a b : FVec Ideal Cert.Reference21Ideal.S1x512 .f32) : FVec Ideal Cert.Reference21Ideal.S1x512 .f32 := UPDATE Cert.Reference21Ideal.Gen.bcast_S_S1x512 w g a b

/-- The update of a0_f that the body stores. -/
theorem point9 (c : Dev nD) (t : Fin cfg0.N) (y) :
    k0_pay12 (iblk m c 12 t) (iblk m c 13 t) (iblk m c 14 t) (iblk m c 15 t) y = REF9 (m ((c : Thread nD τ).loc main_arg12)) (m ((c : Thread nD τ).loc main_arg13)) (m ((c : Thread nD τ).loc main_arg14)) (m ((c : Thread nD τ).loc main_arg15)) (((cfg0.win 25).blk t).view.emb y) := by
  pointwise [k0_pay10, k0_pay11, k0_pay12, REF9, UPDATE, FIRST, SECOND, CONST]
  blk_point [iblk, V, idx t]

/-- The array after the run. -/
theorem final9 (c : Dev nD) : (dats m 0 c).arrAt 25 (cfgs 0).N = REF9 (m ((c : Thread nD τ).loc main_arg12)) (m ((c : Thread nD τ).loc main_arg13)) (m ((c : Thread nD τ).loc main_arg14)) (m ((c : Thread nD τ).loc main_arg15)) := by
  refine (dats m 0 c).arrAt_eq_of_covers 25 _ (by decide +kernel) fun t hf y => ?_
  blk_simp
  rw [after0_25]
  frame_out
  exact point9 m c t y

/-- The reference's new first moment of a0_f. -/
abbrev REF10 (g a : FVec Ideal Cert.Reference21Ideal.S1x512 .f32) : FVec Ideal Cert.Reference21Ideal.S1x512 .f32 := FIRST Cert.Reference21Ideal.Gen.bcast_S_S1x512 g a

/-- The new first moment of a0_f that the body stores. -/
theorem point10 (c : Dev nD) (t : Fin cfg0.N) (y) :
    k0_pay10 (iblk m c 13 t) (iblk m c 14 t) y = REF10 (m ((c : Thread nD τ).loc main_arg13)) (m ((c : Thread nD τ).loc main_arg14)) (((cfg0.win 26).blk t).view.emb y) := by
  pointwise [k0_pay10, REF10, FIRST, CONST]
  blk_point [iblk, V, idx t]

/-- The array after the run. -/
theorem final10 (c : Dev nD) : (dats m 0 c).arrAt 26 (cfgs 0).N = REF10 (m ((c : Thread nD τ).loc main_arg13)) (m ((c : Thread nD τ).loc main_arg14)) := by
  refine (dats m 0 c).arrAt_eq_of_covers 26 _ (by decide +kernel) fun t hf y => ?_
  blk_simp
  rw [after0_26]
  frame_out
  exact point10 m c t y

/-- The reference's new second moment of a0_f. -/
abbrev REF11 (g b : FVec Ideal Cert.Reference21Ideal.S1x512 .f32) : FVec Ideal Cert.Reference21Ideal.S1x512 .f32 := SECOND Cert.Reference21Ideal.Gen.bcast_S_S1x512 g b

/-- The new second moment of a0_f that the body stores. -/
theorem point11 (c : Dev nD) (t : Fin cfg0.N) (y) :
    k0_pay11 (iblk m c 13 t) (iblk m c 15 t) y = REF11 (m ((c : Thread nD τ).loc main_arg13)) (m ((c : Thread nD τ).loc main_arg15)) (((cfg0.win 27).blk t).view.emb y) := by
  pointwise [k0_pay11, REF11, SECOND, CONST]
  blk_point [iblk, V, idx t]

/-- The array after the run. -/
theorem final11 (c : Dev nD) : (dats m 0 c).arrAt 27 (cfgs 0).N = REF11 (m ((c : Thread nD τ).loc main_arg13)) (m ((c : Thread nD τ).loc main_arg15)) := by
  refine (dats m 0 c).arrAt_eq_of_covers 27 _ (by decide +kernel) fun t hf y => ?_
  blk_simp
  rw [after0_27]
  frame_out
  exact point11 m c t y

end Cert.Kernel21Ideal.Value

end
-- ==== Proof.Claims21.lean ====
/- The claims about `Cert.Kernel21`, its ideal reading and its reference: the frames, the reading, and the values. -/
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import proofs.«01_k».proof.Proof.AdamSmallB
public import Idealize.ShloMosaic.Lib.Claim

@[expose] public section

noncomputable section

namespace Cert.Claims21

open Idealize.ShloMosaic Idealize.SL.Sem

theorem frame_kernel : Cert.quiescent_Kernel21 := fun m ρ _ => Cert.Kernel21.Gen.frame m ρ

theorem frame_ideal : Cert.quiescent_Kernel21Ideal := fun m ρ _ => Cert.Kernel21Ideal.Gen.frame m ρ

/-- The reference declares no semaphore, and none of its operations writes an argument. -/
theorem frame_reference : Cert.quiescent_Reference21Ideal := fun m ρ _ =>
  (θ_run Cert.Reference21Ideal.defs _ _).mono
    (fun r h => ⟨fun c => (h c).2.2.2.2.2.2.2.2.2.2.2.2, sem_eq_zero_of_no_sems (by decide) r.2⟩)
    (Cert.Reference21Ideal.Value.run m ρ)

theorem preserves : Cert.preserves_Kernel21_Kernel21Ideal := trivial

set_option maxHeartbeats 2000000 in
/-- The kernel's ideal results are the reference's. -/
theorem algebraic : Cert.algebraic_Kernel21Ideal_Reference21Ideal := by
  intro m g m' g' hpre hagree
  refine ⟨fun c => (Cert.Kernel21Ideal.Gen.dats m 0 c).arrAt 16 (Cert.Kernel21Ideal.cfgs 0).N,
    fun c => (Cert.Kernel21Ideal.Gen.dats m 0 c).arrAt 17 (Cert.Kernel21Ideal.cfgs 0).N,
    fun c => (Cert.Kernel21Ideal.Gen.dats m 0 c).arrAt 18 (Cert.Kernel21Ideal.cfgs 0).N,
    fun c => (Cert.Kernel21Ideal.Gen.dats m 0 c).arrAt 19 (Cert.Kernel21Ideal.cfgs 0).N,
    fun c => (Cert.Kernel21Ideal.Gen.dats m 0 c).arrAt 20 (Cert.Kernel21Ideal.cfgs 0).N,
    fun c => (Cert.Kernel21Ideal.Gen.dats m 0 c).arrAt 21 (Cert.Kernel21Ideal.cfgs 0).N,
    fun c => (Cert.Kernel21Ideal.Gen.dats m 0 c).arrAt 22 (Cert.Kernel21Ideal.cfgs 0).N,
    fun c => (Cert.Kernel21Ideal.Gen.dats m 0 c).arrAt 23 (Cert.Kernel21Ideal.cfgs 0).N,
    fun c => (Cert.Kernel21Ideal.Gen.dats m 0 c).arrAt 24 (Cert.Kernel21Ideal.cfgs 0).N,
    fun c => (Cert.Kernel21Ideal.Gen.dats m 0 c).arrAt 25 (Cert.Kernel21Ideal.cfgs 0).N,
    fun c => (Cert.Kernel21Ideal.Gen.dats m 0 c).arrAt 26 (Cert.Kernel21Ideal.cfgs 0).N,
    fun c => (Cert.Kernel21Ideal.Gen.dats m 0 c).arrAt 27 (Cert.Kernel21Ideal.cfgs 0).N, ?_, ?_⟩
  · refine θ_run_mono (θ_run_and (Cert.Kernel21Ideal.Gen.run_main m g) (Cert.Kernel21Ideal.Gen.unchanged m g)) fun r hr c => ?_
    exact ⟨(hr.1 c).1 16, (hr.1 c).1 17, (hr.1 c).1 18, (hr.1 c).1 19, (hr.1 c).1 20, (hr.1 c).1 21, (hr.1 c).1 22, (hr.1 c).1 23, (hr.1 c).1 24, (hr.1 c).1 25, (hr.1 c).1 26, (hr.1 c).1 27, hr.2 c⟩
  · refine θ_run_mono (Cert.Reference21Ideal.Value.run m' g') fun r hr c => ?_
    obtain ⟨e0, e1, e2, e3, e4, e5, e6, e7, e8, e9, e10, e11, e12, e13, e14, e15⟩ := hagree c
    have h0 : r.2.mem ((c.tc : Thread Cert.Reference21Ideal.nD Cert.Reference21Ideal.τ).loc Cert.Reference21Ideal.main_v23) = Cert.Kernel21Ideal.Value.REF0 (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) := (hr c).1
    rw [e0, e1, e2, e3] at h0
    replace h0 := h0.trans (Cert.Kernel21Ideal.Value.final0 m c).symm
    have h1 : r.2.mem ((c.tc : Thread Cert.Reference21Ideal.nD Cert.Reference21Ideal.τ).loc Cert.Reference21Ideal.main_v4) = Cert.Kernel21Ideal.Value.REF1 (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) := (hr c).2.1
    rw [e1, e2] at h1
    replace h1 := h1.trans (Cert.Kernel21Ideal.Value.final1 m c).symm
    have h2 : r.2.mem ((c.tc : Thread Cert.Reference21Ideal.nD Cert.Reference21Ideal.τ).loc Cert.Reference21Ideal.main_v10) = Cert.Kernel21Ideal.Value.REF2 (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg3)) := (hr c).2.2.1
    rw [e1, e3] at h2
    replace h2 := h2.trans (Cert.Kernel21Ideal.Value.final2 m c).symm
    have h3 : r.2.mem ((c.tc : Thread Cert.Reference21Ideal.nD Cert.Reference21Ideal.τ).loc Cert.Reference21Ideal.main_v47) = Cert.Kernel21Ideal.Value.REF3 (m' ((c.tc : Thread Cert.Reference21Ideal.nD Cert.Reference21Ideal.τ).loc Cert.Reference21Ideal.main_arg4)) (m' ((c.tc : Thread Cert.Reference21Ideal.nD Cert.Reference21Ideal.τ).loc Cert.Reference21Ideal.main_arg5)) (m' ((c.tc : Thread Cert.Reference21Ideal.nD Cert.Reference21Ideal.τ).loc Cert.Reference21Ideal.main_arg6)) (m' ((c.tc : Thread Cert.Reference21Ideal.nD Cert.Reference21Ideal.τ).loc Cert.Reference21Ideal.main_arg7)) := (hr c).2.2.2.1
    rw [e4, e5, e6, e7] at h3
    replace h3 := h3.trans (Cert.Kernel21Ideal.Value.final3 m c).symm
    have h4 : r.2.mem ((c.tc : Thread Cert.Reference21Ideal.nD Cert.Reference21Ideal.τ).loc Cert.Reference21Ideal.main_v28) = Cert.Kernel21Ideal.Value.REF4 (m' ((c.tc : Thread Cert.Reference21Ideal.nD Cert.Reference21Ideal.τ).loc Cert.Reference21Ideal.main_arg5)) (m' ((c.tc : Thread Cert.Reference21Ideal.nD Cert.Reference21Ideal.τ).loc Cert.Reference21Ideal.main_arg6)) := (hr c).2.2.2.2.1
    rw [e5, e6] at h4
    replace h4 := h4.trans (Cert.Kernel21Ideal.Value.final4 m c).symm
    have h5 : r.2.mem ((c.tc : Thread Cert.Reference21Ideal.nD Cert.Reference21Ideal.τ).loc Cert.Reference21Ideal.main_v34) = Cert.Kernel21Ideal.Value.REF5 (m' ((c.tc : Thread Cert.Reference21Ideal.nD Cert.Reference21Ideal.τ).loc Cert.Reference21Ideal.main_arg5)) (m' ((c.tc : Thread Cert.Reference21Ideal.nD Cert.Reference21Ideal.τ).loc Cert.Reference21Ideal.main_arg7)) := (hr c).2.2.2.2.2.1
    rw [e5, e7] at h5
    replace h5 := h5.trans (Cert.Kernel21Ideal.Value.final5 m c).symm
    have h6 : r.2.mem ((c.tc : Thread Cert.Reference21Ideal.nD Cert.Reference21Ideal.τ).loc Cert.Reference21Ideal.main_v71) = Cert.Kernel21Ideal.Value.REF6 (m' ((c.tc : Thread Cert.Reference21Ideal.nD Cert.Reference21Ideal.τ).loc Cert.Reference21Ideal.main_arg8)) (m' ((c.tc : Thread Cert.Reference21Ideal.nD Cert.Reference21Ideal.τ).loc Cert.Reference21Ideal.main_arg9)) (m' ((c.tc : Thread Cert.Reference21Ideal.nD Cert.Reference21Ideal.τ).loc Cert.Reference21Ideal.main_arg10)) (m' ((c.tc : Thread Cert.Reference21Ideal.nD Cert.Reference21Ideal.τ).loc Cert.Reference21Ideal.main_arg11)) := (hr c).2.2.2.2.2.2.1
    rw [e8, e9, e10, e11] at h6
    replace h6 := h6.trans (Cert.Kernel21Ideal.Value.final6 m c).symm
    have h7 : r.2.mem ((c.tc : Thread Cert.Reference21Ideal.nD Cert.Reference21Ideal.τ).loc Cert.Reference21Ideal.main_v52) = Cert.Kernel21Ideal.Value.REF7 (m' ((c.tc : Thread Cert.Reference21Ideal.nD Cert.Reference21Ideal.τ).loc Cert.Reference21Ideal.main_arg9)) (m' ((c.tc : Thread Cert.Reference21Ideal.nD Cert.Reference21Ideal.τ).loc Cert.Reference21Ideal.main_arg10)) := (hr c).2.2.2.2.2.2.2.1
    rw [e9, e10] at h7
    replace h7 := h7.trans (Cert.Kernel21Ideal.Value.final7 m c).symm
    have h8 : r.2.mem ((c.tc : Thread Cert.Reference21Ideal.nD Cert.Reference21Ideal.τ).loc Cert.Reference21Ideal.main_v58) = Cert.Kernel21Ideal.Value.REF8 (m' ((c.tc : Thread Cert.Reference21Ideal.nD Cert.Reference21Ideal.τ).loc Cert.Reference21Ideal.main_arg9)) (m' ((c.tc : Thread Cert.Reference21Ideal.nD Cert.Reference21Ideal.τ).loc Cert.Reference21Ideal.main_arg11)) := (hr c).2.2.2.2.2.2.2.2.1
    rw [e9, e11] at h8
    replace h8 := h8.trans (Cert.Kernel21Ideal.Value.final8 m c).symm
    have h9 : r.2.mem ((c.tc : Thread Cert.Reference21Ideal.nD Cert.Reference21Ideal.τ).loc Cert.Reference21Ideal.main_v95) = Cert.Kernel21Ideal.Value.REF9 (m' ((c.tc : Thread Cert.Reference21Ideal.nD Cert.Reference21Ideal.τ).loc Cert.Reference21Ideal.main_arg12)) (m' ((c.tc : Thread Cert.Reference21Ideal.nD Cert.Reference21Ideal.τ).loc Cert.Reference21Ideal.main_arg13)) (m' ((c.tc : Thread Cert.Reference21Ideal.nD Cert.Reference21Ideal.τ).loc Cert.Reference21Ideal.main_arg14)) (m' ((c.tc : Thread Cert.Reference21Ideal.nD Cert.Reference21Ideal.τ).loc Cert.Reference21Ideal.main_arg15)) := (hr c).2.2.2.2.2.2.2.2.2.1
    rw [e12, e13, e14, e15] at h9
    replace h9 := h9.trans (Cert.Kernel21Ideal.Value.final9 m c).symm
    have h10 : r.2.mem ((c.tc : Thread Cert.Reference21Ideal.nD Cert.Reference21Ideal.τ).loc Cert.Reference21Ideal.main_v76) = Cert.Kernel21Ideal.Value.REF10 (m' ((c.tc : Thread Cert.Reference21Ideal.nD Cert.Reference21Ideal.τ).loc Cert.Reference21Ideal.main_arg13)) (m' ((c.tc : Thread Cert.Reference21Ideal.nD Cert.Reference21Ideal.τ).loc Cert.Reference21Ideal.main_arg14)) := (hr c).2.2.2.2.2.2.2.2.2.2.1
    rw [e13, e14] at h10
    replace h10 := h10.trans (Cert.Kernel21Ideal.Value.final10 m c).symm
    have h11 : r.2.mem ((c.tc : Thread Cert.Reference21Ideal.nD Cert.Reference21Ideal.τ).loc Cert.Reference21Ideal.main_v82) = Cert.Kernel21Ideal.Value.REF11 (m' ((c.tc : Thread Cert.Reference21Ideal.nD Cert.Reference21Ideal.τ).loc Cert.Reference21Ideal.main_arg13)) (m' ((c.tc : Thread Cert.Reference21Ideal.nD Cert.Reference21Ideal.τ).loc Cert.Reference21Ideal.main_arg15)) := (hr c).2.2.2.2.2.2.2.2.2.2.2.1
    rw [e13, e15] at h11
    replace h11 := h11.trans (Cert.Kernel21Ideal.Value.final11 m c).symm
    exact ⟨h0, h1, h2, h3, h4, h5, h6, h7, h8, h9, h10, h11, (hr c).2.2.2.2.2.2.2.2.2.2.2.2⟩

end Cert.Claims21

end
-- ==== Proof.AdamSmallC.lean ====
/- The value of `Cert.Kernel22Ideal`: the update and the two moments that the optimiser's step of a_up_b, a0_b, g_up and k_k leaves are the reference's. -/
module

public import proofs.«01_k».proof.Proof.Gen.Kernel22Ideal.Frame
public import proofs.«01_k».proof.Proof.Gen.Reference22Ideal
public import Idealize.ShloMosaic.Lib.Pipeline.ValueKit

@[expose] public section

set_option maxRecDepth 16384
set_option synthInstance.maxSize 4096

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen

variable (m : (ℓ : Loc nD τ sig) → Buf (Elt Ideal) ℓ)

/-! ## The reference's terms, of a weight `w` of any shape, its gradient `g` and its moments `a`, `b` -/

section Terms
variable {S : Shape} (h : Cert.Reference22Ideal.S_.BroadcastsInDim S (![] : Fin 0 → Fin S.rank))

/-- The array of one constant. -/
abbrev CONST (k : BitVec 32) : FVec Ideal S .f32 := broadcastInDim S ![] h (constant Cert.Reference22Ideal.S_ .f32 k)

/-- The new first moment. -/
abbrev FIRST (g a : FVec Ideal S .f32) : FVec Ideal S .f32 := addf (mulf (CONST h 0x3F666666#32) a) (mulf (CONST h 0x3DCCCCCD#32) g)

/-- The new second moment. -/
abbrev SECOND (g b : FVec Ideal S .f32) : FVec Ideal S .f32 := addf (mulf (CONST h 0x3F7FBE77#32) b) (mulf (CONST h 0x3A83126F#32) (mulf g g))

/-- The update. -/
abbrev UPDATE (w g a b : FVec Ideal S .f32) : FVec Ideal S .f32 :=
  mulf (CONST h 0xBA83126F#32) (addf
    (Host.divf (Host.divf (FIRST h g a) (CONST h 0x3F26BD02#32)) (addf (Host.sqrt (Host.divf (SECOND h g b) (CONST h 0x3C231ACC#32))) (CONST h 0x322BCC77#32)))
    (mulf (CONST h 0x3C23D70A#32) w))

end Terms

/-- Each window's block index at the grid point, decided. -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0, 0]
    ∧ win0_10.index t = ![0, 0, 0]
    ∧ win0_11.index t = ![0, 0, 0]
    ∧ win0_12.index t = ![0, 0]
    ∧ win0_13.index t = ![0, 0]
    ∧ win0_14.index t = ![0, 0]
    ∧ win0_15.index t = ![0, 0]
    ∧ win0_16.index t = ![0, 0, 0]
    ∧ win0_17.index t = ![0, 0, 0]
    ∧ win0_18.index t = ![0, 0, 0]
    ∧ win0_19.index t = ![0, 0]
    ∧ win0_20.index t = ![0, 0]
    ∧ win0_21.index t = ![0, 0]
    ∧ win0_22.index t = ![0, 0, 0]
    ∧ win0_23.index t = ![0, 0, 0]
    ∧ win0_24.index t = ![0, 0, 0]
    ∧ win0_25.index t = ![0, 0]
    ∧ win0_26.index t = ![0, 0]
    ∧ win0_27.index t = ![0, 0] :=
  (by decide +kernel : ∀ t : Fin grid0.N, _)

/-- The reference's update of a_up_b. -/
abbrev REF0 (w g a b : FVec Ideal Cert.Reference22Ideal.S1x64x128 .f32) : FVec Ideal Cert.Reference22Ideal.S1x64x128 .f32 := UPDATE Cert.Reference22Ideal.Gen.bcast_S_S1x64x128 w g a b

/-- The update of a_up_b that the body stores. -/
theorem point0 (c : Dev nD) (t : Fin cfg0.N) (y) :
    k0_pay3 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 16).blk t).view.emb y) := by
  pointwise [k0_pay1, k0_pay2, k0_pay3, REF0, UPDATE, FIRST, SECOND, CONST]
  blk_point [iblk, V, idx t]

/-- The array after the run. -/
theorem final0 (c : Dev nD) : (dats m 0 c).arrAt 16 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  rw [after0_16]
  frame_out
  exact point0 m c t y

/-- The reference's new first moment of a_up_b. -/
abbrev REF1 (g a : FVec Ideal Cert.Reference22Ideal.S1x64x128 .f32) : FVec Ideal Cert.Reference22Ideal.S1x64x128 .f32 := FIRST Cert.Reference22Ideal.Gen.bcast_S_S1x64x128 g a

/-- The new first moment of a_up_b that the body stores. -/
theorem point1 (c : Dev nD) (t : Fin cfg0.N) (y) :
    k0_pay1 (iblk m c 1 t) (iblk m c 2 t) y = REF1 (m ((c : Thread nD τ).loc main_arg1)) (m ((c : Thread nD τ).loc main_arg2)) (((cfg0.win 17).blk t).view.emb y) := by
  pointwise [k0_pay1, REF1, FIRST, CONST]
  blk_point [iblk, V, idx t]

/-- The array after the run. -/
theorem final1 (c : Dev nD) : (dats m 0 c).arrAt 17 (cfgs 0).N = REF1 (m ((c : Thread nD τ).loc main_arg1)) (m ((c : Thread nD τ).loc main_arg2)) := by
  refine (dats m 0 c).arrAt_eq_of_covers 17 _ (by decide +kernel) fun t hf y => ?_
  blk_simp
  rw [after0_17]
  frame_out
  exact point1 m c t y

/-- The reference's new second moment of a_up_b. -/
abbrev REF2 (g b : FVec Ideal Cert.Reference22Ideal.S1x64x128 .f32) : FVec Ideal Cert.Reference22Ideal.S1x64x128 .f32 := SECOND Cert.Reference22Ideal.Gen.bcast_S_S1x64x128 g b

/-- The new second moment of a_up_b that the body stores. -/
theorem point2 (c : Dev nD) (t : Fin cfg0.N) (y) :
    k0_pay2 (iblk m c 1 t) (iblk m c 3 t) y = REF2 (m ((c : Thread nD τ).loc main_arg1)) (m ((c : Thread nD τ).loc main_arg3)) (((cfg0.win 18).blk t).view.emb y) := by
  pointwise [k0_pay2, REF2, SECOND, CONST]
  blk_point [iblk, V, idx t]

/-- The array after the run. -/
theorem final2 (c : Dev nD) : (dats m 0 c).arrAt 18 (cfgs 0).N = REF2 (m ((c : Thread nD τ).loc main_arg1)) (m ((c : Thread nD τ).loc main_arg3)) := by
  refine (dats m 0 c).arrAt_eq_of_covers 18 _ (by decide +kernel) fun t hf y => ?_
  blk_simp
  rw [after0_18]
  frame_out
  exact point2 m c t y

/-- The reference's update of a0_b. -/
abbrev REF3 (w g a b : FVec Ideal Cert.Reference22Ideal.S1x512 .f32) : FVec Ideal Cert.Reference22Ideal.S1x512 .f32 := UPDATE Cert.Reference22Ideal.Gen.bcast_S_S1x512 w g a b

/-- The update of a0_b that the body stores. -/
theorem point3 (c : Dev nD) (t : Fin cfg0.N) (y) :
    k0_pay6 (iblk m c 4 t) (iblk m c 5 t) (iblk m c 6 t) (iblk m c 7 t) y = REF3 (m ((c : Thread nD τ).loc main_arg4)) (m ((c : Thread nD τ).loc main_arg5)) (m ((c : Thread nD τ).loc main_arg6)) (m ((c : Thread nD τ).loc main_arg7)) (((cfg0.win 19).blk t).view.emb y) := by
  pointwise [k0_pay4, k0_pay5, k0_pay6, REF3, UPDATE, FIRST, SECOND, CONST]
  blk_point [iblk, V, idx t]

/-- The array after the run. -/
theorem final3 (c : Dev nD) : (dats m 0 c).arrAt 19 (cfgs 0).N = REF3 (m ((c : Thread nD τ).loc main_arg4)) (m ((c : Thread nD τ).loc main_arg5)) (m ((c : Thread nD τ).loc main_arg6)) (m ((c : Thread nD τ).loc main_arg7)) := by
  refine (dats m 0 c).arrAt_eq_of_covers 19 _ (by decide +kernel) fun t hf y => ?_
  blk_simp
  rw [after0_19]
  frame_out
  exact point3 m c t y

/-- The reference's new first moment of a0_b. -/
abbrev REF4 (g a : FVec Ideal Cert.Reference22Ideal.S1x512 .f32) : FVec Ideal Cert.Reference22Ideal.S1x512 .f32 := FIRST Cert.Reference22Ideal.Gen.bcast_S_S1x512 g a

/-- The new first moment of a0_b that the body stores. -/
theorem point4 (c : Dev nD) (t : Fin cfg0.N) (y) :
    k0_pay4 (iblk m c 5 t) (iblk m c 6 t) y = REF4 (m ((c : Thread nD τ).loc main_arg5)) (m ((c : Thread nD τ).loc main_arg6)) (((cfg0.win 20).blk t).view.emb y) := by
  pointwise [k0_pay4, REF4, FIRST, CONST]
  blk_point [iblk, V, idx t]

/-- The array after the run. -/
theorem final4 (c : Dev nD) : (dats m 0 c).arrAt 20 (cfgs 0).N = REF4 (m ((c : Thread nD τ).loc main_arg5)) (m ((c : Thread nD τ).loc main_arg6)) := by
  refine (dats m 0 c).arrAt_eq_of_covers 20 _ (by decide +kernel) fun t hf y => ?_
  blk_simp
  rw [after0_20]
  frame_out
  exact point4 m c t y

/-- The reference's new second moment of a0_b. -/
abbrev REF5 (g b : FVec Ideal Cert.Reference22Ideal.S1x512 .f32) : FVec Ideal Cert.Reference22Ideal.S1x512 .f32 := SECOND Cert.Reference22Ideal.Gen.bcast_S_S1x512 g b

/-- The new second moment of a0_b that the body stores. -/
theorem point5 (c : Dev nD) (t : Fin cfg0.N) (y) :
    k0_pay5 (iblk m c 5 t) (iblk m c 7 t) y = REF5 (m ((c : Thread nD τ).loc main_arg5)) (m ((c : Thread nD τ).loc main_arg7)) (((cfg0.win 21).blk t).view.emb y) := by
  pointwise [k0_pay5, REF5, SECOND, CONST]
  blk_point [iblk, V, idx t]

/-- The array after the run. -/
theorem final5 (c : Dev nD) : (dats m 0 c).arrAt 21 (cfgs 0).N = REF5 (m ((c : Thread nD τ).loc main_arg5)) (m ((c : Thread nD τ).loc main_arg7)) := by
  refine (dats m 0 c).arrAt_eq_of_covers 21 _ (by decide +kernel) fun t hf y => ?_
  blk_simp
  rw [after0_21]
  frame_out
  exact point5 m c t y

/-- The reference's update of g_up. -/
abbrev REF6 (w g a b : FVec Ideal Cert.Reference22Ideal.S1x160x128 .f32) : FVec Ideal Cert.Reference22Ideal.S1x160x128 .f32 := UPDATE Cert.Reference22Ideal.Gen.bcast_S_S1x160x128 w g a b

/-- The update of g_up that the body stores. -/
theorem point6 (c : Dev nD) (t : Fin cfg0.N) (y) :
    k0_pay9 (iblk m c 8 t) (iblk m c 9 t) (iblk m c 10 t) (iblk m c 11 t) y = REF6 (m ((c : Thread nD τ).loc main_arg8)) (m ((c : Thread nD τ).loc main_arg9)) (m ((c : Thread nD τ).loc main_arg10)) (m ((c : Thread nD τ).loc main_arg11)) (((cfg0.win 22).blk t).view.emb y) := by
  pointwise [k0_pay7, k0_pay8, k0_pay9, REF6, UPDATE, FIRST, SECOND, CONST]
  blk_point [iblk, V, idx t]

/-- The array after the run. -/
theorem final6 (c : Dev nD) : (dats m 0 c).arrAt 22 (cfgs 0).N = REF6 (m ((c : Thread nD τ).loc main_arg8)) (m ((c : Thread nD τ).loc main_arg9)) (m ((c : Thread nD τ).loc main_arg10)) (m ((c : Thread nD τ).loc main_arg11)) := by
  refine (dats m 0 c).arrAt_eq_of_covers 22 _ (by decide +kernel) fun t hf y => ?_
  blk_simp
  rw [after0_22]
  frame_out
  exact point6 m c t y

/-- The reference's new first moment of g_up. -/
abbrev REF7 (g a : FVec Ideal Cert.Reference22Ideal.S1x160x128 .f32) : FVec Ideal Cert.Reference22Ideal.S1x160x128 .f32 := FIRST Cert.Reference22Ideal.Gen.bcast_S_S1x160x128 g a

/-- The new first moment of g_up that the body stores. -/
theorem point7 (c : Dev nD) (t : Fin cfg0.N) (y) :
    k0_pay7 (iblk m c 9 t) (iblk m c 10 t) y = REF7 (m ((c : Thread nD τ).loc main_arg9)) (m ((c : Thread nD τ).loc main_arg10)) (((cfg0.win 23).blk t).view.emb y) := by
  pointwise [k0_pay7, REF7, FIRST, CONST]
  blk_point [iblk, V, idx t]

/-- The array after the run. -/
theorem final7 (c : Dev nD) : (dats m 0 c).arrAt 23 (cfgs 0).N = REF7 (m ((c : Thread nD τ).loc main_arg9)) (m ((c : Thread nD τ).loc main_arg10)) := by
  refine (dats m 0 c).arrAt_eq_of_covers 23 _ (by decide +kernel) fun t hf y => ?_
  blk_simp
  rw [after0_23]
  frame_out
  exact point7 m c t y

/-- The reference's new second moment of g_up. -/
abbrev REF8 (g b : FVec Ideal Cert.Reference22Ideal.S1x160x128 .f32) : FVec Ideal Cert.Reference22Ideal.S1x160x128 .f32 := SECOND Cert.Reference22Ideal.Gen.bcast_S_S1x160x128 g b

/-- The new second moment of g_up that the body stores. -/
theorem point8 (c : Dev nD) (t : Fin cfg0.N) (y) :
    k0_pay8 (iblk m c 9 t) (iblk m c 11 t) y = REF8 (m ((c : Thread nD τ).loc main_arg9)) (m ((c : Thread nD τ).loc main_arg11)) (((cfg0.win 24).blk t).view.emb y) := by
  pointwise [k0_pay8, REF8, SECOND, CONST]
  blk_point [iblk, V, idx t]

/-- The array after the run. -/
theorem final8 (c : Dev nD) : (dats m 0 c).arrAt 24 (cfgs 0).N = REF8 (m ((c : Thread nD τ).loc main_arg9)) (m ((c : Thread nD τ).loc main_arg11)) := by
  refine (dats m 0 c).arrAt_eq_of_covers 24 _ (by decide +kernel) fun t hf y => ?_
  blk_simp
  rw [after0_24]
  frame_out
  exact point8 m c t y

/-- The reference's update of k_k. -/
abbrev REF9 (w g a b : FVec Ideal Cert.Reference22Ideal.S1x512 .f32) : FVec Ideal Cert.Reference22Ideal.S1x512 .f32 := UPDATE Cert.Reference22Ideal.Gen.bcast_S_S1x512 w g a b

/-- The update of k_k that the body stores. -/
theorem point9 (c : Dev nD) (t : Fin cfg0.N) (y) :
    k0_pay12 (iblk m c 12 t) (iblk m c 13 t) (iblk m c 14 t) (iblk m c 15 t) y = REF9 (m ((c : Thread nD τ).loc main_arg12)) (m ((c : Thread nD τ).loc main_arg13)) (m ((c : Thread nD τ).loc main_arg14)) (m ((c : Thread nD τ).loc main_arg15)) (((cfg0.win 25).blk t).view.emb y) := by
  pointwise [k0_pay10, k0_pay11, k0_pay12, REF9, UPDATE, FIRST, SECOND, CONST]
  blk_point [iblk, V, idx t]

/-- The array after the run. -/
theorem final9 (c : Dev nD) : (dats m 0 c).arrAt 25 (cfgs 0).N = REF9 (m ((c : Thread nD τ).loc main_arg12)) (m ((c : Thread nD τ).loc main_arg13)) (m ((c : Thread nD τ).loc main_arg14)) (m ((c : Thread nD τ).loc main_arg15)) := by
  refine (dats m 0 c).arrAt_eq_of_covers 25 _ (by decide +kernel) fun t hf y => ?_
  blk_simp
  rw [after0_25]
  frame_out
  exact point9 m c t y

/-- The reference's new first moment of k_k. -/
abbrev REF10 (g a : FVec Ideal Cert.Reference22Ideal.S1x512 .f32) : FVec Ideal Cert.Reference22Ideal.S1x512 .f32 := FIRST Cert.Reference22Ideal.Gen.bcast_S_S1x512 g a

/-- The new first moment of k_k that the body stores. -/
theorem point10 (c : Dev nD) (t : Fin cfg0.N) (y) :
    k0_pay10 (iblk m c 13 t) (iblk m c 14 t) y = REF10 (m ((c : Thread nD τ).loc main_arg13)) (m ((c : Thread nD τ).loc main_arg14)) (((cfg0.win 26).blk t).view.emb y) := by
  pointwise [k0_pay10, REF10, FIRST, CONST]
  blk_point [iblk, V, idx t]

/-- The array after the run. -/
theorem final10 (c : Dev nD) : (dats m 0 c).arrAt 26 (cfgs 0).N = REF10 (m ((c : Thread nD τ).loc main_arg13)) (m ((c : Thread nD τ).loc main_arg14)) := by
  refine (dats m 0 c).arrAt_eq_of_covers 26 _ (by decide +kernel) fun t hf y => ?_
  blk_simp
  rw [after0_26]
  frame_out
  exact point10 m c t y

/-- The reference's new second moment of k_k. -/
abbrev REF11 (g b : FVec Ideal Cert.Reference22Ideal.S1x512 .f32) : FVec Ideal Cert.Reference22Ideal.S1x512 .f32 := SECOND Cert.Reference22Ideal.Gen.bcast_S_S1x512 g b

/-- The new second moment of k_k that the body stores. -/
theorem point11 (c : Dev nD) (t : Fin cfg0.N) (y) :
    k0_pay11 (iblk m c 13 t) (iblk m c 15 t) y = REF11 (m ((c : Thread nD τ).loc main_arg13)) (m ((c : Thread nD τ).loc main_arg15)) (((cfg0.win 27).blk t).view.emb y) := by
  pointwise [k0_pay11, REF11, SECOND, CONST]
  blk_point [iblk, V, idx t]

/-- The array after the run. -/
theorem final11 (c : Dev nD) : (dats m 0 c).arrAt 27 (cfgs 0).N = REF11 (m ((c : Thread nD τ).loc main_arg13)) (m ((c : Thread nD τ).loc main_arg15)) := by
  refine (dats m 0 c).arrAt_eq_of_covers 27 _ (by decide +kernel) fun t hf y => ?_
  blk_simp
  rw [after0_27]
  frame_out
  exact point11 m c t y

end Cert.Kernel22Ideal.Value

end
-- ==== Proof.Claims22.lean ====
/- The claims about `Cert.Kernel22`, its ideal reading and its reference: the frames, the reading, and the values. -/
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import proofs.«01_k».proof.Proof.AdamSmallC
public import Idealize.ShloMosaic.Lib.Claim

@[expose] public section

noncomputable section

namespace Cert.Claims22

open Idealize.ShloMosaic Idealize.SL.Sem

theorem frame_kernel : Cert.quiescent_Kernel22 := fun m ρ _ => Cert.Kernel22.Gen.frame m ρ

theorem frame_ideal : Cert.quiescent_Kernel22Ideal := fun m ρ _ => Cert.Kernel22Ideal.Gen.frame m ρ

/-- The reference declares no semaphore, and none of its operations writes an argument. -/
theorem frame_reference : Cert.quiescent_Reference22Ideal := fun m ρ _ =>
  (θ_run Cert.Reference22Ideal.defs _ _).mono
    (fun r h => ⟨fun c => (h c).2.2.2.2.2.2.2.2.2.2.2.2, sem_eq_zero_of_no_sems (by decide) r.2⟩)
    (Cert.Reference22Ideal.Value.run m ρ)

theorem preserves : Cert.preserves_Kernel22_Kernel22Ideal := trivial

set_option maxHeartbeats 2000000 in
/-- The kernel's ideal results are the reference's. -/
theorem algebraic : Cert.algebraic_Kernel22Ideal_Reference22Ideal := by
  intro m g m' g' hpre hagree
  refine ⟨fun c => (Cert.Kernel22Ideal.Gen.dats m 0 c).arrAt 16 (Cert.Kernel22Ideal.cfgs 0).N,
    fun c => (Cert.Kernel22Ideal.Gen.dats m 0 c).arrAt 17 (Cert.Kernel22Ideal.cfgs 0).N,
    fun c => (Cert.Kernel22Ideal.Gen.dats m 0 c).arrAt 18 (Cert.Kernel22Ideal.cfgs 0).N,
    fun c => (Cert.Kernel22Ideal.Gen.dats m 0 c).arrAt 19 (Cert.Kernel22Ideal.cfgs 0).N,
    fun c => (Cert.Kernel22Ideal.Gen.dats m 0 c).arrAt 20 (Cert.Kernel22Ideal.cfgs 0).N,
    fun c => (Cert.Kernel22Ideal.Gen.dats m 0 c).arrAt 21 (Cert.Kernel22Ideal.cfgs 0).N,
    fun c => (Cert.Kernel22Ideal.Gen.dats m 0 c).arrAt 22 (Cert.Kernel22Ideal.cfgs 0).N,
    fun c => (Cert.Kernel22Ideal.Gen.dats m 0 c).arrAt 23 (Cert.Kernel22Ideal.cfgs 0).N,
    fun c => (Cert.Kernel22Ideal.Gen.dats m 0 c).arrAt 24 (Cert.Kernel22Ideal.cfgs 0).N,
    fun c => (Cert.Kernel22Ideal.Gen.dats m 0 c).arrAt 25 (Cert.Kernel22Ideal.cfgs 0).N,
    fun c => (Cert.Kernel22Ideal.Gen.dats m 0 c).arrAt 26 (Cert.Kernel22Ideal.cfgs 0).N,
    fun c => (Cert.Kernel22Ideal.Gen.dats m 0 c).arrAt 27 (Cert.Kernel22Ideal.cfgs 0).N, ?_, ?_⟩
  · refine θ_run_mono (θ_run_and (Cert.Kernel22Ideal.Gen.run_main m g) (Cert.Kernel22Ideal.Gen.unchanged m g)) fun r hr c => ?_
    exact ⟨(hr.1 c).1 16, (hr.1 c).1 17, (hr.1 c).1 18, (hr.1 c).1 19, (hr.1 c).1 20, (hr.1 c).1 21, (hr.1 c).1 22, (hr.1 c).1 23, (hr.1 c).1 24, (hr.1 c).1 25, (hr.1 c).1 26, (hr.1 c).1 27, hr.2 c⟩
  · refine θ_run_mono (Cert.Reference22Ideal.Value.run m' g') fun r hr c => ?_
    obtain ⟨e0, e1, e2, e3, e4, e5, e6, e7, e8, e9, e10, e11, e12, e13, e14, e15⟩ := hagree c
    have h0 : r.2.mem ((c.tc : Thread Cert.Reference22Ideal.nD Cert.Reference22Ideal.τ).loc Cert.Reference22Ideal.main_v23) = Cert.Kernel22Ideal.Value.REF0 (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) (m' ((c.tc : Thread Cert.Reference22Ideal.nD Cert.Reference22Ideal.τ).loc Cert.Reference22Ideal.main_arg3)) := (hr c).1
    rw [e0, e1, e2, e3] at h0
    replace h0 := h0.trans (Cert.Kernel22Ideal.Value.final0 m c).symm
    have h1 : r.2.mem ((c.tc : Thread Cert.Reference22Ideal.nD Cert.Reference22Ideal.τ).loc Cert.Reference22Ideal.main_v4) = Cert.Kernel22Ideal.Value.REF1 (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) := (hr c).2.1
    rw [e1, e2] at h1
    replace h1 := h1.trans (Cert.Kernel22Ideal.Value.final1 m c).symm
    have h2 : r.2.mem ((c.tc : Thread Cert.Reference22Ideal.nD Cert.Reference22Ideal.τ).loc Cert.Reference22Ideal.main_v10) = Cert.Kernel22Ideal.Value.REF2 (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg3)) := (hr c).2.2.1
    rw [e1, e3] at h2
    replace h2 := h2.trans (Cert.Kernel22Ideal.Value.final2 m c).symm
    have h3 : r.2.mem ((c.tc : Thread Cert.Reference22Ideal.nD Cert.Reference22Ideal.τ).loc Cert.Reference22Ideal.main_v47) = Cert.Kernel22Ideal.Value.REF3 (m' ((c.tc : Thread Cert.Reference22Ideal.nD Cert.Reference22Ideal.τ).loc Cert.Reference22Ideal.main_arg4)) (m' ((c.tc : Thread Cert.Reference22Ideal.nD Cert.Reference22Ideal.τ).loc Cert.Reference22Ideal.main_arg5)) (m' ((c.tc : Thread Cert.Reference22Ideal.nD Cert.Reference22Ideal.τ).loc Cert.Reference22Ideal.main_arg6)) (m' ((c.tc : Thread Cert.Reference22Ideal.nD Cert.Reference22Ideal.τ).loc Cert.Reference22Ideal.main_arg7)) := (hr c).2.2.2.1
    rw [e4, e5, e6, e7] at h3
    replace h3 := h3.trans (Cert.Kernel22Ideal.Value.final3 m c).symm
    have h4 : r.2.mem ((c.tc : Thread Cert.Reference22Ideal.nD Cert.Reference22Ideal.τ).loc Cert.Reference22Ideal.main_v28) = Cert.Kernel22Ideal.Value.REF4 (m' ((c.tc : Thread Cert.Reference22Ideal.nD Cert.Reference22Ideal.τ).loc Cert.Reference22Ideal.main_arg5)) (m' ((c.tc : Thread Cert.Reference22Ideal.nD Cert.Reference22Ideal.τ).loc Cert.Reference22Ideal.main_arg6)) := (hr c).2.2.2.2.1
    rw [e5, e6] at h4
    replace h4 := h4.trans (Cert.Kernel22Ideal.Value.final4 m c).symm
    have h5 : r.2.mem ((c.tc : Thread Cert.Reference22Ideal.nD Cert.Reference22Ideal.τ).loc Cert.Reference22Ideal.main_v34) = Cert.Kernel22Ideal.Value.REF5 (m' ((c.tc : Thread Cert.Reference22Ideal.nD Cert.Reference22Ideal.τ).loc Cert.Reference22Ideal.main_arg5)) (m' ((c.tc : Thread Cert.Reference22Ideal.nD Cert.Reference22Ideal.τ).loc Cert.Reference22Ideal.main_arg7)) := (hr c).2.2.2.2.2.1
    rw [e5, e7] at h5
    replace h5 := h5.trans (Cert.Kernel22Ideal.Value.final5 m c).symm
    have h6 : r.2.mem ((c.tc : Thread Cert.Reference22Ideal.nD Cert.Reference22Ideal.τ).loc Cert.Reference22Ideal.main_v71) = Cert.Kernel22Ideal.Value.REF6 (m' ((c.tc : Thread Cert.Reference22Ideal.nD Cert.Reference22Ideal.τ).loc Cert.Reference22Ideal.main_arg8)) (m' ((c.tc : Thread Cert.Reference22Ideal.nD Cert.Reference22Ideal.τ).loc Cert.Reference22Ideal.main_arg9)) (m' ((c.tc : Thread Cert.Reference22Ideal.nD Cert.Reference22Ideal.τ).loc Cert.Reference22Ideal.main_arg10)) (m' ((c.tc : Thread Cert.Reference22Ideal.nD Cert.Reference22Ideal.τ).loc Cert.Reference22Ideal.main_arg11)) := (hr c).2.2.2.2.2.2.1
    rw [e8, e9, e10, e11] at h6
    replace h6 := h6.trans (Cert.Kernel22Ideal.Value.final6 m c).symm
    have h7 : r.2.mem ((c.tc : Thread Cert.Reference22Ideal.nD Cert.Reference22Ideal.τ).loc Cert.Reference22Ideal.main_v52) = Cert.Kernel22Ideal.Value.REF7 (m' ((c.tc : Thread Cert.Reference22Ideal.nD Cert.Reference22Ideal.τ).loc Cert.Reference22Ideal.main_arg9)) (m' ((c.tc : Thread Cert.Reference22Ideal.nD Cert.Reference22Ideal.τ).loc Cert.Reference22Ideal.main_arg10)) := (hr c).2.2.2.2.2.2.2.1
    rw [e9, e10] at h7
    replace h7 := h7.trans (Cert.Kernel22Ideal.Value.final7 m c).symm
    have h8 : r.2.mem ((c.tc : Thread Cert.Reference22Ideal.nD Cert.Reference22Ideal.τ).loc Cert.Reference22Ideal.main_v58) = Cert.Kernel22Ideal.Value.REF8 (m' ((c.tc : Thread Cert.Reference22Ideal.nD Cert.Reference22Ideal.τ).loc Cert.Reference22Ideal.main_arg9)) (m' ((c.tc : Thread Cert.Reference22Ideal.nD Cert.Reference22Ideal.τ).loc Cert.Reference22Ideal.main_arg11)) := (hr c).2.2.2.2.2.2.2.2.1
    rw [e9, e11] at h8
    replace h8 := h8.trans (Cert.Kernel22Ideal.Value.final8 m c).symm
    have h9 : r.2.mem ((c.tc : Thread Cert.Reference22Ideal.nD Cert.Reference22Ideal.τ).loc Cert.Reference22Ideal.main_v95) = Cert.Kernel22Ideal.Value.REF9 (m' ((c.tc : Thread Cert.Reference22Ideal.nD Cert.Reference22Ideal.τ).loc Cert.Reference22Ideal.main_arg12)) (m' ((c.tc : Thread Cert.Reference22Ideal.nD Cert.Reference22Ideal.τ).loc Cert.Reference22Ideal.main_arg13)) (m' ((c.tc : Thread Cert.Reference22Ideal.nD Cert.Reference22Ideal.τ).loc Cert.Reference22Ideal.main_arg14)) (m' ((c.tc : Thread Cert.Reference22Ideal.nD Cert.Reference22Ideal.τ).loc Cert.Reference22Ideal.main_arg15)) := (hr c).2.2.2.2.2.2.2.2.2.1
    rw [e12, e13, e14, e15] at h9
    replace h9 := h9.trans (Cert.Kernel22Ideal.Value.final9 m c).symm
    have h10 : r.2.mem ((c.tc : Thread Cert.Reference22Ideal.nD Cert.Reference22Ideal.τ).loc Cert.Reference22Ideal.main_v76) = Cert.Kernel22Ideal.Value.REF10 (m' ((c.tc : Thread Cert.Reference22Ideal.nD Cert.Reference22Ideal.τ).loc Cert.Reference22Ideal.main_arg13)) (m' ((c.tc : Thread Cert.Reference22Ideal.nD Cert.Reference22Ideal.τ).loc Cert.Reference22Ideal.main_arg14)) := (hr c).2.2.2.2.2.2.2.2.2.2.1
    rw [e13, e14] at h10
    replace h10 := h10.trans (Cert.Kernel22Ideal.Value.final10 m c).symm
    have h11 : r.2.mem ((c.tc : Thread Cert.Reference22Ideal.nD Cert.Reference22Ideal.τ).loc Cert.Reference22Ideal.main_v82) = Cert.Kernel22Ideal.Value.REF11 (m' ((c.tc : Thread Cert.Reference22Ideal.nD Cert.Reference22Ideal.τ).loc Cert.Reference22Ideal.main_arg13)) (m' ((c.tc : Thread Cert.Reference22Ideal.nD Cert.Reference22Ideal.τ).loc Cert.Reference22Ideal.main_arg15)) := (hr c).2.2.2.2.2.2.2.2.2.2.2.1
    rw [e13, e15] at h11
    replace h11 := h11.trans (Cert.Kernel22Ideal.Value.final11 m c).symm
    exact ⟨h0, h1, h2, h3, h4, h5, h6, h7, h8, h9, h10, h11, (hr c).2.2.2.2.2.2.2.2.2.2.2.2⟩

end Cert.Claims22

end
-- ==== Proof.AdamSmallD.lean ====
/- The value of `Cert.Kernel23Ideal`: the update and the two moments that the optimiser's step of k_a_f, k_a_b and r_k_f leaves are the reference's. -/
module

public import proofs.«01_k».proof.Proof.Gen.Kernel23Ideal.Frame
public import proofs.«01_k».proof.Proof.Gen.Reference23Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen

variable (m : (ℓ : Loc nD τ sig) → Buf (Elt Ideal) ℓ)

/-! ## The reference's terms, of a weight `w` of any shape, its gradient `g` and its moments `a`, `b` -/

section Terms
variable {S : Shape} (h : Cert.Reference23Ideal.S_.BroadcastsInDim S (![] : Fin 0 → Fin S.rank))

/-- The array of one constant. -/
abbrev CONST (k : BitVec 32) : FVec Ideal S .f32 := broadcastInDim S ![] h (constant Cert.Reference23Ideal.S_ .f32 k)

/-- The new first moment. -/
abbrev FIRST (g a : FVec Ideal S .f32) : FVec Ideal S .f32 := addf (mulf (CONST h 0x3F666666#32) a) (mulf (CONST h 0x3DCCCCCD#32) g)

/-- The new second moment. -/
abbrev SECOND (g b : FVec Ideal S .f32) : FVec Ideal S .f32 := addf (mulf (CONST h 0x3F7FBE77#32) b) (mulf (CONST h 0x3A83126F#32) (mulf g g))

/-- The update. -/
abbrev UPDATE (w g a b : FVec Ideal S .f32) : FVec Ideal S .f32 :=
  mulf (CONST h 0xBA83126F#32) (addf
    (Host.divf (Host.divf (FIRST h g a) (CONST h 0x3F26BD02#32)) (addf (Host.sqrt (Host.divf (SECOND h g b) (CONST h 0x3C231ACC#32))) (CONST h 0x322BCC77#32)))
    (mulf (CONST h 0x3C23D70A#32) w))

end Terms

/-- Each window's block index at the grid point, decided. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0, 0]
    ∧ win0_10.index t = ![0, 0, 0]
    ∧ win0_11.index t = ![0, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0, 0]
    ∧ win0_19.index t = ![0, 0, 0]
    ∧ win0_20.index t = ![0, 0, 0] :=
  (by decide +kernel : ∀ t : Fin grid0.N, _)

/-- The reference's update of k_a_f. -/
abbrev REF0 (w g a b : FVec Ideal Cert.Reference23Ideal.S1x512 .f32) : FVec Ideal Cert.Reference23Ideal.S1x512 .f32 := UPDATE Cert.Reference23Ideal.Gen.bcast_S_S1x512 w g a b

/-- The update of k_a_f that the body stores. -/
theorem point0 (c : Dev nD) (t : Fin cfg0.N) (y) :
    k0_pay3 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 12).blk t).view.emb y) := by
  pointwise [k0_pay1, k0_pay2, k0_pay3, REF0, UPDATE, FIRST, SECOND, CONST]
  blk_point [iblk, V, idx t]

/-- The array after the run. -/
theorem final0 (c : Dev nD) : (dats m 0 c).arrAt 12 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  exact point0 m c t y

/-- The reference's new first moment of k_a_f. -/
abbrev REF1 (g a : FVec Ideal Cert.Reference23Ideal.S1x512 .f32) : FVec Ideal Cert.Reference23Ideal.S1x512 .f32 := FIRST Cert.Reference23Ideal.Gen.bcast_S_S1x512 g a

/-- The new first moment of k_a_f that the body stores. -/
theorem point1 (c : Dev nD) (t : Fin cfg0.N) (y) :
    k0_pay1 (iblk m c 1 t) (iblk m c 2 t) y = REF1 (m ((c : Thread nD τ).loc main_arg1)) (m ((c : Thread nD τ).loc main_arg2)) (((cfg0.win 13).blk t).view.emb y) := by
  pointwise [k0_pay1, REF1, FIRST, CONST]
  blk_point [iblk, V, idx t]

/-- The array after the run. -/
theorem final1 (c : Dev nD) : (dats m 0 c).arrAt 13 (cfgs 0).N = REF1 (m ((c : Thread nD τ).loc main_arg1)) (m ((c : Thread nD τ).loc main_arg2)) := by
  refine (dats m 0 c).arrAt_eq_of_covers 13 _ (by decide +kernel) fun t hf y => ?_
  blk_simp
  rw [after0_13]
  frame_out
  exact point1 m c t y

/-- The reference's new second moment of k_a_f. -/
abbrev REF2 (g b : FVec Ideal Cert.Reference23Ideal.S1x512 .f32) : FVec Ideal Cert.Reference23Ideal.S1x512 .f32 := SECOND Cert.Reference23Ideal.Gen.bcast_S_S1x512 g b

/-- The new second moment of k_a_f that the body stores. -/
theorem point2 (c : Dev nD) (t : Fin cfg0.N) (y) :
    k0_pay2 (iblk m c 1 t) (iblk m c 3 t) y = REF2 (m ((c : Thread nD τ).loc main_arg1)) (m ((c : Thread nD τ).loc main_arg3)) (((cfg0.win 14).blk t).view.emb y) := by
  pointwise [k0_pay2, REF2, SECOND, CONST]
  blk_point [iblk, V, idx t]

/-- The array after the run. -/
theorem final2 (c : Dev nD) : (dats m 0 c).arrAt 14 (cfgs 0).N = REF2 (m ((c : Thread nD τ).loc main_arg1)) (m ((c : Thread nD τ).loc main_arg3)) := by
  refine (dats m 0 c).arrAt_eq_of_covers 14 _ (by decide +kernel) fun t hf y => ?_
  blk_simp
  rw [after0_14]
  frame_out
  exact point2 m c t y

/-- The reference's update of k_a_b. -/
abbrev REF3 (w g a b : FVec Ideal Cert.Reference23Ideal.S1x512 .f32) : FVec Ideal Cert.Reference23Ideal.S1x512 .f32 := UPDATE Cert.Reference23Ideal.Gen.bcast_S_S1x512 w g a b

/-- The update of k_a_b that the body stores. -/
theorem point3 (c : Dev nD) (t : Fin cfg0.N) (y) :
    k0_pay6 (iblk m c 4 t) (iblk m c 5 t) (iblk m c 6 t) (iblk m c 7 t) y = REF3 (m ((c : Thread nD τ).loc main_arg4)) (m ((c : Thread nD τ).loc main_arg5)) (m ((c : Thread nD τ).loc main_arg6)) (m ((c : Thread nD τ).loc main_arg7)) (((cfg0.win 15).blk t).view.emb y) := by
  pointwise [k0_pay4, k0_pay5, k0_pay6, REF3, UPDATE, FIRST, SECOND, CONST]
  blk_point [iblk, V, idx t]

/-- The array after the run. -/
theorem final3 (c : Dev nD) : (dats m 0 c).arrAt 15 (cfgs 0).N = REF3 (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  frame_out
  exact point3 m c t y

/-- The reference's new first moment of k_a_b. -/
abbrev REF4 (g a : FVec Ideal Cert.Reference23Ideal.S1x512 .f32) : FVec Ideal Cert.Reference23Ideal.S1x512 .f32 := FIRST Cert.Reference23Ideal.Gen.bcast_S_S1x512 g a

/-- The new first moment of k_a_b that the body stores. -/
theorem point4 (c : Dev nD) (t : Fin cfg0.N) (y) :
    k0_pay4 (iblk m c 5 t) (iblk m c 6 t) y = REF4 (m ((c : Thread nD τ).loc main_arg5)) (m ((c : Thread nD τ).loc main_arg6)) (((cfg0.win 16).blk t).view.emb y) := by
  pointwise [k0_pay4, REF4, FIRST, CONST]
  blk_point [iblk, V, idx t]

/-- The array after the run. -/
theorem final4 (c : Dev nD) : (dats m 0 c).arrAt 16 (cfgs 0).N = REF4 (m ((c : Thread nD τ).loc main_arg5)) (m ((c : Thread nD τ).loc main_arg6)) := by
  refine (dats m 0 c).arrAt_eq_of_covers 16 _ (by decide +kernel) fun t hf y => ?_
  blk_simp
  rw [after0_16]
  frame_out
  exact point4 m c t y

/-- The reference's new second moment of k_a_b. -/
abbrev REF5 (g b : FVec Ideal Cert.Reference23Ideal.S1x512 .f32) : FVec Ideal Cert.Reference23Ideal.S1x512 .f32 := SECOND Cert.Reference23Ideal.Gen.bcast_S_S1x512 g b

/-- The new second moment of k_a_b that the body stores. -/
theorem point5 (c : Dev nD) (t : Fin cfg0.N) (y) :
    k0_pay5 (iblk m c 5 t) (iblk m c 7 t) y = REF5 (m ((c : Thread nD τ).loc main_arg5)) (m ((c : Thread nD τ).loc main_arg7)) (((cfg0.win 17).blk t).view.emb y) := by
  pointwise [k0_pay5, REF5, SECOND, CONST]
  blk_point [iblk, V, idx t]

/-- The array after the run. -/
theorem final5 (c : Dev nD) : (dats m 0 c).arrAt 17 (cfgs 0).N = REF5 (m ((c : Thread nD τ).loc main_arg5)) (m ((c : Thread nD τ).loc main_arg7)) := by
  refine (dats m 0 c).arrAt_eq_of_covers 17 _ (by decide +kernel) fun t hf y => ?_
  blk_simp
  rw [after0_17]
  frame_out
  exact point5 m c t y

/-- The reference's update of r_k_f. -/
abbrev REF6 (w g a b : FVec Ideal Cert.Reference23Ideal.S1x8x64 .f32) : FVec Ideal Cert.Reference23Ideal.S1x8x64 .f32 := UPDATE Cert.Reference23Ideal.Gen.bcast_S_S1x8x64 w g a b

/-- The update of r_k_f that the body stores. -/
theorem point6 (c : Dev nD) (t : Fin cfg0.N) (y) :
    k0_pay9 (iblk m c 8 t) (iblk m c 9 t) (iblk m c 10 t) (iblk m c 11 t) y = REF6 (m ((c : Thread nD τ).loc main_arg8)) (m ((c : Thread nD τ).loc main_arg9)) (m ((c : Thread nD τ).loc main_arg10)) (m ((c : Thread nD τ).loc main_arg11)) (((cfg0.win 18).blk t).view.emb y) := by
  pointwise [k0_pay7, k0_pay8, k0_pay9, REF6, UPDATE, FIRST, SECOND, CONST]
  blk_point [iblk, V, idx t]

/-- The array after the run. -/
theorem final6 (c : Dev nD) : (dats m 0 c).arrAt 18 (cfgs 0).N = REF6 (m ((c : Thread nD τ).loc main_arg8)) (m ((c : Thread nD τ).loc main_arg9)) (m ((c : Thread nD τ).loc main_arg10)) (m ((c : Thread nD τ).loc main_arg11)) := by
  refine (dats m 0 c).arrAt_eq_of_covers 18 _ (by decide +kernel) fun t hf y => ?_
  blk_simp
  rw [after0_18]
  frame_out
  exact point6 m c t y

/-- The reference's new first moment of r_k_f. -/
abbrev REF7 (g a : FVec Ideal Cert.Reference23Ideal.S1x8x64 .f32) : FVec Ideal Cert.Reference23Ideal.S1x8x64 .f32 := FIRST Cert.Reference23Ideal.Gen.bcast_S_S1x8x64 g a

/-- The new first moment of r_k_f that the body stores. -/
theorem point7 (c : Dev nD) (t : Fin cfg0.N) (y) :
    k0_pay7 (iblk m c 9 t) (iblk m c 10 t) y = REF7 (m ((c : Thread nD τ).loc main_arg9)) (m ((c : Thread nD τ).loc main_arg10)) (((cfg0.win 19).blk t).view.emb y) := by
  pointwise [k0_pay7, REF7, FIRST, CONST]
  blk_point [iblk, V, idx t]

/-- The array after the run. -/
theorem final7 (c : Dev nD) : (dats m 0 c).arrAt 19 (cfgs 0).N = REF7 (m ((c : Thread nD τ).loc main_arg9)) (m ((c : Thread nD τ).loc main_arg10)) := by
  refine (dats m 0 c).arrAt_eq_of_covers 19 _ (by decide +kernel) fun t hf y => ?_
  blk_simp
  rw [after0_19]
  frame_out
  exact point7 m c t y

/-- The reference's new second moment of r_k_f. -/
abbrev REF8 (g b : FVec Ideal Cert.Reference23Ideal.S1x8x64 .f32) : FVec Ideal Cert.Reference23Ideal.S1x8x64 .f32 := SECOND Cert.Reference23Ideal.Gen.bcast_S_S1x8x64 g b

/-- The new second moment of r_k_f that the body stores. -/
theorem point8 (c : Dev nD) (t : Fin cfg0.N) (y) :
    k0_pay8 (iblk m c 9 t) (iblk m c 11 t) y = REF8 (m ((c : Thread nD τ).loc main_arg9)) (m ((c : Thread nD τ).loc main_arg11)) (((cfg0.win 20).blk t).view.emb y) := by
  pointwise [k0_pay8, REF8, SECOND, CONST]
  blk_point [iblk, V, idx t]

/-- The array after the run. -/
theorem final8 (c : Dev nD) : (dats m 0 c).arrAt 20 (cfgs 0).N = REF8 (m ((c : Thread nD τ).loc main_arg9)) (m ((c : Thread nD τ).loc main_arg11)) := by
  refine (dats m 0 c).arrAt_eq_of_covers 20 _ (by decide +kernel) fun t hf y => ?_
  blk_simp
  rw [after0_20]
  frame_out
  exact point8 m c t y

end Cert.Kernel23Ideal.Value

end
-- ==== Proof.Claims23.lean ====
/- The claims about `Cert.Kernel23`, its ideal reading and its reference: the frames, the reading, and the values. -/
module

public import proofs.«01_k».proof.Defs
public import proofs.«01_k».proof.Proof.Gen.Kernel23.Frame
public import proofs.«01_k».proof.Proof.Gen.Kernel23Ideal.Frame
public import proofs.«01_k».proof.Proof.Gen.Reference23Ideal.Run
public import proofs.«01_k».proof.Proof.AdamSmallD
public import Idealize.ShloMosaic.Lib.Claim

@[expose] public section

noncomputable section

namespace Cert.Claims23

open Idealize.ShloMosaic Idealize.SL.Sem

theorem frame_kernel : Cert.quiescent_Kernel23 := fun m ρ _ => Cert.Kernel23.Gen.frame m ρ

theorem frame_ideal : Cert.quiescent_Kernel23Ideal := fun m ρ _ => Cert.Kernel23Ideal.Gen.frame m ρ

/-- The reference declares no semaphore, and none of its operations writes an argument. -/
theorem frame_reference : Cert.quiescent_Reference23Ideal := fun m ρ _ =>
  (θ_run Cert.Reference23Ideal.defs _ _).mono
    (fun r h => ⟨fun c => (h c).2.2.2.2.2.2.2.2.2, sem_eq_zero_of_no_sems (by decide) r.2⟩)
    (Cert.Reference23Ideal.Value.run m ρ)

theorem preserves : Cert.preserves_Kernel23_Kernel23Ideal := trivial

set_option maxHeartbeats 2000000 in
/-- The kernel's ideal results are the reference's. -/
theorem algebraic : Cert.algebraic_Kernel23Ideal_Reference23Ideal := by
  intro m g m' g' hpre hagree
  refine ⟨fun c => (Cert.Kernel23Ideal.Gen.dats m 0 c).arrAt 12 (Cert.Kernel23Ideal.cfgs 0).N,
    fun c => (Cert.Kernel23Ideal.Gen.dats m 0 c).arrAt 13 (Cert.Kernel23Ideal.cfgs 0).N,
    fun c => (Cert.Kernel23Ideal.Gen.dats m 0 c).arrAt 14 (Cert.Kernel23Ideal.cfgs 0).N,
    fun c => (Cert.Kernel23Ideal.Gen.dats m 0 c).arrAt 15 (Cert.Kernel23Ideal.cfgs 0).N,
    fun c => (Cert.Kernel23Ideal.Gen.dats m 0 c).arrAt 16 (Cert.Kernel23Ideal.cfgs 0).N,
    fun c => (Cert.Kernel23Ideal.Gen.dats m 0 c).arrAt 17 (Cert.Kernel23Ideal.cfgs 0).N,
    fun c => (Cert.Kernel23Ideal.Gen.dats m 0 c).arrAt 18 (Cert.Kernel23Ideal.cfgs 0).N,
    fun c => (Cert.Kernel23Ideal.Gen.dats m 0 c).arrAt 19 (Cert.Kernel23Ideal.cfgs 0).N,
    fun c => (Cert.Kernel23Ideal.Gen.dats m 0 c).arrAt 20 (Cert.Kernel23Ideal.cfgs 0).N, ?_, ?_⟩
  · refine θ_run_mono (θ_run_and (Cert.Kernel23Ideal.Gen.run_main m g) (Cert.Kernel23Ideal.Gen.unchanged m g)) fun r hr c => ?_
    exact ⟨(hr.1 c).1 12, (hr.1 c).1 13, (hr.1 c).1 14, (hr.1 c).1 15, (hr.1 c).1 16, (hr.1 c).1 17, (hr.1 c).1 18, (hr.1 c).1 19, (hr.1 c).1 20, hr.2 c⟩
  · refine θ_run_mono (Cert.Reference23Ideal.Value.run m' g') fun r hr c => ?_
    obtain ⟨e0, e1, e2, e3, e4, e5, e6, e7, e8, e9, e10, e11⟩ := hagree c
    have h0 : r.2.mem ((c.tc : Thread Cert.Reference23Ideal.nD Cert.Reference23Ideal.τ).loc Cert.Reference23Ideal.main_v23) = Cert.Kernel23Ideal.Value.REF0 (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) (m' ((c.tc : Thread Cert.Reference23Ideal.nD Cert.Reference23Ideal.τ).loc Cert.Reference23Ideal.main_arg3)) := (hr c).1
    rw [e0, e1, e2, e3] at h0
    replace h0 := h0.trans (Cert.Kernel23Ideal.Value.final0 m c).symm
    have h1 : r.2.mem ((c.tc : Thread Cert.Reference23Ideal.nD Cert.Reference23Ideal.τ).loc Cert.Reference23Ideal.main_v4) = Cert.Kernel23Ideal.Value.REF1 (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) := (hr c).2.1
    rw [e1, e2] at h1
    replace h1 := h1.trans (Cert.Kernel23Ideal.Value.final1 m c).symm
    have h2 : r.2.mem ((c.tc : Thread Cert.Reference23Ideal.nD Cert.Reference23Ideal.τ).loc Cert.Reference23Ideal.main_v10) = Cert.Kernel23Ideal.Value.REF2 (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg3)) := (hr c).2.2.1
    rw [e1, e3] at h2
    replace h2 := h2.trans (Cert.Kernel23Ideal.Value.final2 m c).symm
    have h3 : r.2.mem ((c.tc : Thread Cert.Reference23Ideal.nD Cert.Reference23Ideal.τ).loc Cert.Reference23Ideal.main_v47) = Cert.Kernel23Ideal.Value.REF3 (m' ((c.tc : Thread Cert.Reference23Ideal.nD Cert.Reference23Ideal.τ).loc Cert.Reference23Ideal.main_arg4)) (m' ((c.tc : Thread Cert.Reference23Ideal.nD Cert.Reference23Ideal.τ).loc Cert.Reference23Ideal.main_arg5)) (m' ((c.tc : Thread Cert.Reference23Ideal.nD Cert.Reference23Ideal.τ).loc Cert.Reference23Ideal.main_arg6)) (m' ((c.tc : Thread Cert.Reference23Ideal.nD Cert.Reference23Ideal.τ).loc Cert.Reference23Ideal.main_arg7)) := (hr c).2.2.2.1
    rw [e4, e5, e6, e7] at h3
    replace h3 := h3.trans (Cert.Kernel23Ideal.Value.final3 m c).symm
    have h4 : r.2.mem ((c.tc : Thread Cert.Reference23Ideal.nD Cert.Reference23Ideal.τ).loc Cert.Reference23Ideal.main_v28) = Cert.Kernel23Ideal.Value.REF4 (m' ((c.tc : Thread Cert.Reference23Ideal.nD Cert.Reference23Ideal.τ).loc Cert.Reference23Ideal.main_arg5)) (m' ((c.tc : Thread Cert.Reference23Ideal.nD Cert.Reference23Ideal.τ).loc Cert.Reference23Ideal.main_arg6)) := (hr c).2.2.2.2.1
    rw [e5, e6] at h4
    replace h4 := h4.trans (Cert.Kernel23Ideal.Value.final4 m c).symm
    have h5 : r.2.mem ((c.tc : Thread Cert.Reference23Ideal.nD Cert.Reference23Ideal.τ).loc Cert.Reference23Ideal.main_v34) = Cert.Kernel23Ideal.Value.REF5 (m' ((c.tc : Thread Cert.Reference23Ideal.nD Cert.Reference23Ideal.τ).loc Cert.Reference23Ideal.main_arg5)) (m' ((c.tc : Thread Cert.Reference23Ideal.nD Cert.Reference23Ideal.τ).loc Cert.Reference23Ideal.main_arg7)) := (hr c).2.2.2.2.2.1
    rw [e5, e7] at h5
    replace h5 := h5.trans (Cert.Kernel23Ideal.Value.final5 m c).symm
    have h6 : r.2.mem ((c.tc : Thread Cert.Reference23Ideal.nD Cert.Reference23Ideal.τ).loc Cert.Reference23Ideal.main_v71) = Cert.Kernel23Ideal.Value.REF6 (m' ((c.tc : Thread Cert.Reference23Ideal.nD Cert.Reference23Ideal.τ).loc Cert.Reference23Ideal.main_arg8)) (m' ((c.tc : Thread Cert.Reference23Ideal.nD Cert.Reference23Ideal.τ).loc Cert.Reference23Ideal.main_arg9)) (m' ((c.tc : Thread Cert.Reference23Ideal.nD Cert.Reference23Ideal.τ).loc Cert.Reference23Ideal.main_arg10)) (m' ((c.tc : Thread Cert.Reference23Ideal.nD Cert.Reference23Ideal.τ).loc Cert.Reference23Ideal.main_arg11)) := (hr c).2.2.2.2.2.2.1
    rw [e8, e9, e10, e11] at h6
    replace h6 := h6.trans (Cert.Kernel23Ideal.Value.final6 m c).symm
    have h7 : r.2.mem ((c.tc : Thread Cert.Reference23Ideal.nD Cert.Reference23Ideal.τ).loc Cert.Reference23Ideal.main_v52) = Cert.Kernel23Ideal.Value.REF7 (m' ((c.tc : Thread Cert.Reference23Ideal.nD Cert.Reference23Ideal.τ).loc Cert.Reference23Ideal.main_arg9)) (m' ((c.tc : Thread Cert.Reference23Ideal.nD Cert.Reference23Ideal.τ).loc Cert.Reference23Ideal.main_arg10)) := (hr c).2.2.2.2.2.2.2.1
    rw [e9, e10] at h7
    replace h7 := h7.trans (Cert.Kernel23Ideal.Value.final7 m c).symm
    have h8 : r.2.mem ((c.tc : Thread Cert.Reference23Ideal.nD Cert.Reference23Ideal.τ).loc Cert.Reference23Ideal.main_v58) = Cert.Kernel23Ideal.Value.REF8 (m' ((c.tc : Thread Cert.Reference23Ideal.nD Cert.Reference23Ideal.τ).loc Cert.Reference23Ideal.main_arg9)) (m' ((c.tc : Thread Cert.Reference23Ideal.nD Cert.Reference23Ideal.τ).loc Cert.Reference23Ideal.main_arg11)) := (hr c).2.2.2.2.2.2.2.2.1
    rw [e9, e11] at h8
    replace h8 := h8.trans (Cert.Kernel23Ideal.Value.final8 m c).symm
    exact ⟨h0, h1, h2, h3, h4, h5, h6, h7, h8, (hr c).2.2.2.2.2.2.2.2.2⟩

end Cert.Claims23

end
-- ==== Proof.AdamSmallE.lean ====
/- The value of `Cert.Kernel24Ideal`: the update and the two moments that the optimiser's step of r_k_b, gn_w and gn_b leaves are the reference's. -/
module

public import proofs.«01_k».proof.Proof.Gen.Kernel24Ideal.Frame
public import proofs.«01_k».proof.Proof.Gen.Reference24Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel24Ideal.Value

open Cert.Kernel24Ideal Cert.Kernel24Ideal.Gen

variable (m : (ℓ : Loc nD τ sig) → Buf (Elt Ideal) ℓ)

/-! ## The reference's terms, of a weight `w` of any shape, its gradient `g` and its moments `a`, `b` -/

section Terms
variable {S : Shape} (h : Cert.Reference24Ideal.S_.BroadcastsInDim S (![] : Fin 0 → Fin S.rank))

/-- The array of one constant. -/
abbrev CONST (k : BitVec 32) : FVec Ideal S .f32 := broadcastInDim S ![] h (constant Cert.Reference24Ideal.S_ .f32 k)

/-- The new first moment. -/
abbrev FIRST (g a : FVec Ideal S .f32) : FVec Ideal S .f32 := addf (mulf (CONST h 0x3F666666#32) a) (mulf (CONST h 0x3DCCCCCD#32) g)

/-- The new second moment. -/
abbrev SECOND (g b : FVec Ideal S .f32) : FVec Ideal S .f32 := addf (mulf (CONST h 0x3F7FBE77#32) b) (mulf (CONST h 0x3A83126F#32) (mulf g g))

/-- The update. -/
abbrev UPDATE (w g a b : FVec Ideal S .f32) : FVec Ideal S .f32 :=
  mulf (CONST h 0xBA83126F#32) (addf
    (Host.divf (Host.divf (FIRST h g a) (CONST h 0x3F26BD02#32)) (addf (Host.sqrt (Host.divf (SECOND h g b) (CONST h 0x3C231ACC#32))) (CONST h 0x322BCC77#32)))
    (mulf (CONST h 0x3C23D70A#32) w))

end Terms

/-- Each window's block index at the grid point, decided. -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![0, 0, 0]
    ∧ win0_14.index t = ![0, 0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0] :=
  (by decide +kernel : ∀ t : Fin grid0.N, _)

/-- The reference's update of r_k_b. -/
abbrev REF0 (w g a b : FVec Ideal Cert.Reference24Ideal.S1x8x64 .f32) : FVec Ideal Cert.Reference24Ideal.S1x8x64 .f32 := UPDATE Cert.Reference24Ideal.Gen.bcast_S_S1x8x64 w g a b

/-- The update of r_k_b that the body stores. -/
theorem point0 (c : Dev nD) (t : Fin cfg0.N) (y) :
    k0_pay3 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 12).blk t).view.emb y) := by
  pointwise [k0_pay1, k0_pay2, k0_pay3, REF0, UPDATE, FIRST, SECOND, CONST]
  blk_point [iblk, V, idx t]

/-- The array after the run. -/
theorem final0 (c : Dev nD) : (dats m 0 c).arrAt 12 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  exact point0 m c t y

/-- The reference's new first moment of r_k_b. -/
abbrev REF1 (g a : FVec Ideal Cert.Reference24Ideal.S1x8x64 .f32) : FVec Ideal Cert.Reference24Ideal.S1x8x64 .f32 := FIRST Cert.Reference24Ideal.Gen.bcast_S_S1x8x64 g a

/-- The new first moment of r_k_b that the body stores. -/
theorem point1 (c : Dev nD) (t : Fin cfg0.N) (y) :
    k0_pay1 (iblk m c 1 t) (iblk m c 2 t) y = REF1 (m ((c : Thread nD τ).loc main_arg1)) (m ((c : Thread nD τ).loc main_arg2)) (((cfg0.win 13).blk t).view.emb y) := by
  pointwise [k0_pay1, REF1, FIRST, CONST]
  blk_point [iblk, V, idx t]

/-- The array after the run. -/
theorem final1 (c : Dev nD) : (dats m 0 c).arrAt 13 (cfgs 0).N = REF1 (m ((c : Thread nD τ).loc main_arg1)) (m ((c : Thread nD τ).loc main_arg2)) := by
  refine (dats m 0 c).arrAt_eq_of_covers 13 _ (by decide +kernel) fun t hf y => ?_
  blk_simp
  rw [after0_13]
  frame_out
  exact point1 m c t y

/-- The reference's new second moment of r_k_b. -/
abbrev REF2 (g b : FVec Ideal Cert.Reference24Ideal.S1x8x64 .f32) : FVec Ideal Cert.Reference24Ideal.S1x8x64 .f32 := SECOND Cert.Reference24Ideal.Gen.bcast_S_S1x8x64 g b

/-- The new second moment of r_k_b that the body stores. -/
theorem point2 (c : Dev nD) (t : Fin cfg0.N) (y) :
    k0_pay2 (iblk m c 1 t) (iblk m c 3 t) y = REF2 (m ((c : Thread nD τ).loc main_arg1)) (m ((c : Thread nD τ).loc main_arg3)) (((cfg0.win 14).blk t).view.emb y) := by
  pointwise [k0_pay2, REF2, SECOND, CONST]
  blk_point [iblk, V, idx t]

/-- The array after the run. -/
theorem final2 (c : Dev nD) : (dats m 0 c).arrAt 14 (cfgs 0).N = REF2 (m ((c : Thread nD τ).loc main_arg1)) (m ((c : Thread nD τ).loc main_arg3)) := by
  refine (dats m 0 c).arrAt_eq_of_covers 14 _ (by decide +kernel) fun t hf y => ?_
  blk_simp
  rw [after0_14]
  frame_out
  exact point2 m c t y

/-- The reference's update of gn_w. -/
abbrev REF3 (w g a b : FVec Ideal Cert.Reference24Ideal.S1x512 .f32) : FVec Ideal Cert.Reference24Ideal.S1x512 .f32 := UPDATE Cert.Reference24Ideal.Gen.bcast_S_S1x512 w g a b

/-- The update of gn_w that the body stores. -/
theorem point3 (c : Dev nD) (t : Fin cfg0.N) (y) :
    k0_pay6 (iblk m c 4 t) (iblk m c 5 t) (iblk m c 6 t) (iblk m c 7 t) y = REF3 (m ((c : Thread nD τ).loc main_arg4)) (m ((c : Thread nD τ).loc main_arg5)) (m ((c : Thread nD τ).loc main_arg6)) (m ((c : Thread nD τ).loc main_arg7)) (((cfg0.win 15).blk t).view.emb y) := by
  pointwise [k0_pay4, k0_pay5, k0_pay6, REF3, UPDATE, FIRST, SECOND, CONST]
  blk_point [iblk, V, idx t]

/-- The array after the run. -/
theorem final3 (c : Dev nD) : (dats m 0 c).arrAt 15 (cfgs 0).N = REF3 (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  frame_out
  exact point3 m c t y

/-- The reference's new first moment of gn_w. -/
abbrev REF4 (g a : FVec Ideal Cert.Reference24Ideal.S1x512 .f32) : FVec Ideal Cert.Reference24Ideal.S1x512 .f32 := FIRST Cert.Reference24Ideal.Gen.bcast_S_S1x512 g a

/-- The new first moment of gn_w that the body stores. -/
theorem point4 (c : Dev nD) (t : Fin cfg0.N) (y) :
    k0_pay4 (iblk m c 5 t) (iblk m c 6 t) y = REF4 (m ((c : Thread nD τ).loc main_arg5)) (m ((c : Thread nD τ).loc main_arg6)) (((cfg0.win 16).blk t).view.emb y) := by
  pointwise [k0_pay4, REF4, FIRST, CONST]
  blk_point [iblk, V, idx t]

/-- The array after the run. -/
theorem final4 (c : Dev nD) : (dats m 0 c).arrAt 16 (cfgs 0).N = REF4 (m ((c : Thread nD τ).loc main_arg5)) (m ((c : Thread nD τ).loc main_arg6)) := by
  refine (dats m 0 c).arrAt_eq_of_covers 16 _ (by decide +kernel) fun t hf y => ?_
  blk_simp
  rw [after0_16]
  frame_out
  exact point4 m c t y

/-- The reference's new second moment of gn_w. -/
abbrev REF5 (g b : FVec Ideal Cert.Reference24Ideal.S1x512 .f32) : FVec Ideal Cert.Reference24Ideal.S1x512 .f32 := SECOND Cert.Reference24Ideal.Gen.bcast_S_S1x512 g b

/-- The new second moment of gn_w that the body stores. -/
theorem point5 (c : Dev nD) (t : Fin cfg0.N) (y) :
    k0_pay5 (iblk m c 5 t) (iblk m c 7 t) y = REF5 (m ((c : Thread nD τ).loc main_arg5)) (m ((c : Thread nD τ).loc main_arg7)) (((cfg0.win 17).blk t).view.emb y) := by
  pointwise [k0_pay5, REF5, SECOND, CONST]
  blk_point [iblk, V, idx t]

/-- The array after the run. -/
theorem final5 (c : Dev nD) : (dats m 0 c).arrAt 17 (cfgs 0).N = REF5 (m ((c : Thread nD τ).loc main_arg5)) (m ((c : Thread nD τ).loc main_arg7)) := by
  refine (dats m 0 c).arrAt_eq_of_covers 17 _ (by decide +kernel) fun t hf y => ?_
  blk_simp
  rw [after0_17]
  frame_out
  exact point5 m c t y

/-- The reference's update of gn_b. -/
abbrev REF6 (w g a b : FVec Ideal Cert.Reference24Ideal.S1x512 .f32) : FVec Ideal Cert.Reference24Ideal.S1x512 .f32 := UPDATE Cert.Reference24Ideal.Gen.bcast_S_S1x512 w g a b

/-- The update of gn_b that the body stores. -/
theorem point6 (c : Dev nD) (t : Fin cfg0.N) (y) :
    k0_pay9 (iblk m c 8 t) (iblk m c 9 t) (iblk m c 10 t) (iblk m c 11 t) y = REF6 (m ((c : Thread nD τ).loc main_arg8)) (m ((c : Thread nD τ).loc main_arg9)) (m ((c : Thread nD τ).loc main_arg10)) (m ((c : Thread nD τ).loc main_arg11)) (((cfg0.win 18).blk t).view.emb y) := by
  pointwise [k0_pay7, k0_pay8, k0_pay9, REF6, UPDATE, FIRST, SECOND, CONST]
  blk_point [iblk, V, idx t]

/-- The array after the run. -/
theorem final6 (c : Dev nD) : (dats m 0 c).arrAt 18 (cfgs 0).N = REF6 (m ((c : Thread nD τ).loc main_arg8)) (m ((c : Thread nD τ).loc main_arg9)) (m ((c : Thread nD τ).loc main_arg10)) (m ((c : Thread nD τ).loc main_arg11)) := by
  refine (dats m 0 c).arrAt_eq_of_covers 18 _ (by decide +kernel) fun t hf y => ?_
  blk_simp
  rw [after0_18]
  frame_out
  exact point6 m c t y

/-- The reference's new first moment of gn_b. -/
abbrev REF7 (g a : FVec Ideal Cert.Reference24Ideal.S1x512 .f32) : FVec Ideal Cert.Reference24Ideal.S1x512 .f32 := FIRST Cert.Reference24Ideal.Gen.bcast_S_S1x512 g a

/-- The new first moment of gn_b that the body stores. -/
theorem point7 (c : Dev nD) (t : Fin cfg0.N) (y) :
    k0_pay7 (iblk m c 9 t) (iblk m c 10 t) y = REF7 (m ((c : Thread nD τ).loc main_arg9)) (m ((c : Thread nD τ).loc main_arg10)) (((cfg0.win 19).blk t).view.emb y) := by
  pointwise [k0_pay7, REF7, FIRST, CONST]
  blk_point [iblk, V, idx t]

/-- The array after the run. -/
theorem final7 (c : Dev nD) : (dats m 0 c).arrAt 19 (cfgs 0).N = REF7 (m ((c : Thread nD τ).loc main_arg9)) (m ((c : Thread nD τ).loc main_arg10)) := by
  refine (dats m 0 c).arrAt_eq_of_covers 19 _ (by decide +kernel) fun t hf y => ?_
  blk_simp
  rw [after0_19]
  frame_out
  exact point7 m c t y

/-- The reference's new second moment of gn_b. -/
abbrev REF8 (g b : FVec Ideal Cert.Reference24Ideal.S1x512 .f32) : FVec Ideal Cert.Reference24Ideal.S1x512 .f32 := SECOND Cert.Reference24Ideal.Gen.bcast_S_S1x512 g b

/-- The new second moment of gn_b that the body stores. -/
theorem point8 (c : Dev nD) (t : Fin cfg0.N) (y) :
    k0_pay8 (iblk m c 9 t) (iblk m c 11 t) y = REF8 (m ((c : Thread nD τ).loc main_arg9)) (m ((c : Thread nD τ).loc main_arg11)) (((cfg0.win 20).blk t).view.emb y) := by
  pointwise [k0_pay8, REF8, SECOND, CONST]
  blk_point [iblk, V, idx t]

/-- The array after the run. -/
theorem final8 (c : Dev nD) : (dats m 0 c).arrAt 20 (cfgs 0).N = REF8 (m ((c : Thread nD τ).loc main_arg9)) (m ((c : Thread nD τ).loc main_arg11)) := by
  refine (dats m 0 c).arrAt_eq_of_covers 20 _ (by decide +kernel) fun t hf y => ?_
  blk_simp
  rw [after0_20]
  frame_out
  exact point8 m c t y

end Cert.Kernel24Ideal.Value

end
-- ==== Proof.Claims24.lean ====
/- The claims about `Cert.Kernel24`, its ideal reading and its reference: the frames, the reading, and the values. -/
module

public import proofs.«01_k».proof.Defs
public import proofs.«01_k».proof.Proof.Gen.Kernel24.Frame
public import proofs.«01_k».proof.Proof.Gen.Kernel24Ideal.Frame
public import proofs.«01_k».proof.Proof.Gen.Reference24Ideal.Run
public import proofs.«01_k».proof.Proof.AdamSmallE
public import Idealize.ShloMosaic.Lib.Claim

@[expose] public section

noncomputable section

namespace Cert.Claims24

open Idealize.ShloMosaic Idealize.SL.Sem

theorem frame_kernel : Cert.quiescent_Kernel24 := fun m ρ _ => Cert.Kernel24.Gen.frame m ρ

theorem frame_ideal : Cert.quiescent_Kernel24Ideal := fun m ρ _ => Cert.Kernel24Ideal.Gen.frame m ρ

/-- The reference declares no semaphore, and none of its operations writes an argument. -/
theorem frame_reference : Cert.quiescent_Reference24Ideal := fun m ρ _ =>
  (θ_run Cert.Reference24Ideal.defs _ _).mono
    (fun r h => ⟨fun c => (h c).2.2.2.2.2.2.2.2.2, sem_eq_zero_of_no_sems (by decide) r.2⟩)
    (Cert.Reference24Ideal.Value.run m ρ)

theorem preserves : Cert.preserves_Kernel24_Kernel24Ideal := trivial

set_option maxHeartbeats 2000000 in
/-- The kernel's ideal results are the reference's. -/
theorem algebraic : Cert.algebraic_Kernel24Ideal_Reference24Ideal := by
  intro m g m' g' hpre hagree
  refine ⟨fun c => (Cert.Kernel24Ideal.Gen.dats m 0 c).arrAt 12 (Cert.Kernel24Ideal.cfgs 0).N,
    fun c => (Cert.Kernel24Ideal.Gen.dats m 0 c).arrAt 13 (Cert.Kernel24Ideal.cfgs 0).N,
    fun c => (Cert.Kernel24Ideal.Gen.dats m 0 c).arrAt 14 (Cert.Kernel24Ideal.cfgs 0).N,
    fun c => (Cert.Kernel24Ideal.Gen.dats m 0 c).arrAt 15 (Cert.Kernel24Ideal.cfgs 0).N,
    fun c => (Cert.Kernel24Ideal.Gen.dats m 0 c).arrAt 16 (Cert.Kernel24Ideal.cfgs 0).N,
    fun c => (Cert.Kernel24Ideal.Gen.dats m 0 c).arrAt 17 (Cert.Kernel24Ideal.cfgs 0).N,
    fun c => (Cert.Kernel24Ideal.Gen.dats m 0 c).arrAt 18 (Cert.Kernel24Ideal.cfgs 0).N,
    fun c => (Cert.Kernel24Ideal.Gen.dats m 0 c).arrAt 19 (Cert.Kernel24Ideal.cfgs 0).N,
    fun c => (Cert.Kernel24Ideal.Gen.dats m 0 c).arrAt 20 (Cert.Kernel24Ideal.cfgs 0).N, ?_, ?_⟩
  · refine θ_run_mono (θ_run_and (Cert.Kernel24Ideal.Gen.run_main m g) (Cert.Kernel24Ideal.Gen.unchanged m g)) fun r hr c => ?_
    exact ⟨(hr.1 c).1 12, (hr.1 c).1 13, (hr.1 c).1 14, (hr.1 c).1 15, (hr.1 c).1 16, (hr.1 c).1 17, (hr.1 c).1 18, (hr.1 c).1 19, (hr.1 c).1 20, hr.2 c⟩
  · refine θ_run_mono (Cert.Reference24Ideal.Value.run m' g') fun r hr c => ?_
    obtain ⟨e0, e1, e2, e3, e4, e5, e6, e7, e8, e9, e10, e11⟩ := hagree c
    have h0 : r.2.mem ((c.tc : Thread Cert.Reference24Ideal.nD Cert.Reference24Ideal.τ).loc Cert.Reference24Ideal.main_v23) = Cert.Kernel24Ideal.Value.REF0 (m' ((c.tc : Thread Cert.Reference24Ideal.nD Cert.Reference24Ideal.τ).loc Cert.Reference24Ideal.main_arg0)) (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg2)) (m' ((c.tc : Thread Cert.Reference24Ideal.nD Cert.Reference24Ideal.τ).loc Cert.Reference24Ideal.main_arg3)) := (hr c).1
    rw [e0, e1, e2, e3] at h0
    replace h0 := h0.trans (Cert.Kernel24Ideal.Value.final0 m c).symm
    have h1 : r.2.mem ((c.tc : Thread Cert.Reference24Ideal.nD Cert.Reference24Ideal.τ).loc Cert.Reference24Ideal.main_v4) = Cert.Kernel24Ideal.Value.REF1 (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg2)) := (hr c).2.1
    rw [e1, e2] at h1
    replace h1 := h1.trans (Cert.Kernel24Ideal.Value.final1 m c).symm
    have h2 : r.2.mem ((c.tc : Thread Cert.Reference24Ideal.nD Cert.Reference24Ideal.τ).loc Cert.Reference24Ideal.main_v10) = Cert.Kernel24Ideal.Value.REF2 (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg3)) := (hr c).2.2.1
    rw [e1, e3] at h2
    replace h2 := h2.trans (Cert.Kernel24Ideal.Value.final2 m c).symm
    have h3 : r.2.mem ((c.tc : Thread Cert.Reference24Ideal.nD Cert.Reference24Ideal.τ).loc Cert.Reference24Ideal.main_v47) = Cert.Kernel24Ideal.Value.REF3 (m' ((c.tc : Thread Cert.Reference24Ideal.nD Cert.Reference24Ideal.τ).loc Cert.Reference24Ideal.main_arg4)) (m' ((c.tc : Thread Cert.Reference24Ideal.nD Cert.Reference24Ideal.τ).loc Cert.Reference24Ideal.main_arg5)) (m' ((c.tc : Thread Cert.Reference24Ideal.nD Cert.Reference24Ideal.τ).loc Cert.Reference24Ideal.main_arg6)) (m' ((c.tc : Thread Cert.Reference24Ideal.nD Cert.Reference24Ideal.τ).loc Cert.Reference24Ideal.main_arg7)) := (hr c).2.2.2.1
    rw [e4, e5, e6, e7] at h3
    replace h3 := h3.trans (Cert.Kernel24Ideal.Value.final3 m c).symm
    have h4 : r.2.mem ((c.tc : Thread Cert.Reference24Ideal.nD Cert.Reference24Ideal.τ).loc Cert.Reference24Ideal.main_v28) = Cert.Kernel24Ideal.Value.REF4 (m' ((c.tc : Thread Cert.Reference24Ideal.nD Cert.Reference24Ideal.τ).loc Cert.Reference24Ideal.main_arg5)) (m' ((c.tc : Thread Cert.Reference24Ideal.nD Cert.Reference24Ideal.τ).loc Cert.Reference24Ideal.main_arg6)) := (hr c).2.2.2.2.1
    rw [e5, e6] at h4
    replace h4 := h4.trans (Cert.Kernel24Ideal.Value.final4 m c).symm
    have h5 : r.2.mem ((c.tc : Thread Cert.Reference24Ideal.nD Cert.Reference24Ideal.τ).loc Cert.Reference24Ideal.main_v34) = Cert.Kernel24Ideal.Value.REF5 (m' ((c.tc : Thread Cert.Reference24Ideal.nD Cert.Reference24Ideal.τ).loc Cert.Reference24Ideal.main_arg5)) (m' ((c.tc : Thread Cert.Reference24Ideal.nD Cert.Reference24Ideal.τ).loc Cert.Reference24Ideal.main_arg7)) := (hr c).2.2.2.2.2.1
    rw [e5, e7] at h5
    replace h5 := h5.trans (Cert.Kernel24Ideal.Value.final5 m c).symm
    have h6 : r.2.mem ((c.tc : Thread Cert.Reference24Ideal.nD Cert.Reference24Ideal.τ).loc Cert.Reference24Ideal.main_v71) = Cert.Kernel24Ideal.Value.REF6 (m' ((c.tc : Thread Cert.Reference24Ideal.nD Cert.Reference24Ideal.τ).loc Cert.Reference24Ideal.main_arg8)) (m' ((c.tc : Thread Cert.Reference24Ideal.nD Cert.Reference24Ideal.τ).loc Cert.Reference24Ideal.main_arg9)) (m' ((c.tc : Thread Cert.Reference24Ideal.nD Cert.Reference24Ideal.τ).loc Cert.Reference24Ideal.main_arg10)) (m' ((c.tc : Thread Cert.Reference24Ideal.nD Cert.Reference24Ideal.τ).loc Cert.Reference24Ideal.main_arg11)) := (hr c).2.2.2.2.2.2.1
    rw [e8, e9, e10, e11] at h6
    replace h6 := h6.trans (Cert.Kernel24Ideal.Value.final6 m c).symm
    have h7 : r.2.mem ((c.tc : Thread Cert.Reference24Ideal.nD Cert.Reference24Ideal.τ).loc Cert.Reference24Ideal.main_v52) = Cert.Kernel24Ideal.Value.REF7 (m' ((c.tc : Thread Cert.Reference24Ideal.nD Cert.Reference24Ideal.τ).loc Cert.Reference24Ideal.main_arg9)) (m' ((c.tc : Thread Cert.Reference24Ideal.nD Cert.Reference24Ideal.τ).loc Cert.Reference24Ideal.main_arg10)) := (hr c).2.2.2.2.2.2.2.1
    rw [e9, e10] at h7
    replace h7 := h7.trans (Cert.Kernel24Ideal.Value.final7 m c).symm
    have h8 : r.2.mem ((c.tc : Thread Cert.Reference24Ideal.nD Cert.Reference24Ideal.τ).loc Cert.Reference24Ideal.main_v58) = Cert.Kernel24Ideal.Value.REF8 (m' ((c.tc : Thread Cert.Reference24Ideal.nD Cert.Reference24Ideal.τ).loc Cert.Reference24Ideal.main_arg9)) (m' ((c.tc : Thread Cert.Reference24Ideal.nD Cert.Reference24Ideal.τ).loc Cert.Reference24Ideal.main_arg11)) := (hr c).2.2.2.2.2.2.2.2.1
    rw [e9, e11] at h8
    replace h8 := h8.trans (Cert.Kernel24Ideal.Value.final8 m c).symm
    exact ⟨h0, h1, h2, h3, h4, h5, h6, h7, h8, (hr c).2.2.2.2.2.2.2.2.2⟩

end Cert.Claims24

end
-- ==== Proof.AdamSmallF.lean ====
/- The value of `Cert.Kernel25Ideal`: the update and the two moments that the optimiser's step of conv_w, norm2_w and norm_f_w leaves are the reference's. -/
module

public import proofs.«01_k».proof.Proof.Gen.Kernel25Ideal.Frame
public import proofs.«01_k».proof.Proof.Gen.Reference25Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel25Ideal.Value

open Cert.Kernel25Ideal Cert.Kernel25Ideal.Gen

variable (m : (ℓ : Loc nD τ sig) → Buf (Elt Ideal) ℓ)

/-! ## The reference's terms, of a weight `w` of any shape, its gradient `g` and its moments `a`, `b` -/

section Terms
variable {S : Shape} (h : Cert.Reference25Ideal.S_.BroadcastsInDim S (![] : Fin 0 → Fin S.rank))

/-- The array of one constant. -/
abbrev CONST (k : BitVec 32) : FVec Ideal S .f32 := broadcastInDim S ![] h (constant Cert.Reference25Ideal.S_ .f32 k)

/-- The new first moment. -/
abbrev FIRST (g a : FVec Ideal S .f32) : FVec Ideal S .f32 := addf (mulf (CONST h 0x3F666666#32) a) (mulf (CONST h 0x3DCCCCCD#32) g)

/-- The new second moment. -/
abbrev SECOND (g b : FVec Ideal S .f32) : FVec Ideal S .f32 := addf (mulf (CONST h 0x3F7FBE77#32) b) (mulf (CONST h 0x3A83126F#32) (mulf g g))

/-- The update. -/
abbrev UPDATE (w g a b : FVec Ideal S .f32) : FVec Ideal S .f32 :=
  mulf (CONST h 0xBA83126F#32) (addf
    (Host.divf (Host.divf (FIRST h g a) (CONST h 0x3F26BD02#32)) (addf (Host.sqrt (Host.divf (SECOND h g b) (CONST h 0x3C231ACC#32))) (CONST h 0x322BCC77#32)))
    (mulf (CONST h 0x3C23D70A#32) w))

end Terms

/-- Each window's block index at the grid point, decided. -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![0, 0, 0]
    ∧ win0_14.index t = ![0, 0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0] :=
  (by decide +kernel : ∀ t : Fin grid0.N, _)

/-- The reference's update of conv_w. -/
abbrev REF0 (w g a b : FVec Ideal Cert.Reference25Ideal.S1x3x128 .f32) : FVec Ideal Cert.Reference25Ideal.S1x3x128 .f32 := UPDATE Cert.Reference25Ideal.Gen.bcast_S_S1x3x128 w g a b

/-- The update of conv_w that the body stores. -/
theorem point0 (c : Dev nD) (t : Fin cfg0.N) (y) :
    k0_pay3 (iblk m c 0 t) (iblk m c 1 t) (iblk m c 2 t) (iblk m c 3 t) y = REF0 (m ((c : Thread nD τ).loc main_arg0)) (m ((c : Thread nD τ).loc main_arg1)) (m ((c : Thread nD τ).loc main_arg2)) (m ((c : Thread nD τ).loc main_arg3)) (((cfg0.win 12).blk t).view.emb y) := by
  pointwise [k0_pay1, k0_pay2, k0_pay3, REF0, UPDATE, FIRST, SECOND, CONST]
  blk_point [iblk, V, idx t]

/-- The array after the run. -/
theorem final0 (c : Dev nD) : (dats m 0 c).arrAt 12 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  exact point0 m c t y

/-- The reference's new first moment of conv_w. -/
abbrev REF1 (g a : FVec Ideal Cert.Reference25Ideal.S1x3x128 .f32) : FVec Ideal Cert.Reference25Ideal.S1x3x128 .f32 := FIRST Cert.Reference25Ideal.Gen.bcast_S_S1x3x128 g a

/-- The new first moment of conv_w that the body stores. -/
theorem point1 (c : Dev nD) (t : Fin cfg0.N) (y) :
    k0_pay1 (iblk m c 1 t) (iblk m c 2 t) y = REF1 (m ((c : Thread nD τ).loc main_arg1)) (m ((c : Thread nD τ).loc main_arg2)) (((cfg0.win 13).blk t).view.emb y) := by
  pointwise [k0_pay1, REF1, FIRST, CONST]
  blk_point [iblk, V, idx t]

/-- The array after the run. -/
theorem final1 (c : Dev nD) : (dats m 0 c).arrAt 13 (cfgs 0).N = REF1 (m ((c : Thread nD τ).loc main_arg1)) (m ((c : Thread nD τ).loc main_arg2)) := by
  refine (dats m 0 c).arrAt_eq_of_covers 13 _ (by decide +kernel) fun t hf y => ?_
  blk_simp
  rw [after0_13]
  frame_out
  exact point1 m c t y

/-- The reference's new second moment of conv_w. -/
abbrev REF2 (g b : FVec Ideal Cert.Reference25Ideal.S1x3x128 .f32) : FVec Ideal Cert.Reference25Ideal.S1x3x128 .f32 := SECOND Cert.Reference25Ideal.Gen.bcast_S_S1x3x128 g b

/-- The new second moment of conv_w that the body stores. -/
theorem point2 (c : Dev nD) (t : Fin cfg0.N) (y) :
    k0_pay2 (iblk m c 1 t) (iblk m c 3 t) y = REF2 (m ((c : Thread nD τ).loc main_arg1)) (m ((c : Thread nD τ).loc main_arg3)) (((cfg0.win 14).blk t).view.emb y) := by
  pointwise [k0_pay2, REF2, SECOND, CONST]
  blk_point [iblk, V, idx t]

/-- The array after the run. -/
theorem final2 (c : Dev nD) : (dats m 0 c).arrAt 14 (cfgs 0).N = REF2 (m ((c : Thread nD τ).loc main_arg1)) (m ((c : Thread nD τ).loc main_arg3)) := by
  refine (dats m 0 c).arrAt_eq_of_covers 14 _ (by decide +kernel) fun t hf y => ?_
  blk_simp
  rw [after0_14]
  frame_out
  exact point2 m c t y

/-- The reference's update of norm2_w. -/
abbrev REF3 (w g a b : FVec Ideal Cert.Reference25Ideal.S1x1024 .f32) : FVec Ideal Cert.Reference25Ideal.S1x1024 .f32 := UPDATE Cert.Reference25Ideal.Gen.bcast_S_S1x1024 w g a b

/-- The update of norm2_w that the body stores. -/
theorem point3 (c : Dev nD) (t : Fin cfg0.N) (y) :
    k0_pay6 (iblk m c 4 t) (iblk m c 5 t) (iblk m c 6 t) (iblk m c 7 t) y = REF3 (m ((c : Thread nD τ).loc main_arg4)) (m ((c : Thread nD τ).loc main_arg5)) (m ((c : Thread nD τ).loc main_arg6)) (m ((c : Thread nD τ).loc main_arg7)) (((cfg0.win 15).blk t).view.emb y) := by
  pointwise [k0_pay4, k0_pay5, k0_pay6, REF3, UPDATE, FIRST, SECOND, CONST]
  blk_point [iblk, V, idx t]

/-- The array after the run. -/
theorem final3 (c : Dev nD) : (dats m 0 c).arrAt 15 (cfgs 0).N = REF3 (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  frame_out
  exact point3 m c t y

/-- The reference's new first moment of norm2_w. -/
abbrev REF4 (g a : FVec Ideal Cert.Reference25Ideal.S1x1024 .f32) : FVec Ideal Cert.Reference25Ideal.S1x1024 .f32 := FIRST Cert.Reference25Ideal.Gen.bcast_S_S1x1024 g a

/-- The new first moment of norm2_w that the body stores. -/
theorem point4 (c : Dev nD) (t : Fin cfg0.N) (y) :
    k0_pay4 (iblk m c 5 t) (iblk m c 6 t) y = REF4 (m ((c : Thread nD τ).loc main_arg5)) (m ((c : Thread nD τ).loc main_arg6)) (((cfg0.win 16).blk t).view.emb y) := by
  pointwise [k0_pay4, REF4, FIRST, CONST]
  blk_point [iblk, V, idx t]

/-- The array after the run. -/
theorem final4 (c : Dev nD) : (dats m 0 c).arrAt 16 (cfgs 0).N = REF4 (m ((c : Thread nD τ).loc main_arg5)) (m ((c : Thread nD τ).loc main_arg6)) := by
  refine (dats m 0 c).arrAt_eq_of_covers 16 _ (by decide +kernel) fun t hf y => ?_
  blk_simp
  rw [after0_16]
  frame_out
  exact point4 m c t y

/-- The reference's new second moment of norm2_w. -/
abbrev REF5 (g b : FVec Ideal Cert.Reference25Ideal.S1x1024 .f32) : FVec Ideal Cert.Reference25Ideal.S1x1024 .f32 := SECOND Cert.Reference25Ideal.Gen.bcast_S_S1x1024 g b

/-- The new second moment of norm2_w that the body stores. -/
theorem point5 (c : Dev nD) (t : Fin cfg0.N) (y) :
    k0_pay5 (iblk m c 5 t) (iblk m c 7 t) y = REF5 (m ((c : Thread nD τ).loc main_arg5)) (m ((c : Thread nD τ).loc main_arg7)) (((cfg0.win 17).blk t).view.emb y) := by
  pointwise [k0_pay5, REF5, SECOND, CONST]
  blk_point [iblk, V, idx t]

/-- The array after the run. -/
theorem final5 (c : Dev nD) : (dats m 0 c).arrAt 17 (cfgs 0).N = REF5 (m ((c : Thread nD τ).loc main_arg5)) (m ((c : Thread nD τ).loc main_arg7)) := by
  refine (dats m 0 c).arrAt_eq_of_covers 17 _ (by decide +kernel) fun t hf y => ?_
  blk_simp
  rw [after0_17]
  frame_out
  exact point5 m c t y

/-- The reference's update of norm_f_w. -/
abbrev REF6 (w g a b : FVec Ideal Cert.Reference25Ideal.S1x1024 .f32) : FVec Ideal Cert.Reference25Ideal.S1x1024 .f32 := UPDATE Cert.Reference25Ideal.Gen.bcast_S_S1x1024 w g a b

/-- The update of norm_f_w that the body stores. -/
theorem point6 (c : Dev nD) (t : Fin cfg0.N) (y) :
    k0_pay9 (iblk m c 8 t) (iblk m c 9 t) (iblk m c 10 t) (iblk m c 11 t) y = REF6 (m ((c : Thread nD τ).loc main_arg8)) (m ((c : Thread nD τ).loc main_arg9)) (m ((c : Thread nD τ).loc main_arg10)) (m ((c : Thread nD τ).loc main_arg11)) (((cfg0.win 18).blk t).view.emb y) := by
  pointwise [k0_pay7, k0_pay8, k0_pay9, REF6, UPDATE, FIRST, SECOND, CONST]
  blk_point [iblk, V, idx t]

/-- The array after the run. -/
theorem final6 (c : Dev nD) : (dats m 0 c).arrAt 18 (cfgs 0).N = REF6 (m ((c : Thread nD τ).loc main_arg8)) (m ((c : Thread nD τ).loc main_arg9)) (m ((c : Thread nD τ).loc main_arg10)) (m ((c : Thread nD τ).loc main_arg11)) := by
  refine (dats m 0 c).arrAt_eq_of_covers 18 _ (by decide +kernel) fun t hf y => ?_
  blk_simp
  rw [after0_18]
  frame_out
  exact point6 m c t y

/-- The reference's new first moment of norm_f_w. -/
abbrev REF7 (g a : FVec Ideal Cert.Reference25Ideal.S1x1024 .f32) : FVec Ideal Cert.Reference25Ideal.S1x1024 .f32 := FIRST Cert.Reference25Ideal.Gen.bcast_S_S1x1024 g a

/-- The new first moment of norm_f_w that the body stores. -/
theorem point7 (c : Dev nD) (t : Fin cfg0.N) (y) :
    k0_pay7 (iblk m c 9 t) (iblk m c 10 t) y = REF7 (m ((c : Thread nD τ).loc main_arg9)) (m ((c : Thread nD τ).loc main_arg10)) (((cfg0.win 19).blk t).view.emb y) := by
  pointwise [k0_pay7, REF7, FIRST, CONST]
  blk_point [iblk, V, idx t]

/-- The array after the run. -/
theorem final7 (c : Dev nD) : (dats m 0 c).arrAt 19 (cfgs 0).N = REF7 (m ((c : Thread nD τ).loc main_arg9)) (m ((c : Thread nD τ).loc main_arg10)) := by
  refine (dats m 0 c).arrAt_eq_of_covers 19 _ (by decide +kernel) fun t hf y => ?_
  blk_simp
  rw [after0_19]
  frame_out
  exact point7 m c t y

/-- The reference's new second moment of norm_f_w. -/
abbrev REF8 (g b : FVec Ideal Cert.Reference25Ideal.S1x1024 .f32) : FVec Ideal Cert.Reference25Ideal.S1x1024 .f32 := SECOND Cert.Reference25Ideal.Gen.bcast_S_S1x1024 g b

/-- The new second moment of norm_f_w that the body stores. -/
theorem point8 (c : Dev nD) (t : Fin cfg0.N) (y) :
    k0_pay8 (iblk m c 9 t) (iblk m c 11 t) y = REF8 (m ((c : Thread nD τ).loc main_arg9)) (m ((c : Thread nD τ).loc main_arg11)) (((cfg0.win 20).blk t).view.emb y) := by
  pointwise [k0_pay8, REF8, SECOND, CONST]
  blk_point [iblk, V, idx t]

/-- The array after the run. -/
theorem final8 (c : Dev nD) : (dats m 0 c).arrAt 20 (cfgs 0).N = REF8 (m ((c : Thread nD τ).loc main_arg9)) (m ((c : Thread nD τ).loc main_arg11)) := by
  refine (dats m 0 c).arrAt_eq_of_covers 20 _ (by decide +kernel) fun t hf y => ?_
  blk_simp
  rw [after0_20]
  frame_out
  exact point8 m c t y

end Cert.Kernel25Ideal.Value

end
-- ==== Proof.Claims25.lean ====
/- The claims about `Cert.Kernel25`, its ideal reading and its reference: the frames, the reading, and the values. -/
module

public import proofs.«01_k».proof.Defs
public import proofs.«01_k».proof.Proof.Gen.Kernel25.Frame
public import proofs.«01_k».proof.Proof.Gen.Kernel25Ideal.Frame
public import proofs.«01_k».proof.Proof.Gen.Reference25Ideal.Run
public import proofs.«01_k».proof.Proof.AdamSmallF
public import Idealize.ShloMosaic.Lib.Claim

@[expose] public section

noncomputable section

namespace Cert.Claims25

open Idealize.ShloMosaic Idealize.SL.Sem

theorem frame_kernel : Cert.quiescent_Kernel25 := fun m ρ _ => Cert.Kernel25.Gen.frame m ρ

theorem frame_ideal : Cert.quiescent_Kernel25Ideal := fun m ρ _ => Cert.Kernel25Ideal.Gen.frame m ρ

/-- The reference declares no semaphore, and none of its operations writes an argument. -/
theorem frame_reference : Cert.quiescent_Reference25Ideal := fun m ρ _ =>
  (θ_run Cert.Reference25Ideal.defs _ _).mono
    (fun r h => ⟨fun c => (h c).2.2.2.2.2.2.2.2.2, sem_eq_zero_of_no_sems (by decide) r.2⟩)
    (Cert.Reference25Ideal.Value.run m ρ)

theorem preserves : Cert.preserves_Kernel25_Kernel25Ideal := trivial

set_option maxHeartbeats 2000000 in
/-- The kernel's ideal results are the reference's. -/
theorem algebraic : Cert.algebraic_Kernel25Ideal_Reference25Ideal := by
  intro m g m' g' hpre hagree
  refine ⟨fun c => (Cert.Kernel25Ideal.Gen.dats m 0 c).arrAt 12 (Cert.Kernel25Ideal.cfgs 0).N,
    fun c => (Cert.Kernel25Ideal.Gen.dats m 0 c).arrAt 13 (Cert.Kernel25Ideal.cfgs 0).N,
    fun c => (Cert.Kernel25Ideal.Gen.dats m 0 c).arrAt 14 (Cert.Kernel25Ideal.cfgs 0).N,
    fun c => (Cert.Kernel25Ideal.Gen.dats m 0 c).arrAt 15 (Cert.Kernel25Ideal.cfgs 0).N,
    fun c => (Cert.Kernel25Ideal.Gen.dats m 0 c).arrAt 16 (Cert.Kernel25Ideal.cfgs 0).N,
    fun c => (Cert.Kernel25Ideal.Gen.dats m 0 c).arrAt 17 (Cert.Kernel25Ideal.cfgs 0).N,
    fun c => (Cert.Kernel25Ideal.Gen.dats m 0 c).arrAt 18 (Cert.Kernel25Ideal.cfgs 0).N,
    fun c => (Cert.Kernel25Ideal.Gen.dats m 0 c).arrAt 19 (Cert.Kernel25Ideal.cfgs 0).N,
    fun c => (Cert.Kernel25Ideal.Gen.dats m 0 c).arrAt 20 (Cert.Kernel25Ideal.cfgs 0).N, ?_, ?_⟩
  · refine θ_run_mono (θ_run_and (Cert.Kernel25Ideal.Gen.run_main m g) (Cert.Kernel25Ideal.Gen.unchanged m g)) fun r hr c => ?_
    exact ⟨(hr.1 c).1 12, (hr.1 c).1 13, (hr.1 c).1 14, (hr.1 c).1 15, (hr.1 c).1 16, (hr.1 c).1 17, (hr.1 c).1 18, (hr.1 c).1 19, (hr.1 c).1 20, hr.2 c⟩
  · refine θ_run_mono (Cert.Reference25Ideal.Value.run m' g') fun r hr c => ?_
    obtain ⟨e0, e1, e2, e3, e4, e5, e6, e7, e8, e9, e10, e11⟩ := hagree c
    have h0 : r.2.mem ((c.tc : Thread Cert.Reference25Ideal.nD Cert.Reference25Ideal.τ).loc Cert.Reference25Ideal.main_v23) = Cert.Kernel25Ideal.Value.REF0 (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) (m' ((c.tc : Thread Cert.Reference25Ideal.nD Cert.Reference25Ideal.τ).loc Cert.Reference25Ideal.main_arg3)) := (hr c).1
    rw [e0, e1, e2, e3] at h0
    replace h0 := h0.trans (Cert.Kernel25Ideal.Value.final0 m c).symm
    have h1 : r.2.mem ((c.tc : Thread Cert.Reference25Ideal.nD Cert.Reference25Ideal.τ).loc Cert.Reference25Ideal.main_v4) = Cert.Kernel25Ideal.Value.REF1 (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) := (hr c).2.1
    rw [e1, e2] at h1
    replace h1 := h1.trans (Cert.Kernel25Ideal.Value.final1 m c).symm
    have h2 : r.2.mem ((c.tc : Thread Cert.Reference25Ideal.nD Cert.Reference25Ideal.τ).loc Cert.Reference25Ideal.main_v10) = Cert.Kernel25Ideal.Value.REF2 (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg3)) := (hr c).2.2.1
    rw [e1, e3] at h2
    replace h2 := h2.trans (Cert.Kernel25Ideal.Value.final2 m c).symm
    have h3 : r.2.mem ((c.tc : Thread Cert.Reference25Ideal.nD Cert.Reference25Ideal.τ).loc Cert.Reference25Ideal.main_v47) = Cert.Kernel25Ideal.Value.REF3 (m' ((c.tc : Thread Cert.Reference25Ideal.nD Cert.Reference25Ideal.τ).loc Cert.Reference25Ideal.main_arg4)) (m' ((c.tc : Thread Cert.Reference25Ideal.nD Cert.Reference25Ideal.τ).loc Cert.Reference25Ideal.main_arg5)) (m' ((c.tc : Thread Cert.Reference25Ideal.nD Cert.Reference25Ideal.τ).loc Cert.Reference25Ideal.main_arg6)) (m' ((c.tc : Thread Cert.Reference25Ideal.nD Cert.Reference25Ideal.τ).loc Cert.Reference25Ideal.main_arg7)) := (hr c).2.2.2.1
    rw [e4, e5, e6, e7] at h3
    replace h3 := h3.trans (Cert.Kernel25Ideal.Value.final3 m c).symm
    have h4 : r.2.mem ((c.tc : Thread Cert.Reference25Ideal.nD Cert.Reference25Ideal.τ).loc Cert.Reference25Ideal.main_v28) = Cert.Kernel25Ideal.Value.REF4 (m' ((c.tc : Thread Cert.Reference25Ideal.nD Cert.Reference25Ideal.τ).loc Cert.Reference25Ideal.main_arg5)) (m' ((c.tc : Thread Cert.Reference25Ideal.nD Cert.Reference25Ideal.τ).loc Cert.Reference25Ideal.main_arg6)) := (hr c).2.2.2.2.1
    rw [e5, e6] at h4
    replace h4 := h4.trans (Cert.Kernel25Ideal.Value.final4 m c).symm
    have h5 : r.2.mem ((c.tc : Thread Cert.Reference25Ideal.nD Cert.Reference25Ideal.τ).loc Cert.Reference25Ideal.main_v34) = Cert.Kernel25Ideal.Value.REF5 (m' ((c.tc : Thread Cert.Reference25Ideal.nD Cert.Reference25Ideal.τ).loc Cert.Reference25Ideal.main_arg5)) (m' ((c.tc : Thread Cert.Reference25Ideal.nD Cert.Reference25Ideal.τ).loc Cert.Reference25Ideal.main_arg7)) := (hr c).2.2.2.2.2.1
    rw [e5, e7] at h5
    replace h5 := h5.trans (Cert.Kernel25Ideal.Value.final5 m c).symm
    have h6 : r.2.mem ((c.tc : Thread Cert.Reference25Ideal.nD Cert.Reference25Ideal.τ).loc Cert.Reference25Ideal.main_v71) = Cert.Kernel25Ideal.Value.REF6 (m' ((c.tc : Thread Cert.Reference25Ideal.nD Cert.Reference25Ideal.τ).loc Cert.Reference25Ideal.main_arg8)) (m' ((c.tc : Thread Cert.Reference25Ideal.nD Cert.Reference25Ideal.τ).loc Cert.Reference25Ideal.main_arg9)) (m' ((c.tc : Thread Cert.Reference25Ideal.nD Cert.Reference25Ideal.τ).loc Cert.Reference25Ideal.main_arg10)) (m' ((c.tc : Thread Cert.Reference25Ideal.nD Cert.Reference25Ideal.τ).loc Cert.Reference25Ideal.main_arg11)) := (hr c).2.2.2.2.2.2.1
    rw [e8, e9, e10, e11] at h6
    replace h6 := h6.trans (Cert.Kernel25Ideal.Value.final6 m c).symm
    have h7 : r.2.mem ((c.tc : Thread Cert.Reference25Ideal.nD Cert.Reference25Ideal.τ).loc Cert.Reference25Ideal.main_v52) = Cert.Kernel25Ideal.Value.REF7 (m' ((c.tc : Thread Cert.Reference25Ideal.nD Cert.Reference25Ideal.τ).loc Cert.Reference25Ideal.main_arg9)) (m' ((c.tc : Thread Cert.Reference25Ideal.nD Cert.Reference25Ideal.τ).loc Cert.Reference25Ideal.main_arg10)) := (hr c).2.2.2.2.2.2.2.1
    rw [e9, e10] at h7
    replace h7 := h7.trans (Cert.Kernel25Ideal.Value.final7 m c).symm
    have h8 : r.2.mem ((c.tc : Thread Cert.Reference25Ideal.nD Cert.Reference25Ideal.τ).loc Cert.Reference25Ideal.main_v58) = Cert.Kernel25Ideal.Value.REF8 (m' ((c.tc : Thread Cert.Reference25Ideal.nD Cert.Reference25Ideal.τ).loc Cert.Reference25Ideal.main_arg9)) (m' ((c.tc : Thread Cert.Reference25Ideal.nD Cert.Reference25Ideal.τ).loc Cert.Reference25Ideal.main_arg11)) := (hr c).2.2.2.2.2.2.2.2.1
    rw [e9, e11] at h8
    replace h8 := h8.trans (Cert.Kernel25Ideal.Value.final8 m c).symm
    exact ⟨h0, h1, h2, h3, h4, h5, h6, h7, h8, (hr c).2.2.2.2.2.2.2.2.2⟩

end Cert.Claims25

end
-- ==== Proof.PostHeads.lean ====
/- The mixers' tail, head by head: the reference's gradients of the bonus, and the kernel's sums within a head, entry by entry. -/
module

public import proofs.«01_k».proof.Proof.Gen.Kernel1Ideal.Skeleton
public import proofs.«01_k».proof.Proof.Gen.Reference1Ideal
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem

namespace Cert.Kernel1Ideal.Value

open Cert.Kernel1Ideal Cert.Kernel1Ideal.Gen

/-! ## The reference's terms -/

/-- The rows of an array of heads, as two sequences of eight heads. -/
abbrev HEADS (x : FVec Ideal Cert.Reference1Ideal.S4096x512 .f32) : FVec Ideal Cert.Reference1Ideal.S2x2048x8x64 .f32 := shapeCast _ x Cert.Reference1Ideal.Gen.shapeCasts_S4096x512_S2x2048x8x64

/-- The receptance: the first of the shifted columns. -/
abbrev RR (a2 : FVec Ideal Cert.Reference1Ideal.S4096x2048 .f32) : FVec Ideal Cert.Reference1Ideal.S2x2048x8x64 .f32 := HEADS (extractStridedSlice Cert.Reference1Ideal.S4096x512 ![0, 0] a2 Cert.Reference1Ideal.Gen.slices_S4096x2048_S4096x512_0_0)

/-- The value: the third of the shifted columns. -/
abbrev VV (a2 : FVec Ideal Cert.Reference1Ideal.S4096x2048 .f32) : FVec Ideal Cert.Reference1Ideal.S2x2048x8x64 .f32 := HEADS (extractStridedSlice Cert.Reference1Ideal.S4096x512 ![0, 1024] a2 Cert.Reference1Ideal.Gen.slices_S4096x2048_S4096x512_0_1024)

/-- The gradient through the output gate. -/
abbrev DG (a5 : FVec Ideal Cert.Reference1Ideal.S4096x512 .f32) (a12 : FVec Ideal Cert.Reference1Ideal.S4096x1024 .f32) : FVec Ideal Cert.Reference1Ideal.S2x2048x8x64 .f32 :=
  shapeCast _ (mulf (extractStridedSlice Cert.Reference1Ideal.S2x2048x512 ![0, 0, 0] (shapeCast _ a12 Cert.Reference1Ideal.Gen.shapeCasts_S4096x1024_S2x2048x1024) Cert.Reference1Ideal.Gen.slices_S2x2048x1024_S2x2048x512_0_0_0) (shapeCast _ a5 Cert.Reference1Ideal.Gen.shapeCasts_S4096x512_S2x2048x512)) Cert.Reference1Ideal.Gen.shapeCasts_S2x2048x512_S2x2048x8x64

/-- The bonus's weight, one row for all positions. -/
abbrev RK (w : FVec Ideal Cert.Reference1Ideal.S1x8x64 .f32) : FVec Ideal Cert.Reference1Ideal.S2x2048x8x64 .f32 :=
  broadcastInDim Cert.Reference1Ideal.S2x2048x8x64 ![0, 1, 2, 3] Cert.Reference1Ideal.Gen.bcast_S1x1x8x64_S2x2048x8x64_0_1_2_3 (broadcastInDim Cert.Reference1Ideal.S1x1x8x64 ![2, 3] Cert.Reference1Ideal.Gen.bcast_S8x64_S1x1x8x64_2_3 (shapeCast _ w Cert.Reference1Ideal.Gen.shapeCasts_S1x8x64_S8x64))

/-- A head's sum of the gradient times the value, at each of its columns. -/
abbrev SDV (a2 : FVec Ideal Cert.Reference1Ideal.S4096x2048 .f32) (a5 : FVec Ideal Cert.Reference1Ideal.S4096x512 .f32) (a12 : FVec Ideal Cert.Reference1Ideal.S4096x1024 .f32) : FVec Ideal Cert.Reference1Ideal.S2x2048x8x64 .f32 :=
  broadcastInDim Cert.Reference1Ideal.S2x2048x8x64 ![0, 1, 2] Cert.Reference1Ideal.Gen.bcast_S2x2048x8_S2x2048x8x64_0_1_2 (Host.reduceAdd (shapeCast _ (Host.reduceAdd (mulf (DG a5 a12) (VV a2)) (constant Cert.Reference1Ideal.S_ .f32 0x00000000#32) Cert.Reference1Ideal.Gen.reducesTo_S2x2048x8x64_S2x2048x8_d3 Cert.Reference1Ideal.Gen.h_S_) Cert.Reference1Ideal.Gen.shapeCasts_S2x2048x8_S2x2048x8x1) (constant Cert.Reference1Ideal.S_ .f32 0x00000000#32) Cert.Reference1Ideal.Gen.reducesTo_S2x2048x8x1_S2x2048x8_d3 Cert.Reference1Ideal.Gen.h_S_)

/-- A head's sum of receptance, key and weight, at each of its columns. -/
abbrev SRK (a2 : FVec Ideal Cert.Reference1Ideal.S4096x2048 .f32) (k : FVec Ideal Cert.Reference1Ideal.S4096x512 .f32) (w : FVec Ideal Cert.Reference1Ideal.S1x8x64 .f32) : FVec Ideal Cert.Reference1Ideal.S2x2048x8x64 .f32 :=
  broadcastInDim Cert.Reference1Ideal.S2x2048x8x64 ![0, 1, 2, 3] Cert.Reference1Ideal.Gen.bcast_S2x2048x8x1_S2x2048x8x64_0_1_2_3 (broadcastInDim Cert.Reference1Ideal.S2x2048x8x1 ![0, 1, 2] Cert.Reference1Ideal.Gen.bcast_S2x2048x8_S2x2048x8x1_0_1_2 (Host.reduceAdd (mulf (mulf (RR a2) (HEADS k)) (RK w)) (constant Cert.Reference1Ideal.S_ .f32 0x00000000#32) Cert.Reference1Ideal.Gen.reducesTo_S2x2048x8x64_S2x2048x8_d3 Cert.Reference1Ideal.Gen.h_S_))

/-- The reference's gradient of the receptance. -/
abbrev REF0 (a2 : FVec Ideal Cert.Reference1Ideal.S4096x2048 .f32) (a3 a4 a5 : FVec Ideal Cert.Reference1Ideal.S4096x512 .f32) (a9 a10 : FVec Ideal Cert.Reference1Ideal.S1x8x64 .f32) (a12 : FVec Ideal Cert.Reference1Ideal.S4096x1024 .f32) : FVec Ideal Cert.Reference1Ideal.S4096x512 .f32 :=
  shapeCast _ (addf (mulf (mulf (SDV a2 a5 a12) (RK a10)) (HEADS a4)) (mulf (mulf (SDV a2 a5 a12) (RK a9)) (HEADS a3))) Cert.Reference1Ideal.Gen.shapeCasts_S2x2048x8x64_S4096x512

/-- The reference's gradient of a direction's key. -/
abbrev REF1 (a2 : FVec Ideal Cert.Reference1Ideal.S4096x2048 .f32) (a5 : FVec Ideal Cert.Reference1Ideal.S4096x512 .f32) (w : FVec Ideal Cert.Reference1Ideal.S1x8x64 .f32) (a12 : FVec Ideal Cert.Reference1Ideal.S4096x1024 .f32) : FVec Ideal Cert.Reference1Ideal.S4096x512 .f32 :=
  shapeCast _ (mulf (RR a2) (mulf (SDV a2 a5 a12) (RK w))) Cert.Reference1Ideal.Gen.shapeCasts_S2x2048x8x64_S4096x512

/-- The reference's gradient of the value. -/
abbrev REF3 (a2 : FVec Ideal Cert.Reference1Ideal.S4096x2048 .f32) (a3 a4 a5 : FVec Ideal Cert.Reference1Ideal.S4096x512 .f32) (a9 a10 : FVec Ideal Cert.Reference1Ideal.S1x8x64 .f32) (a12 : FVec Ideal Cert.Reference1Ideal.S4096x1024 .f32) : FVec Ideal Cert.Reference1Ideal.S4096x512 .f32 :=
  shapeCast _ (addf (mulf (SRK a2 a4 a10) (DG a5 a12)) (mulf (SRK a2 a3 a9) (DG a5 a12))) Cert.Reference1Ideal.Gen.shapeCasts_S2x2048x8x64_S4096x512

/-! ## Entry by entry -/

/-- A column of a column's head. -/
abbrev HC (q : Fin 512) (j : Fin 64) : Fin 512 := ⟨q.val / 64 * 64 + j.val, by have := q.isLt; have := j.isLt; omega⟩

/-- A head's sum of the gradient times the value. -/
abbrev sdv (a2 : FVec Ideal Cert.Reference1Ideal.S4096x2048 .f32) (a5 : FVec Ideal Cert.Reference1Ideal.S4096x512 .f32) (a12 : FVec Ideal Cert.Reference1Ideal.S4096x1024 .f32) (p : Fin 4096) (q : Fin 512) : EReal :=
  ∑ j : Fin 64, a12 (ix2 p ⟨(HC q j).val, by have := (HC q j).isLt; omega⟩) * a5 (ix2 p (HC q j)) * a2 (ix2 p ⟨1024 + (HC q j).val, by have := (HC q j).isLt; omega⟩)

/-- The bonus's weight at a column. -/
abbrev rk (w : FVec Ideal Cert.Reference1Ideal.S1x8x64 .f32) (q : Fin 512) : EReal := w (ix3 0 ⟨q.val / 64, by have := q.isLt; omega⟩ ⟨q.val % 64, by omega⟩)

/-- A column of the receptance. -/
abbrev rr (a2 : FVec Ideal Cert.Reference1Ideal.S4096x2048 .f32) (p : Fin 4096) (q : Fin 512) : EReal := a2 (ix2 p ⟨q.val, by have := q.isLt; omega⟩)

/-- A column of the gradient through the output gate. -/
abbrev dg (a5 : FVec Ideal Cert.Reference1Ideal.S4096x512 .f32) (a12 : FVec Ideal Cert.Reference1Ideal.S4096x1024 .f32) (p : Fin 4096) (q : Fin 512) : EReal := a12 (ix2 p ⟨q.val, by have := q.isLt; omega⟩) * a5 (ix2 p q)

/-- A head's sum of receptance, key and weight. -/
abbrev srk (a2 : FVec Ideal Cert.Reference1Ideal.S4096x2048 .f32) (k : FVec Ideal Cert.Reference1Ideal.S4096x512 .f32) (w : FVec Ideal Cert.Reference1Ideal.S1x8x64 .f32) (p : Fin 4096) (q : Fin 512) : EReal :=
  ∑ j : Fin 64, rr a2 p (HC q j) * k (ix2 p (HC q j)) * rk w (HC q j)

/-- The reference's gradient of a direction's key, entry by entry. -/
theorem ref1 (a2 : FVec Ideal Cert.Reference1Ideal.S4096x2048 .f32) (a5 : FVec Ideal Cert.Reference1Ideal.S4096x512 .f32) (w : FVec Ideal Cert.Reference1Ideal.S1x8x64 .f32) (a12 : FVec Ideal Cert.Reference1Ideal.S4096x1024 .f32) (p : Fin 4096) (q : Fin 512) :
    REF1 a2 a5 w a12 (ix2 p q) = rr a2 p q * (sdv a2 a5 a12 p q * rk w q) := by
  pointwise [REF1, SDV, RK, RR, VV, DG, HEADS]
  exact congrArg (fun e : EReal => _ * (e * _)) (Fin.sum_univ_one (M := EReal) _)

/-- The reference's gradient of the receptance, entry by entry. -/
theorem ref0 (a2 : FVec Ideal Cert.Reference1Ideal.S4096x2048 .f32) (a3 a4 a5 : FVec Ideal Cert.Reference1Ideal.S4096x512 .f32) (a9 a10 : FVec Ideal Cert.Reference1Ideal.S1x8x64 .f32) (a12 : FVec Ideal Cert.Reference1Ideal.S4096x1024 .f32) (p : Fin 4096) (q : Fin 512) :
    REF0 a2 a3 a4 a5 a9 a10 a12 (ix2 p q) = sdv a2 a5 a12 p q * rk a10 q * a4 (ix2 p q) + sdv a2 a5 a12 p q * rk a9 q * a3 (ix2 p q) := by
  pointwise [REF0, SDV, RK, RR, VV, DG, HEADS]
  exact congrArg₂ (fun e f : EReal => e * _ * _ + f * _ * _) (Fin.sum_univ_one (M := EReal) _) (Fin.sum_univ_one (M := EReal) _)

/-- The reference's gradient of the value, entry by entry. -/
theorem ref3 (a2 : FVec Ideal Cert.Reference1Ideal.S4096x2048 .f32) (a3 a4 a5 : FVec Ideal Cert.Reference1Ideal.S4096x512 .f32) (a9 a10 : FVec Ideal Cert.Reference1Ideal.S1x8x64 .f32) (a12 : FVec Ideal Cert.Reference1Ideal.S4096x1024 .f32) (p : Fin 4096) (q : Fin 512) :
    REF3 a2 a3 a4 a5 a9 a10 a12 (ix2 p q) = srk a2 a4 a10 p q * dg a5 a12 p q + srk a2 a3 a9 p q * dg a5 a12 p q := by
  have e : ∀ (w : FVec Ideal Cert.Reference1Ideal.S1x8x64 .f32) (j : Fin 64), w (ix3 0 ⟨q.val / 64, by have := q.isLt; omega⟩ j) = rk w (HC q j) := fun w j => by
    have hj := j.isLt
    exact congrArg₂ (fun (a : Fin 8) (b : Fin 64) => w (ix3 0 a b)) (Fin.ext (by show q.val / 64 = (q.val / 64 * 64 + j.val) / 64; omega)) (Fin.ext (by show j.val = (q.val / 64 * 64 + j.val) % 64; omega))
  pointwise [REF3, SRK, RK, RR, VV, DG, HEADS]
  exact congrArg₂ (fun e f : EReal => e * _ + f * _) (Finset.sum_congr rfl fun j _ => congrArg (_ * ·) (e a10 j)) (Finset.sum_congr rfl fun j _ => congrArg (_ * ·) (e a9 j))

/-- The kernel's matrix that sums within a head. -/
abbrev ISONES (M : FVec Ideal S512x512 .bf16) : Prop := ∀ l q : Fin 512, M (ix2 l q) = if l.val / 64 = q.val / 64 then (1 : EReal) else 0

/-- A sum over all columns, of which those of one head count. -/
theorem sum_head (x : Fin 512 → EReal) (q : Fin 512) : (∑ l : Fin 512, x l * (if l.val / 64 = q.val / 64 then (1 : EReal) else 0)) = ∑ j : Fin 64, x (HC q j) := by
  have e : ∀ l : Fin 512, x l * (if l.val / 64 = q.val / 64 then (1 : EReal) else 0) = if l.val / 64 = q.val / 64 then x l else 0 := fun l => by
    by_cases h : l.val / 64 = q.val / 64
    · rw [if_pos h, if_pos h, mul_one]
    · rw [if_neg h, if_neg h, mul_zero]
  simp only [e]
  rw [← Finset.sum_filter]
  refine (Finset.sum_bij (fun (j : Fin 64) _ => HC q j) (fun j _ => ?_) (fun j _ k _ h => ?_) (fun l hl => ?_) (fun _ _ => rfl)).symm
  · rw [Finset.mem_filter]
    exact ⟨Finset.mem_univ _, by show (q.val / 64 * 64 + j.val) / 64 = _; have := j.isLt; omega⟩
  · have h' : q.val / 64 * 64 + j.val = q.val / 64 * 64 + k.val := congrArg Fin.val h
    exact Fin.ext (by omega)
  · have h' := (Finset.mem_filter.mp hl).2
    exact ⟨⟨l.val % 64, by omega⟩, Finset.mem_univ _, Fin.ext (by show q.val / 64 * 64 + l.val % 64 = l.val; omega)⟩

/-- The kernel's sum within a head: the rounded part and what the rounding left, which is zero here. -/
theorem seg (M : FVec Ideal S512x512 .bf16) (hM : ISONES M) (x : FVec Ideal S256x512 .f32) (k : Fin 256) (hx : ∀ l : Fin 512, ∃ r : ℝ, x (ix2 k l) = (r : EReal)) (q : Fin 512) :
    addf (matmul dot_S256x512_S512x512_S256x512_1_0_0_1_n_n none (truncf .bf16 x bitsLt_bf16_f32) M (constant S256x512 .f32 0x00000000#32))
      (matmul dot_S256x512_S512x512_S256x512_1_0_0_1_n_n none (truncf .bf16 (subf x (extf .f32 (truncf .bf16 x bitsLt_bf16_f32) bitsLt_bf16_f32)) bitsLt_bf16_f32) M (constant S256x512 .f32 0x00000000#32)) (ix2 k q)
      = ∑ j : Fin 64, x (ix2 k (HC q j)) := by
  have hz : ∀ l : Fin 512, x (ix2 k l) - x (ix2 k l) = 0 := fun l => by
    obtain ⟨r, e⟩ := hx l
    rw [e, ← EReal.coe_sub, sub_self, EReal.coe_zero]
  pointwise
  simp only [hz, zero_mul, Finset.sum_const_zero, add_zero, hM _ q]
  exact sum_head (fun l => x (ix2 k l)) q

/-- A product of three real numbers. -/
theorem mul_real {x y z : EReal} (hx : ∃ r : ℝ, x = (r : EReal)) (hy : ∃ r : ℝ, y = (r : EReal)) (hz : ∃ r : ℝ, z = (r : EReal)) : ∃ r : ℝ, x * y * z = (r : EReal) := by
  obtain ⟨a, rfl⟩ := hx
  obtain ⟨b, rfl⟩ := hy
  obtain ⟨c, rfl⟩ := hz
  exact ⟨a * b * c, by rw [EReal.coe_mul, EReal.coe_mul]⟩

/-- A block's sums within a head of the gradient times the value. -/
theorem body_sdv (a2 : FVec Ideal Cert.Reference1Ideal.S4096x2048 .f32) (a5 : FVec Ideal Cert.Reference1Ideal.S4096x512 .f32) (a12 : FVec Ideal Cert.Reference1Ideal.S4096x1024 .f32) (p : Fin 4096) (k : Fin 256)
    (M : FVec Ideal S512x512 .bf16) (hM : ISONES M) (v g d : Vec Ideal S256x512 .f32) (hv : ∀ q : Fin 512, v (ix2 k q) = a2 (ix2 p ⟨1024 + q.val, by have := q.isLt; omega⟩))
    (hg : ∀ q : Fin 512, g (ix2 k q) = a5 (ix2 p q)) (hd : ∀ q : Fin 512, d (ix2 k q) = a12 (ix2 p ⟨q.val, by have := q.isLt; omega⟩))
    (fin2 : ∀ i, ∃ x : ℝ, a2 i = (x : EReal)) (fin5 : ∀ i, ∃ x : ℝ, a5 i = (x : EReal)) (fin12 : ∀ i, ∃ x : ℝ, a12 i = (x : EReal)) (q : Fin 512) :
    k0_pay32 M v g d (ix2 k q) = sdv a2 a5 a12 p q := by
  have e : ∀ l : Fin 512, mulf (mulf d g) v (ix2 k l) = a12 (ix2 p ⟨l.val, by have := l.isLt; omega⟩) * a5 (ix2 p l) * a2 (ix2 p ⟨1024 + l.val, by have := l.isLt; omega⟩) := fun l => by
    pointwise
    rw [hd, hg, hv]
  refine (seg M hM (mulf (mulf d g) v) k (fun l => ?_) q).trans (Finset.sum_congr rfl fun j _ => e (HC q j))
  rw [e]
  exact mul_real (fin12 _) (fin5 _) (fin2 _)

/-- A block's sums within a head of receptance, key and weight. -/
theorem body_srk (a2 : FVec Ideal Cert.Reference1Ideal.S4096x2048 .f32) (a : FVec Ideal Cert.Reference1Ideal.S4096x512 .f32) (w : FVec Ideal Cert.Reference1Ideal.S1x8x64 .f32) (p : Fin 4096) (k : Fin 256)
    (M : FVec Ideal S512x512 .bf16) (hM : ISONES M) (wr : Vec Ideal S1x512 .f32) (r kd : Vec Ideal S256x512 .f32) (hw : ∀ q : Fin 512, wr (ix2 0 q) = rk w q)
    (hr : ∀ q : Fin 512, r (ix2 k q) = rr a2 p q) (hk : ∀ q : Fin 512, kd (ix2 k q) = a (ix2 p q))
    (fin2 : ∀ i, ∃ x : ℝ, a2 i = (x : EReal)) (fina : ∀ i, ∃ x : ℝ, a i = (x : EReal)) (finw : ∀ i, ∃ x : ℝ, w i = (x : EReal)) (q : Fin 512) :
    k0_pay21 (k0_pay6 wr) M r kd (ix2 k q) = srk a2 a w p q := by
  have e : ∀ l : Fin 512, mulf (mulf r kd) (k0_pay6 wr) (ix2 k l) = rr a2 p l * a (ix2 p l) * rk w l := fun l => by
    pointwise [k0_pay6]
    rw [hr, hk, hw]
  refine (seg M hM (mulf (mulf r kd) (k0_pay6 wr)) k (fun l => ?_) q).trans (Finset.sum_congr rfl fun j _ => e (HC q j))
  rw [e]
  exact mul_real (fin2 _) (fina _) (finw _)

/-- A block of a direction's key's gradient. -/
theorem body1 (a2 : FVec Ideal Cert.Reference1Ideal.S4096x2048 .f32) (a5 : FVec Ideal Cert.Reference1Ideal.S4096x512 .f32) (w : FVec Ideal Cert.Reference1Ideal.S1x8x64 .f32) (a12 : FVec Ideal Cert.Reference1Ideal.S4096x1024 .f32) (p : Fin 4096) (k : Fin 256) (q : Fin 512)
    (M : FVec Ideal S512x512 .bf16) (hM : ISONES M) (wr : Vec Ideal S1x512 .f32) (r v g d : Vec Ideal S256x512 .f32)
    (hw : ∀ q : Fin 512, wr (ix2 0 q) = rk w q) (hr : ∀ q : Fin 512, r (ix2 k q) = rr a2 p q) (hv : ∀ q : Fin 512, v (ix2 k q) = a2 (ix2 p ⟨1024 + q.val, by have := q.isLt; omega⟩))
    (hg : ∀ q : Fin 512, g (ix2 k q) = a5 (ix2 p q)) (hd : ∀ q : Fin 512, d (ix2 k q) = a12 (ix2 p ⟨q.val, by have := q.isLt; omega⟩))
    (fin2 : ∀ i, ∃ x : ℝ, a2 i = (x : EReal)) (fin5 : ∀ i, ∃ x : ℝ, a5 i = (x : EReal)) (fin12 : ∀ i, ∃ x : ℝ, a12 i = (x : EReal)) :
    k0_pay35 (k0_pay6 wr) M r v g d (ix2 k q) = REF1 a2 a5 w a12 (ix2 p q) := by
  rw [ref1, ← body_sdv a2 a5 a12 p k M hM v g d hv hg hd fin2 fin5 fin12 q, ← hr, ← hw]
  unfold k0_pay35 k0_pay34
  generalize k0_pay32 M v g d = z
  pointwise [k0_pay6]

/-- A block of the receptance's gradient. -/
theorem body0 (a2 : FVec Ideal Cert.Reference1Ideal.S4096x2048 .f32) (a3 a4 a5 : FVec Ideal Cert.Reference1Ideal.S4096x512 .f32) (a9 a10 : FVec Ideal Cert.Reference1Ideal.S1x8x64 .f32) (a12 : FVec Ideal Cert.Reference1Ideal.S4096x1024 .f32) (p : Fin 4096) (k : Fin 256) (q : Fin 512)
    (M : FVec Ideal S512x512 .bf16) (hM : ISONES M) (w9 w10 : Vec Ideal S1x512 .f32) (kf kb v g d : Vec Ideal S256x512 .f32)
    (hw9 : ∀ q : Fin 512, w9 (ix2 0 q) = rk a9 q) (hw10 : ∀ q : Fin 512, w10 (ix2 0 q) = rk a10 q) (hkf : ∀ q : Fin 512, kf (ix2 k q) = a3 (ix2 p q)) (hkb : ∀ q : Fin 512, kb (ix2 k q) = a4 (ix2 p q))
    (hv : ∀ q : Fin 512, v (ix2 k q) = a2 (ix2 p ⟨1024 + q.val, by have := q.isLt; omega⟩))
    (hg : ∀ q : Fin 512, g (ix2 k q) = a5 (ix2 p q)) (hd : ∀ q : Fin 512, d (ix2 k q) = a12 (ix2 p ⟨q.val, by have := q.isLt; omega⟩))
    (fin2 : ∀ i, ∃ x : ℝ, a2 i = (x : EReal)) (fin5 : ∀ i, ∃ x : ℝ, a5 i = (x : EReal)) (fin12 : ∀ i, ∃ x : ℝ, a12 i = (x : EReal)) :
    k0_pay36 (k0_pay6 w9) (k0_pay7 w10) M kf kb v g d (ix2 k q) = REF0 a2 a3 a4 a5 a9 a10 a12 (ix2 p q) := by
  rw [ref0, ← body_sdv a2 a5 a12 p k M hM v g d hv hg hd fin2 fin5 fin12 q, ← hkf, ← hkb, ← hw9, ← hw10]
  unfold k0_pay36 k0_pay29 k0_pay34
  rw [show k0_pay27 M v g d = k0_pay32 M v g d from rfl]
  generalize k0_pay32 M v g d = z
  pointwise [k0_pay6, k0_pay7]

/-- A block of the value's gradient. -/
theorem body3 (a2 : FVec Ideal Cert.Reference1Ideal.S4096x2048 .f32) (a3 a4 a5 : FVec Ideal Cert.Reference1Ideal.S4096x512 .f32) (a9 a10 : FVec Ideal Cert.Reference1Ideal.S1x8x64 .f32) (a12 : FVec Ideal Cert.Reference1Ideal.S4096x1024 .f32) (p : Fin 4096) (k : Fin 256) (q : Fin 512)
    (M : FVec Ideal S512x512 .bf16) (hM : ISONES M) (w9 w10 : Vec Ideal S1x512 .f32) (r kf kb g d : Vec Ideal S256x512 .f32)
    (hw9 : ∀ q : Fin 512, w9 (ix2 0 q) = rk a9 q) (hw10 : ∀ q : Fin 512, w10 (ix2 0 q) = rk a10 q) (hr : ∀ q : Fin 512, r (ix2 k q) = rr a2 p q)
    (hkf : ∀ q : Fin 512, kf (ix2 k q) = a3 (ix2 p q)) (hkb : ∀ q : Fin 512, kb (ix2 k q) = a4 (ix2 p q))
    (hg : ∀ q : Fin 512, g (ix2 k q) = a5 (ix2 p q)) (hd : ∀ q : Fin 512, d (ix2 k q) = a12 (ix2 p ⟨q.val, by have := q.isLt; omega⟩))
    (fin2 : ∀ i, ∃ x : ℝ, a2 i = (x : EReal)) (fin3 : ∀ i, ∃ x : ℝ, a3 i = (x : EReal)) (fin4 : ∀ i, ∃ x : ℝ, a4 i = (x : EReal)) (fin9 : ∀ i, ∃ x : ℝ, a9 i = (x : EReal)) (fin10 : ∀ i, ∃ x : ℝ, a10 i = (x : EReal)) :
    k0_pay31 g (k0_pay21 (k0_pay6 w9) M r kf) (k0_pay23 (k0_pay7 w10) M r kb) d (ix2 k q) = REF3 a2 a3 a4 a5 a9 a10 a12 (ix2 p q) := by
  rw [ref3, ← body_srk a2 a3 a9 p k M hM w9 r kf hw9 hr hkf fin2 fin3 fin9 q, ← body_srk a2 a4 a10 p k M hM w10 r kb hw10 hr hkb fin2 fin4 fin10 q]
  rw [show k0_pay23 (k0_pay7 w10) M r kb = k0_pay21 (k0_pay6 w10) M r kb from rfl]
  generalize k0_pay21 (k0_pay6 w9) M r kf = y
  generalize k0_pay21 (k0_pay6 w10) M r kb = z
  show _ = _ * (a12 _ * a5 _) + _ * (a12 _ * a5 _)
  rw [← hg, ← hd]
  pointwise [k0_pay31, k0_pay26]

end Cert.Kernel1Ideal.Value

end
-- ==== Proof.Post.lean ====
/- The value of `Cert.Kernel1Ideal`: the gradients that it leaves are the reference's. -/
module

public import proofs.«01_k».proof.Proof.Gen.Kernel1Ideal.Frame
public import proofs.«01_k».proof.Proof.PostHeads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel1Ideal.Value

open Cert.Kernel1Ideal Cert.Kernel1Ideal.Gen

variable (m : (ℓ : Loc nD τ sig) → Buf (Elt Ideal) ℓ)

/-- Each window's block index at every grid point, decided. -/
theorem idx : ∀ t : Fin cfg0.N, win0_0.index t = ![t.val, 0]
    ∧ win0_1.index t = ![t.val * 32 - 1, 0]
    ∧ win0_2.index t = ![min (t.val * 32 + 32) 511, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 2]
    ∧ win0_9.index t = ![t.val, 0]
    ∧ win0_10.index t = ![t.val, 0]
    ∧ win0_11.index t = ![t.val * 32 - 1, 0]
    ∧ win0_12.index t = ![min (t.val * 32 + 32) 511, 0]
    ∧ win0_13.index t = ![0, 0]
    ∧ win0_14.index t = ![0, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![0, 0] :=
  (by decide +kernel : ∀ t : Fin grid0.N, _)

/-- A row of a block of the receptance. -/
theorem x_r (c : Dev nD) (t : Fin cfg0.N) (p : Fin 4096) (k : Fin 256) (q : Fin 512) (hp : p.val = t.val * 256 + k.val) : iblk m c 5 t (ix2 k q) = rr (m ((c : Thread nD τ).loc main_arg2)) p q := by
  obtain ⟨p, h⟩ := p; obtain rfl : p = _ := hp
  blk_point [iblk, V, idx t]

/-- A row of a block of the forward direction's key. -/
theorem x_kf (c : Dev nD) (t : Fin cfg0.N) (p : Fin 4096) (k : Fin 256) (q : Fin 512) (hp : p.val = t.val * 256 + k.val) : iblk m c 6 t (ix2 k q) = m ((c : Thread nD τ).loc main_arg3) (ix2 p q) := by
  obtain ⟨p, h⟩ := p; obtain rfl : p = _ := hp
  blk_point [iblk, V, idx t]

/-- A row of a block of the backward direction's key. -/
theorem x_kb (c : Dev nD) (t : Fin cfg0.N) (p : Fin 4096) (k : Fin 256) (q : Fin 512) (hp : p.val = t.val * 256 + k.val) : iblk m c 7 t (ix2 k q) = m ((c : Thread nD τ).loc main_arg4) (ix2 p q) := by
  obtain ⟨p, h⟩ := p; obtain rfl : p = _ := hp
  blk_point [iblk, V, idx t]

/-- A row of a block of the value. -/
theorem x_v (c : Dev nD) (t : Fin cfg0.N) (p : Fin 4096) (k : Fin 256) (q : Fin 512) (hp : p.val = t.val * 256 + k.val) :
    iblk m c 8 t (ix2 k q) = m ((c : Thread nD τ).loc main_arg2) (ix2 p ⟨1024 + q.val, by have := q.isLt; omega⟩) := by
  obtain ⟨p, h⟩ := p; obtain rfl : p = _ := hp
  blk_point [iblk, V, idx t]

/-- A row of a block of the gate. -/
theorem x_g (c : Dev nD) (t : Fin cfg0.N) (p : Fin 4096) (k : Fin 256) (q : Fin 512) (hp : p.val = t.val * 256 + k.val) : iblk m c 9 t (ix2 k q) = m ((c : Thread nD τ).loc main_arg5) (ix2 p q) := by
  obtain ⟨p, h⟩ := p; obtain rfl : p = _ := hp
  blk_point [iblk, V, idx t]

/-- A row of a block of the gradient's columns of the recurrences. -/
theorem x_d (c : Dev nD) (t : Fin cfg0.N) (p : Fin 4096) (k : Fin 256) (q : Fin 512) (hp : p.val = t.val * 256 + k.val) :
    View.ld (iblk m c 0 t) (Rect.unit ![0, 0] ![256, 512] inb_S256x1024_S256x512_0_0) (ix2 k q) = m ((c : Thread nD τ).loc main_arg12) (ix2 p ⟨q.val, by have := q.isLt; omega⟩) := by
  obtain ⟨p, h⟩ := p; obtain rfl : p = _ := hp
  blk_point [iblk, V, idx t]

/-- A column's head, as the host computes it. -/
theorem head : ∀ l : Fin 512, (Scalar.select
          (IntOp.andi
            (IntOp.cmpi CmpIPredicate.ne
              (if BitVec.ofNat 32 l.val = 0 then (0 : BitVec 32) else if (BitVec.ofNat 32 l.val).msb = true then -1 else 1)
              (if 64#32 = 0 then (0 : BitVec 32) else if (64#32).msb = true then -1 else 1))
            (IntOp.cmpi CmpIPredicate.ne (IntOp.remsi ArithUnit.host (BitVec.ofNat 32 l.val) 64#32) 0#32))
          (IntOp.subi (IntOp.divsi ArithUnit.host (BitVec.ofNat 32 l.val) 64#32) 1#32)
          (IntOp.divsi ArithUnit.host (BitVec.ofNat 32 l.val) 64#32)) = BitVec.ofNat 32 (l.val / 64) := by decide +kernel

/-- Whether two heads are the same, as a word. -/
theorem same : ∀ a b : Fin 8, IntOp.cmpi CmpIPredicate.eq (BitVec.ofNat 32 a.val) (BitVec.ofNat 32 b.val) = if a.val = b.val then 1#1 else 0#1 := by decide +kernel

/-- The matrix of ones within a head. -/
theorem V_ones (c : Dev nD) (l q : Fin 512) : V m c main_v12 (ix2 l q) = if l.val / 64 = q.val / 64 then (1 : EReal) else 0 := by
  unfold V
  simp only [List.flatten_cons, List.flatten_nil, List.append_nil, List.cons_append, List.nil_append, StableHlo.after_cons, StableHlo.after_nil]
  after_results_simp
  simp -implicitDefEqProofs only [StableHlo.TRef.toBuf, StableHlo.TRef.ofBuf, cast_cast, cast_eq, id_eq]
  pointwise
  have e := same ⟨l.val / 64, by have := l.isLt; omega⟩ ⟨q.val / 64, by have := q.isLt; omega⟩
  refine (congrArg (FloatOps.uitofp (F := Ideal) FTy.bf16) ((congrArg₂ (IntOp.cmpi CmpIPredicate.eq) (head l) (head q)).trans e)).trans ?_
  by_cases h : l.val / 64 = q.val / 64
  · rw [if_pos h, if_pos h]
    show (((1#1 : BitVec 1).toNat : ℝ) : EReal) = 1
    simp
  · rw [if_neg h, if_neg h]
    show (((0#1 : BitVec 1).toNat : ℝ) : EReal) = 0
    simp

/-- The rows of the weights, one above the other. -/
theorem V_rows (c : Dev nD) (q : Fin 512) : V m c main_v4 (ix2 2 q) = rk (m ((c : Thread nD τ).loc main_arg9)) q
    ∧ V m c main_v4 (ix2 3 q) = rk (m ((c : Thread nD τ).loc main_arg10)) q
    ∧ V m c main_v4 (ix2 4 q) = m ((c : Thread nD τ).loc main_arg11) (ix3 0 0 q)
    ∧ V m c main_v4 (ix2 5 q) = m ((c : Thread nD τ).loc main_arg11) (ix3 0 1 q)
    ∧ V m c main_v4 (ix2 6 q) = m ((c : Thread nD τ).loc main_arg11) (ix3 0 2 q) := by
  unfold V
  simp only [List.flatten_cons, List.flatten_nil, List.append_nil, List.cons_append, List.nil_append, StableHlo.after_cons, StableHlo.after_nil]
  after_results_simp
  dsimp only [Matrix.cons_val]
  after_results_simp
  refine ⟨?_, ?_, ?_, ?_, ?_⟩
  all_goals pointwise

/-- The matrix of ones within a head, as each block sees it. -/
theorem ones (c : Dev nD) (t : Fin cfg0.N) : ISONES (k0_pay11 (iblk m c 14 t)) := by
  intro l q
  pointwise [k0_pay11]
  have e : (win0_14.blk t).view.emb (ix2 l q) = ix2 l q := by blk_ext [idx t]
  exact (congrArg (V m c main_v12) e).trans (V_ones m c l q)

/-- The forward bonus's weight as each block sees it. -/
theorem w_f (c : Dev nD) (t : Fin cfg0.N) (q : Fin 512) :
    View.ld (iblk m c 13 t) (Rect.unit ![2, 0] ![1, 512] inb_S8x512_S1x512_2_0) (ix2 0 q) = rk (m ((c : Thread nD τ).loc main_arg9)) q := by
  have e : (win0_13.blk t).view.emb (ix2 2 q) = ix2 2 q := by blk_ext [idx t]
  pointwise
  exact (congrArg (V m c main_v4) e).trans (V_rows m c q).1

/-- The backward bonus's weight as each block sees it. -/
theorem w_b (c : Dev nD) (t : Fin cfg0.N) (q : Fin 512) :
    View.ld (iblk m c 13 t) (Rect.unit ![3, 0] ![1, 512] inb_S8x512_S1x512_3_0) (ix2 0 q) = rk (m ((c : Thread nD τ).loc main_arg10)) q := by
  have e : (win0_13.blk t).view.emb (ix2 3 q) = ix2 3 q := by blk_ext [idx t]
  pointwise
  exact (congrArg (V m c main_v4) e).trans (V_rows m c q).2.1

/-- The convolution's first weight as each block sees it. -/
theorem w_0 (c : Dev nD) (t : Fin cfg0.N) (q : Fin 512) :
    View.ld (iblk m c 13 t) (Rect.unit ![4, 0] ![1, 512] inb_S8x512_S1x512_4_0) (ix2 0 q) = m ((c : Thread nD τ).loc main_arg11) (ix3 0 0 q) := by
  have e : (win0_13.blk t).view.emb (ix2 4 q) = ix2 4 q := by blk_ext [idx t]
  pointwise
  exact (congrArg (V m c main_v4) e).trans (V_rows m c q).2.2.1

/-- The convolution's second weight as each block sees it. -/
theorem w_1 (c : Dev nD) (t : Fin cfg0.N) (q : Fin 512) :
    View.ld (iblk m c 13 t) (Rect.unit ![5, 0] ![1, 512] inb_S8x512_S1x512_5_0) (ix2 0 q) = m ((c : Thread nD τ).loc main_arg11) (ix3 0 1 q) := by
  have e : (win0_13.blk t).view.emb (ix2 5 q) = ix2 5 q := by blk_ext [idx t]
  pointwise
  exact (congrArg (V m c main_v4) e).trans (V_rows m c q).2.2.2.1

/-- The convolution's third weight as each block sees it. -/
theorem w_2 (c : Dev nD) (t : Fin cfg0.N) (q : Fin 512) :
    View.ld (iblk m c 13 t) (Rect.unit ![6, 0] ![1, 512] inb_S8x512_S1x512_6_0) (ix2 0 q) = m ((c : Thread nD τ).loc main_arg11) (ix3 0 2 q) := by
  have e : (win0_13.blk t).view.emb (ix2 6 q) = ix2 6 q := by blk_ext [idx t]
  pointwise
  exact (congrArg (V m c main_v4) e).trans (V_rows m c q).2.2.2.2

/-- The receptance's gradient that the call leaves is the reference's. -/
theorem final0 (c : Dev nD) (fin2 : ∀ i, ∃ x : ℝ, m ((c : Thread nD τ).loc main_arg2) i = (x : EReal)) (fin5 : ∀ i, ∃ x : ℝ, m ((c : Thread nD τ).loc main_arg5) i = (x : EReal)) (fin12 : ∀ i, ∃ x : ℝ, m ((c : Thread nD τ).loc main_arg12) i = (x : EReal)) :
    (dats m 0 c).arrAt 16 (cfgs 0).N = REF0 (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg12)) := by
  refine (dats m 0 c).arrAt_eq_of_covers 16 _ (by decide +kernel) fun t hf y => ?_
  blk_simp; rw [after0_16]
  obtain ⟨k, q, rfl⟩ : ∃ (k : Fin 256) (q : Fin 512), y = ix2 k q := ⟨y 0, y 1, by blk_ext⟩
  have ht : t.val < 16 := lt_of_lt_of_eq t.isLt N_0
  have e : ((cfg0.win 16).blk t).view.emb (ix2 k q) = ix2 (⟨t.val * 256 + k.val, by omega⟩ : Fin 4096) q := by blk_ext [idx t]
  refine Eq.trans ?_ (congrArg _ e.symm)
  by_cases h : t.val % 16 = 0
  · rw [outsAt0_A m c t h]; frame_out; exact body0 _ _ _ _ _ _ _ _ k q _ (ones m c t) _ _ _ _ _ _ _ (fun q => w_f m c t q) (fun q => w_b m c t q) (fun q => x_kf m c t _ k q rfl) (fun q => x_kb m c t _ k q rfl) (fun q => x_v m c t _ k q rfl) (fun q => x_g m c t _ k q rfl) (fun q => x_d m c t _ k q rfl) fin2 fin5 fin12
  · rw [outsAt0_B m c t h]; frame_out; exact body0 _ _ _ _ _ _ _ _ k q _ (ones m c t) _ _ _ _ _ _ _ (fun q => w_f m c t q) (fun q => w_b m c t q) (fun q => x_kf m c t _ k q rfl) (fun q => x_kb m c t _ k q rfl) (fun q => x_v m c t _ k q rfl) (fun q => x_g m c t _ k q rfl) (fun q => x_d m c t _ k q rfl) fin2 fin5 fin12

/-- The forward key's gradient that the call leaves is the reference's. -/
theorem final1 (c : Dev nD) (fin2 : ∀ i, ∃ x : ℝ, m ((c : Thread nD τ).loc main_arg2) i = (x : EReal)) (fin5 : ∀ i, ∃ x : ℝ, m ((c : Thread nD τ).loc main_arg5) i = (x : EReal)) (fin12 : ∀ i, ∃ x : ℝ, m ((c : Thread nD τ).loc main_arg12) i = (x : EReal)) :
    (dats m 0 c).arrAt 17 (cfgs 0).N = REF1 (m ((c : Thread nD τ).loc main_arg2)) (m ((c : Thread nD τ).loc main_arg5)) (m ((c : Thread nD τ).loc main_arg9)) (m ((c : Thread nD τ).loc main_arg12)) := by
  refine (dats m 0 c).arrAt_eq_of_covers 17 _ (by decide +kernel) fun t hf y => ?_
  blk_simp; rw [after0_17]
  obtain ⟨k, q, rfl⟩ : ∃ (k : Fin 256) (q : Fin 512), y = ix2 k q := ⟨y 0, y 1, by blk_ext⟩
  have ht : t.val < 16 := lt_of_lt_of_eq t.isLt N_0
  have e : ((cfg0.win 17).blk t).view.emb (ix2 k q) = ix2 (⟨t.val * 256 + k.val, by omega⟩ : Fin 4096) q := by blk_ext [idx t]
  refine Eq.trans ?_ (congrArg _ e.symm)
  by_cases h : t.val % 16 = 0
  · rw [outsAt0_A m c t h]; frame_out; exact body1 _ _ _ _ _ k q _ (ones m c t) _ _ _ _ _ (fun q => w_f m c t q) (fun q => x_r m c t _ k q rfl) (fun q => x_v m c t _ k q rfl) (fun q => x_g m c t _ k q rfl) (fun q => x_d m c t _ k q rfl) fin2 fin5 fin12
  · rw [outsAt0_B m c t h]; frame_out; exact body1 _ _ _ _ _ k q _ (ones m c t) _ _ _ _ _ (fun q => w_f m c t q) (fun q => x_r m c t _ k q rfl) (fun q => x_v m c t _ k q rfl) (fun q => x_g m c t _ k q rfl) (fun q => x_d m c t _ k q rfl) fin2 fin5 fin12

/-- The backward key's gradient that the call leaves is the reference's. -/
theorem final2 (c : Dev nD) (fin2 : ∀ i, ∃ x : ℝ, m ((c : Thread nD τ).loc main_arg2) i = (x : EReal)) (fin5 : ∀ i, ∃ x : ℝ, m ((c : Thread nD τ).loc main_arg5) i = (x : EReal)) (fin12 : ∀ i, ∃ x : ℝ, m ((c : Thread nD τ).loc main_arg12) i = (x : EReal)) :
    (dats m 0 c).arrAt 18 (cfgs 0).N = REF1 (m ((c : Thread nD τ).loc main_arg2)) (m ((c : Thread nD τ).loc main_arg5)) (m ((c : Thread nD τ).loc main_arg10)) (m ((c : Thread nD τ).loc main_arg12)) := by
  refine (dats m 0 c).arrAt_eq_of_covers 18 _ (by decide +kernel) fun t hf y => ?_
  blk_simp; rw [after0_18]
  obtain ⟨k, q, rfl⟩ : ∃ (k : Fin 256) (q : Fin 512), y = ix2 k q := ⟨y 0, y 1, by blk_ext⟩
  have ht : t.val < 16 := lt_of_lt_of_eq t.isLt N_0
  have e : ((cfg0.win 18).blk t).view.emb (ix2 k q) = ix2 (⟨t.val * 256 + k.val, by omega⟩ : Fin 4096) q := by blk_ext [idx t]
  refine Eq.trans ?_ (congrArg _ e.symm)
  by_cases h : t.val % 16 = 0
  · rw [outsAt0_A m c t h]; frame_out; exact body1 _ _ _ _ _ k q _ (ones m c t) _ _ _ _ _ (fun q => w_b m c t q) (fun q => x_r m c t _ k q rfl) (fun q => x_v m c t _ k q rfl) (fun q => x_g m c t _ k q rfl) (fun q => x_d m c t _ k q rfl) fin2 fin5 fin12
  · rw [outsAt0_B m c t h]; frame_out; exact body1 _ _ _ _ _ k q _ (ones m c t) _ _ _ _ _ (fun q => w_b m c t q) (fun q => x_r m c t _ k q rfl) (fun q => x_v m c t _ k q rfl) (fun q => x_g m c t _ k q rfl) (fun q => x_d m c t _ k q rfl) fin2 fin5 fin12

/-- The value's gradient that the call leaves is the reference's. -/
theorem final3 (c : Dev nD) (fin2 : ∀ i, ∃ x : ℝ, m ((c : Thread nD τ).loc main_arg2) i = (x : EReal)) (fin3 : ∀ i, ∃ x : ℝ, m ((c : Thread nD τ).loc main_arg3) i = (x : EReal)) (fin4 : ∀ i, ∃ x : ℝ, m ((c : Thread nD τ).loc main_arg4) i = (x : EReal)) (fin9 : ∀ i, ∃ x : ℝ, m ((c : Thread nD τ).loc main_arg9) i = (x : EReal)) (fin10 : ∀ i, ∃ x : ℝ, m ((c : Thread nD τ).loc main_arg10) i = (x : EReal)) :
    (dats m 0 c).arrAt 19 (cfgs 0).N = REF3 (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg12)) := by
  refine (dats m 0 c).arrAt_eq_of_covers 19 _ (by decide +kernel) fun t hf y => ?_
  blk_simp; rw [after0_19]
  obtain ⟨k, q, rfl⟩ : ∃ (k : Fin 256) (q : Fin 512), y = ix2 k q := ⟨y 0, y 1, by blk_ext⟩
  have ht : t.val < 16 := lt_of_lt_of_eq t.isLt N_0
  have e : ((cfg0.win 19).blk t).view.emb (ix2 k q) = ix2 (⟨t.val * 256 + k.val, by omega⟩ : Fin 4096) q := by blk_ext [idx t]
  refine Eq.trans ?_ (congrArg _ e.symm)
  by_cases h : t.val % 16 = 0
  · rw [outsAt0_A m c t h]; frame_out; exact body3 _ _ _ _ _ _ _ _ k q _ (ones m c t) _ _ _ _ _ _ _ (fun q => w_f m c t q) (fun q => w_b m c t q) (fun q => x_r m c t _ k q rfl) (fun q => x_kf m c t _ k q rfl) (fun q => x_kb m c t _ k q rfl) (fun q => x_g m c t _ k q rfl) (fun q => x_d m c t _ k q rfl) fin2 fin3 fin4 fin9 fin10
  · rw [outsAt0_B m c t h]; frame_out; exact body3 _ _ _ _ _ _ _ _ k q _ (ones m c t) _ _ _ _ _ _ _ (fun q => w_f m c t q) (fun q => w_b m c t q) (fun q => x_r m c t _ k q rfl) (fun q => x_kf m c t _ k q rfl) (fun q => x_kb m c t _ k q rfl) (fun q => x_g m c t _ k q rfl) (fun q => x_d m c t _ k q rfl) fin2 fin3 fin4 fin9 fin10

end Cert.Kernel1Ideal.Value

end
-- ==== Proof.PostConv.lean ====
/- The convolution's columns of `Cert.Kernel1Ideal`: a block of their gradient, beside the reference's. -/
module

public import proofs.«01_k».proof.Proof.Gen.Kernel1Ideal.Frame
public import proofs.«01_k».proof.Proof.Gen.Reference1Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel1Ideal.Value

open Cert.Kernel1Ideal Cert.Kernel1Ideal.Gen

/-! ## The reference's terms -/

/-- The columns of the convolution's gate. -/
abbrev GB (a6 : FVec Ideal Cert.Reference1Ideal.S4096x1536 .f32) : FVec Ideal Cert.Reference1Ideal.S2x2048x512 .f32 := extractStridedSlice Cert.Reference1Ideal.S2x2048x512 ![0, 0, 0] (shapeCast Cert.Reference1Ideal.S2x2048x1536 a6 Cert.Reference1Ideal.Gen.shapeCasts_S4096x1536_S2x2048x1536) Cert.Reference1Ideal.Gen.slices_S2x2048x1536_S2x2048x512_0_0_0

/-- The columns of the gate of what is convolved. -/
abbrev GC (a6 : FVec Ideal Cert.Reference1Ideal.S4096x1536 .f32) : FVec Ideal Cert.Reference1Ideal.S2x2048x512 .f32 := extractStridedSlice Cert.Reference1Ideal.S2x2048x512 ![0, 0, 512] (shapeCast Cert.Reference1Ideal.S2x2048x1536 a6 Cert.Reference1Ideal.Gen.shapeCasts_S4096x1536_S2x2048x1536) Cert.Reference1Ideal.Gen.slices_S2x2048x1536_S2x2048x512_0_0_512

/-- The columns of what is convolved. -/
abbrev HD (a6 : FVec Ideal Cert.Reference1Ideal.S4096x1536 .f32) : FVec Ideal Cert.Reference1Ideal.S2x2048x512 .f32 := extractStridedSlice Cert.Reference1Ideal.S2x2048x512 ![0, 0, 1024] (shapeCast Cert.Reference1Ideal.S2x2048x1536 a6 Cert.Reference1Ideal.Gen.shapeCasts_S4096x1536_S2x2048x1536) Cert.Reference1Ideal.Gen.slices_S2x2048x1536_S2x2048x512_0_0_1024

/-- The convolution's columns of the gradient given. -/
abbrev DO (a12 : FVec Ideal Cert.Reference1Ideal.S4096x1024 .f32) : FVec Ideal Cert.Reference1Ideal.S2x2048x512 .f32 := extractStridedSlice Cert.Reference1Ideal.S2x2048x512 ![0, 0, 512] (shapeCast Cert.Reference1Ideal.S2x2048x1024 a12 Cert.Reference1Ideal.Gen.shapeCasts_S4096x1024_S2x2048x1024) Cert.Reference1Ideal.Gen.slices_S2x2048x1024_S2x2048x512_0_0_512

/-- The convolution's first weight, for every position. -/
abbrev W0 (a11 : FVec Ideal Cert.Reference1Ideal.S1x3x512 .f32) : FVec Ideal Cert.Reference1Ideal.S2x2048x512 .f32 := broadcastInDim Cert.Reference1Ideal.S2x2048x512 ![0, 1, 2] Cert.Reference1Ideal.Gen.bcast_S1x1x512_S2x2048x512_0_1_2 (broadcastInDim Cert.Reference1Ideal.S1x1x512 ![2] Cert.Reference1Ideal.Gen.bcast_S512_S1x1x512_2 (shapeCast Cert.Reference1Ideal.S512 (extractStridedSlice Cert.Reference1Ideal.S1x1x512 ![0, 0, 0] a11 Cert.Reference1Ideal.Gen.slices_S1x3x512_S1x1x512_0_0_0) Cert.Reference1Ideal.Gen.shapeCasts_S1x1x512_S512))

/-- The convolution's second weight, for every position. -/
abbrev W1 (a11 : FVec Ideal Cert.Reference1Ideal.S1x3x512 .f32) : FVec Ideal Cert.Reference1Ideal.S2x2048x512 .f32 := broadcastInDim Cert.Reference1Ideal.S2x2048x512 ![0, 1, 2] Cert.Reference1Ideal.Gen.bcast_S1x1x512_S2x2048x512_0_1_2 (broadcastInDim Cert.Reference1Ideal.S1x1x512 ![2] Cert.Reference1Ideal.Gen.bcast_S512_S1x1x512_2 (shapeCast Cert.Reference1Ideal.S512 (extractStridedSlice Cert.Reference1Ideal.S1x1x512 ![0, 1, 0] a11 Cert.Reference1Ideal.Gen.slices_S1x3x512_S1x1x512_0_1_0) Cert.Reference1Ideal.Gen.shapeCasts_S1x1x512_S512))

/-- The convolution's third weight, for every position. -/
abbrev W2 (a11 : FVec Ideal Cert.Reference1Ideal.S1x3x512 .f32) : FVec Ideal Cert.Reference1Ideal.S2x2048x512 .f32 := broadcastInDim Cert.Reference1Ideal.S2x2048x512 ![0, 1, 2] Cert.Reference1Ideal.Gen.bcast_S1x1x512_S2x2048x512_0_1_2 (broadcastInDim Cert.Reference1Ideal.S1x1x512 ![2] Cert.Reference1Ideal.Gen.bcast_S512_S1x1x512_2 (shapeCast Cert.Reference1Ideal.S512 (extractStridedSlice Cert.Reference1Ideal.S1x1x512 ![0, 2, 0] a11 Cert.Reference1Ideal.Gen.slices_S1x3x512_S1x1x512_0_2_0) Cert.Reference1Ideal.Gen.shapeCasts_S1x1x512_S512))

/-- What is convolved. -/
abbrev UU (a6 : FVec Ideal Cert.Reference1Ideal.S4096x1536 .f32) : FVec Ideal Cert.Reference1Ideal.S2x2048x512 .f32 := mulf (GC a6) (HD a6)

/-- The gradient of the convolution's output. -/
abbrev DCU (a6 : FVec Ideal Cert.Reference1Ideal.S4096x1536 .f32) (a12 : FVec Ideal Cert.Reference1Ideal.S4096x1024 .f32) : FVec Ideal Cert.Reference1Ideal.S2x2048x512 .f32 := mulf (GB a6) (DO a12)

/-- A row of zeros in each sequence. -/
abbrev EDGE : FVec Ideal Cert.Reference1Ideal.S2x1x512 .f32 := broadcastInDim Cert.Reference1Ideal.S2x1x512 ![] Cert.Reference1Ideal.Gen.bcast_S_S2x1x512 (constant Cert.Reference1Ideal.S_ .f32 0x00000000#32)

/-- The gradient of the convolution's gate. -/
abbrev CGB (a6 : FVec Ideal Cert.Reference1Ideal.S4096x1536 .f32) (a11 : FVec Ideal Cert.Reference1Ideal.S1x3x512 .f32) (a12 : FVec Ideal Cert.Reference1Ideal.S4096x1024 .f32) : FVec Ideal Cert.Reference1Ideal.S2x2048x512 .f32 :=
  mulf (DO a12) (addf (addf (mulf (W0 a11) (concatenate Cert.Reference1Ideal.S2x2048x512 1 [⟨Cert.Reference1Ideal.S2x1x512, EDGE⟩, ⟨Cert.Reference1Ideal.S2x2047x512, extractStridedSlice Cert.Reference1Ideal.S2x2047x512 ![0, 0, 0] (UU a6) Cert.Reference1Ideal.Gen.slices_S2x2048x512_S2x2047x512_0_0_0⟩] Cert.Reference1Ideal.Gen.concatenates_S2x1x512_S2x2047x512_S2x2048x512_d1))
      (mulf (W1 a11) (UU a6)))
    (mulf (W2 a11) (concatenate Cert.Reference1Ideal.S2x2048x512 1 [⟨Cert.Reference1Ideal.S2x2047x512, extractStridedSlice Cert.Reference1Ideal.S2x2047x512 ![0, 1, 0] (UU a6) Cert.Reference1Ideal.Gen.slices_S2x2048x512_S2x2047x512_0_1_0⟩, ⟨Cert.Reference1Ideal.S2x1x512, EDGE⟩] Cert.Reference1Ideal.Gen.concatenates_S2x2047x512_S2x1x512_S2x2048x512_d1)))

/-- The gradient of what is convolved. -/
abbrev DU (a6 : FVec Ideal Cert.Reference1Ideal.S4096x1536 .f32) (a11 : FVec Ideal Cert.Reference1Ideal.S1x3x512 .f32) (a12 : FVec Ideal Cert.Reference1Ideal.S4096x1024 .f32) : FVec Ideal Cert.Reference1Ideal.S2x2048x512 .f32 :=
  addf (addf (mulf (W1 a11) (DCU a6 a12))
      (pad Cert.Reference1Ideal.S2x2048x512 ![0, 1, 0] ![0, 0, 0] ![0, 0, 0] (extractStridedSlice Cert.Reference1Ideal.S2x2047x512 ![0, 0, 0] (mulf (W2 a11) (DCU a6 a12)) Cert.Reference1Ideal.Gen.slices_S2x2048x512_S2x2047x512_0_0_0) (constant Cert.Reference1Ideal.S_ .f32 0x00000000#32) Cert.Reference1Ideal.Gen.pads_S2x2047x512_S2x2048x512_000_100_000 Cert.Reference1Ideal.Gen.h_S_))
    (pad Cert.Reference1Ideal.S2x2048x512 ![0, 0, 0] ![0, 1, 0] ![0, 0, 0] (extractStridedSlice Cert.Reference1Ideal.S2x2047x512 ![0, 1, 0] (mulf (W0 a11) (DCU a6 a12)) Cert.Reference1Ideal.Gen.slices_S2x2048x512_S2x2047x512_0_1_0) (constant Cert.Reference1Ideal.S_ .f32 0x00000000#32) Cert.Reference1Ideal.Gen.pads_S2x2047x512_S2x2048x512_000_010_000 Cert.Reference1Ideal.Gen.h_S_)

/-- The gradient of the convolution's columns, of its three parts. -/
abbrev JOIN (x y z : FVec Ideal Cert.Reference1Ideal.S2x2048x512 .f32) : FVec Ideal Cert.Reference1Ideal.S4096x1536 .bf16 :=
  truncf .bf16 (shapeCast Cert.Reference1Ideal.S4096x1536 (concatenate Cert.Reference1Ideal.S2x2048x1536 2 [⟨Cert.Reference1Ideal.S2x2048x512, x⟩, ⟨Cert.Reference1Ideal.S2x2048x512, y⟩, ⟨Cert.Reference1Ideal.S2x2048x512, z⟩] Cert.Reference1Ideal.Gen.concatenates_S2x2048x512_S2x2048x512_S2x2048x512_S2x2048x1536_d2) Cert.Reference1Ideal.Gen.shapeCasts_S2x2048x1536_S4096x1536) Cert.Reference1Ideal.Gen.bitsLt_bf16_f32

/-- The reference's gradient of the convolution's columns. -/
abbrev REF4 (a6 : FVec Ideal Cert.Reference1Ideal.S4096x1536 .f32) (a11 : FVec Ideal Cert.Reference1Ideal.S1x3x512 .f32) (a12 : FVec Ideal Cert.Reference1Ideal.S4096x1024 .f32) : FVec Ideal Cert.Reference1Ideal.S4096x1536 .bf16 :=
  JOIN (CGB a6 a11 a12) (mulf (DU a6 a11 a12) (HD a6)) (mulf (GC a6) (DU a6 a11 a12))

/-- Whether a grid point's first row has a row before it in its sequence. -/
theorem prev : ∀ t : Fin cfg0.N, k0_pay1 (F := Ideal) (grid0.coords t) = if t.val % 8 = 0 then 0 else 1 := by
  intro t
  have h : ∀ t : Fin grid0.N, Scalar.cmpi .eq (Scalar.select (Scalar.andi (Scalar.xori (Scalar.cmpi .slt (Scalar.remsi (Scalar.muli (BitVec.ofNat 32 ((grid0.coords t) 0).val) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (BitVec.ofNat 32 ((grid0.coords t) 0).val) 256#32) (Scalar.select (Scalar.cmpi .eq 2048#32 0#32) 1#32 2048#32)) 0#32)) (Scalar.addi (Scalar.remsi (Scalar.muli (BitVec.ofNat 32 ((grid0.coords t) 0).val) 256#32) (Scalar.select (Scalar.cmpi .eq 2048#32 0#32) 1#32 2048#32)) (Scalar.select (Scalar.cmpi .eq 2048#32 0#32) 1#32 2048#32)) (Scalar.remsi (Scalar.muli (BitVec.ofNat 32 ((grid0.coords t) 0).val) 256#32) (Scalar.select (Scalar.cmpi .eq 2048#32 0#32) 1#32 2048#32))) 0#32 = if t.val % 8 = 0 then 1#1 else 0#1 := by decide +kernel
  unfold k0_pay1
  dsimp only
  rw [h t]
  by_cases h0 : t.val % 8 = 0
  · simp only [h0, if_true]
    pointwise
  · simp only [h0, if_false]
    pointwise

/-- A choice whose condition holds. -/
theorem select_of_eq_one {α : Type} {b : BitVec 1} {x y : α} (h : b = 1#1) : Scalar.select b x y = x := by subst h; rfl

/-- A choice whose condition fails. -/
theorem select_of_ne_one {α : Type} {b : BitVec 1} {x y : α} (h : b ≠ 1#1) : Scalar.select b x y = y := by
  have h0 : b = 0#1 := by revert h; revert b; decide
  subst h0; rfl

/-- The row before a row in its sequence, or zero. -/
noncomputable def DN (X : Fin 4096 → EReal) (p : Fin 4096) : EReal := if _h : 1 ≤ p.val % 2048 then X ⟨p.val - 1, by omega⟩ else 0

/-- The row after a row in its sequence, or zero. -/
noncomputable def UP (X : Fin 4096 → EReal) (p : Fin 4096) : EReal := if _h : p.val % 2048 < 2047 then X ⟨p.val + 1, by omega⟩ else 0

/-- A block's row before, taken from the block or from the last row of the group before it. -/
theorem down (X : Fin 4096 → EReal) (t : Fin cfg0.N) (p : Fin 4096) (k : Fin 256) (hp : p.val = t.val * 256 + k.val) (B : Fin 256 → EReal)
    (hB : ∀ (l : Fin 256) (r : Fin 4096), r.val = t.val * 256 + l.val → B l = X r) (H f : EReal)
    (hH : ∀ r : Fin 4096, r.val = (t.val * 32 - 1) * 8 + 7 → H = X r) (hf : f = if t.val % 8 = 0 then 0 else 1) (hz : (k.val + 256 - 1) % 256 < 256) :
    Scalar.select (IntOp.cmpi .eq (BitVec.ofNat 32 k.val) 0#32) (H * f) (B ⟨(k.val + 256 - 1) % 256, hz⟩) = DN X p := by
  have hc : ∀ k : Fin 256, IntOp.cmpi .eq (BitVec.ofNat 32 k.val) 0#32 = if k.val = 0 then 1#1 else 0#1 := by decide +kernel
  have ht : t.val < 16 := lt_of_lt_of_eq t.isLt N_0
  have hk := k.isLt
  rw [hc k, hf]
  unfold DN
  by_cases h0 : k.val = 0
  · rw [if_pos h0]
    refine (select_of_eq_one rfl).trans ?_
    by_cases h8 : t.val % 8 = 0
    · rw [if_pos h8, mul_zero, dif_neg (by omega)]
    · rw [if_neg h8, mul_one, dif_pos (by omega)]
      exact hH _ (by show p.val - 1 = _; omega)
  · rw [if_neg h0]
    refine (select_of_ne_one (by decide)).trans ?_
    rw [dif_pos (by omega)]
    exact hB _ _ (by show p.val - 1 = t.val * 256 + (k.val + 256 - 1) % 256; omega)

/-- A block's row after, taken from the block or from the first row of the group after it. -/
theorem up (X : Fin 4096 → EReal) (t : Fin cfg0.N) (p : Fin 4096) (k : Fin 256) (hp : p.val = t.val * 256 + k.val) (B : Fin 256 → EReal)
    (hB : ∀ (l : Fin 256) (r : Fin 4096), r.val = t.val * 256 + l.val → B l = X r) (H f : EReal)
    (hH : ∀ r : Fin 4096, r.val = min (t.val * 32 + 32) 511 * 8 → H = X r) (hf : f = if t.val % 8 = 7 then 0 else 1) (hz : (k.val + 256 - 255) % 256 < 256) :
    Scalar.select (IntOp.cmpi .eq (BitVec.ofNat 32 k.val) 255#32) (H * f) (B ⟨(k.val + 256 - 255) % 256, hz⟩) = UP X p := by
  have hc : ∀ k : Fin 256, IntOp.cmpi .eq (BitVec.ofNat 32 k.val) 255#32 = if k.val = 255 then 1#1 else 0#1 := by decide +kernel
  have ht : t.val < 16 := lt_of_lt_of_eq t.isLt N_0
  have hk := k.isLt
  rw [hc k, hf]
  unfold UP
  by_cases h0 : k.val = 255
  · rw [if_pos h0]
    refine (select_of_eq_one rfl).trans ?_
    by_cases h8 : t.val % 8 = 7
    · rw [if_pos h8, mul_zero, dif_neg (by omega)]
    · rw [if_neg h8, mul_one, dif_pos (by omega)]
      exact hH _ (by show p.val + 1 = _; omega)
  · rw [if_neg h0]
    refine (select_of_ne_one (by decide)).trans ?_
    rw [dif_pos (by omega)]
    exact hB _ _ (by show p.val + 1 = t.val * 256 + (k.val + 256 - 255) % 256; omega)

/-- Whether a grid point's last row has a row after it in its sequence. -/
theorem next : ∀ t : Fin cfg0.N, k0_pay2 (F := Ideal) (grid0.coords t) = if t.val % 8 = 7 then 0 else 1 := by
  intro t
  have h : ∀ t : Fin grid0.N, Scalar.cmpi .eq (Scalar.select (Scalar.andi (Scalar.xori (Scalar.cmpi .slt (Scalar.remsi (Scalar.muli (Scalar.addi (BitVec.ofNat 32 ((grid0.coords t) 0).val) 1#32) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (Scalar.addi (BitVec.ofNat 32 ((grid0.coords t) 0).val) 1#32) 256#32) (Scalar.select (Scalar.cmpi .eq 2048#32 0#32) 1#32 2048#32)) 0#32)) (Scalar.addi (Scalar.remsi (Scalar.muli (Scalar.addi (BitVec.ofNat 32 ((grid0.coords t) 0).val) 1#32) 256#32) (Scalar.select (Scalar.cmpi .eq 2048#32 0#32) 1#32 2048#32)) (Scalar.select (Scalar.cmpi .eq 2048#32 0#32) 1#32 2048#32)) (Scalar.remsi (Scalar.muli (Scalar.addi (BitVec.ofNat 32 ((grid0.coords t) 0).val) 1#32) 256#32) (Scalar.select (Scalar.cmpi .eq 2048#32 0#32) 1#32 2048#32))) 0#32 = if t.val % 8 = 7 then 1#1 else 0#1 := by decide +kernel
  unfold k0_pay2
  dsimp only
  rw [h t]
  by_cases h0 : t.val % 8 = 7
  · simp only [h0, if_true]
    pointwise
  · simp only [h0, if_false]
    pointwise

/-- What is convolved, at a row and a column. -/
noncomputable def uu (a6 : FVec Ideal Cert.Reference1Ideal.S4096x1536 .f32) (q : Fin 512) (r : Fin 4096) : EReal := a6 (ix2 r ⟨512 + q.val, by have := q.isLt; omega⟩) * a6 (ix2 r ⟨1024 + q.val, by have := q.isLt; omega⟩)

/-- The gradient of the convolution's output, at a row and a column. -/
noncomputable def dc (a6 : FVec Ideal Cert.Reference1Ideal.S4096x1536 .f32) (a12 : FVec Ideal Cert.Reference1Ideal.S4096x1024 .f32) (q : Fin 512) (r : Fin 4096) : EReal := a12 (ix2 r ⟨512 + q.val, by have := q.isLt; omega⟩) * a6 (ix2 r ⟨q.val, by have := q.isLt; omega⟩)

/-- A weight times the row before. -/
theorem mul_DN (w : EReal) (X : Fin 4096 → EReal) (p : Fin 4096) : w * DN X p = DN (fun r => w * X r) p := by
  unfold DN
  by_cases h : 1 ≤ p.val % 2048
  · rw [dif_pos h, dif_pos h]
  · rw [dif_neg h, dif_neg h, mul_zero]

/-- A weight times the row after. -/
theorem mul_UP (w : EReal) (X : Fin 4096 → EReal) (p : Fin 4096) : w * UP X p = UP (fun r => w * X r) p := by
  unfold UP
  by_cases h : p.val % 2048 < 2047
  · rw [dif_pos h, dif_pos h]
  · rw [dif_neg h, dif_neg h, mul_zero]

/-- The gradient of the convolution's gate, by the rows' neighbours. -/
theorem cgb (a6 : FVec Ideal Cert.Reference1Ideal.S4096x1536 .f32) (a11 : FVec Ideal Cert.Reference1Ideal.S1x3x512 .f32) (a12 : FVec Ideal Cert.Reference1Ideal.S4096x1024 .f32) (a : Fin 2) (s : Fin 2048) (q : Fin 512) (p : Fin 4096) (hp : p.val = a.val * 2048 + s.val) :
    CGB a6 a11 a12 (ix3 a s q) = a12 (ix2 p ⟨512 + q.val, by have := q.isLt; omega⟩) * (a11 (ix3 0 0 q) * DN (uu a6 q) p + a11 (ix3 0 1 q) * uu a6 q p + a11 (ix3 0 2 q) * UP (uu a6 q) p) := by
  obtain ⟨p, h⟩ := p; obtain rfl : p = _ := hp
  have ha := a.isLt
  have hs := s.isLt
  pointwise [CGB, UU, DO, GC, HD, W0, W1, W2, EDGE]
  unfold DN UP
  have key : ∀ r r' : Fin 4096, r.val = r'.val → uu a6 q r = uu a6 q r' := fun r r' e => by rw [Fin.ext e]
  refine congrArg (_ * ·) (congrArg₂ (· + ·) (congrArg₂ (· + ·) (congrArg (_ * ·) ?_) rfl) (congrArg (_ * ·) ?_))
  · by_cases h : s.val < 1
    · rw [dif_pos h, dif_neg (by show ¬ 1 ≤ (a.val * 2048 + s.val) % 2048; omega)]
    · rw [dif_neg h, dif_pos (by show 1 ≤ (a.val * 2048 + s.val) % 2048; omega)]
      exact key ⟨a.val * 2048 + (s.val - 1), by omega⟩ _ (by show a.val * 2048 + (s.val - 1) = a.val * 2048 + s.val - 1; omega)
  · by_cases h : s.val < 2047
    · rw [dif_pos h, dif_pos (by show (a.val * 2048 + s.val) % 2048 < 2047; omega)]
      exact key ⟨a.val * 2048 + (1 + s.val), by omega⟩ _ (by show a.val * 2048 + (1 + s.val) = a.val * 2048 + s.val + 1; omega)
    · rw [dif_neg h, dif_neg (by show ¬ (a.val * 2048 + s.val) % 2048 < 2047; omega)]

/-- The gradient of what is convolved, by the rows' neighbours. -/
theorem du (a6 : FVec Ideal Cert.Reference1Ideal.S4096x1536 .f32) (a11 : FVec Ideal Cert.Reference1Ideal.S1x3x512 .f32) (a12 : FVec Ideal Cert.Reference1Ideal.S4096x1024 .f32) (a : Fin 2) (s : Fin 2048) (q : Fin 512) (p : Fin 4096) (hp : p.val = a.val * 2048 + s.val) :
    DU a6 a11 a12 (ix3 a s q) = a11 (ix3 0 1 q) * dc a6 a12 q p + a11 (ix3 0 0 q) * UP (dc a6 a12 q) p + a11 (ix3 0 2 q) * DN (dc a6 a12 q) p := by
  obtain ⟨p, h⟩ := p; obtain rfl : p = _ := hp
  have ha := a.isLt
  have hs := s.isLt
  rw [mul_DN, mul_UP, add_right_comm]
  pointwise [DU, DCU, DO, GB, W0, W1, W2]
  unfold DN UP
  have key : ∀ (w : EReal) (r r' : Fin 4096), r.val = r'.val → w * (a6 (ix2 r ⟨q.val, by have := q.isLt; omega⟩) * a12 (ix2 r ⟨512 + q.val, by have := q.isLt; omega⟩)) = w * dc a6 a12 q r' :=
    fun w r r' e => by rw [Fin.ext e]; exact congrArg (w * ·) (mul_comm (G := EReal) _ _)
  refine congrArg₂ (· + ·) (congrArg₂ (· + ·) (key _ _ _ rfl) ?_) ?_
  · by_cases h : 1 ≤ (a.val * 2048 + s.val) % 2048
    · refine (dif_pos ⟨by omega, by omega⟩).trans (Eq.trans ?_ (dif_pos h).symm)
      exact key _ ⟨a.val * 2048 + (s.val - 1), by omega⟩ _ (by show a.val * 2048 + (s.val - 1) = a.val * 2048 + s.val - 1; omega)
    · exact (dif_neg fun h' => h (by have := h'.1; omega)).trans (Eq.symm (by exact dif_neg h))
  · by_cases h : (a.val * 2048 + s.val) % 2048 < 2047
    · refine (dif_pos (by omega)).trans (Eq.trans ?_ (dif_pos h).symm)
      exact key _ ⟨a.val * 2048 + (1 + s.val), by omega⟩ _ (by show a.val * 2048 + (1 + s.val) = a.val * 2048 + s.val + 1; omega)
    · exact (dif_neg fun h' => h (by omega)).trans (Eq.symm (by exact dif_neg h))

/-- The three parts beside each other, each at its columns. -/
theorem join (x y z : FVec Ideal Cert.Reference1Ideal.S2x2048x512 .f32) (p : Fin 4096) (q : Fin 512) :
    JOIN x y z (ix2 p ⟨q.val, by have := q.isLt; omega⟩) = x (ix3 ⟨p.val / 2048, by have := p.isLt; omega⟩ ⟨p.val % 2048, Nat.mod_lt _ (by omega)⟩ q)
    ∧ JOIN x y z (ix2 p ⟨512 + q.val, by have := q.isLt; omega⟩) = y (ix3 ⟨p.val / 2048, by have := p.isLt; omega⟩ ⟨p.val % 2048, Nat.mod_lt _ (by omega)⟩ q)
    ∧ JOIN x y z (ix2 p ⟨1024 + q.val, by have := q.isLt; omega⟩) = z (ix3 ⟨p.val / 2048, by have := p.isLt; omega⟩ ⟨p.val % 2048, Nat.mod_lt _ (by omega)⟩ q) := by
  have hp := p.isLt
  have hq := q.isLt
  refine ⟨?_, ?_, ?_⟩
  · pointwise [JOIN]
  · pointwise [JOIN]
  · pointwise [JOIN]
    rw [dif_neg (by omega), dif_neg (by omega)]
    exact congrArg z (by blk_ext)

/-- A block's row before, of what is convolved. -/
theorem u_down (a6 : FVec Ideal Cert.Reference1Ideal.S4096x1536 .f32) (t : Fin cfg0.N) (p : Fin 4096) (k : Fin 256) (q : Fin 512) (hpk : p.val = t.val * 256 + k.val)
    (x : Vec Ideal S256x1536 .f32) (hp hn : Vec Ideal S8x1536 .f32) (f g : Ideal .f32)
    (hx : ∀ (j : Fin 1536) (l : Fin 256) (r : Fin 4096), r.val = t.val * 256 + l.val → x (ix2 l j) = a6 (ix2 r j))
    (hh : ∀ (j : Fin 1536) (r : Fin 4096), r.val = (t.val * 32 - 1) * 8 + 7 → hp (ix2 7 j) = a6 (ix2 r j))
    (hg : ∀ (j : Fin 1536) (r : Fin 4096), r.val = min (t.val * 32 + 32) 511 * 8 → hn (ix2 0 j) = a6 (ix2 r j))
    (hf : f = if t.val % 8 = 0 then (0 : EReal) else 1) (hf' : g = if t.val % 8 = 7 then (0 : EReal) else 1) :
    k0_pay48 (k0_pay44 x) (k0_pay45 f hp) (ix2 k q) = DN (uu a6 q) p := by
  pointwise [k0_pay48, k0_pay44, k0_pay45, k0_pay42, k0_pay43]
  exact down (uu a6 q) t p k hpk (fun l => x (ix2 l ⟨512 + q.val, by have := q.isLt; omega⟩) * x (ix2 l ⟨1024 + q.val, by have := q.isLt; omega⟩))
    (fun l r hr => congrArg₂ (· * ·) (hx _ l r hr) (hx _ l r hr)) (hp (ix2 7 ⟨512 + q.val, by have := q.isLt; omega⟩) * hp (ix2 7 ⟨1024 + q.val, by have := q.isLt; omega⟩)) f
    (fun r hr => congrArg₂ (· * ·) (hh _ r hr) (hh _ r hr)) hf (Nat.mod_lt _ (by omega))

/-- A block's row after, of what is convolved. -/
theorem u_up (a6 : FVec Ideal Cert.Reference1Ideal.S4096x1536 .f32) (t : Fin cfg0.N) (p : Fin 4096) (k : Fin 256) (q : Fin 512) (hpk : p.val = t.val * 256 + k.val)
    (x : Vec Ideal S256x1536 .f32) (hp hn : Vec Ideal S8x1536 .f32) (f g : Ideal .f32)
    (hx : ∀ (j : Fin 1536) (l : Fin 256) (r : Fin 4096), r.val = t.val * 256 + l.val → x (ix2 l j) = a6 (ix2 r j))
    (hh : ∀ (j : Fin 1536) (r : Fin 4096), r.val = (t.val * 32 - 1) * 8 + 7 → hp (ix2 7 j) = a6 (ix2 r j))
    (hg : ∀ (j : Fin 1536) (r : Fin 4096), r.val = min (t.val * 32 + 32) 511 * 8 → hn (ix2 0 j) = a6 (ix2 r j))
    (hf : f = if t.val % 8 = 0 then (0 : EReal) else 1) (hf' : g = if t.val % 8 = 7 then (0 : EReal) else 1) :
    k0_pay49 (k0_pay44 x) (k0_pay46 hn) (k0_pay47 g) (ix2 k q) = UP (uu a6 q) p := by
  pointwise [k0_pay49, k0_pay44, k0_pay46, k0_pay47, k0_pay42, k0_pay43]
  exact up (uu a6 q) t p k hpk (fun l => x (ix2 l ⟨512 + q.val, by have := q.isLt; omega⟩) * x (ix2 l ⟨1024 + q.val, by have := q.isLt; omega⟩))
    (fun l r hr => congrArg₂ (· * ·) (hx _ l r hr) (hx _ l r hr)) (hn (ix2 0 ⟨512 + q.val, by have := q.isLt; omega⟩) * hn (ix2 0 ⟨1024 + q.val, by have := q.isLt; omega⟩)) g
    (fun r hr => congrArg₂ (· * ·) (hg _ r hr) (hg _ r hr)) hf' (Nat.mod_lt _ (by omega))

/-- A block of the gradient of the convolution's gate, from the rows it reads. -/
theorem part0 (a6 : FVec Ideal Cert.Reference1Ideal.S4096x1536 .f32) (a11 : FVec Ideal Cert.Reference1Ideal.S1x3x512 .f32) (a12 : FVec Ideal Cert.Reference1Ideal.S4096x1024 .f32) (t : Fin cfg0.N) (p : Fin 4096) (k : Fin 256) (q : Fin 512) (hpk : p.val = t.val * 256 + k.val)
    (x : Vec Ideal S256x1536 .f32) (hp hn : Vec Ideal S8x1536 .f32) (f g : Ideal .f32)
    (hx : ∀ (j : Fin 1536) (l : Fin 256) (r : Fin 4096), r.val = t.val * 256 + l.val → x (ix2 l j) = a6 (ix2 r j))
    (hh : ∀ (j : Fin 1536) (r : Fin 4096), r.val = (t.val * 32 - 1) * 8 + 7 → hp (ix2 7 j) = a6 (ix2 r j))
    (hg : ∀ (j : Fin 1536) (r : Fin 4096), r.val = min (t.val * 32 + 32) 511 * 8 → hn (ix2 0 j) = a6 (ix2 r j))
    (hf : f = if t.val % 8 = 0 then (0 : EReal) else 1) (hf' : g = if t.val % 8 = 7 then (0 : EReal) else 1)
    (d : Vec Ideal S256x512 .f32) (dp dn : Vec Ideal S1x512 .f32)
    (hd : ∀ (l : Fin 256) (r : Fin 4096), r.val = t.val * 256 + l.val → d (ix2 l q) = a12 (ix2 r ⟨512 + q.val, by have := q.isLt; omega⟩))
    (hdp : ∀ r : Fin 4096, r.val = (t.val * 32 - 1) * 8 + 7 → dp (ix2 0 q) = a12 (ix2 r ⟨512 + q.val, by have := q.isLt; omega⟩))
    (hdn : ∀ r : Fin 4096, r.val = min (t.val * 32 + 32) 511 * 8 → dn (ix2 0 q) = a12 (ix2 r ⟨512 + q.val, by have := q.isLt; omega⟩))
    (v0 v1 v2 : Vec Ideal S1x512 .f32) (h0 : v0 (ix2 0 q) = a11 (ix3 0 0 q)) (h1 : v1 (ix2 0 q) = a11 (ix3 0 1 q)) (h2 : v2 (ix2 0 q) = a11 (ix3 0 2 q)) :
    k0_pay54 (k0_pay10 v2) (k0_pay49 (k0_pay44 x) (k0_pay46 hn) (k0_pay47 g)) d (k0_pay52 (k0_pay8 v0) (k0_pay44 x) (k0_pay45 f hp)) (k0_pay53 (k0_pay9 v1) (k0_pay44 x)) (ix2 k q)
      = REF4 a6 a11 a12 (ix2 p ⟨q.val, by have := q.isLt; omega⟩) := by
  have hp' := p.isLt
  refine Eq.trans ?_ ((join _ _ _ p q).1.trans (cgb a6 a11 a12 _ _ q p (by show p.val = p.val / 2048 * 2048 + p.val % 2048; omega))).symm
  have e0 := u_down a6 t p k q hpk x hp hn f g hx hh hg hf hf'
  have e1 := u_up a6 t p k q hpk x hp hn f g hx hh hg hf hf'
  have e2 : k0_pay44 x (ix2 k q) = uu a6 q p := by
    pointwise [k0_pay44, k0_pay42, k0_pay43]
    exact congrArg₂ (· * ·) (hx _ k p hpk) (hx _ k p hpk)
  have ed := hd k p hpk
  unfold k0_pay52 k0_pay53
  generalize k0_pay48 (k0_pay44 x) (k0_pay45 f hp) = U0 at e0 ⊢
  generalize k0_pay49 (k0_pay44 x) (k0_pay46 hn) (k0_pay47 g) = U1 at e1 ⊢
  generalize k0_pay44 x = U2 at e2 ⊢
  pointwise [k0_pay54, k0_pay8, k0_pay9, k0_pay10]
  rw [e0, e1, e2, ed, h0, h1, h2]

/-- A block of the gradient of what is convolved, from the rows it reads. -/
theorem d_u (a6 : FVec Ideal Cert.Reference1Ideal.S4096x1536 .f32) (a11 : FVec Ideal Cert.Reference1Ideal.S1x3x512 .f32) (a12 : FVec Ideal Cert.Reference1Ideal.S4096x1024 .f32) (t : Fin cfg0.N) (p : Fin 4096) (k : Fin 256) (q : Fin 512) (hpk : p.val = t.val * 256 + k.val)
    (x : Vec Ideal S256x1536 .f32) (hp hn : Vec Ideal S8x1536 .f32) (f g : Ideal .f32)
    (hx : ∀ (j : Fin 1536) (l : Fin 256) (r : Fin 4096), r.val = t.val * 256 + l.val → x (ix2 l j) = a6 (ix2 r j))
    (hh : ∀ (j : Fin 1536) (r : Fin 4096), r.val = (t.val * 32 - 1) * 8 + 7 → hp (ix2 7 j) = a6 (ix2 r j))
    (hg : ∀ (j : Fin 1536) (r : Fin 4096), r.val = min (t.val * 32 + 32) 511 * 8 → hn (ix2 0 j) = a6 (ix2 r j))
    (hf : f = if t.val % 8 = 0 then (0 : EReal) else 1) (hf' : g = if t.val % 8 = 7 then (0 : EReal) else 1)
    (d : Vec Ideal S256x512 .f32) (dp dn : Vec Ideal S1x512 .f32)
    (hd : ∀ (l : Fin 256) (r : Fin 4096), r.val = t.val * 256 + l.val → d (ix2 l q) = a12 (ix2 r ⟨512 + q.val, by have := q.isLt; omega⟩))
    (hdp : ∀ r : Fin 4096, r.val = (t.val * 32 - 1) * 8 + 7 → dp (ix2 0 q) = a12 (ix2 r ⟨512 + q.val, by have := q.isLt; omega⟩))
    (hdn : ∀ r : Fin 4096, r.val = min (t.val * 32 + 32) 511 * 8 → dn (ix2 0 q) = a12 (ix2 r ⟨512 + q.val, by have := q.isLt; omega⟩))
    (v0 v1 v2 : Vec Ideal S1x512 .f32) (h0 : v0 (ix2 0 q) = a11 (ix3 0 0 q)) (h1 : v1 (ix2 0 q) = a11 (ix3 0 1 q)) (h2 : v2 (ix2 0 q) = a11 (ix3 0 2 q)) :
    k0_pay51 f g (k0_pay8 v0) (k0_pay9 v1) (k0_pay10 v2) hp hn (k0_pay41 x) d dp dn (ix2 k q)
      = a11 (ix3 0 1 q) * dc a6 a12 q p + a11 (ix3 0 0 q) * UP (dc a6 a12 q) p + a11 (ix3 0 2 q) * DN (dc a6 a12 q) p := by
  have hq := q.isLt
  have e0 := down (dc a6 a12 q) t p k hpk (fun l => d (ix2 l q) * x (ix2 l ⟨q.val, by omega⟩))
    (fun l r hr => congrArg₂ (· * ·) (hd l r hr) (hx _ l r hr)) (dp (ix2 0 q) * hp (ix2 7 ⟨q.val, by omega⟩)) f
    (fun r hr => congrArg₂ (· * ·) (hdp r hr) (hh _ r hr)) hf (Nat.mod_lt _ (by omega))
  have e1 := up (dc a6 a12 q) t p k hpk (fun l => d (ix2 l q) * x (ix2 l ⟨q.val, by omega⟩))
    (fun l r hr => congrArg₂ (· * ·) (hd l r hr) (hx _ l r hr)) (dn (ix2 0 q) * hn (ix2 0 ⟨q.val, by omega⟩)) g
    (fun r hr => congrArg₂ (· * ·) (hdn r hr) (hg _ r hr)) hf' (Nat.mod_lt _ (by omega))
  have e2 : d (ix2 k q) * x (ix2 k ⟨q.val, by omega⟩) = dc a6 a12 q p := congrArg₂ (· * ·) (hd k p hpk) (hx _ k p hpk)
  pointwise [k0_pay51, k0_pay50, k0_pay41, k0_pay8, k0_pay9, k0_pay10]
  rw [h0, h1, h2]
  exact congrArg₂ (· + ·) (congrArg₂ (· + ·) (congrArg (_ * ·) e2) (congrArg (_ * ·) e1)) (congrArg (_ * ·) e0)

/-- A block of the gradient of the gate of what is convolved, from the rows it reads. -/
theorem part1 (a6 : FVec Ideal Cert.Reference1Ideal.S4096x1536 .f32) (a11 : FVec Ideal Cert.Reference1Ideal.S1x3x512 .f32) (a12 : FVec Ideal Cert.Reference1Ideal.S4096x1024 .f32) (t : Fin cfg0.N) (p : Fin 4096) (k : Fin 256) (q : Fin 512) (hpk : p.val = t.val * 256 + k.val)
    (x : Vec Ideal S256x1536 .f32) (hp hn : Vec Ideal S8x1536 .f32) (f g : Ideal .f32)
    (hx : ∀ (j : Fin 1536) (l : Fin 256) (r : Fin 4096), r.val = t.val * 256 + l.val → x (ix2 l j) = a6 (ix2 r j))
    (hh : ∀ (j : Fin 1536) (r : Fin 4096), r.val = (t.val * 32 - 1) * 8 + 7 → hp (ix2 7 j) = a6 (ix2 r j))
    (hg : ∀ (j : Fin 1536) (r : Fin 4096), r.val = min (t.val * 32 + 32) 511 * 8 → hn (ix2 0 j) = a6 (ix2 r j))
    (hf : f = if t.val % 8 = 0 then (0 : EReal) else 1) (hf' : g = if t.val % 8 = 7 then (0 : EReal) else 1)
    (d : Vec Ideal S256x512 .f32) (dp dn : Vec Ideal S1x512 .f32)
    (hd : ∀ (l : Fin 256) (r : Fin 4096), r.val = t.val * 256 + l.val → d (ix2 l q) = a12 (ix2 r ⟨512 + q.val, by have := q.isLt; omega⟩))
    (hdp : ∀ r : Fin 4096, r.val = (t.val * 32 - 1) * 8 + 7 → dp (ix2 0 q) = a12 (ix2 r ⟨512 + q.val, by have := q.isLt; omega⟩))
    (hdn : ∀ r : Fin 4096, r.val = min (t.val * 32 + 32) 511 * 8 → dn (ix2 0 q) = a12 (ix2 r ⟨512 + q.val, by have := q.isLt; omega⟩))
    (v0 v1 v2 : Vec Ideal S1x512 .f32) (h0 : v0 (ix2 0 q) = a11 (ix3 0 0 q)) (h1 : v1 (ix2 0 q) = a11 (ix3 0 1 q)) (h2 : v2 (ix2 0 q) = a11 (ix3 0 2 q)) :
    k0_pay55 (k0_pay43 x) (k0_pay51 f g (k0_pay8 v0) (k0_pay9 v1) (k0_pay10 v2) hp hn (k0_pay41 x) d dp dn) (ix2 k q)
      = REF4 a6 a11 a12 (ix2 p ⟨512 + q.val, by have := q.isLt; omega⟩) := by
  have hp' := p.isLt
  have hq := q.isLt
  have e := d_u a6 a11 a12 t p k q hpk x hp hn f g hx hh hg hf hf' d dp dn hd hdp hdn v0 v1 v2 h0 h1 h2
  have e' := du a6 a11 a12 ⟨p.val / 2048, by omega⟩ ⟨p.val % 2048, Nat.mod_lt _ (by omega)⟩ q p (by show p.val = p.val / 2048 * 2048 + p.val % 2048; omega)
  refine Eq.trans ?_ (join _ _ _ p q).2.1.symm
  have eh : HD a6 (ix3 ⟨p.val / 2048, by omega⟩ ⟨p.val % 2048, Nat.mod_lt _ (by omega)⟩ q) = x (ix2 k ⟨1024 + q.val, by omega⟩) := by
    refine Eq.trans ?_ (hx _ k p hpk).symm
    pointwise [HD]
  refine (show _ = k0_pay51 f g (k0_pay8 v0) (k0_pay9 v1) (k0_pay10 v2) hp hn (k0_pay41 x) d dp dn (ix2 k q) * x (ix2 k ⟨1024 + q.val, by omega⟩) from ?_).trans
    (congrArg₂ (· * ·) (e.trans e'.symm) eh.symm)
  generalize k0_pay51 f g (k0_pay8 v0) (k0_pay9 v1) (k0_pay10 v2) hp hn (k0_pay41 x) d dp dn = Z
  pointwise [k0_pay55, k0_pay43]

/-- A block of the gradient of the columns convolved, from the rows it reads. -/
theorem part2 (a6 : FVec Ideal Cert.Reference1Ideal.S4096x1536 .f32) (a11 : FVec Ideal Cert.Reference1Ideal.S1x3x512 .f32) (a12 : FVec Ideal Cert.Reference1Ideal.S4096x1024 .f32) (t : Fin cfg0.N) (p : Fin 4096) (k : Fin 256) (q : Fin 512) (hpk : p.val = t.val * 256 + k.val)
    (x : Vec Ideal S256x1536 .f32) (hp hn : Vec Ideal S8x1536 .f32) (f g : Ideal .f32)
    (hx : ∀ (j : Fin 1536) (l : Fin 256) (r : Fin 4096), r.val = t.val * 256 + l.val → x (ix2 l j) = a6 (ix2 r j))
    (hh : ∀ (j : Fin 1536) (r : Fin 4096), r.val = (t.val * 32 - 1) * 8 + 7 → hp (ix2 7 j) = a6 (ix2 r j))
    (hg : ∀ (j : Fin 1536) (r : Fin 4096), r.val = min (t.val * 32 + 32) 511 * 8 → hn (ix2 0 j) = a6 (ix2 r j))
    (hf : f = if t.val % 8 = 0 then (0 : EReal) else 1) (hf' : g = if t.val % 8 = 7 then (0 : EReal) else 1)
    (d : Vec Ideal S256x512 .f32) (dp dn : Vec Ideal S1x512 .f32)
    (hd : ∀ (l : Fin 256) (r : Fin 4096), r.val = t.val * 256 + l.val → d (ix2 l q) = a12 (ix2 r ⟨512 + q.val, by have := q.isLt; omega⟩))
    (hdp : ∀ r : Fin 4096, r.val = (t.val * 32 - 1) * 8 + 7 → dp (ix2 0 q) = a12 (ix2 r ⟨512 + q.val, by have := q.isLt; omega⟩))
    (hdn : ∀ r : Fin 4096, r.val = min (t.val * 32 + 32) 511 * 8 → dn (ix2 0 q) = a12 (ix2 r ⟨512 + q.val, by have := q.isLt; omega⟩))
    (v0 v1 v2 : Vec Ideal S1x512 .f32) (h0 : v0 (ix2 0 q) = a11 (ix3 0 0 q)) (h1 : v1 (ix2 0 q) = a11 (ix3 0 1 q)) (h2 : v2 (ix2 0 q) = a11 (ix3 0 2 q)) :
    k0_pay56 (k0_pay42 x) (k0_pay51 f g (k0_pay8 v0) (k0_pay9 v1) (k0_pay10 v2) hp hn (k0_pay41 x) d dp dn) (ix2 k q)
      = REF4 a6 a11 a12 (ix2 p ⟨1024 + q.val, by have := q.isLt; omega⟩) := by
  have hp' := p.isLt
  have hq := q.isLt
  have e := d_u a6 a11 a12 t p k q hpk x hp hn f g hx hh hg hf hf' d dp dn hd hdp hdn v0 v1 v2 h0 h1 h2
  have e' := du a6 a11 a12 ⟨p.val / 2048, by omega⟩ ⟨p.val % 2048, Nat.mod_lt _ (by omega)⟩ q p (by show p.val = p.val / 2048 * 2048 + p.val % 2048; omega)
  refine Eq.trans ?_ (join _ _ _ p q).2.2.symm
  have eh : GC a6 (ix3 ⟨p.val / 2048, by omega⟩ ⟨p.val % 2048, Nat.mod_lt _ (by omega)⟩ q) = x (ix2 k ⟨512 + q.val, by omega⟩) := by
    refine Eq.trans ?_ (hx _ k p hpk).symm
    pointwise [GC]
  refine (show _ = k0_pay51 f g (k0_pay8 v0) (k0_pay9 v1) (k0_pay10 v2) hp hn (k0_pay41 x) d dp dn (ix2 k q) * x (ix2 k ⟨512 + q.val, by omega⟩) from ?_).trans
    ((congrArg₂ (· * ·) (e.trans e'.symm) eh.symm).trans (mul_comm (G := EReal) _ _))
  generalize k0_pay51 f g (k0_pay8 v0) (k0_pay9 v1) (k0_pay10 v2) hp hn (k0_pay41 x) d dp dn = Z
  pointwise [k0_pay56, k0_pay42]

end Cert.Kernel1Ideal.Value

end
-- ==== Proof.PostGrad.lean ====
/- The gradient of the convolution's columns that `Cert.Kernel1Ideal` leaves is the reference's. -/
module

public import proofs.«01_k».proof.Proof.Post
public import proofs.«01_k».proof.Proof.PostConv
public import proofs.«01_k».proof.Proof.Finite
public import proofs.«01_k».proof.Proof.Gen.Pre_post_finite

@[expose] public section

set_option maxRecDepth 16384

noncomputable section

open Idealize.ShloMosaic Idealize.ShloMosaic.TcCoe Idealize.SL.Sem
open Idealize.ShloMosaic.Pipeline (Dat)

namespace Cert.Kernel1Ideal.Value

open Cert.Kernel1Ideal Cert.Kernel1Ideal.Gen

variable (m : (ℓ : Loc nD τ sig) → Buf (Elt Ideal) ℓ)

/-- Arrays that pass the check are arrays of reals. -/
theorem reals {a0 : FVec Ideal Cert.Reference1Ideal.S4096x512 .f32} {a1 : FVec Ideal Cert.Reference1Ideal.S4096x512 .f32} {a2 : FVec Ideal Cert.Reference1Ideal.S4096x2048 .f32} {a3 : FVec Ideal Cert.Reference1Ideal.S4096x512 .f32} {a4 : FVec Ideal Cert.Reference1Ideal.S4096x512 .f32} {a5 : FVec Ideal Cert.Reference1Ideal.S4096x512 .f32} {a6 : FVec Ideal Cert.Reference1Ideal.S4096x1536 .f32} {a7 : FVec Ideal Cert.Reference1Ideal.S1x512 .f32} {a8 : FVec Ideal Cert.Reference1Ideal.S1x512 .f32} {a9 : FVec Ideal Cert.Reference1Ideal.S1x8x64 .f32} {a10 : FVec Ideal Cert.Reference1Ideal.S1x8x64 .f32} {a11 : FVec Ideal Cert.Reference1Ideal.S1x3x512 .f32} {a12 : FVec Ideal Cert.Reference1Ideal.S4096x1024 .f32}
    (h : Cert.Pre_post_finite.fn (F := Ideal) a0 a1 a2 a3 a4 a5 a6 a7 a8 a9 a10 a11 a12 = fun _ => 1#1) :
    (∀ i, ∃ r : ℝ, a2 i = r) ∧ (∀ i, ∃ r : ℝ, a3 i = r) ∧ (∀ i, ∃ r : ℝ, a4 i = r) ∧ (∀ i, ∃ r : ℝ, a5 i = r) ∧ (∀ i, ∃ r : ℝ, a9 i = r) ∧ (∀ i, ∃ r : ℝ, a10 i = r) ∧ ∀ i, ∃ r : ℝ, a12 i = r := by
  have h := congrFun h ix0
  obtain ⟨h, h12⟩ := IntOp.andi_eq_one.1 h
  obtain ⟨h, h10⟩ := IntOp.andi_eq_one.1 h
  obtain ⟨h, h9⟩ := IntOp.andi_eq_one.1 h
  obtain ⟨h, h5⟩ := IntOp.andi_eq_one.1 h
  obtain ⟨h, h4⟩ := IntOp.andi_eq_one.1 h
  obtain ⟨h2, h3⟩ := IntOp.andi_eq_one.1 h
  have z : ∀ (s) (hb : Cert.Pre_post_finite.S_.BroadcastsInDim s ![]) (i), broadcastInDim s ![] hb (constant (F := Ideal) Cert.Pre_post_finite.S_ .f32 0x00000000#32) i = 0 := by
    intro s hb i
    pointwise
  exact ⟨Finite.of_check _ _ (z _ _) _ _ _ _ h2, Finite.of_check _ _ (z _ _) _ _ _ _ h3, Finite.of_check _ _ (z _ _) _ _ _ _ h4, Finite.of_check _ _ (z _ _) _ _ _ _ h5, Finite.of_check _ _ (z _ _) _ _ _ _ h9,
    Finite.of_check _ _ (z _ _) _ _ _ _ h10, Finite.of_check _ _ (z _ _) _ _ _ _ h12⟩

/-- A row of a block of the convolution's columns. -/
theorem x_c (c : Dev nD) (t : Fin cfg0.N) (j : Fin 1536) (k : Fin 256) (p : Fin 4096) (hp : p.val = t.val * 256 + k.val) : iblk m c 10 t (ix2 k j) = m ((c : Thread nD τ).loc main_arg6) (ix2 p j) := by
  obtain ⟨p, h⟩ := p; obtain rfl : p = _ := hp
  blk_point [iblk, V, idx t]

/-- The row of the convolution's columns before a block. -/
theorem h_c (c : Dev nD) (t : Fin cfg0.N) (j : Fin 1536) (r : Fin 4096) (hr : r.val = (t.val * 32 - 1) * 8 + 7) : iblk m c 11 t (ix2 7 j) = m ((c : Thread nD τ).loc main_arg6) (ix2 r j) := by
  obtain ⟨r, h⟩ := r; obtain rfl : r = _ := hr
  blk_point [iblk, V, idx t]

/-- The row of the convolution's columns after a block. -/
theorem g_c (c : Dev nD) (t : Fin cfg0.N) (j : Fin 1536) (r : Fin 4096) (hr : r.val = min (t.val * 32 + 32) 511 * 8) : iblk m c 12 t (ix2 0 j) = m ((c : Thread nD τ).loc main_arg6) (ix2 r j) := by
  obtain ⟨r, h⟩ := r; obtain rfl : r = _ := hr
  blk_point [iblk, V, idx t]

/-- A row of a block of the gradient's columns of the convolution. -/
theorem x_o (c : Dev nD) (t : Fin cfg0.N) (q : Fin 512) (k : Fin 256) (p : Fin 4096) (hp : p.val = t.val * 256 + k.val) :
    View.ld (iblk m c 0 t) (Rect.unit ![0, 512] ![256, 512] inb_S256x1024_S256x512_0_512) (ix2 k q) = m ((c : Thread nD τ).loc main_arg12) (ix2 p ⟨512 + q.val, by have := q.isLt; omega⟩) := by
  obtain ⟨p, h⟩ := p; obtain rfl : p = _ := hp
  blk_point [iblk, V, idx t]

/-- The row of the gradient's columns of the convolution before a block. -/
theorem h_o (c : Dev nD) (t : Fin cfg0.N) (q : Fin 512) (r : Fin 4096) (hr : r.val = (t.val * 32 - 1) * 8 + 7) :
    View.ld (iblk m c 1 t) (Rect.unit ![7, 512] ![1, 512] inb_S8x1024_S1x512_7_512) (ix2 0 q) = m ((c : Thread nD τ).loc main_arg12) (ix2 r ⟨512 + q.val, by have := q.isLt; omega⟩) := by
  obtain ⟨r, h⟩ := r; obtain rfl : r = _ := hr
  blk_point [iblk, V, idx t]

/-- The row of the gradient's columns of the convolution after a block. -/
theorem g_o (c : Dev nD) (t : Fin cfg0.N) (q : Fin 512) (r : Fin 4096) (hr : r.val = min (t.val * 32 + 32) 511 * 8) :
    View.ld (iblk m c 2 t) (Rect.unit ![0, 512] ![1, 512] inb_S8x1024_S1x512_0_512) (ix2 0 q) = m ((c : Thread nD τ).loc main_arg12) (ix2 r ⟨512 + q.val, by have := q.isLt; omega⟩) := by
  obtain ⟨r, h⟩ := r; obtain rfl : r = _ := hr
  blk_point [iblk, V, idx t]

/-- The gradient of the convolution's columns that the call leaves is the reference's. -/
theorem final4 (c : Dev nD) :
    (dats m 0 c).arrAt 21 (cfgs 0).N = REF4 (m ((c : Thread nD τ).loc main_arg6)) (m ((c : Thread nD τ).loc main_arg11)) (m ((c : Thread nD τ).loc main_arg12)) := by
  refine (dats m 0 c).arrAt_eq_of_covers 21 _ (by decide +kernel) fun t hf y => ?_
  blk_simp; rw [after0_21]
  obtain ⟨k, q, rfl⟩ : ∃ (k : Fin 256) (q : Fin 1536), y = ix2 k q := ⟨y 0, y 1, by blk_ext⟩
  have ht : t.val < 16 := lt_of_lt_of_eq t.isLt N_0
  have e : ((cfg0.win 21).blk t).view.emb (ix2 k q) = ix2 (⟨t.val * 256 + k.val, by omega⟩ : Fin 4096) q := by blk_ext [idx t]
  refine Eq.trans ?_ (congrArg _ e.symm)
  by_cases h : t.val % 16 = 0
  · rw [outsAt0_A m c t h]; frame_out
    canon_tiles x hx
    · obtain ⟨a, b, rfl⟩ : ∃ (a : Fin 256) (b : Fin 512), x = ix2 a b := ⟨x 0, x 1, by blk_ext⟩
      obtain rfl : k = a := Fin.ext hx0
      have hb : 1024 + b.val < 1536 := by have := b.isLt; omega
      obtain rfl : q = ⟨1024 + b.val, hb⟩ := Fin.ext hx1
      exact part2 _ _ _ t _ k b rfl (iblk m c 10 t) (iblk m c 11 t) (iblk m c 12 t) _ _ (x_c m c t) (h_c m c t) (g_c m c t) (prev t) (next t) _ _ _ (x_o m c t b) (h_o m c t b) (g_o m c t b) _ _ _ (w_0 m c t b) (w_1 m c t b) (w_2 m c t b)
    · obtain ⟨a, b, rfl⟩ : ∃ (a : Fin 256) (b : Fin 512), x = ix2 a b := ⟨x 0, x 1, by blk_ext⟩
      obtain rfl : k = a := Fin.ext hx0
      have hb : 512 + b.val < 1536 := by have := b.isLt; omega
      obtain rfl : q = ⟨512 + b.val, hb⟩ := Fin.ext hx1
      exact part1 _ _ _ t _ k b rfl (iblk m c 10 t) (iblk m c 11 t) (iblk m c 12 t) _ _ (x_c m c t) (h_c m c t) (g_c m c t) (prev t) (next t) _ _ _ (x_o m c t b) (h_o m c t b) (g_o m c t b) _ _ _ (w_0 m c t b) (w_1 m c t b) (w_2 m c t b)
    · obtain ⟨a, b, rfl⟩ : ∃ (a : Fin 256) (b : Fin 512), x = ix2 a b := ⟨x 0, x 1, by blk_ext⟩
      obtain rfl : k = a := Fin.ext hx0
      have hb : b.val < 1536 := by have := b.isLt; omega
      obtain rfl : q = ⟨b.val, hb⟩ := Fin.ext hx1
      exact part0 _ _ _ t _ k b rfl (iblk m c 10 t) (iblk m c 11 t) (iblk m c 12 t) _ _ (x_c m c t) (h_c m c t) (g_c m c t) (prev t) (next t) _ _ _ (x_o m c t b) (h_o m c t b) (g_o m c t b) _ _ _ (w_0 m c t b) (w_1 m c t b) (w_2 m c t b)
  · rw [outsAt0_B m c t h]; frame_out
    canon_tiles x hx
    · obtain ⟨a, b, rfl⟩ : ∃ (a : Fin 256) (b : Fin 512), x = ix2 a b := ⟨x 0, x 1, by blk_ext⟩
      obtain rfl : k = a := Fin.ext hx0
      have hb : 1024 + b.val < 1536 := by have := b.isLt; omega
      obtain rfl : q = ⟨1024 + b.val, hb⟩ := Fin.ext hx1
      exact part2 _ _ _ t _ k b rfl (iblk m c 10 t) (iblk m c 11 t) (iblk m c 12 t) _ _ (x_c m c t) (h_c m c t) (g_c m c t) (prev t) (next t) _ _ _ (x_o m c t b) (h_o m c t b) (g_o m c t b) _ _ _ (w_0 m c t b) (w_1 m c t b) (w_2 m c t b)
    · obtain ⟨a, b, rfl⟩ : ∃ (a : Fin 256) (b : Fin 512), x = ix2 a b := ⟨x 0, x 1, by blk_ext⟩
      obtain rfl : k = a := Fin.ext hx0
      have hb : 512 + b.val < 1536 := by have := b.isLt; omega
      obtain rfl : q = ⟨512 + b.val, hb⟩ := Fin.ext hx1
      exact part1 _ _ _ t _ k b rfl (iblk m c 10 t) (iblk m c 11 t) (iblk m c 12 t) _ _ (x_c m c t) (h_c m c t) (g_c m c t) (prev t) (next t) _ _ _ (x_o m c t b) (h_o m c t b) (g_o m c t b) _ _ _ (w_0 m c t b) (w_1 m c t b) (w_2 m c t b)
    · obtain ⟨a, b, rfl⟩ : ∃ (a : Fin 256) (b : Fin 512), x = ix2 a b := ⟨x 0, x 1, by blk_ext⟩
      obtain rfl : k = a := Fin.ext hx0
      have hb : b.val < 1536 := by have := b.isLt; omega
      obtain rfl : q = ⟨b.val, hb⟩ := Fin.ext hx1
      exact part0 _ _ _ t _ k b rfl (iblk m c 10 t) (iblk m c 11 t) (iblk m c 12 t) _ _ (x_c m c t) (h_c m c t) (g_c m c t) (prev t) (next t) _ _ _ (x_o m c t b) (h_o m c t b) (g_o m c t b) _ _ _ (w_0 m c t b) (w_1 m c t b) (w_2 m c t b)

end Cert.Kernel1Ideal.Value

end
-- ==== Proof.Claims1.lean ====
/- The claims about `Cert.Kernel1`, its ideal reading and its reference: the frames, the reading, and the values. -/
module

public import proofs.«01_k».proof.Defs
public import proofs.«01_k».proof.Proof.Gen.Kernel1.Frame
public import proofs.«01_k».proof.Proof.Gen.Kernel1Ideal.Frame
public import proofs.«01_k».proof.Proof.Gen.Reference1Ideal.Run
public import proofs.«01_k».proof.Proof.Gen.Pre_post_finite
public import proofs.«01_k».proof.Proof.PostGrad
public import Idealize.ShloMosaic.Lib.Claim

@[expose] public section

noncomputable section

namespace Cert.Claims1

open Idealize.ShloMosaic Idealize.SL.Sem

theorem frame_kernel : Cert.quiescent_Kernel1 := fun m ρ _ => Cert.Kernel1.Gen.frame m ρ

theorem frame_ideal : Cert.quiescent_Kernel1Ideal := fun m ρ _ => Cert.Kernel1Ideal.Gen.frame m ρ

/-- The reference declares no semaphore, and none of its operations writes an argument. -/
theorem frame_reference : Cert.quiescent_Reference1Ideal := fun m ρ _ =>
  (θ_run Cert.Reference1Ideal.defs _ _).mono
    (fun r h => ⟨fun c => (h c).2.2.2.2.2, sem_eq_zero_of_no_sems (by decide) r.2⟩)
    (Cert.Reference1Ideal.Value.run m ρ)

theorem preserves : Cert.preserves_Kernel1_Kernel1Ideal := trivial

theorem frame_ideal_pre : Cert.quiescent_Kernel1Ideal_pre_post_finite := fun m ρ _ => Cert.Kernel1Ideal.Gen.frame m ρ

theorem frame_reference_pre : Cert.quiescent_Reference1Ideal_pre_post_finite := fun m ρ _ => frame_reference m ρ trivial

/-- The kernel's ideal results are the reference's. -/
theorem algebraic : Cert.algebraic_Kernel1Ideal_Reference1Ideal_pre_post_finite := by
  intro m g m' g' hpre hagree
  refine ⟨fun c => (Cert.Kernel1Ideal.Gen.dats m 0 c).arrAt 16 (Cert.Kernel1Ideal.cfgs 0).N,
    fun c => (Cert.Kernel1Ideal.Gen.dats m 0 c).arrAt 17 (Cert.Kernel1Ideal.cfgs 0).N,
    fun c => (Cert.Kernel1Ideal.Gen.dats m 0 c).arrAt 18 (Cert.Kernel1Ideal.cfgs 0).N,
    fun c => (Cert.Kernel1Ideal.Gen.dats m 0 c).arrAt 19 (Cert.Kernel1Ideal.cfgs 0).N,
    fun c => (Cert.Kernel1Ideal.Gen.dats m 0 c).arrAt 21 (Cert.Kernel1Ideal.cfgs 0).N, ?_, ?_⟩
  · refine θ_run_mono (θ_run_and (Cert.Kernel1Ideal.Gen.run_main m g) (Cert.Kernel1Ideal.Gen.unchanged m g)) fun r hr c => ?_
    exact ⟨(hr.1 c).1 16, (hr.1 c).1 17, (hr.1 c).1 18, (hr.1 c).1 19, (hr.1 c).1 21, hr.2 c⟩
  · refine θ_run_mono (Cert.Reference1Ideal.Value.run m' g') fun r hr c => ?_
    obtain ⟨e0, e1, e2, e3, e4, e5, e6, e7, e8, e9, e10, e11, e12⟩ := hagree c
    obtain ⟨f2, f3, f4, f5, f9, f10, f12⟩ := Cert.Kernel1Ideal.Value.reals (hpre c)
    have h0 : r.2.mem ((c.tc : Thread Cert.Reference1Ideal.nD Cert.Reference1Ideal.τ).loc Cert.Reference1Ideal.main_v145) = Cert.Kernel1Ideal.Value.REF0 (m' ((c.tc : Thread Cert.Reference1Ideal.nD Cert.Reference1Ideal.τ).loc Cert.Reference1Ideal.main_arg2)) (m' ((c.tc : Thread Cert.Reference1Ideal.nD Cert.Reference1Ideal.τ).loc Cert.Reference1Ideal.main_arg3)) (m' ((c.tc : Thread Cert.Reference1Ideal.nD Cert.Reference1Ideal.τ).loc Cert.Reference1Ideal.main_arg4)) (m' ((c.tc : Thread Cert.Reference1Ideal.nD Cert.Reference1Ideal.τ).loc Cert.Reference1Ideal.main_arg5)) (m' ((c.tc : Thread Cert.Reference1Ideal.nD Cert.Reference1Ideal.τ).loc Cert.Reference1Ideal.main_arg9)) (m' ((c.tc : Thread Cert.Reference1Ideal.nD Cert.Reference1Ideal.τ).loc Cert.Reference1Ideal.main_arg10)) (m' ((c.tc : Thread Cert.Reference1Ideal.nD Cert.Reference1Ideal.τ).loc Cert.Reference1Ideal.main_arg12)) := (hr c).1
    rw [e2, e3, e4, e5, e9, e10, e12] at h0
    replace h0 := h0.trans (Cert.Kernel1Ideal.Value.final0 m c f2 f5 f12).symm
    have h1 : r.2.mem ((c.tc : Thread Cert.Reference1Ideal.nD Cert.Reference1Ideal.τ).loc Cert.Reference1Ideal.main_v143) = Cert.Kernel1Ideal.Value.REF1 (m' ((c.tc : Thread Cert.Reference1Ideal.nD Cert.Reference1Ideal.τ).loc Cert.Reference1Ideal.main_arg2)) (m' ((c.tc : Thread Cert.Reference1Ideal.nD Cert.Reference1Ideal.τ).loc Cert.Reference1Ideal.main_arg5)) (m' ((c.tc : Thread Cert.Reference1Ideal.nD Cert.Reference1Ideal.τ).loc Cert.Reference1Ideal.main_arg9)) (m' ((c.tc : Thread Cert.Reference1Ideal.nD Cert.Reference1Ideal.τ).loc Cert.Reference1Ideal.main_arg12)) := (hr c).2.1
    rw [e2, e5, e9, e12] at h1
    replace h1 := h1.trans (Cert.Kernel1Ideal.Value.final1 m c f2 f5 f12).symm
    have h2 : r.2.mem ((c.tc : Thread Cert.Reference1Ideal.nD Cert.Reference1Ideal.τ).loc Cert.Reference1Ideal.main_v129) = Cert.Kernel1Ideal.Value.REF1 (m' ((c.tc : Thread Cert.Reference1Ideal.nD Cert.Reference1Ideal.τ).loc Cert.Reference1Ideal.main_arg2)) (m' ((c.tc : Thread Cert.Reference1Ideal.nD Cert.Reference1Ideal.τ).loc Cert.Reference1Ideal.main_arg5)) (m' ((c.tc : Thread Cert.Reference1Ideal.nD Cert.Reference1Ideal.τ).loc Cert.Reference1Ideal.main_arg10)) (m' ((c.tc : Thread Cert.Reference1Ideal.nD Cert.Reference1Ideal.τ).loc Cert.Reference1Ideal.main_arg12)) := (hr c).2.2.1
    rw [e2, e5, e10, e12] at h2
    replace h2 := h2.trans (Cert.Kernel1Ideal.Value.final2 m c f2 f5 f12).symm
    have h3 : r.2.mem ((c.tc : Thread Cert.Reference1Ideal.nD Cert.Reference1Ideal.τ).loc Cert.Reference1Ideal.main_v144) = Cert.Kernel1Ideal.Value.REF3 (m' ((c.tc : Thread Cert.Reference1Ideal.nD Cert.Reference1Ideal.τ).loc Cert.Reference1Ideal.main_arg2)) (m' ((c.tc : Thread Cert.Reference1Ideal.nD Cert.Reference1Ideal.τ).loc Cert.Reference1Ideal.main_arg3)) (m' ((c.tc : Thread Cert.Reference1Ideal.nD Cert.Reference1Ideal.τ).loc Cert.Reference1Ideal.main_arg4)) (m' ((c.tc : Thread Cert.Reference1Ideal.nD Cert.Reference1Ideal.τ).loc Cert.Reference1Ideal.main_arg5)) (m' ((c.tc : Thread Cert.Reference1Ideal.nD Cert.Reference1Ideal.τ).loc Cert.Reference1Ideal.main_arg9)) (m' ((c.tc : Thread Cert.Reference1Ideal.nD Cert.Reference1Ideal.τ).loc Cert.Reference1Ideal.main_arg10)) (m' ((c.tc : Thread Cert.Reference1Ideal.nD Cert.Reference1Ideal.τ).loc Cert.Reference1Ideal.main_arg12)) := (hr c).2.2.2.1
    rw [e2, e3, e4, e5, e9, e10, e12] at h3
    replace h3 := h3.trans (Cert.Kernel1Ideal.Value.final3 m c f2 f3 f4 f9 f10).symm
    have h4 : r.2.mem ((c.tc : Thread Cert.Reference1Ideal.nD Cert.Reference1Ideal.τ).loc Cert.Reference1Ideal.main_v146) = Cert.Kernel1Ideal.Value.REF4 (m' ((c.tc : Thread Cert.Reference1Ideal.nD Cert.Reference1Ideal.τ).loc Cert.Reference1Ideal.main_arg6)) (m' ((c.tc : Thread Cert.Reference1Ideal.nD Cert.Reference1Ideal.τ).loc Cert.Reference1Ideal.main_arg11)) (m' ((c.tc : Thread Cert.Reference1Ideal.nD Cert.Reference1Ideal.τ).loc Cert.Reference1Ideal.main_arg12)) := (hr c).2.2.2.2.1
    rw [e6, e11, e12] at h4
    replace h4 := h4.trans (Cert.Kernel1Ideal.Value.final4 m c).symm
    exact ⟨h0, h1, h2, h3, h4, (hr c).2.2.2.2.2⟩

end Cert.Claims1

end
-- ==== Proof.lean ====
module

public import proofs.«01_k».proof.Defs
public import proofs.«01_k».proof.Proof.Claims2
public import proofs.«01_k».proof.Proof.Claims3
public import proofs.«01_k».proof.Proof.Claims4
public import proofs.«01_k».proof.Proof.Claims20
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import proofs.«01_k».proof.Proof.Claims12
public import proofs.«01_k».proof.Proof.Claims13
public import proofs.«01_k».proof.Proof.Claims11
public import proofs.«01_k».proof.Proof.Claims14
public import proofs.«01_k».proof.Proof.Claims15
public import proofs.«01_k».proof.Proof.Claims16
public import proofs.«01_k».proof.Proof.Claims17
public import proofs.«01_k».proof.Proof.Claims18
public import proofs.«01_k».proof.Proof.Claims19
public import proofs.«01_k».proof.Proof.Claims21
public import proofs.«01_k».proof.Proof.Claims22
public import proofs.«01_k».proof.Proof.Claims23
public import proofs.«01_k».proof.Proof.Claims24
public import proofs.«01_k».proof.Proof.Claims25
public import proofs.«01_k».proof.Proof.Claims1
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference20Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference12Ideal.Run
public import proofs.«01_k».proof.Proof.Gen.Reference13Ideal.Run
public import proofs.«01_k».proof.Proof.Gen.Reference11Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference1Ideal.Run

@[expose] public section

noncomputable section

namespace Cert.Proof

theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel20.Gen.facts,
    Cert.Kernel20Ideal.Gen.facts,
    Cert.Reference20Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel11.Gen.facts,
    Cert.Kernel11Ideal.Gen.facts,
    Cert.Reference11Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel1.Gen.facts,
    Cert.Kernel1Ideal.Gen.facts,
    Cert.Reference1Ideal.Gen.facts,
    Cert.Pre_ffn_in_bwd_finite.Gen.facts,
    Cert.Pre_norm2_bwd_finite.Gen.facts,
    Cert.Pre_norm1_bwd_finite.Gen.facts,
    Cert.Pre_loss_finite.Gen.facts,
    Cert.Pre_post_finite.Gen.facts,
    Claims2.frame_kernel,
    Claims2.frame_ideal,
    Claims2.frame_ideal_pre,
    Claims2.frame_reference,
    Claims2.frame_reference_pre,
    Claims3.frame_kernel,
    Claims3.frame_ideal,
    Claims3.frame_ideal_pre,
    Claims3.frame_reference,
    Claims3.frame_reference_pre,
    Claims4.frame_kernel,
    Claims4.frame_ideal,
    Claims4.frame_ideal_pre,
    Claims4.frame_reference,
    Claims4.frame_reference_pre,
    Claims20.frame_kernel,
    Claims20.frame_ideal,
    Claims20.frame_reference,
    Claims5.frame_kernel,
    Claims5.frame_ideal,
    Claims5.frame_reference,
    Claims6.frame_kernel,
    Claims6.frame_ideal,
    Claims6.frame_reference,
    Claims7.frame_kernel,
    Claims7.frame_ideal,
    Claims7.frame_reference,
    Claims8.frame_kernel,
    Claims8.frame_ideal,
    Claims8.frame_reference,
    Claims9.frame_kernel,
    Claims9.frame_ideal,
    Claims9.frame_reference,
    Claims10.frame_kernel,
    Claims10.frame_ideal,
    Claims10.frame_reference,
    Claims12.frame_kernel,
    Claims12.frame_ideal,
    Claims12.frame_reference,
    Claims13.frame_kernel,
    Claims13.frame_ideal,
    Claims13.frame_reference,
    Claims11.frame_kernel,
    Claims11.frame_ideal,
    Claims11.frame_ideal_pre,
    Claims11.frame_reference,
    Claims11.frame_reference_pre,
    Claims14.frame_kernel,
    Claims14.frame_ideal,
    Claims14.frame_reference,
    Claims15.frame_kernel,
    Claims15.frame_ideal,
    Claims15.frame_reference,
    Claims16.frame_kernel,
    Claims16.frame_ideal,
    Claims16.frame_reference,
    Claims17.frame_kernel,
    Claims17.frame_ideal,
    Claims17.frame_reference,
    Claims18.frame_kernel,
    Claims18.frame_ideal,
    Claims18.frame_reference,
    Claims19.frame_kernel,
    Claims19.frame_ideal,
    Claims19.frame_reference,
    Claims21.frame_kernel,
    Claims21.frame_ideal,
    Claims21.frame_reference,
    Claims22.frame_kernel,
    Claims22.frame_ideal,
    Claims22.frame_reference,
    Claims23.frame_kernel,
    Claims23.frame_ideal,
    Claims23.frame_reference,
    Claims24.frame_kernel,
    Claims24.frame_ideal,
    Claims24.frame_reference,
    Claims25.frame_kernel,
    Claims25.frame_ideal,
    Claims25.frame_reference,
    Claims1.frame_kernel,
    Claims1.frame_ideal,
    Claims1.frame_ideal_pre,
    Claims1.frame_reference,
    Claims1.frame_reference_pre,
    Claims2.preserves,
    Claims2.algebraic,
    Claims3.preserves,
    Claims3.algebraic,
    Claims4.preserves,
    Claims4.algebraic,
    Claims20.preserves,
    Claims20.algebraic,
    Claims5.preserves,
    Claims5.algebraic,
    Claims6.preserves,
    Claims6.algebraic,
    Claims7.preserves,
    Claims7.algebraic,
    Claims8.preserves,
    Claims8.algebraic,
    Claims9.preserves,
    Claims9.algebraic,
    Claims10.preserves,
    Claims10.algebraic,
    Claims12.preserves,
    Claims12.algebraic,
    Claims13.preserves,
    Claims13.algebraic,
    Claims11.preserves,
    Claims11.algebraic,
    Claims14.preserves,
    Claims14.algebraic,
    Claims15.preserves,
    Claims15.algebraic,
    Claims16.preserves,
    Claims16.algebraic,
    Claims17.preserves,
    Claims17.algebraic,
    Claims18.preserves,
    Claims18.algebraic,
    Claims19.preserves,
    Claims19.algebraic,
    Claims21.preserves,
    Claims21.algebraic,
    Claims22.preserves,
    Claims22.algebraic,
    Claims23.preserves,
    Claims23.algebraic,
    Claims24.preserves,
    Claims24.algebraic,
    Claims25.preserves,
    Claims25.algebraic,
    Claims1.preserves,
    Claims1.algebraic⟩

end Cert.Proof

end
